-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_swa_tame [hPre_swa_tame : Cert.Pre_swa_tame.Facts] (m : (ℓ : Loc Cert.KernelIdeal.nD Cert.KernelIdeal.τ Cert.KernelIdeal.sig) → Buf (Elt Ideal) ℓ) : Prop :=
  ∀ c : Dev Cert.KernelIdeal.nD,
    (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_swa_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swa_tame [hPre_swa_tame : Cert.Pre_swa_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_swa_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactIdeal_dact_tame [hPre_dact_tame : Cert.Pre_dact_tame.Facts] (m : (ℓ : Loc Cert.DactIdeal.nD Cert.DactIdeal.τ Cert.DactIdeal.sig) → Buf (Elt Ideal) ℓ) : Prop :=
  ∀ c : Dev Cert.DactIdeal.nD,
    (Cert.Pre_dact_tame.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).1 = (fun _ => 1#1)
    ∧ (Cert.Pre_dact_tame.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.1 = (fun _ => 1#1)
    ∧ (Cert.Pre_dact_tame.fn (F := Ideal) (m ((c.tc : Thread Cert.DactIdeal.nD Cert.DactIdeal.τ).loc Cert.DactIdeal.main_arg0)) (m ((c.tc : Thread Cert.DactIdeal.nD Cert.DactIdeal.τ).loc Cert.DactIdeal.main_arg1)) (m ((c.tc : Thread Cert.DactIdeal.nD Cert.DactIdeal.τ).loc Cert.DactIdeal.main_arg2))).2.2 = (fun _ => 1#1)

def Pre_DactRefIdeal (m : (ℓ : Loc Cert.DactRefIdeal.nD Cert.DactRefIdeal.τ Cert.DactRefIdeal.sig) → Buf (Elt Ideal) ℓ) : Prop :=
  True

def Pre_DactRefIdeal_dact_tame [hPre_dact_tame : Cert.Pre_dact_tame.Facts] (m : (ℓ : Loc Cert.DactRefIdeal.nD Cert.DactRefIdeal.τ Cert.DactRefIdeal.sig) → Buf (Elt Ideal) ℓ) : Prop :=
  ∀ c : Dev Cert.DactRefIdeal.nD,
    (Cert.Pre_dact_tame.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).1 = (fun _ => 1#1)
    ∧ (Cert.Pre_dact_tame.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).2.1 = (fun _ => 1#1)
    ∧ (Cert.Pre_dact_tame.fn (F := Ideal) (m ((c.tc : Thread Cert.DactRefIdeal.nD Cert.DactRefIdeal.τ).loc Cert.DactRefIdeal.main_arg0)) (m ((c.tc : Thread Cert.DactRefIdeal.nD Cert.DactRefIdeal.τ).loc Cert.DactRefIdeal.main_arg1)) (m ((c.tc : Thread Cert.DactRefIdeal.nD Cert.DactRefIdeal.τ).loc Cert.DactRefIdeal.main_arg2))).2.2 = (fun _ => 1#1)

def Pre_Dwd (m : (ℓ : Loc Cert.Dwd.nD Cert.Dwd.τ Cert.Dwd.sig) → Buf (Elt Bits) ℓ) : Prop :=
  True

def Pre_DwdIdeal (m : (ℓ : Loc Cert.DwdIdeal.nD Cert.DwdIdeal.τ Cert.DwdIdeal.sig) → Buf (Elt Ideal) ℓ) : Prop :=
  True

def Pre_DwdRefIdeal (m : (ℓ : Loc Cert.DwdRefIdeal.nD Cert.DwdRefIdeal.τ Cert.DwdRefIdeal.sig) → Buf (Elt Ideal) ℓ) : Prop :=
  True

def Pre_Dwgu (m : (ℓ : Loc Cert.Dwgu.nD Cert.Dwgu.τ Cert.Dwgu.sig) → Buf (Elt Bits) ℓ) : Prop :=
  True

def Pre_DwguIdeal (m : (ℓ : Loc Cert.DwguIdeal.nD Cert.DwguIdeal.τ Cert.DwguIdeal.sig) → Buf (Elt Ideal) ℓ) : Prop :=
  True

def Pre_DwguRefIdeal (m : (ℓ : Loc Cert.DwguRefIdeal.nD Cert.DwguRefIdeal.τ Cert.DwguRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_DIn (m : (ℓ : Loc Cert.DIn.nD Cert.DIn.τ Cert.DIn.sig) → Buf (Elt Bits) ℓ) : Prop :=
  True

def Pre_DInIdeal (m : (ℓ : Loc Cert.DInIdeal.nD Cert.DInIdeal.τ Cert.DInIdeal.sig) → Buf (Elt Ideal) ℓ) : Prop :=
  True

def Pre_DInRefIdeal (m : (ℓ : Loc Cert.DInRefIdeal.nD Cert.DInRefIdeal.τ Cert.DInRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DBranch (m : (ℓ : Loc Cert.DBranch.nD Cert.DBranch.τ Cert.DBranch.sig) → Buf (Elt Bits) ℓ) : Prop :=
  True

def Pre_DBranchIdeal (m : (ℓ : Loc Cert.DBranchIdeal.nD Cert.DBranchIdeal.τ Cert.DBranchIdeal.sig) → Buf (Elt Ideal) ℓ) : Prop :=
  True

def Pre_DBranchRefIdeal (m : (ℓ : Loc Cert.DBranchRefIdeal.nD Cert.DBranchRefIdeal.τ Cert.DBranchRefIdeal.sig) → Buf (Elt Ideal) ℓ) : Prop :=
  True

def Pre_DwBranch (m : (ℓ : Loc Cert.DwBranch.nD Cert.DwBranch.τ Cert.DwBranch.sig) → Buf (Elt Bits) ℓ) : Prop :=
  True

def Pre_DwBranchIdeal (m : (ℓ : Loc Cert.DwBranchIdeal.nD Cert.DwBranchIdeal.τ Cert.DwBranchIdeal.sig) → Buf (Elt Ideal) ℓ) : Prop :=
  True

def Pre_DwBranchRefIdeal (m : (ℓ : Loc Cert.DwBranchRefIdeal.nD Cert.DwBranchRefIdeal.τ Cert.DwBranchRefIdeal.sig) → Buf (Elt Ideal) ℓ) : Prop :=
  True

def Pre_DNorm (m : (ℓ : Loc Cert.DNorm.nD Cert.DNorm.τ Cert.DNorm.sig) → Buf (Elt Bits) ℓ) : Prop :=
  True

def Pre_DNormIdeal (m : (ℓ : Loc Cert.DNormIdeal.nD Cert.DNormIdeal.τ Cert.DNormIdeal.sig) → Buf (Elt Ideal) ℓ) : Prop :=
  True

def Pre_DNormRefIdeal (m : (ℓ : Loc Cert.DNormRefIdeal.nD Cert.DNormRefIdeal.τ Cert.DNormRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_DGate (m : (ℓ : Loc Cert.DGate.nD Cert.DGate.τ Cert.DGate.sig) → Buf (Elt Bits) ℓ) : Prop :=
  True

def Pre_DGateIdeal (m : (ℓ : Loc Cert.DGateIdeal.nD Cert.DGateIdeal.τ Cert.DGateIdeal.sig) → Buf (Elt Ideal) ℓ) : Prop :=
  True

def Pre_DGateRefIdeal (m : (ℓ : Loc Cert.DGateRefIdeal.nD Cert.DGateRefIdeal.τ Cert.DGateRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_Uk (m : (ℓ : Loc Cert.Uk.nD Cert.Uk.τ Cert.Uk.sig) → Buf (Elt Bits) ℓ) : Prop :=
  True

def Pre_UkIdeal (m : (ℓ : Loc Cert.UkIdeal.nD Cert.UkIdeal.τ Cert.UkIdeal.sig) → Buf (Elt Ideal) ℓ) : Prop :=
  True

def Pre_UkRefIdeal (m : (ℓ : Loc Cert.UkRefIdeal.nD Cert.UkRefIdeal.τ Cert.UkRefIdeal.sig) → Buf (Elt Ideal) ℓ) : Prop :=
  True

def Pre_Uv (m : (ℓ : Loc Cert.Uv.nD Cert.Uv.τ Cert.Uv.sig) → Buf (Elt Bits) ℓ) : Prop :=
  True

def Pre_UvIdeal (m : (ℓ : Loc Cert.UvIdeal.nD Cert.UvIdeal.τ Cert.UvIdeal.sig) → Buf (Elt Ideal) ℓ) : Prop :=
  True

def Pre_UvRefIdeal (m : (ℓ : Loc Cert.UvRefIdeal.nD Cert.UvRefIdeal.τ Cert.UvRefIdeal.sig) → Buf (Elt Ideal) ℓ) : Prop :=
  True

def Pre_DUq (m : (ℓ : Loc Cert.DUq.nD Cert.DUq.τ Cert.DUq.sig) → Buf (Elt Bits) ℓ) : Prop :=
  True

def Pre_DUqIdeal (m : (ℓ : Loc Cert.DUqIdeal.nD Cert.DUqIdeal.τ Cert.DUqIdeal.sig) → Buf (Elt Ideal) ℓ) : Prop :=
  True

def Pre_DUqRefIdeal (m : (ℓ : Loc Cert.DUqRefIdeal.nD Cert.DUqRefIdeal.τ Cert.DUqRefIdeal.sig) → Buf (Elt Ideal) ℓ) : Prop :=
  True

def Pre_DUk (m : (ℓ : Loc Cert.DUk.nD Cert.DUk.τ Cert.DUk.sig) → Buf (Elt Bits) ℓ) : Prop :=
  True

def Pre_DUkIdeal (m : (ℓ : Loc Cert.DUkIdeal.nD Cert.DUkIdeal.τ Cert.DUkIdeal.sig) → Buf (Elt Ideal) ℓ) : Prop :=
  True

def Pre_DUkRefIdeal (m : (ℓ : Loc Cert.DUkRefIdeal.nD Cert.DUkRefIdeal.τ Cert.DUkRefIdeal.sig) → Buf (Elt Ideal) ℓ) : Prop :=
  True

def Pre_DUv (m : (ℓ : Loc Cert.DUv.nD Cert.DUv.τ Cert.DUv.sig) → Buf (Elt Bits) ℓ) : Prop :=
  True

def Pre_DUvIdeal (m : (ℓ : Loc Cert.DUvIdeal.nD Cert.DUvIdeal.τ Cert.DUvIdeal.sig) → Buf (Elt Ideal) ℓ) : Prop :=
  True

def Pre_DUvRefIdeal (m : (ℓ : Loc Cert.DUvRefIdeal.nD Cert.DUvRefIdeal.τ Cert.DUvRefIdeal.sig) → Buf (Elt Ideal) ℓ) : Prop :=
  True

def Pre_DwUq (m : (ℓ : Loc Cert.DwUq.nD Cert.DwUq.τ Cert.DwUq.sig) → Buf (Elt Bits) ℓ) : Prop :=
  True

def Pre_DwUqIdeal (m : (ℓ : Loc Cert.DwUqIdeal.nD Cert.DwUqIdeal.τ Cert.DwUqIdeal.sig) → Buf (Elt Ideal) ℓ) : Prop :=
  True

def Pre_DwUqRefIdeal (m : (ℓ : Loc Cert.DwUqRefIdeal.nD Cert.DwUqRefIdeal.τ Cert.DwUqRefIdeal.sig) → Buf (Elt Ideal) ℓ) : Prop :=
  True

def Pre_DwUk (m : (ℓ : Loc Cert.DwUk.nD Cert.DwUk.τ Cert.DwUk.sig) → Buf (Elt Bits) ℓ) : Prop :=
  True

def Pre_DwUkIdeal (m : (ℓ : Loc Cert.DwUkIdeal.nD Cert.DwUkIdeal.τ Cert.DwUkIdeal.sig) → Buf (Elt Ideal) ℓ) : Prop :=
  True

def Pre_DwUkRefIdeal (m : (ℓ : Loc Cert.DwUkRefIdeal.nD Cert.DwUkRefIdeal.τ Cert.DwUkRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_swa_tame [hKernelIdeal : Cert.KernelIdeal.Facts] [hPre_swa_tame : Cert.Pre_swa_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_swa_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_swa_tame [hReferenceIdeal : Cert.ReferenceIdeal.Facts] [hPre_swa_tame : Cert.Pre_swa_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swa_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactIdeal_pre_dact_tame [hDactIdeal : Cert.DactIdeal.Facts] [hPre_dact_tame : Cert.Pre_dact_tame.Facts] : Prop :=
  ∀ (m : (ℓ : Loc Cert.DactIdeal.nD Cert.DactIdeal.τ Cert.DactIdeal.sig) → Buf (Elt Ideal) ℓ) (g : Dev Cert.DactIdeal.nD → PrngReg), Pre_DactIdeal_dact_tame m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_DactRefIdeal_pre_dact_tame [hDactRefIdeal : Cert.DactRefIdeal.Facts] [hPre_dact_tame : Cert.Pre_dact_tame.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal_dact_tame m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dwd [hDwd : Cert.Dwd.Facts] : Prop :=
  ∀ (m : (ℓ : Loc Cert.Dwd.nD Cert.Dwd.τ Cert.Dwd.sig) → Buf (Elt Bits) ℓ) (g : Dev Cert.Dwd.nD → PrngReg), Pre_Dwd m →
    θ_run (Cert.Dwd.defs (F := Bits)) (onTc (τ := Cert.Dwd.τ) (Cert.Dwd.main (F := Bits))) ⟨m, fun _ => 0, g⟩ (fun r => (∀ c : Dev Cert.Dwd.nD,
      r.2.mem ((c.tc : Thread Cert.Dwd.nD Cert.Dwd.τ).loc Cert.Dwd.main_arg0) = m ((c.tc : Thread Cert.Dwd.nD Cert.Dwd.τ).loc Cert.Dwd.main_arg0)
      ∧ r.2.mem ((c.tc : Thread Cert.Dwd.nD Cert.Dwd.τ).loc Cert.Dwd.main_arg1) = m ((c.tc : Thread Cert.Dwd.nD Cert.Dwd.τ).loc Cert.Dwd.main_arg1))
      ∧ r.2.sem = fun _ => 0)

def quiescent_DwdIdeal [hDwdIdeal : Cert.DwdIdeal.Facts] : Prop :=
  ∀ (m : (ℓ : Loc Cert.DwdIdeal.nD Cert.DwdIdeal.τ Cert.DwdIdeal.sig) → Buf (Elt Ideal) ℓ) (g : Dev Cert.DwdIdeal.nD → PrngReg), Pre_DwdIdeal m →
    θ_run (Cert.DwdIdeal.defs (F := Ideal)) (onTc (τ := Cert.DwdIdeal.τ) (Cert.DwdIdeal.main (F := Ideal))) ⟨m, fun _ => 0, g⟩ (fun r => (∀ c : Dev Cert.DwdIdeal.nD,
      r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
      ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ r.2.sem = fun _ => 0)

def quiescent_DwdRefIdeal [hDwdRefIdeal : Cert.DwdRefIdeal.Facts] : Prop :=
  ∀ (m : (ℓ : Loc Cert.DwdRefIdeal.nD Cert.DwdRefIdeal.τ Cert.DwdRefIdeal.sig) → Buf (Elt Ideal) ℓ) (g : Dev Cert.DwdRefIdeal.nD → PrngReg), Pre_DwdRefIdeal m →
    θ_run (Cert.DwdRefIdeal.defs (F := Ideal)) (onTc (τ := Cert.DwdRefIdeal.τ) (Cert.DwdRefIdeal.main (F := Ideal))) ⟨m, fun _ => 0, g⟩ (fun r => (∀ c : Dev Cert.DwdRefIdeal.nD,
      r.2.mem ((c.tc : Thread Cert.DwdRefIdeal.nD Cert.DwdRefIdeal.τ).loc Cert.DwdRefIdeal.main_arg0) = m ((c.tc : Thread Cert.DwdRefIdeal.nD Cert.DwdRefIdeal.τ).loc Cert.DwdRefIdeal.main_arg0)
      ∧ r.2.mem ((c.tc : Thread Cert.DwdRefIdeal.nD Cert.DwdRefIdeal.τ).loc Cert.DwdRefIdeal.main_arg1) = m ((c.tc : Thread Cert.DwdRefIdeal.nD Cert.DwdRefIdeal.τ).loc Cert.DwdRefIdeal.main_arg1))
      ∧ r.2.sem = fun _ => 0)

def quiescent_Dwgu [hDwgu : Cert.Dwgu.Facts] : Prop :=
  ∀ (m : (ℓ : Loc Cert.Dwgu.nD Cert.Dwgu.τ Cert.Dwgu.sig) → Buf (Elt Bits) ℓ) (g : Dev Cert.Dwgu.nD → PrngReg), Pre_Dwgu m →
    θ_run (Cert.Dwgu.defs (F := Bits)) (onTc (τ := Cert.Dwgu.τ) (Cert.Dwgu.main (F := Bits))) ⟨m, fun _ => 0, g⟩ (fun r => (∀ c : Dev Cert.Dwgu.nD,
      r.2.mem ((c.tc : Thread Cert.Dwgu.nD Cert.Dwgu.τ).loc Cert.Dwgu.main_arg0) = m ((c.tc : Thread Cert.Dwgu.nD Cert.Dwgu.τ).loc Cert.Dwgu.main_arg0)
      ∧ r.2.mem ((c.tc : Thread Cert.Dwgu.nD Cert.Dwgu.τ).loc Cert.Dwgu.main_arg1) = m ((c.tc : Thread Cert.Dwgu.nD Cert.Dwgu.τ).loc Cert.Dwgu.main_arg1))
      ∧ r.2.sem = fun _ => 0)

def quiescent_DwguIdeal [hDwguIdeal : Cert.DwguIdeal.Facts] : Prop :=
  ∀ (m : (ℓ : Loc Cert.DwguIdeal.nD Cert.DwguIdeal.τ Cert.DwguIdeal.sig) → Buf (Elt Ideal) ℓ) (g : Dev Cert.DwguIdeal.nD → PrngReg), Pre_DwguIdeal m →
    θ_run (Cert.DwguIdeal.defs (F := Ideal)) (onTc (τ := Cert.DwguIdeal.τ) (Cert.DwguIdeal.main (F := Ideal))) ⟨m, fun _ => 0, g⟩ (fun r => (∀ c : Dev Cert.DwguIdeal.nD,
      r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
      ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ r.2.sem = fun _ => 0)

def quiescent_DwguRefIdeal [hDwguRefIdeal : Cert.DwguRefIdeal.Facts] : Prop :=
  ∀ (m : (ℓ : Loc Cert.DwguRefIdeal.nD Cert.DwguRefIdeal.τ Cert.DwguRefIdeal.sig) → Buf (Elt Ideal) ℓ) (g : Dev Cert.DwguRefIdeal.nD → PrngReg), Pre_DwguRefIdeal m →
    θ_run (Cert.DwguRefIdeal.defs (F := Ideal)) (onTc (τ := Cert.DwguRefIdeal.τ) (Cert.DwguRefIdeal.main (F := Ideal))) ⟨m, fun _ => 0, g⟩ (fun r => (∀ c : Dev Cert.DwguRefIdeal.nD,
      r.2.mem ((c.tc : Thread Cert.DwguRefIdeal.nD Cert.DwguRefIdeal.τ).loc Cert.DwguRefIdeal.main_arg0) = m ((c.tc : Thread Cert.DwguRefIdeal.nD Cert.DwguRefIdeal.τ).loc Cert.DwguRefIdeal.main_arg0)
      ∧ r.2.mem ((c.tc : Thread Cert.DwguRefIdeal.nD Cert.DwguRefIdeal.τ).loc Cert.DwguRefIdeal.main_arg1) = m ((c.tc : Thread Cert.DwguRefIdeal.nD Cert.DwguRefIdeal.τ).loc Cert.DwguRefIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1))
      ∧ r.2.sem = fun _ => 0)

def quiescent_DIn [hDIn : Cert.DIn.Facts] : Prop :=
  ∀ (m : (ℓ : Loc Cert.DIn.nD Cert.DIn.τ Cert.DIn.sig) → Buf (Elt Bits) ℓ) (g : Dev Cert.DIn.nD → PrngReg), Pre_DIn m →
    θ_run (Cert.DIn.defs (F := Bits)) (onTc (τ := Cert.DIn.τ) (Cert.DIn.main (F := Bits))) ⟨m, fun _ => 0, g⟩ (fun r => (∀ c : Dev Cert.DIn.nD,
      r.2.mem ((c.tc : Thread Cert.DIn.nD Cert.DIn.τ).loc Cert.DIn.main_arg0) = m ((c.tc : Thread Cert.DIn.nD Cert.DIn.τ).loc Cert.DIn.main_arg0)
      ∧ r.2.mem ((c.tc : Thread Cert.DIn.nD Cert.DIn.τ).loc Cert.DIn.main_arg1) = m ((c.tc : Thread Cert.DIn.nD Cert.DIn.τ).loc Cert.DIn.main_arg1))
      ∧ r.2.sem = fun _ => 0)

def quiescent_DInIdeal [hDInIdeal : Cert.DInIdeal.Facts] : Prop :=
  ∀ (m : (ℓ : Loc Cert.DInIdeal.nD Cert.DInIdeal.τ Cert.DInIdeal.sig) → Buf (Elt Ideal) ℓ) (g : Dev Cert.DInIdeal.nD → PrngReg), Pre_DInIdeal m →
    θ_run (Cert.DInIdeal.defs (F := Ideal)) (onTc (τ := Cert.DInIdeal.τ) (Cert.DInIdeal.main (F := Ideal))) ⟨m, fun _ => 0, g⟩ (fun r => (∀ c : Dev Cert.DInIdeal.nD,
      r.2.mem ((c.tc : Thread Cert.DInIdeal.nD Cert.DInIdeal.τ).loc Cert.DInIdeal.main_arg0) = m ((c.tc : Thread Cert.DInIdeal.nD Cert.DInIdeal.τ).loc Cert.DInIdeal.main_arg0)
      ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ r.2.sem = fun _ => 0)

def quiescent_DInRefIdeal [hDInRefIdeal : Cert.DInRefIdeal.Facts] : Prop :=
  ∀ (m : (ℓ : Loc Cert.DInRefIdeal.nD Cert.DInRefIdeal.τ Cert.DInRefIdeal.sig) → Buf (Elt Ideal) ℓ) (g : Dev Cert.DInRefIdeal.nD → PrngReg), Pre_DInRefIdeal m →
    θ_run (Cert.DInRefIdeal.defs (F := Ideal)) (onTc (τ := Cert.DInRefIdeal.τ) (Cert.DInRefIdeal.main (F := Ideal))) ⟨m, fun _ => 0, g⟩ (fun r => (∀ c : Dev Cert.DInRefIdeal.nD,
      r.2.mem ((c.tc : Thread Cert.DInRefIdeal.nD Cert.DInRefIdeal.τ).loc Cert.DInRefIdeal.main_arg0) = m ((c.tc : Thread Cert.DInRefIdeal.nD Cert.DInRefIdeal.τ).loc Cert.DInRefIdeal.main_arg0)
      ∧ r.2.mem ((c.tc : Thread Cert.DInRefIdeal.nD Cert.DInRefIdeal.τ).loc Cert.DInRefIdeal.main_arg1) = m ((c.tc : Thread Cert.DInRefIdeal.nD Cert.DInRefIdeal.τ).loc Cert.DInRefIdeal.main_arg1))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1))
      ∧ r.2.sem = fun _ => 0)

def quiescent_DBranch [hDBranch : Cert.DBranch.Facts] : Prop :=
  ∀ (m : (ℓ : Loc Cert.DBranch.nD Cert.DBranch.τ Cert.DBranch.sig) → Buf (Elt Bits) ℓ) (g : Dev Cert.DBranch.nD → PrngReg), Pre_DBranch m →
    θ_run (Cert.DBranch.defs (F := Bits)) (onTc (τ := Cert.DBranch.τ) (Cert.DBranch.main (F := Bits))) ⟨m, fun _ => 0, g⟩ (fun r => (∀ c : Dev Cert.DBranch.nD,
      r.2.mem ((c.tc : Thread Cert.DBranch.nD Cert.DBranch.τ).loc Cert.DBranch.main_arg0) = m ((c.tc : Thread Cert.DBranch.nD Cert.DBranch.τ).loc Cert.DBranch.main_arg0)
      ∧ r.2.mem ((c.tc : Thread Cert.DBranch.nD Cert.DBranch.τ).loc Cert.DBranch.main_arg1) = m ((c.tc : Thread Cert.DBranch.nD Cert.DBranch.τ).loc Cert.DBranch.main_arg1))
      ∧ r.2.sem = fun _ => 0)

def quiescent_DBranchIdeal [hDBranchIdeal : Cert.DBranchIdeal.Facts] : Prop :=
  ∀ (m : (ℓ : Loc Cert.DBranchIdeal.nD Cert.DBranchIdeal.τ Cert.DBranchIdeal.sig) → Buf (Elt Ideal) ℓ) (g : Dev Cert.DBranchIdeal.nD → PrngReg), Pre_DBranchIdeal m →
    θ_run (Cert.DBranchIdeal.defs (F := Ideal)) (onTc (τ := Cert.DBranchIdeal.τ) (Cert.DBranchIdeal.main (F := Ideal))) ⟨m, fun _ => 0, g⟩ (fun r => (∀ c : Dev Cert.DBranchIdeal.nD,
      r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
      ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ r.2.sem = fun _ => 0)

def quiescent_DBranchRefIdeal [hDBranchRefIdeal : Cert.DBranchRefIdeal.Facts] : Prop :=
  ∀ (m : (ℓ : Loc Cert.DBranchRefIdeal.nD Cert.DBranchRefIdeal.τ Cert.DBranchRefIdeal.sig) → Buf (Elt Ideal) ℓ) (g : Dev Cert.DBranchRefIdeal.nD → PrngReg), Pre_DBranchRefIdeal m →
    θ_run (Cert.DBranchRefIdeal.defs (F := Ideal)) (onTc (τ := Cert.DBranchRefIdeal.τ) (Cert.DBranchRefIdeal.main (F := Ideal))) ⟨m, fun _ => 0, g⟩ (fun r => (∀ c : Dev Cert.DBranchRefIdeal.nD,
      r.2.mem ((c.tc : Thread Cert.DBranchRefIdeal.nD Cert.DBranchRefIdeal.τ).loc Cert.DBranchRefIdeal.main_arg0) = m ((c.tc : Thread Cert.DBranchRefIdeal.nD Cert.DBranchRefIdeal.τ).loc Cert.DBranchRefIdeal.main_arg0)
      ∧ r.2.mem ((c.tc : Thread Cert.DBranchRefIdeal.nD Cert.DBranchRefIdeal.τ).loc Cert.DBranchRefIdeal.main_arg1) = m ((c.tc : Thread Cert.DBranchRefIdeal.nD Cert.DBranchRefIdeal.τ).loc Cert.DBranchRefIdeal.main_arg1))
      ∧ r.2.sem = fun _ => 0)

def quiescent_DwBranch [hDwBranch : Cert.DwBranch.Facts] : Prop :=
  ∀ (m : (ℓ : Loc Cert.DwBranch.nD Cert.DwBranch.τ Cert.DwBranch.sig) → Buf (Elt Bits) ℓ) (g : Dev Cert.DwBranch.nD → PrngReg), Pre_DwBranch m →
    θ_run (Cert.DwBranch.defs (F := Bits)) (onTc (τ := Cert.DwBranch.τ) (Cert.DwBranch.main (F := Bits))) ⟨m, fun _ => 0, g⟩ (fun r => (∀ c : Dev Cert.DwBranch.nD,
      r.2.mem ((c.tc : Thread Cert.DwBranch.nD Cert.DwBranch.τ).loc Cert.DwBranch.main_arg0) = m ((c.tc : Thread Cert.DwBranch.nD Cert.DwBranch.τ).loc Cert.DwBranch.main_arg0)
      ∧ r.2.mem ((c.tc : Thread Cert.DwBranch.nD Cert.DwBranch.τ).loc Cert.DwBranch.main_arg1) = m ((c.tc : Thread Cert.DwBranch.nD Cert.DwBranch.τ).loc Cert.DwBranch.main_arg1))
      ∧ r.2.sem = fun _ => 0)

def quiescent_DwBranchIdeal [hDwBranchIdeal : Cert.DwBranchIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg), Pre_DwBranchIdeal m →
    θ_run (Cert.DwBranchIdeal.defs (F := Ideal)) (onTc (τ := Cert.DwBranchIdeal.τ) (Cert.DwBranchIdeal.main (F := Ideal))) ⟨m, fun _ => 0, g⟩ (fun r => (∀ c : Dev Cert.DwBranchIdeal.nD,
      r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
      ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ r.2.sem = fun _ => 0)

def quiescent_DwBranchRefIdeal [hDwBranchRefIdeal : Cert.DwBranchRefIdeal.Facts] : Prop :=
  ∀ (m : (ℓ : Loc Cert.DwBranchRefIdeal.nD Cert.DwBranchRefIdeal.τ Cert.DwBranchRefIdeal.sig) → Buf (Elt Ideal) ℓ) (g : Dev Cert.DwBranchRefIdeal.nD → PrngReg), Pre_DwBranchRefIdeal m →
    θ_run (Cert.DwBranchRefIdeal.defs (F := Ideal)) (onTc (τ := Cert.DwBranchRefIdeal.τ) (Cert.DwBranchRefIdeal.main (F := Ideal))) ⟨m, fun _ => 0, g⟩ (fun r => (∀ c : Dev Cert.DwBranchRefIdeal.nD,
      r.2.mem ((c.tc : Thread Cert.DwBranchRefIdeal.nD Cert.DwBranchRefIdeal.τ).loc Cert.DwBranchRefIdeal.main_arg0) = m ((c.tc : Thread Cert.DwBranchRefIdeal.nD Cert.DwBranchRefIdeal.τ).loc Cert.DwBranchRefIdeal.main_arg0)
      ∧ r.2.mem ((c.tc : Thread Cert.DwBranchRefIdeal.nD Cert.DwBranchRefIdeal.τ).loc Cert.DwBranchRefIdeal.main_arg1) = m ((c.tc : Thread Cert.DwBranchRefIdeal.nD Cert.DwBranchRefIdeal.τ).loc Cert.DwBranchRefIdeal.main_arg1))
      ∧ r.2.sem = fun _ => 0)

def quiescent_DNorm [hDNorm : Cert.DNorm.Facts] : Prop :=
  ∀ (m : (ℓ : Loc Cert.DNorm.nD Cert.DNorm.τ Cert.DNorm.sig) → Buf (Elt Bits) ℓ) (g : Dev Cert.DNorm.nD → PrngReg), Pre_DNorm m →
    θ_run (Cert.DNorm.defs (F := Bits)) (onTc (τ := Cert.DNorm.τ) (Cert.DNorm.main (F := Bits))) ⟨m, fun _ => 0, g⟩ (fun r => (∀ c : Dev Cert.DNorm.nD,
      r.2.mem ((c.tc : Thread Cert.DNorm.nD Cert.DNorm.τ).loc Cert.DNorm.main_arg0) = m ((c.tc : Thread Cert.DNorm.nD Cert.DNorm.τ).loc Cert.DNorm.main_arg0)
      ∧ r.2.mem ((c.tc : Thread Cert.DNorm.nD Cert.DNorm.τ).loc Cert.DNorm.main_arg1) = m ((c.tc : Thread Cert.DNorm.nD Cert.DNorm.τ).loc Cert.DNorm.main_arg1)
      ∧ r.2.mem ((c.tc : Thread Cert.DNorm.nD Cert.DNorm.τ).loc Cert.DNorm.main_arg2) = m ((c.tc : Thread Cert.DNorm.nD Cert.DNorm.τ).loc Cert.DNorm.main_arg2)
      ∧ r.2.mem ((c.tc : Thread Cert.DNorm.nD Cert.DNorm.τ).loc Cert.DNorm.main_arg3) = m ((c.tc : Thread Cert.DNorm.nD Cert.DNorm.τ).loc Cert.DNorm.main_arg3))
      ∧ r.2.sem = fun _ => 0)

def quiescent_DNormIdeal [hDNormIdeal : Cert.DNormIdeal.Facts] : Prop :=
  ∀ (m : (ℓ : Loc Cert.DNormIdeal.nD Cert.DNormIdeal.τ Cert.DNormIdeal.sig) → Buf (Elt Ideal) ℓ) (g : Dev Cert.DNormIdeal.nD → PrngReg), Pre_DNormIdeal m →
    θ_run (Cert.DNormIdeal.defs (F := Ideal)) (onTc (τ := Cert.DNormIdeal.τ) (Cert.DNormIdeal.main (F := Ideal))) ⟨m, fun _ => 0, g⟩ (fun r => (∀ c : Dev Cert.DNormIdeal.nD,
      r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
      ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
      ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
      ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ r.2.sem = fun _ => 0)

def quiescent_DNormRefIdeal [hDNormRefIdeal : Cert.DNormRefIdeal.Facts] : Prop :=
  ∀ (m : (ℓ : Loc Cert.DNormRefIdeal.nD Cert.DNormRefIdeal.τ Cert.DNormRefIdeal.sig) → Buf (Elt Ideal) ℓ) (g : Dev Cert.DNormRefIdeal.nD → PrngReg), Pre_DNormRefIdeal m →
    θ_run (Cert.DNormRefIdeal.defs (F := Ideal)) (onTc (τ := Cert.DNormRefIdeal.τ) (Cert.DNormRefIdeal.main (F := Ideal))) ⟨m, fun _ => 0, g⟩ (fun r => (∀ c : Dev Cert.DNormRefIdeal.nD,
      r.2.mem ((c.tc : Thread Cert.DNormRefIdeal.nD Cert.DNormRefIdeal.τ).loc Cert.DNormRefIdeal.main_arg0) = m ((c.tc : Thread Cert.DNormRefIdeal.nD Cert.DNormRefIdeal.τ).loc Cert.DNormRefIdeal.main_arg0)
      ∧ r.2.mem ((c.tc : Thread Cert.DNormRefIdeal.nD Cert.DNormRefIdeal.τ).loc Cert.DNormRefIdeal.main_arg1) = m ((c.tc : Thread Cert.DNormRefIdeal.nD Cert.DNormRefIdeal.τ).loc Cert.DNormRefIdeal.main_arg1)
      ∧ r.2.mem ((c.tc : Thread Cert.DNormRefIdeal.nD Cert.DNormRefIdeal.τ).loc Cert.DNormRefIdeal.main_arg2) = m ((c.tc : Thread Cert.DNormRefIdeal.nD Cert.DNormRefIdeal.τ).loc Cert.DNormRefIdeal.main_arg2)
      ∧ r.2.mem ((c.tc : Thread Cert.DNormRefIdeal.nD Cert.DNormRefIdeal.τ).loc Cert.DNormRefIdeal.main_arg3) = m ((c.tc : Thread Cert.DNormRefIdeal.nD Cert.DNormRefIdeal.τ).loc Cert.DNormRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_DGate [hDGate : Cert.DGate.Facts] : Prop :=
  ∀ (m : (ℓ : Loc Cert.DGate.nD Cert.DGate.τ Cert.DGate.sig) → Buf (Elt Bits) ℓ) (g : Dev Cert.DGate.nD → PrngReg), Pre_DGate m →
    θ_run (Cert.DGate.defs (F := Bits)) (onTc (τ := Cert.DGate.τ) (Cert.DGate.main (F := Bits))) ⟨m, fun _ => 0, g⟩ (fun r => (∀ c : Dev Cert.DGate.nD,
      r.2.mem ((c.tc : Thread Cert.DGate.nD Cert.DGate.τ).loc Cert.DGate.main_arg0) = m ((c.tc : Thread Cert.DGate.nD Cert.DGate.τ).loc Cert.DGate.main_arg0)
      ∧ r.2.mem ((c.tc : Thread Cert.DGate.nD Cert.DGate.τ).loc Cert.DGate.main_arg1) = m ((c.tc : Thread Cert.DGate.nD Cert.DGate.τ).loc Cert.DGate.main_arg1)
      ∧ r.2.mem ((c.tc : Thread Cert.DGate.nD Cert.DGate.τ).loc Cert.DGate.main_arg2) = m ((c.tc : Thread Cert.DGate.nD Cert.DGate.τ).loc Cert.DGate.main_arg2)
      ∧ r.2.mem ((c.tc : Thread Cert.DGate.nD Cert.DGate.τ).loc Cert.DGate.main_arg3) = m ((c.tc : Thread Cert.DGate.nD Cert.DGate.τ).loc Cert.DGate.main_arg3))
      ∧ r.2.sem = fun _ => 0)

def quiescent_DGateIdeal [hDGateIdeal : Cert.DGateIdeal.Facts] : Prop :=
  ∀ (m : (ℓ : Loc Cert.DGateIdeal.nD Cert.DGateIdeal.τ Cert.DGateIdeal.sig) → Buf (Elt Ideal) ℓ) (g : Dev Cert.DGateIdeal.nD → PrngReg), Pre_DGateIdeal m →
    θ_run (Cert.DGateIdeal.defs (F := Ideal)) (onTc (τ := Cert.DGateIdeal.τ) (Cert.DGateIdeal.main (F := Ideal))) ⟨m, fun _ => 0, g⟩ (fun r => (∀ c : Dev Cert.DGateIdeal.nD,
      r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
      ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
      ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
      ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ r.2.sem = fun _ => 0)

def quiescent_DGateRefIdeal [hDGateRefIdeal : Cert.DGateRefIdeal.Facts] : Prop :=
  ∀ (m : (ℓ : Loc Cert.DGateRefIdeal.nD Cert.DGateRefIdeal.τ Cert.DGateRefIdeal.sig) → Buf (Elt Ideal) ℓ) (g : Dev Cert.DGateRefIdeal.nD → PrngReg), Pre_DGateRefIdeal m →
    θ_run (Cert.DGateRefIdeal.defs (F := Ideal)) (onTc (τ := Cert.DGateRefIdeal.τ) (Cert.DGateRefIdeal.main (F := Ideal))) ⟨m, fun _ => 0, g⟩ (fun r => (∀ c : Dev Cert.DGateRefIdeal.nD,
      r.2.mem ((c.tc : Thread Cert.DGateRefIdeal.nD Cert.DGateRefIdeal.τ).loc Cert.DGateRefIdeal.main_arg0) = m ((c.tc : Thread Cert.DGateRefIdeal.nD Cert.DGateRefIdeal.τ).loc Cert.DGateRefIdeal.main_arg0)
      ∧ r.2.mem ((c.tc : Thread Cert.DGateRefIdeal.nD Cert.DGateRefIdeal.τ).loc Cert.DGateRefIdeal.main_arg1) = m ((c.tc : Thread Cert.DGateRefIdeal.nD Cert.DGateRefIdeal.τ).loc Cert.DGateRefIdeal.main_arg1)
      ∧ r.2.mem ((c.tc : Thread Cert.DGateRefIdeal.nD Cert.DGateRefIdeal.τ).loc Cert.DGateRefIdeal.main_arg2) = m ((c.tc : Thread Cert.DGateRefIdeal.nD Cert.DGateRefIdeal.τ).loc Cert.DGateRefIdeal.main_arg2)
      ∧ r.2.mem ((c.tc : Thread Cert.DGateRefIdeal.nD Cert.DGateRefIdeal.τ).loc Cert.DGateRefIdeal.main_arg3) = m ((c.tc : Thread Cert.DGateRefIdeal.nD Cert.DGateRefIdeal.τ).loc Cert.DGateRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_Uk [hUk : Cert.Uk.Facts] : Prop :=
  ∀ (m : (ℓ : Loc Cert.Uk.nD Cert.Uk.τ Cert.Uk.sig) → Buf (Elt Bits) ℓ) (g : Dev Cert.Uk.nD → PrngReg), Pre_Uk m →
    θ_run (Cert.Uk.defs (F := Bits)) (onTc (τ := Cert.Uk.τ) (Cert.Uk.main (F := Bits))) ⟨m, fun _ => 0, g⟩ (fun r => (∀ c : Dev Cert.Uk.nD,
      r.2.mem ((c.tc : Thread Cert.Uk.nD Cert.Uk.τ).loc Cert.Uk.main_arg0) = m ((c.tc : Thread Cert.Uk.nD Cert.Uk.τ).loc Cert.Uk.main_arg0)
      ∧ r.2.mem ((c.tc : Thread Cert.Uk.nD Cert.Uk.τ).loc Cert.Uk.main_arg1) = m ((c.tc : Thread Cert.Uk.nD Cert.Uk.τ).loc Cert.Uk.main_arg1))
      ∧ r.2.sem = fun _ => 0)

def quiescent_UkIdeal [hUkIdeal : Cert.UkIdeal.Facts] : Prop :=
  ∀ (m : (ℓ : Loc Cert.UkIdeal.nD Cert.UkIdeal.τ Cert.UkIdeal.sig) → Buf (Elt Ideal) ℓ) (g : Dev Cert.UkIdeal.nD → PrngReg), Pre_UkIdeal m →
    θ_run (Cert.UkIdeal.defs (F := Ideal)) (onTc (τ := Cert.UkIdeal.τ) (Cert.UkIdeal.main (F := Ideal))) ⟨m, fun _ => 0, g⟩ (fun r => (∀ c : Dev Cert.UkIdeal.nD,
      r.2.mem ((c.tc : Thread Cert.UkIdeal.nD Cert.UkIdeal.τ).loc Cert.UkIdeal.main_arg0) = m ((c.tc : Thread Cert.UkIdeal.nD Cert.UkIdeal.τ).loc Cert.UkIdeal.main_arg0)
      ∧ r.2.mem ((c.tc : Thread Cert.UkIdeal.nD Cert.UkIdeal.τ).loc Cert.UkIdeal.main_arg1) = m ((c.tc : Thread Cert.UkIdeal.nD Cert.UkIdeal.τ).loc Cert.UkIdeal.main_arg1))
      ∧ r.2.sem = fun _ => 0)

def quiescent_UkRefIdeal [hUkRefIdeal : Cert.UkRefIdeal.Facts] : Prop :=
  ∀ (m : (ℓ : Loc Cert.UkRefIdeal.nD Cert.UkRefIdeal.τ Cert.UkRefIdeal.sig) → Buf (Elt Ideal) ℓ) (g : Dev Cert.UkRefIdeal.nD → PrngReg), Pre_UkRefIdeal m →
    θ_run (Cert.UkRefIdeal.defs (F := Ideal)) (onTc (τ := Cert.UkRefIdeal.τ) (Cert.UkRefIdeal.main (F := Ideal))) ⟨m, fun _ => 0, g⟩ (fun r => (∀ c : Dev Cert.UkRefIdeal.nD,
      r.2.mem ((c.tc : Thread Cert.UkRefIdeal.nD Cert.UkRefIdeal.τ).loc Cert.UkRefIdeal.main_arg0) = m ((c.tc : Thread Cert.UkRefIdeal.nD Cert.UkRefIdeal.τ).loc Cert.UkRefIdeal.main_arg0)
      ∧ r.2.mem ((c.tc : Thread Cert.UkRefIdeal.nD Cert.UkRefIdeal.τ).loc Cert.UkRefIdeal.main_arg1) = m ((c.tc : Thread Cert.UkRefIdeal.nD Cert.UkRefIdeal.τ).loc Cert.UkRefIdeal.main_arg1))
      ∧ r.2.sem = fun _ => 0)

def quiescent_Uv [hUv : Cert.Uv.Facts] : Prop :=
  ∀ (m : (ℓ : Loc Cert.Uv.nD Cert.Uv.τ Cert.Uv.sig) → Buf (Elt Bits) ℓ) (g : Dev Cert.Uv.nD → PrngReg), Pre_Uv m →
    θ_run (Cert.Uv.defs (F := Bits)) (onTc (τ := Cert.Uv.τ) (Cert.Uv.main (F := Bits))) ⟨m, fun _ => 0, g⟩ (fun r => (∀ c : Dev Cert.Uv.nD,
      r.2.mem ((c.tc : Thread Cert.Uv.nD Cert.Uv.τ).loc Cert.Uv.main_arg0) = m ((c.tc : Thread Cert.Uv.nD Cert.Uv.τ).loc Cert.Uv.main_arg0)
      ∧ r.2.mem ((c.tc : Thread Cert.Uv.nD Cert.Uv.τ).loc Cert.Uv.main_arg1) = m ((c.tc : Thread Cert.Uv.nD Cert.Uv.τ).loc Cert.Uv.main_arg1))
      ∧ r.2.sem = fun _ => 0)

def quiescent_UvIdeal [hUvIdeal : Cert.UvIdeal.Facts] : Prop :=
  ∀ (m : (ℓ : Loc Cert.UvIdeal.nD Cert.UvIdeal.τ Cert.UvIdeal.sig) → Buf (Elt Ideal) ℓ) (g : Dev Cert.UvIdeal.nD → PrngReg), Pre_UvIdeal m →
    θ_run (Cert.UvIdeal.defs (F := Ideal)) (onTc (τ := Cert.UvIdeal.τ) (Cert.UvIdeal.main (F := Ideal))) ⟨m, fun _ => 0, g⟩ (fun r => (∀ c : Dev Cert.UvIdeal.nD,
      r.2.mem ((c.tc : Thread Cert.UvIdeal.nD Cert.UvIdeal.τ).loc Cert.UvIdeal.main_arg0) = m ((c.tc : Thread Cert.UvIdeal.nD Cert.UvIdeal.τ).loc Cert.UvIdeal.main_arg0)
      ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ r.2.sem = fun _ => 0)

def quiescent_UvRefIdeal [hUvRefIdeal : Cert.UvRefIdeal.Facts] : Prop :=
  ∀ (m : (ℓ : Loc Cert.UvRefIdeal.nD Cert.UvRefIdeal.τ Cert.UvRefIdeal.sig) → Buf (Elt Ideal) ℓ) (g : Dev Cert.UvRefIdeal.nD → PrngReg), Pre_UvRefIdeal m →
    θ_run (Cert.UvRefIdeal.defs (F := Ideal)) (onTc (τ := Cert.UvRefIdeal.τ) (Cert.UvRefIdeal.main (F := Ideal))) ⟨m, fun _ => 0, g⟩ (fun r => (∀ c : Dev Cert.UvRefIdeal.nD,
      r.2.mem ((c.tc : Thread Cert.UvRefIdeal.nD Cert.UvRefIdeal.τ).loc Cert.UvRefIdeal.main_arg0) = m ((c.tc : Thread Cert.UvRefIdeal.nD Cert.UvRefIdeal.τ).loc Cert.UvRefIdeal.main_arg0)
      ∧ r.2.mem ((c.tc : Thread Cert.UvRefIdeal.nD Cert.UvRefIdeal.τ).loc Cert.UvRefIdeal.main_arg1) = m ((c.tc : Thread Cert.UvRefIdeal.nD Cert.UvRefIdeal.τ).loc Cert.UvRefIdeal.main_arg1))
      ∧ r.2.sem = fun _ => 0)

def quiescent_DUq [hDUq : Cert.DUq.Facts] : Prop :=
  ∀ (m : (ℓ : Loc Cert.DUq.nD Cert.DUq.τ Cert.DUq.sig) → Buf (Elt Bits) ℓ) (g : Dev Cert.DUq.nD → PrngReg), Pre_DUq m →
    θ_run (Cert.DUq.defs (F := Bits)) (onTc (τ := Cert.DUq.τ) (Cert.DUq.main (F := Bits))) ⟨m, fun _ => 0, g⟩ (fun r => (∀ c : Dev Cert.DUq.nD,
      r.2.mem ((c.tc : Thread Cert.DUq.nD Cert.DUq.τ).loc Cert.DUq.main_arg0) = m ((c.tc : Thread Cert.DUq.nD Cert.DUq.τ).loc Cert.DUq.main_arg0)
      ∧ r.2.mem ((c.tc : Thread Cert.DUq.nD Cert.DUq.τ).loc Cert.DUq.main_arg1) = m ((c.tc : Thread Cert.DUq.nD Cert.DUq.τ).loc Cert.DUq.main_arg1))
      ∧ r.2.sem = fun _ => 0)

def quiescent_DUqIdeal [hDUqIdeal : Cert.DUqIdeal.Facts] : Prop :=
  ∀ (m : (ℓ : Loc Cert.DUqIdeal.nD Cert.DUqIdeal.τ Cert.DUqIdeal.sig) → Buf (Elt Ideal) ℓ) (g : Dev Cert.DUqIdeal.nD → PrngReg), Pre_DUqIdeal m →
    θ_run (Cert.DUqIdeal.defs (F := Ideal)) (onTc (τ := Cert.DUqIdeal.τ) (Cert.DUqIdeal.main (F := Ideal))) ⟨m, fun _ => 0, g⟩ (fun r => (∀ c : Dev Cert.DUqIdeal.nD,
      r.2.mem ((c.tc : Thread Cert.DUqIdeal.nD Cert.DUqIdeal.τ).loc Cert.DUqIdeal.main_arg0) = m ((c.tc : Thread Cert.DUqIdeal.nD Cert.DUqIdeal.τ).loc Cert.DUqIdeal.main_arg0)
      ∧ r.2.mem ((c.tc : Thread Cert.DUqIdeal.nD Cert.DUqIdeal.τ).loc Cert.DUqIdeal.main_arg1) = m ((c.tc : Thread Cert.DUqIdeal.nD Cert.DUqIdeal.τ).loc Cert.DUqIdeal.main_arg1))
      ∧ r.2.sem = fun _ => 0)

def quiescent_DUqRefIdeal [hDUqRefIdeal : Cert.DUqRefIdeal.Facts] : Prop :=
  ∀ (m : (ℓ : Loc Cert.DUqRefIdeal.nD Cert.DUqRefIdeal.τ Cert.DUqRefIdeal.sig) → Buf (Elt Ideal) ℓ) (g : Dev Cert.DUqRefIdeal.nD → PrngReg), Pre_DUqRefIdeal m →
    θ_run (Cert.DUqRefIdeal.defs (F := Ideal)) (onTc (τ := Cert.DUqRefIdeal.τ) (Cert.DUqRefIdeal.main (F := Ideal))) ⟨m, fun _ => 0, g⟩ (fun r => (∀ c : Dev Cert.DUqRefIdeal.nD,
      r.2.mem ((c.tc : Thread Cert.DUqRefIdeal.nD Cert.DUqRefIdeal.τ).loc Cert.DUqRefIdeal.main_arg0) = m ((c.tc : Thread Cert.DUqRefIdeal.nD Cert.DUqRefIdeal.τ).loc Cert.DUqRefIdeal.main_arg0)
      ∧ r.2.mem ((c.tc : Thread Cert.DUqRefIdeal.nD Cert.DUqRefIdeal.τ).loc Cert.DUqRefIdeal.main_arg1) = m ((c.tc : Thread Cert.DUqRefIdeal.nD Cert.DUqRefIdeal.τ).loc Cert.DUqRefIdeal.main_arg1))
      ∧ r.2.sem = fun _ => 0)

def quiescent_DUk [hDUk : Cert.DUk.Facts] : Prop :=
  ∀ (m : (ℓ : Loc Cert.DUk.nD Cert.DUk.τ Cert.DUk.sig) → Buf (Elt Bits) ℓ) (g : Dev Cert.DUk.nD → PrngReg), Pre_DUk m →
    θ_run (Cert.DUk.defs (F := Bits)) (onTc (τ := Cert.DUk.τ) (Cert.DUk.main (F := Bits))) ⟨m, fun _ => 0, g⟩ (fun r => (∀ c : Dev Cert.DUk.nD,
      r.2.mem ((c.tc : Thread Cert.DUk.nD Cert.DUk.τ).loc Cert.DUk.main_arg0) = m ((c.tc : Thread Cert.DUk.nD Cert.DUk.τ).loc Cert.DUk.main_arg0)
      ∧ r.2.mem ((c.tc : Thread Cert.DUk.nD Cert.DUk.τ).loc Cert.DUk.main_arg1) = m ((c.tc : Thread Cert.DUk.nD Cert.DUk.τ).loc Cert.DUk.main_arg1))
      ∧ r.2.sem = fun _ => 0)

def quiescent_DUkIdeal [hDUkIdeal : Cert.DUkIdeal.Facts] : Prop :=
  ∀ (m : (ℓ : Loc Cert.DUkIdeal.nD Cert.DUkIdeal.τ Cert.DUkIdeal.sig) → Buf (Elt Ideal) ℓ) (g : Dev Cert.DUkIdeal.nD → PrngReg), Pre_DUkIdeal m →
    θ_run (Cert.DUkIdeal.defs (F := Ideal)) (onTc (τ := Cert.DUkIdeal.τ) (Cert.DUkIdeal.main (F := Ideal))) ⟨m, fun _ => 0, g⟩ (fun r => (∀ c : Dev Cert.DUkIdeal.nD,
      r.2.mem ((c.tc : Thread Cert.DUkIdeal.nD Cert.DUkIdeal.τ).loc Cert.DUkIdeal.main_arg0) = m ((c.tc : Thread Cert.DUkIdeal.nD Cert.DUkIdeal.τ).loc Cert.DUkIdeal.main_arg0)
      ∧ r.2.mem ((c.tc : Thread Cert.DUkIdeal.nD Cert.DUkIdeal.τ).loc Cert.DUkIdeal.main_arg1) = m ((c.tc : Thread Cert.DUkIdeal.nD Cert.DUkIdeal.τ).loc Cert.DUkIdeal.main_arg1))
      ∧ r.2.sem = fun _ => 0)

def quiescent_DUkRefIdeal [hDUkRefIdeal : Cert.DUkRefIdeal.Facts] : Prop :=
  ∀ (m : (ℓ : Loc Cert.DUkRefIdeal.nD Cert.DUkRefIdeal.τ Cert.DUkRefIdeal.sig) → Buf (Elt Ideal) ℓ) (g : Dev Cert.DUkRefIdeal.nD → PrngReg), Pre_DUkRefIdeal m →
    θ_run (Cert.DUkRefIdeal.defs (F := Ideal)) (onTc (τ := Cert.DUkRefIdeal.τ) (Cert.DUkRefIdeal.main (F := Ideal))) ⟨m, fun _ => 0, g⟩ (fun r => (∀ c : Dev Cert.DUkRefIdeal.nD,
      r.2.mem ((c.tc : Thread Cert.DUkRefIdeal.nD Cert.DUkRefIdeal.τ).loc Cert.DUkRefIdeal.main_arg0) = m ((c.tc : Thread Cert.DUkRefIdeal.nD Cert.DUkRefIdeal.τ).loc Cert.DUkRefIdeal.main_arg0)
      ∧ r.2.mem ((c.tc : Thread Cert.DUkRefIdeal.nD Cert.DUkRefIdeal.τ).loc Cert.DUkRefIdeal.main_arg1) = m ((c.tc : Thread Cert.DUkRefIdeal.nD Cert.DUkRefIdeal.τ).loc Cert.DUkRefIdeal.main_arg1))
      ∧ r.2.sem = fun _ => 0)

def quiescent_DUv [hDUv : Cert.DUv.Facts] : Prop :=
  ∀ (m : (ℓ : Loc Cert.DUv.nD Cert.DUv.τ Cert.DUv.sig) → Buf (Elt Bits) ℓ) (g : Dev Cert.DUv.nD → PrngReg), Pre_DUv m →
    θ_run (Cert.DUv.defs (F := Bits)) (onTc (τ := Cert.DUv.τ) (Cert.DUv.main (F := Bits))) ⟨m, fun _ => 0, g⟩ (fun r => (∀ c : Dev Cert.DUv.nD,
      r.2.mem ((c.tc : Thread Cert.DUv.nD Cert.DUv.τ).loc Cert.DUv.main_arg0) = m ((c.tc : Thread Cert.DUv.nD Cert.DUv.τ).loc Cert.DUv.main_arg0)
      ∧ r.2.mem ((c.tc : Thread Cert.DUv.nD Cert.DUv.τ).loc Cert.DUv.main_arg1) = m ((c.tc : Thread Cert.DUv.nD Cert.DUv.τ).loc Cert.DUv.main_arg1)
      ∧ r.2.mem ((c.tc : Thread Cert.DUv.nD Cert.DUv.τ).loc Cert.DUv.main_arg2) = m ((c.tc : Thread Cert.DUv.nD Cert.DUv.τ).loc Cert.DUv.main_arg2))
      ∧ r.2.sem = fun _ => 0)

def quiescent_DUvIdeal [hDUvIdeal : Cert.DUvIdeal.Facts] : Prop :=
  ∀ (m : (ℓ : Loc Cert.DUvIdeal.nD Cert.DUvIdeal.τ Cert.DUvIdeal.sig) → Buf (Elt Ideal) ℓ) (g : Dev Cert.DUvIdeal.nD → PrngReg), Pre_DUvIdeal m →
    θ_run (Cert.DUvIdeal.defs (F := Ideal)) (onTc (τ := Cert.DUvIdeal.τ) (Cert.DUvIdeal.main (F := Ideal))) ⟨m, fun _ => 0, g⟩ (fun r => (∀ c : Dev Cert.DUvIdeal.nD,
      r.2.mem ((c.tc : Thread Cert.DUvIdeal.nD Cert.DUvIdeal.τ).loc Cert.DUvIdeal.main_arg0) = m ((c.tc : Thread Cert.DUvIdeal.nD Cert.DUvIdeal.τ).loc Cert.DUvIdeal.main_arg0)
      ∧ r.2.mem ((c.tc : Thread Cert.DUvIdeal.nD Cert.DUvIdeal.τ).loc Cert.DUvIdeal.main_arg1) = m ((c.tc : Thread Cert.DUvIdeal.nD Cert.DUvIdeal.τ).loc Cert.DUvIdeal.main_arg1)
      ∧ r.2.mem ((c.tc : Thread Cert.DUvIdeal.nD Cert.DUvIdeal.τ).loc Cert.DUvIdeal.main_arg2) = m ((c.tc : Thread Cert.DUvIdeal.nD Cert.DUvIdeal.τ).loc Cert.DUvIdeal.main_arg2))
      ∧ r.2.sem = fun _ => 0)

def quiescent_DUvRefIdeal [hDUvRefIdeal : Cert.DUvRefIdeal.Facts] : Prop :=
  ∀ (m : (ℓ : Loc Cert.DUvRefIdeal.nD Cert.DUvRefIdeal.τ Cert.DUvRefIdeal.sig) → Buf (Elt Ideal) ℓ) (g : Dev Cert.DUvRefIdeal.nD → PrngReg), Pre_DUvRefIdeal m →
    θ_run (Cert.DUvRefIdeal.defs (F := Ideal)) (onTc (τ := Cert.DUvRefIdeal.τ) (Cert.DUvRefIdeal.main (F := Ideal))) ⟨m, fun _ => 0, g⟩ (fun r => (∀ c : Dev Cert.DUvRefIdeal.nD,
      r.2.mem ((c.tc : Thread Cert.DUvRefIdeal.nD Cert.DUvRefIdeal.τ).loc Cert.DUvRefIdeal.main_arg0) = m ((c.tc : Thread Cert.DUvRefIdeal.nD Cert.DUvRefIdeal.τ).loc Cert.DUvRefIdeal.main_arg0)
      ∧ r.2.mem ((c.tc : Thread Cert.DUvRefIdeal.nD Cert.DUvRefIdeal.τ).loc Cert.DUvRefIdeal.main_arg1) = m ((c.tc : Thread Cert.DUvRefIdeal.nD Cert.DUvRefIdeal.τ).loc Cert.DUvRefIdeal.main_arg1)
      ∧ r.2.mem ((c.tc : Thread Cert.DUvRefIdeal.nD Cert.DUvRefIdeal.τ).loc Cert.DUvRefIdeal.main_arg2) = m ((c.tc : Thread Cert.DUvRefIdeal.nD Cert.DUvRefIdeal.τ).loc Cert.DUvRefIdeal.main_arg2))
      ∧ r.2.sem = fun _ => 0)

def quiescent_DwUq [hDwUq : Cert.DwUq.Facts] : Prop :=
  ∀ (m : (ℓ : Loc Cert.DwUq.nD Cert.DwUq.τ Cert.DwUq.sig) → Buf (Elt Bits) ℓ) (g : Dev Cert.DwUq.nD → PrngReg), Pre_DwUq m →
    θ_run (Cert.DwUq.defs (F := Bits)) (onTc (τ := Cert.DwUq.τ) (Cert.DwUq.main (F := Bits))) ⟨m, fun _ => 0, g⟩ (fun r => (∀ c : Dev Cert.DwUq.nD,
      r.2.mem ((c.tc : Thread Cert.DwUq.nD Cert.DwUq.τ).loc Cert.DwUq.main_arg0) = m ((c.tc : Thread Cert.DwUq.nD Cert.DwUq.τ).loc Cert.DwUq.main_arg0)
      ∧ r.2.mem ((c.tc : Thread Cert.DwUq.nD Cert.DwUq.τ).loc Cert.DwUq.main_arg1) = m ((c.tc : Thread Cert.DwUq.nD Cert.DwUq.τ).loc Cert.DwUq.main_arg1))
      ∧ r.2.sem = fun _ => 0)

def quiescent_DwUqIdeal [hDwUqIdeal : Cert.DwUqIdeal.Facts] : Prop :=
  ∀ (m : (ℓ : Loc Cert.DwUqIdeal.nD Cert.DwUqIdeal.τ Cert.DwUqIdeal.sig) → Buf (Elt Ideal) ℓ) (g : Dev Cert.DwUqIdeal.nD → PrngReg), Pre_DwUqIdeal m →
    θ_run (Cert.DwUqIdeal.defs (F := Ideal)) (onTc (τ := Cert.DwUqIdeal.τ) (Cert.DwUqIdeal.main (F := Ideal))) ⟨m, fun _ => 0, g⟩ (fun r => (∀ c : Dev Cert.DwUqIdeal.nD,
      r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
      ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ r.2.sem = fun _ => 0)

def quiescent_DwUqRefIdeal [hDwUqRefIdeal : Cert.DwUqRefIdeal.Facts] : Prop :=
  ∀ (m : (ℓ : Loc Cert.DwUqRefIdeal.nD Cert.DwUqRefIdeal.τ Cert.DwUqRefIdeal.sig) → Buf (Elt Ideal) ℓ) (g : Dev Cert.DwUqRefIdeal.nD → PrngReg), Pre_DwUqRefIdeal m →
    θ_run (Cert.DwUqRefIdeal.defs (F := Ideal)) (onTc (τ := Cert.DwUqRefIdeal.τ) (Cert.DwUqRefIdeal.main (F := Ideal))) ⟨m, fun _ => 0, g⟩ (fun r => (∀ c : Dev Cert.DwUqRefIdeal.nD,
      r.2.mem ((c.tc : Thread Cert.DwUqRefIdeal.nD Cert.DwUqRefIdeal.τ).loc Cert.DwUqRefIdeal.main_arg0) = m ((c.tc : Thread Cert.DwUqRefIdeal.nD Cert.DwUqRefIdeal.τ).loc Cert.DwUqRefIdeal.main_arg0)
      ∧ r.2.mem ((c.tc : Thread Cert.DwUqRefIdeal.nD Cert.DwUqRefIdeal.τ).loc Cert.DwUqRefIdeal.main_arg1) = m ((c.tc : Thread Cert.DwUqRefIdeal.nD Cert.DwUqRefIdeal.τ).loc Cert.DwUqRefIdeal.main_arg1))
      ∧ r.2.sem = fun _ => 0)

def quiescent_DwUk [hDwUk : Cert.DwUk.Facts] : Prop :=
  ∀ (m : (ℓ : Loc Cert.DwUk.nD Cert.DwUk.τ Cert.DwUk.sig) → Buf (Elt Bits) ℓ) (g : Dev Cert.DwUk.nD → PrngReg), Pre_DwUk m →
    θ_run (Cert.DwUk.defs (F := Bits)) (onTc (τ := Cert.DwUk.τ) (Cert.DwUk.main (F := Bits))) ⟨m, fun _ => 0, g⟩ (fun r => (∀ c : Dev Cert.DwUk.nD,
      r.2.mem ((c.tc : Thread Cert.DwUk.nD Cert.DwUk.τ).loc Cert.DwUk.main_arg0) = m ((c.tc : Thread Cert.DwUk.nD Cert.DwUk.τ).loc Cert.DwUk.main_arg0)
      ∧ r.2.mem ((c.tc : Thread Cert.DwUk.nD Cert.DwUk.τ).loc Cert.DwUk.main_arg1) = m ((c.tc : Thread Cert.DwUk.nD Cert.DwUk.τ).loc Cert.DwUk.main_arg1))
      ∧ r.2.sem = fun _ => 0)

def quiescent_DwUkIdeal [hDwUkIdeal : Cert.DwUkIdeal.Facts] : Prop :=
  ∀ (m : (ℓ : Loc Cert.DwUkIdeal.nD Cert.DwUkIdeal.τ Cert.DwUkIdeal.sig) → Buf (Elt Ideal) ℓ) (g : Dev Cert.DwUkIdeal.nD → PrngReg), Pre_DwUkIdeal m →
    θ_run (Cert.DwUkIdeal.defs (F := Ideal)) (onTc (τ := Cert.DwUkIdeal.τ) (Cert.DwUkIdeal.main (F := Ideal))) ⟨m, fun _ => 0, g⟩ (fun r => (∀ c : Dev Cert.DwUkIdeal.nD,
      r.2.mem ((c.tc : Thread Cert.DwUkIdeal.nD Cert.DwUkIdeal.τ).loc Cert.DwUkIdeal.main_arg0) = m ((c.tc : Thread Cert.DwUkIdeal.nD Cert.DwUkIdeal.τ).loc Cert.DwUkIdeal.main_arg0)
      ∧ r.2.mem ((c.tc : Thread Cert.DwUkIdeal.nD Cert.DwUkIdeal.τ).loc Cert.DwUkIdeal.main_arg1) = m ((c.tc : Thread Cert.DwUkIdeal.nD Cert.DwUkIdeal.τ).loc Cert.DwUkIdeal.main_arg1))
      ∧ r.2.sem = fun _ => 0)

def quiescent_DwUkRefIdeal [hDwUkRefIdeal : Cert.DwUkRefIdeal.Facts] : Prop :=
  ∀ (m : (ℓ : Loc Cert.DwUkRefIdeal.nD Cert.DwUkRefIdeal.τ Cert.DwUkRefIdeal.sig) → Buf (Elt Ideal) ℓ) (g : Dev Cert.DwUkRefIdeal.nD → PrngReg), Pre_DwUkRefIdeal m →
    θ_run (Cert.DwUkRefIdeal.defs (F := Ideal)) (onTc (τ := Cert.DwUkRefIdeal.τ) (Cert.DwUkRefIdeal.main (F := Ideal))) ⟨m, fun _ => 0, g⟩ (fun r => (∀ c : Dev Cert.DwUkRefIdeal.nD,
      r.2.mem ((c.tc : Thread Cert.DwUkRefIdeal.nD Cert.DwUkRefIdeal.τ).loc Cert.DwUkRefIdeal.main_arg0) = m ((c.tc : Thread Cert.DwUkRefIdeal.nD Cert.DwUkRefIdeal.τ).loc Cert.DwUkRefIdeal.main_arg0)
      ∧ r.2.mem ((c.tc : Thread Cert.DwUkRefIdeal.nD Cert.DwUkRefIdeal.τ).loc Cert.DwUkRefIdeal.main_arg1) = m ((c.tc : Thread Cert.DwUkRefIdeal.nD Cert.DwUkRefIdeal.τ).loc Cert.DwUkRefIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_swa_tame [hKernelIdeal : Cert.KernelIdeal.Facts] [hReferenceIdeal : Cert.ReferenceIdeal.Facts] [hPre_swa_tame : Cert.Pre_swa_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_swa_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_v13_2) = v2 c
          ∧ r.2.mem ((c.tc : Thread Cert.KernelIdeal.nD Cert.KernelIdeal.τ).loc Cert.KernelIdeal.main_v13_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dact_DactIdeal : Prop :=
  True

def algebraic_DactIdeal_DactRefIdeal_pre_dact_tame [hDactIdeal : Cert.DactIdeal.Facts] [hDactRefIdeal : Cert.DactRefIdeal.Facts] [hPre_dact_tame : Cert.Pre_dact_tame.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal_dact_tame m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v23) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dwd_DwdIdeal : Prop :=
  True

def algebraic_DwdIdeal_DwdRefIdeal [hDwdIdeal : Cert.DwdIdeal.Facts] [hDwdRefIdeal : Cert.DwdRefIdeal.Facts] : Prop :=
  ∀ (m : (ℓ : Loc Cert.DwdIdeal.nD Cert.DwdIdeal.τ Cert.DwdIdeal.sig) → Buf (Elt Ideal) ℓ) (g : Dev Cert.DwdIdeal.nD → PrngReg)
    (m' : (ℓ : Loc Cert.DwdRefIdeal.nD Cert.DwdRefIdeal.τ Cert.DwdRefIdeal.sig) → Buf (Elt Ideal) ℓ) (g' : Dev Cert.DwdRefIdeal.nD → PrngReg), Pre_DwdIdeal m →
    (∀ c : Dev Cert.DwdIdeal.nD,
      m' ((c.tc : Thread Cert.DwdRefIdeal.nD Cert.DwdRefIdeal.τ).loc Cert.DwdRefIdeal.main_arg0) = m ((c.tc : Thread Cert.DwdIdeal.nD Cert.DwdIdeal.τ).loc Cert.DwdIdeal.main_arg0)
      ∧ m' ((c.tc : Thread Cert.DwdRefIdeal.nD Cert.DwdRefIdeal.τ).loc Cert.DwdRefIdeal.main_arg1) = m ((c.tc : Thread Cert.DwdIdeal.nD Cert.DwdIdeal.τ).loc Cert.DwdIdeal.main_arg1)) →
    ∃ (v0 : (c : Dev Cert.DwdIdeal.nD) → Buf (Elt Ideal) ((c.tc : Thread Cert.DwdIdeal.nD Cert.DwdIdeal.τ).loc Cert.DwdIdeal.main_v0)),
      θ_run (Cert.DwdIdeal.defs (F := Ideal)) (onTc (τ := Cert.DwdIdeal.τ) (Cert.DwdIdeal.main (F := Ideal))) ⟨m, fun _ => 0, g⟩ (fun r => ∀ c : Dev Cert.DwdIdeal.nD,
          r.2.mem ((c.tc : Thread Cert.DwdIdeal.nD Cert.DwdIdeal.τ).loc Cert.DwdIdeal.main_v0) = v0 c
          ∧ r.2.mem ((c.tc : Thread Cert.DwdIdeal.nD Cert.DwdIdeal.τ).loc Cert.DwdIdeal.main_arg0) = m ((c.tc : Thread Cert.DwdIdeal.nD Cert.DwdIdeal.τ).loc Cert.DwdIdeal.main_arg0)
          ∧ r.2.mem ((c.tc : Thread Cert.DwdIdeal.nD Cert.DwdIdeal.τ).loc Cert.DwdIdeal.main_arg1) = m ((c.tc : Thread Cert.DwdIdeal.nD Cert.DwdIdeal.τ).loc Cert.DwdIdeal.main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v10) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1))

def preserves_Dwgu_DwguIdeal : Prop :=
  True

def algebraic_DwguIdeal_DwguRefIdeal [hDwguIdeal : Cert.DwguIdeal.Facts] [hDwguRefIdeal : Cert.DwguRefIdeal.Facts] : Prop :=
  ∀ (m : (ℓ : Loc Cert.DwguIdeal.nD Cert.DwguIdeal.τ Cert.DwguIdeal.sig) → Buf (Elt Ideal) ℓ) (g : Dev Cert.DwguIdeal.nD → PrngReg)
    (m' : (ℓ : Loc Cert.DwguRefIdeal.nD Cert.DwguRefIdeal.τ Cert.DwguRefIdeal.sig) → Buf (Elt Ideal) ℓ) (g' : Dev Cert.DwguRefIdeal.nD → PrngReg), Pre_DwguIdeal m →
    (∀ c : Dev Cert.DwguIdeal.nD,
      m' ((c.tc : Thread Cert.DwguRefIdeal.nD Cert.DwguRefIdeal.τ).loc Cert.DwguRefIdeal.main_arg0) = m ((c.tc : Thread Cert.DwguIdeal.nD Cert.DwguIdeal.τ).loc Cert.DwguIdeal.main_arg0)
      ∧ m' ((c.tc : Thread Cert.DwguRefIdeal.nD Cert.DwguRefIdeal.τ).loc Cert.DwguRefIdeal.main_arg1) = m ((c.tc : Thread Cert.DwguIdeal.nD Cert.DwguIdeal.τ).loc Cert.DwguIdeal.main_arg1)) →
    ∃ (v0 : (c : Dev Cert.DwguIdeal.nD) → Buf (Elt Ideal) ((c.tc : Thread Cert.DwguIdeal.nD Cert.DwguIdeal.τ).loc Cert.DwguIdeal.main_v0)),
      θ_run (Cert.DwguIdeal.defs (F := Ideal)) (onTc (τ := Cert.DwguIdeal.τ) (Cert.DwguIdeal.main (F := Ideal))) ⟨m, fun _ => 0, g⟩ (fun r => ∀ c : Dev Cert.DwguIdeal.nD,
          r.2.mem ((c.tc : Thread Cert.DwguIdeal.nD Cert.DwguIdeal.τ).loc Cert.DwguIdeal.main_v0) = v0 c
          ∧ r.2.mem ((c.tc : Thread Cert.DwguIdeal.nD Cert.DwguIdeal.τ).loc Cert.DwguIdeal.main_arg0) = m ((c.tc : Thread Cert.DwguIdeal.nD Cert.DwguIdeal.τ).loc Cert.DwguIdeal.main_arg0)
          ∧ r.2.mem ((c.tc : Thread Cert.DwguIdeal.nD Cert.DwguIdeal.τ).loc Cert.DwguIdeal.main_arg1) = m ((c.tc : Thread Cert.DwguIdeal.nD Cert.DwguIdeal.τ).loc Cert.DwguIdeal.main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v18) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)) →
    ∃ (v0 : (c : Dev Cert.DnIdeal.nD) → Buf (Elt Ideal) ((c.tc : Thread Cert.DnIdeal.nD Cert.DnIdeal.τ).loc Cert.DnIdeal.main_v0)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v0) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v17) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1))

def preserves_DIn_DInIdeal : Prop :=
  True

def algebraic_DInIdeal_DInRefIdeal [hDInIdeal : Cert.DInIdeal.Facts] [hDInRefIdeal : Cert.DInRefIdeal.Facts] : Prop :=
  ∀ (m : (ℓ : Loc Cert.DInIdeal.nD Cert.DInIdeal.τ Cert.DInIdeal.sig) → Buf (Elt Ideal) ℓ) (g : Dev Cert.DInIdeal.nD → PrngReg)
    (m' : (ℓ : Loc Cert.DInRefIdeal.nD Cert.DInRefIdeal.τ Cert.DInRefIdeal.sig) → Buf (Elt Ideal) ℓ) (g' : Dev Cert.DInRefIdeal.nD → PrngReg), Pre_DInIdeal m →
    (∀ c : Dev Cert.DInIdeal.nD,
      m' ((c.tc : Thread Cert.DInRefIdeal.nD Cert.DInRefIdeal.τ).loc Cert.DInRefIdeal.main_arg0) = m ((c.tc : Thread Cert.DInIdeal.nD Cert.DInIdeal.τ).loc Cert.DInIdeal.main_arg0)
      ∧ m' ((c.tc : Thread Cert.DInRefIdeal.nD Cert.DInRefIdeal.τ).loc Cert.DInRefIdeal.main_arg1) = m ((c.tc : Thread Cert.DInIdeal.nD Cert.DInIdeal.τ).loc Cert.DInIdeal.main_arg1)) →
    ∃ (v0 : (c : Dev Cert.DInIdeal.nD) → Buf (Elt Ideal) ((c.tc : Thread Cert.DInIdeal.nD Cert.DInIdeal.τ).loc Cert.DInIdeal.main_v0)),
      θ_run (Cert.DInIdeal.defs (F := Ideal)) (onTc (τ := Cert.DInIdeal.τ) (Cert.DInIdeal.main (F := Ideal))) ⟨m, fun _ => 0, g⟩ (fun r => ∀ c : Dev Cert.DInIdeal.nD,
          r.2.mem ((c.tc : Thread Cert.DInIdeal.nD Cert.DInIdeal.τ).loc Cert.DInIdeal.main_v0) = v0 c
          ∧ r.2.mem ((c.tc : Thread Cert.DInIdeal.nD Cert.DInIdeal.τ).loc Cert.DInIdeal.main_arg0) = m ((c.tc : Thread Cert.DInIdeal.nD Cert.DInIdeal.τ).loc Cert.DInIdeal.main_arg0)
          ∧ r.2.mem ((c.tc : Thread Cert.DInIdeal.nD Cert.DInIdeal.τ).loc Cert.DInIdeal.main_arg1) = m ((c.tc : Thread Cert.DInIdeal.nD Cert.DInIdeal.τ).loc Cert.DInIdeal.main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v4) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v14) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0) = v0 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v5) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1))

def preserves_DBranch_DBranchIdeal : Prop :=
  True

def algebraic_DBranchIdeal_DBranchRefIdeal [hDBranchIdeal : Cert.DBranchIdeal.Facts] [hDBranchRefIdeal : Cert.DBranchRefIdeal.Facts] : Prop :=
  ∀ (m : (ℓ : Loc Cert.DBranchIdeal.nD Cert.DBranchIdeal.τ Cert.DBranchIdeal.sig) → Buf (Elt Ideal) ℓ) (g : Dev Cert.DBranchIdeal.nD → PrngReg)
    (m' : (ℓ : Loc Cert.DBranchRefIdeal.nD Cert.DBranchRefIdeal.τ Cert.DBranchRefIdeal.sig) → Buf (Elt Ideal) ℓ) (g' : Dev Cert.DBranchRefIdeal.nD → PrngReg), Pre_DBranchIdeal m →
    (∀ c : Dev Cert.DBranchIdeal.nD,
      m' ((c.tc : Thread Cert.DBranchRefIdeal.nD Cert.DBranchRefIdeal.τ).loc Cert.DBranchRefIdeal.main_arg0) = m ((c.tc : Thread Cert.DBranchIdeal.nD Cert.DBranchIdeal.τ).loc Cert.DBranchIdeal.main_arg0)
      ∧ m' ((c.tc : Thread Cert.DBranchRefIdeal.nD Cert.DBranchRefIdeal.τ).loc Cert.DBranchRefIdeal.main_arg1) = m ((c.tc : Thread Cert.DBranchIdeal.nD Cert.DBranchIdeal.τ).loc Cert.DBranchIdeal.main_arg1)) →
    ∃ (v0 : (c : Dev Cert.DBranchIdeal.nD) → Buf (Elt Ideal) ((c.tc : Thread Cert.DBranchIdeal.nD Cert.DBranchIdeal.τ).loc Cert.DBranchIdeal.main_v0)),
      θ_run (Cert.DBranchIdeal.defs (F := Ideal)) (onTc (τ := Cert.DBranchIdeal.τ) (Cert.DBranchIdeal.main (F := Ideal))) ⟨m, fun _ => 0, g⟩ (fun r => ∀ c : Dev Cert.DBranchIdeal.nD,
          r.2.mem ((c.tc : Thread Cert.DBranchIdeal.nD Cert.DBranchIdeal.τ).loc Cert.DBranchIdeal.main_v0) = v0 c
          ∧ r.2.mem ((c.tc : Thread Cert.DBranchIdeal.nD Cert.DBranchIdeal.τ).loc Cert.DBranchIdeal.main_arg0) = m ((c.tc : Thread Cert.DBranchIdeal.nD Cert.DBranchIdeal.τ).loc Cert.DBranchIdeal.main_arg0)
          ∧ r.2.mem ((c.tc : Thread Cert.DBranchIdeal.nD Cert.DBranchIdeal.τ).loc Cert.DBranchIdeal.main_arg1) = m ((c.tc : Thread Cert.DBranchIdeal.nD Cert.DBranchIdeal.τ).loc Cert.DBranchIdeal.main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v4) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1))

def preserves_DwBranch_DwBranchIdeal : Prop :=
  True

def algebraic_DwBranchIdeal_DwBranchRefIdeal [hDwBranchIdeal : Cert.DwBranchIdeal.Facts] [hDwBranchRefIdeal : Cert.DwBranchRefIdeal.Facts] : Prop :=
  ∀ (m : (ℓ : Loc Cert.DwBranchIdeal.nD Cert.DwBranchIdeal.τ Cert.DwBranchIdeal.sig) → Buf (Elt Ideal) ℓ) (g : Dev Cert.DwBranchIdeal.nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg), Pre_DwBranchIdeal m →
    (∀ c : Dev Cert.DwBranchIdeal.nD,
      m' ((c.tc : Thread Cert.DwBranchRefIdeal.nD Cert.DwBranchRefIdeal.τ).loc Cert.DwBranchRefIdeal.main_arg0) = m ((c.tc : Thread Cert.DwBranchIdeal.nD Cert.DwBranchIdeal.τ).loc Cert.DwBranchIdeal.main_arg0)
      ∧ m' ((c.tc : Thread Cert.DwBranchRefIdeal.nD Cert.DwBranchRefIdeal.τ).loc Cert.DwBranchRefIdeal.main_arg1) = m ((c.tc : Thread Cert.DwBranchIdeal.nD Cert.DwBranchIdeal.τ).loc Cert.DwBranchIdeal.main_arg1)) →
    ∃ (v0 : (c : Dev Cert.DwBranchIdeal.nD) → Buf (Elt Ideal) ((c.tc : Thread Cert.DwBranchIdeal.nD Cert.DwBranchIdeal.τ).loc Cert.DwBranchIdeal.main_v0)),
      θ_run (Cert.DwBranchIdeal.defs (F := Ideal)) (onTc (τ := Cert.DwBranchIdeal.τ) (Cert.DwBranchIdeal.main (F := Ideal))) ⟨m, fun _ => 0, g⟩ (fun r => ∀ c : Dev Cert.DwBranchIdeal.nD,
          r.2.mem ((c.tc : Thread Cert.DwBranchIdeal.nD Cert.DwBranchIdeal.τ).loc Cert.DwBranchIdeal.main_v0) = v0 c
          ∧ r.2.mem ((c.tc : Thread Cert.DwBranchIdeal.nD Cert.DwBranchIdeal.τ).loc Cert.DwBranchIdeal.main_arg0) = m ((c.tc : Thread Cert.DwBranchIdeal.nD Cert.DwBranchIdeal.τ).loc Cert.DwBranchIdeal.main_arg0)
          ∧ r.2.mem ((c.tc : Thread Cert.DwBranchIdeal.nD Cert.DwBranchIdeal.τ).loc Cert.DwBranchIdeal.main_arg1) = m ((c.tc : Thread Cert.DwBranchIdeal.nD Cert.DwBranchIdeal.τ).loc Cert.DwBranchIdeal.main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v6) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1))

def preserves_DNorm_DNormIdeal : Prop :=
  True

def algebraic_DNormIdeal_DNormRefIdeal [hDNormIdeal : Cert.DNormIdeal.Facts] [hDNormRefIdeal : Cert.DNormRefIdeal.Facts] : Prop :=
  ∀ (m : (ℓ : Loc Cert.DNormIdeal.nD Cert.DNormIdeal.τ Cert.DNormIdeal.sig) → Buf (Elt Ideal) ℓ) (g : Dev Cert.DNormIdeal.nD → PrngReg)
    (m' : (ℓ : Loc Cert.DNormRefIdeal.nD Cert.DNormRefIdeal.τ Cert.DNormRefIdeal.sig) → Buf (Elt Ideal) ℓ) (g' : Dev Cert.DNormRefIdeal.nD → PrngReg), Pre_DNormIdeal m →
    (∀ c : Dev Cert.DNormIdeal.nD,
      m' ((c.tc : Thread Cert.DNormRefIdeal.nD Cert.DNormRefIdeal.τ).loc Cert.DNormRefIdeal.main_arg0) = m ((c.tc : Thread Cert.DNormIdeal.nD Cert.DNormIdeal.τ).loc Cert.DNormIdeal.main_arg0)
      ∧ m' ((c.tc : Thread Cert.DNormRefIdeal.nD Cert.DNormRefIdeal.τ).loc Cert.DNormRefIdeal.main_arg1) = m ((c.tc : Thread Cert.DNormIdeal.nD Cert.DNormIdeal.τ).loc Cert.DNormIdeal.main_arg1)
      ∧ m' ((c.tc : Thread Cert.DNormRefIdeal.nD Cert.DNormRefIdeal.τ).loc Cert.DNormRefIdeal.main_arg2) = m ((c.tc : Thread Cert.DNormIdeal.nD Cert.DNormIdeal.τ).loc Cert.DNormIdeal.main_arg2)
      ∧ m' ((c.tc : Thread Cert.DNormRefIdeal.nD Cert.DNormRefIdeal.τ).loc Cert.DNormRefIdeal.main_arg3) = m ((c.tc : Thread Cert.DNormIdeal.nD Cert.DNormIdeal.τ).loc Cert.DNormIdeal.main_arg3)) →
    ∃ (v0 : (c : Dev Cert.DNormIdeal.nD) → Buf (Elt Ideal) ((c.tc : Thread Cert.DNormIdeal.nD Cert.DNormIdeal.τ).loc Cert.DNormIdeal.main_v0_0)) (v1 : (c : Dev Cert.DNormIdeal.nD) → Buf (Elt Ideal) ((c.tc : Thread Cert.DNormIdeal.nD Cert.DNormIdeal.τ).loc Cert.DNormIdeal.main_v0_1)) (v2 : (c : Dev Cert.DNormIdeal.nD) → Buf (Elt Ideal) ((c.tc : Thread Cert.DNormIdeal.nD Cert.DNormIdeal.τ).loc Cert.DNormIdeal.main_v0_2)),
      θ_run (Cert.DNormIdeal.defs (F := Ideal)) (onTc (τ := Cert.DNormIdeal.τ) (Cert.DNormIdeal.main (F := Ideal))) ⟨m, fun _ => 0, g⟩ (fun r => ∀ c : Dev Cert.DNormIdeal.nD,
          r.2.mem ((c.tc : Thread Cert.DNormIdeal.nD Cert.DNormIdeal.τ).loc Cert.DNormIdeal.main_v0_0) = v0 c
          ∧ r.2.mem ((c.tc : Thread Cert.DNormIdeal.nD Cert.DNormIdeal.τ).loc Cert.DNormIdeal.main_v0_1) = v1 c
          ∧ r.2.mem ((c.tc : Thread Cert.DNormIdeal.nD Cert.DNormIdeal.τ).loc Cert.DNormIdeal.main_v0_2) = v2 c
          ∧ r.2.mem ((c.tc : Thread Cert.DNormIdeal.nD Cert.DNormIdeal.τ).loc Cert.DNormIdeal.main_arg0) = m ((c.tc : Thread Cert.DNormIdeal.nD Cert.DNormIdeal.τ).loc Cert.DNormIdeal.main_arg0)
          ∧ r.2.mem ((c.tc : Thread Cert.DNormIdeal.nD Cert.DNormIdeal.τ).loc Cert.DNormIdeal.main_arg1) = m ((c.tc : Thread Cert.DNormIdeal.nD Cert.DNormIdeal.τ).loc Cert.DNormIdeal.main_arg1)
          ∧ r.2.mem ((c.tc : Thread Cert.DNormIdeal.nD Cert.DNormIdeal.τ).loc Cert.DNormIdeal.main_arg2) = m ((c.tc : Thread Cert.DNormIdeal.nD Cert.DNormIdeal.τ).loc Cert.DNormIdeal.main_arg2)
          ∧ r.2.mem ((c.tc : Thread Cert.DNormIdeal.nD Cert.DNormIdeal.τ).loc Cert.DNormIdeal.main_arg3) = m ((c.tc : Thread Cert.DNormIdeal.nD Cert.DNormIdeal.τ).loc Cert.DNormIdeal.main_arg3))
      ∧ θ_run (Cert.DNormRefIdeal.defs (F := Ideal)) (onTc (τ := Cert.DNormRefIdeal.τ) (Cert.DNormRefIdeal.main (F := Ideal))) ⟨m', fun _ => 0, g'⟩ (fun r => ∀ c : Dev Cert.DNormRefIdeal.nD,
          r.2.mem ((c.tc : Thread Cert.DNormRefIdeal.nD Cert.DNormRefIdeal.τ).loc Cert.DNormRefIdeal.main_v38) = v0 c
          ∧ r.2.mem ((c.tc : Thread Cert.DNormRefIdeal.nD Cert.DNormRefIdeal.τ).loc Cert.DNormRefIdeal.main_v39) = v1 c
          ∧ r.2.mem ((c.tc : Thread Cert.DNormRefIdeal.nD Cert.DNormRefIdeal.τ).loc Cert.DNormRefIdeal.main_v37) = v2 c
          ∧ r.2.mem ((c.tc : Thread Cert.DNormRefIdeal.nD Cert.DNormRefIdeal.τ).loc Cert.DNormRefIdeal.main_arg0) = m' ((c.tc : Thread Cert.DNormRefIdeal.nD Cert.DNormRefIdeal.τ).loc Cert.DNormRefIdeal.main_arg0)
          ∧ r.2.mem ((c.tc : Thread Cert.DNormRefIdeal.nD Cert.DNormRefIdeal.τ).loc Cert.DNormRefIdeal.main_arg1) = m' ((c.tc : Thread Cert.DNormRefIdeal.nD Cert.DNormRefIdeal.τ).loc Cert.DNormRefIdeal.main_arg1)
          ∧ r.2.mem ((c.tc : Thread Cert.DNormRefIdeal.nD Cert.DNormRefIdeal.τ).loc Cert.DNormRefIdeal.main_arg2) = m' ((c.tc : Thread Cert.DNormRefIdeal.nD Cert.DNormRefIdeal.τ).loc Cert.DNormRefIdeal.main_arg2)
          ∧ r.2.mem ((c.tc : Thread Cert.DNormRefIdeal.nD Cert.DNormRefIdeal.τ).loc Cert.DNormRefIdeal.main_arg3) = m' ((c.tc : Thread Cert.DNormRefIdeal.nD Cert.DNormRefIdeal.τ).loc Cert.DNormRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v14) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_DGate_DGateIdeal : Prop :=
  True

def algebraic_DGateIdeal_DGateRefIdeal [hDGateIdeal : Cert.DGateIdeal.Facts] [hDGateRefIdeal : Cert.DGateRefIdeal.Facts] : Prop :=
  ∀ (m : (ℓ : Loc Cert.DGateIdeal.nD Cert.DGateIdeal.τ Cert.DGateIdeal.sig) → Buf (Elt Ideal) ℓ) (g : Dev Cert.DGateIdeal.nD → PrngReg)
    (m' : (ℓ : Loc Cert.DGateRefIdeal.nD Cert.DGateRefIdeal.τ Cert.DGateRefIdeal.sig) → Buf (Elt Ideal) ℓ) (g' : Dev Cert.DGateRefIdeal.nD → PrngReg), Pre_DGateIdeal m →
    (∀ c : Dev Cert.DGateIdeal.nD,
      m' ((c.tc : Thread Cert.DGateRefIdeal.nD Cert.DGateRefIdeal.τ).loc Cert.DGateRefIdeal.main_arg0) = m ((c.tc : Thread Cert.DGateIdeal.nD Cert.DGateIdeal.τ).loc Cert.DGateIdeal.main_arg0)
      ∧ m' ((c.tc : Thread Cert.DGateRefIdeal.nD Cert.DGateRefIdeal.τ).loc Cert.DGateRefIdeal.main_arg1) = m ((c.tc : Thread Cert.DGateIdeal.nD Cert.DGateIdeal.τ).loc Cert.DGateIdeal.main_arg1)
      ∧ m' ((c.tc : Thread Cert.DGateRefIdeal.nD Cert.DGateRefIdeal.τ).loc Cert.DGateRefIdeal.main_arg2) = m ((c.tc : Thread Cert.DGateIdeal.nD Cert.DGateIdeal.τ).loc Cert.DGateIdeal.main_arg2)
      ∧ m' ((c.tc : Thread Cert.DGateRefIdeal.nD Cert.DGateRefIdeal.τ).loc Cert.DGateRefIdeal.main_arg3) = m ((c.tc : Thread Cert.DGateIdeal.nD Cert.DGateIdeal.τ).loc Cert.DGateIdeal.main_arg3)) →
    ∃ (v0 : (c : Dev Cert.DGateIdeal.nD) → Buf (Elt Ideal) ((c.tc : Thread Cert.DGateIdeal.nD Cert.DGateIdeal.τ).loc Cert.DGateIdeal.main_v0_0)) (v1 : (c : Dev Cert.DGateIdeal.nD) → Buf (Elt Ideal) ((c.tc : Thread Cert.DGateIdeal.nD Cert.DGateIdeal.τ).loc Cert.DGateIdeal.main_v0_1)) (v2 : (c : Dev Cert.DGateIdeal.nD) → Buf (Elt Ideal) ((c.tc : Thread Cert.DGateIdeal.nD Cert.DGateIdeal.τ).loc Cert.DGateIdeal.main_v0_2)) (v3 : (c : Dev Cert.DGateIdeal.nD) → Buf (Elt Ideal) ((c.tc : Thread Cert.DGateIdeal.nD Cert.DGateIdeal.τ).loc Cert.DGateIdeal.main_v0_3)),
      θ_run (Cert.DGateIdeal.defs (F := Ideal)) (onTc (τ := Cert.DGateIdeal.τ) (Cert.DGateIdeal.main (F := Ideal))) ⟨m, fun _ => 0, g⟩ (fun r => ∀ c : Dev Cert.DGateIdeal.nD,
          r.2.mem ((c.tc : Thread Cert.DGateIdeal.nD Cert.DGateIdeal.τ).loc Cert.DGateIdeal.main_v0_0) = v0 c
          ∧ r.2.mem ((c.tc : Thread Cert.DGateIdeal.nD Cert.DGateIdeal.τ).loc Cert.DGateIdeal.main_v0_1) = v1 c
          ∧ r.2.mem ((c.tc : Thread Cert.DGateIdeal.nD Cert.DGateIdeal.τ).loc Cert.DGateIdeal.main_v0_2) = v2 c
          ∧ r.2.mem ((c.tc : Thread Cert.DGateIdeal.nD Cert.DGateIdeal.τ).loc Cert.DGateIdeal.main_v0_3) = v3 c
          ∧ r.2.mem ((c.tc : Thread Cert.DGateIdeal.nD Cert.DGateIdeal.τ).loc Cert.DGateIdeal.main_arg0) = m ((c.tc : Thread Cert.DGateIdeal.nD Cert.DGateIdeal.τ).loc Cert.DGateIdeal.main_arg0)
          ∧ r.2.mem ((c.tc : Thread Cert.DGateIdeal.nD Cert.DGateIdeal.τ).loc Cert.DGateIdeal.main_arg1) = m ((c.tc : Thread Cert.DGateIdeal.nD Cert.DGateIdeal.τ).loc Cert.DGateIdeal.main_arg1)
          ∧ r.2.mem ((c.tc : Thread Cert.DGateIdeal.nD Cert.DGateIdeal.τ).loc Cert.DGateIdeal.main_arg2) = m ((c.tc : Thread Cert.DGateIdeal.nD Cert.DGateIdeal.τ).loc Cert.DGateIdeal.main_arg2)
          ∧ r.2.mem ((c.tc : Thread Cert.DGateIdeal.nD Cert.DGateIdeal.τ).loc Cert.DGateIdeal.main_arg3) = m ((c.tc : Thread Cert.DGateIdeal.nD Cert.DGateIdeal.τ).loc Cert.DGateIdeal.main_arg3))
      ∧ θ_run (Cert.DGateRefIdeal.defs (F := Ideal)) (onTc (τ := Cert.DGateRefIdeal.τ) (Cert.DGateRefIdeal.main (F := Ideal))) ⟨m', fun _ => 0, g'⟩ (fun r => ∀ c : Dev Cert.DGateRefIdeal.nD,
          r.2.mem ((c.tc : Thread Cert.DGateRefIdeal.nD Cert.DGateRefIdeal.τ).loc Cert.DGateRefIdeal.main_v31) = v0 c
          ∧ r.2.mem ((c.tc : Thread Cert.DGateRefIdeal.nD Cert.DGateRefIdeal.τ).loc Cert.DGateRefIdeal.main_v32) = v1 c
          ∧ r.2.mem ((c.tc : Thread Cert.DGateRefIdeal.nD Cert.DGateRefIdeal.τ).loc Cert.DGateRefIdeal.main_v33) = v2 c
          ∧ r.2.mem ((c.tc : Thread Cert.DGateRefIdeal.nD Cert.DGateRefIdeal.τ).loc Cert.DGateRefIdeal.main_v34) = v3 c
          ∧ r.2.mem ((c.tc : Thread Cert.DGateRefIdeal.nD Cert.DGateRefIdeal.τ).loc Cert.DGateRefIdeal.main_arg0) = m' ((c.tc : Thread Cert.DGateRefIdeal.nD Cert.DGateRefIdeal.τ).loc Cert.DGateRefIdeal.main_arg0)
          ∧ r.2.mem ((c.tc : Thread Cert.DGateRefIdeal.nD Cert.DGateRefIdeal.τ).loc Cert.DGateRefIdeal.main_arg1) = m' ((c.tc : Thread Cert.DGateRefIdeal.nD Cert.DGateRefIdeal.τ).loc Cert.DGateRefIdeal.main_arg1)
          ∧ r.2.mem ((c.tc : Thread Cert.DGateRefIdeal.nD Cert.DGateRefIdeal.τ).loc Cert.DGateRefIdeal.main_arg2) = m' ((c.tc : Thread Cert.DGateRefIdeal.nD Cert.DGateRefIdeal.τ).loc Cert.DGateRefIdeal.main_arg2)
          ∧ r.2.mem ((c.tc : Thread Cert.DGateRefIdeal.nD Cert.DGateRefIdeal.τ).loc Cert.DGateRefIdeal.main_arg3) = m' ((c.tc : Thread Cert.DGateRefIdeal.nD Cert.DGateRefIdeal.τ).loc Cert.DGateRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v17) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v2) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_Uk_UkIdeal : Prop :=
  True

def algebraic_UkIdeal_UkRefIdeal [hUkIdeal : Cert.UkIdeal.Facts] [hUkRefIdeal : Cert.UkRefIdeal.Facts] : Prop :=
  ∀ (m : (ℓ : Loc Cert.UkIdeal.nD Cert.UkIdeal.τ Cert.UkIdeal.sig) → Buf (Elt Ideal) ℓ) (g : Dev Cert.UkIdeal.nD → PrngReg)
    (m' : (ℓ : Loc Cert.UkRefIdeal.nD Cert.UkRefIdeal.τ Cert.UkRefIdeal.sig) → Buf (Elt Ideal) ℓ) (g' : Dev Cert.UkRefIdeal.nD → PrngReg), Pre_UkIdeal m →
    (∀ c : Dev Cert.UkIdeal.nD,
      m' ((c.tc : Thread Cert.UkRefIdeal.nD Cert.UkRefIdeal.τ).loc Cert.UkRefIdeal.main_arg0) = m ((c.tc : Thread Cert.UkIdeal.nD Cert.UkIdeal.τ).loc Cert.UkIdeal.main_arg0)
      ∧ m' ((c.tc : Thread Cert.UkRefIdeal.nD Cert.UkRefIdeal.τ).loc Cert.UkRefIdeal.main_arg1) = m ((c.tc : Thread Cert.UkIdeal.nD Cert.UkIdeal.τ).loc Cert.UkIdeal.main_arg1)) →
    ∃ (v0 : (c : Dev Cert.UkIdeal.nD) → Buf (Elt Ideal) ((c.tc : Thread Cert.UkIdeal.nD Cert.UkIdeal.τ).loc Cert.UkIdeal.main_v0)),
      θ_run (Cert.UkIdeal.defs (F := Ideal)) (onTc (τ := Cert.UkIdeal.τ) (Cert.UkIdeal.main (F := Ideal))) ⟨m, fun _ => 0, g⟩ (fun r => ∀ c : Dev Cert.UkIdeal.nD,
          r.2.mem ((c.tc : Thread Cert.UkIdeal.nD Cert.UkIdeal.τ).loc Cert.UkIdeal.main_v0) = v0 c
          ∧ r.2.mem ((c.tc : Thread Cert.UkIdeal.nD Cert.UkIdeal.τ).loc Cert.UkIdeal.main_arg0) = m ((c.tc : Thread Cert.UkIdeal.nD Cert.UkIdeal.τ).loc Cert.UkIdeal.main_arg0)
          ∧ r.2.mem ((c.tc : Thread Cert.UkIdeal.nD Cert.UkIdeal.τ).loc Cert.UkIdeal.main_arg1) = m ((c.tc : Thread Cert.UkIdeal.nD Cert.UkIdeal.τ).loc Cert.UkIdeal.main_arg1))
      ∧ θ_run (Cert.UkRefIdeal.defs (F := Ideal)) (onTc (τ := Cert.UkRefIdeal.τ) (Cert.UkRefIdeal.main (F := Ideal))) ⟨m', fun _ => 0, g'⟩ (fun r => ∀ c : Dev Cert.UkRefIdeal.nD,
          r.2.mem ((c.tc : Thread Cert.UkRefIdeal.nD Cert.UkRefIdeal.τ).loc Cert.UkRefIdeal.main_v2) = v0 c
          ∧ r.2.mem ((c.tc : Thread Cert.UkRefIdeal.nD Cert.UkRefIdeal.τ).loc Cert.UkRefIdeal.main_arg0) = m' ((c.tc : Thread Cert.UkRefIdeal.nD Cert.UkRefIdeal.τ).loc Cert.UkRefIdeal.main_arg0)
          ∧ r.2.mem ((c.tc : Thread Cert.UkRefIdeal.nD Cert.UkRefIdeal.τ).loc Cert.UkRefIdeal.main_arg1) = m' ((c.tc : Thread Cert.UkRefIdeal.nD Cert.UkRefIdeal.τ).loc Cert.UkRefIdeal.main_arg1))

def preserves_Uv_UvIdeal : Prop :=
  True

def algebraic_UvIdeal_UvRefIdeal [hUvIdeal : Cert.UvIdeal.Facts] [hUvRefIdeal : Cert.UvRefIdeal.Facts] : Prop :=
  ∀ (m : (ℓ : Loc Cert.UvIdeal.nD Cert.UvIdeal.τ Cert.UvIdeal.sig) → Buf (Elt Ideal) ℓ) (g : Dev Cert.UvIdeal.nD → PrngReg)
    (m' : (ℓ : Loc Cert.UvRefIdeal.nD Cert.UvRefIdeal.τ Cert.UvRefIdeal.sig) → Buf (Elt Ideal) ℓ) (g' : Dev Cert.UvRefIdeal.nD → PrngReg), Pre_UvIdeal m →
    (∀ c : Dev Cert.UvIdeal.nD,
      m' ((c.tc : Thread Cert.UvRefIdeal.nD Cert.UvRefIdeal.τ).loc Cert.UvRefIdeal.main_arg0) = m ((c.tc : Thread Cert.UvIdeal.nD Cert.UvIdeal.τ).loc Cert.UvIdeal.main_arg0)
      ∧ m' ((c.tc : Thread Cert.UvRefIdeal.nD Cert.UvRefIdeal.τ).loc Cert.UvRefIdeal.main_arg1) = m ((c.tc : Thread Cert.UvIdeal.nD Cert.UvIdeal.τ).loc Cert.UvIdeal.main_arg1)) →
    ∃ (v0 : (c : Dev Cert.UvIdeal.nD) → Buf (Elt Ideal) ((c.tc : Thread Cert.UvIdeal.nD Cert.UvIdeal.τ).loc Cert.UvIdeal.main_v0)),
      θ_run (Cert.UvIdeal.defs (F := Ideal)) (onTc (τ := Cert.UvIdeal.τ) (Cert.UvIdeal.main (F := Ideal))) ⟨m, fun _ => 0, g⟩ (fun r => ∀ c : Dev Cert.UvIdeal.nD,
          r.2.mem ((c.tc : Thread Cert.UvIdeal.nD Cert.UvIdeal.τ).loc Cert.UvIdeal.main_v0) = v0 c
          ∧ r.2.mem ((c.tc : Thread Cert.UvIdeal.nD Cert.UvIdeal.τ).loc Cert.UvIdeal.main_arg0) = m ((c.tc : Thread Cert.UvIdeal.nD Cert.UvIdeal.τ).loc Cert.UvIdeal.main_arg0)
          ∧ r.2.mem ((c.tc : Thread Cert.UvIdeal.nD Cert.UvIdeal.τ).loc Cert.UvIdeal.main_arg1) = m ((c.tc : Thread Cert.UvIdeal.nD Cert.UvIdeal.τ).loc Cert.UvIdeal.main_arg1))
      ∧ θ_run (Cert.UvRefIdeal.defs (F := Ideal)) (onTc (τ := Cert.UvRefIdeal.τ) (Cert.UvRefIdeal.main (F := Ideal))) ⟨m', fun _ => 0, g'⟩ (fun r => ∀ c : Dev Cert.UvRefIdeal.nD,
          r.2.mem ((c.tc : Thread Cert.UvRefIdeal.nD Cert.UvRefIdeal.τ).loc Cert.UvRefIdeal.main_v3) = v0 c
          ∧ r.2.mem ((c.tc : Thread Cert.UvRefIdeal.nD Cert.UvRefIdeal.τ).loc Cert.UvRefIdeal.main_arg0) = m' ((c.tc : Thread Cert.UvRefIdeal.nD Cert.UvRefIdeal.τ).loc Cert.UvRefIdeal.main_arg0)
          ∧ r.2.mem ((c.tc : Thread Cert.UvRefIdeal.nD Cert.UvRefIdeal.τ).loc Cert.UvRefIdeal.main_arg1) = m' ((c.tc : Thread Cert.UvRefIdeal.nD Cert.UvRefIdeal.τ).loc Cert.UvRefIdeal.main_arg1))

def preserves_DUq_DUqIdeal : Prop :=
  True

def algebraic_DUqIdeal_DUqRefIdeal [hDUqIdeal : Cert.DUqIdeal.Facts] [hDUqRefIdeal : Cert.DUqRefIdeal.Facts] : Prop :=
  ∀ (m : (ℓ : Loc Cert.DUqIdeal.nD Cert.DUqIdeal.τ Cert.DUqIdeal.sig) → Buf (Elt Ideal) ℓ) (g : Dev Cert.DUqIdeal.nD → PrngReg)
    (m' : (ℓ : Loc Cert.DUqRefIdeal.nD Cert.DUqRefIdeal.τ Cert.DUqRefIdeal.sig) → Buf (Elt Ideal) ℓ) (g' : Dev Cert.DUqRefIdeal.nD → PrngReg), Pre_DUqIdeal m →
    (∀ c : Dev Cert.DUqIdeal.nD,
      m' ((c.tc : Thread Cert.DUqRefIdeal.nD Cert.DUqRefIdeal.τ).loc Cert.DUqRefIdeal.main_arg0) = m ((c.tc : Thread Cert.DUqIdeal.nD Cert.DUqIdeal.τ).loc Cert.DUqIdeal.main_arg0)
      ∧ m' ((c.tc : Thread Cert.DUqRefIdeal.nD Cert.DUqRefIdeal.τ).loc Cert.DUqRefIdeal.main_arg1) = m ((c.tc : Thread Cert.DUqIdeal.nD Cert.DUqIdeal.τ).loc Cert.DUqIdeal.main_arg1)) →
    ∃ (v0 : (c : Dev Cert.DUqIdeal.nD) → Buf (Elt Ideal) ((c.tc : Thread Cert.DUqIdeal.nD Cert.DUqIdeal.τ).loc Cert.DUqIdeal.main_v0)),
      θ_run (Cert.DUqIdeal.defs (F := Ideal)) (onTc (τ := Cert.DUqIdeal.τ) (Cert.DUqIdeal.main (F := Ideal))) ⟨m, fun _ => 0, g⟩ (fun r => ∀ c : Dev Cert.DUqIdeal.nD,
          r.2.mem ((c.tc : Thread Cert.DUqIdeal.nD Cert.DUqIdeal.τ).loc Cert.DUqIdeal.main_v0) = v0 c
          ∧ r.2.mem ((c.tc : Thread Cert.DUqIdeal.nD Cert.DUqIdeal.τ).loc Cert.DUqIdeal.main_arg0) = m ((c.tc : Thread Cert.DUqIdeal.nD Cert.DUqIdeal.τ).loc Cert.DUqIdeal.main_arg0)
          ∧ r.2.mem ((c.tc : Thread Cert.DUqIdeal.nD Cert.DUqIdeal.τ).loc Cert.DUqIdeal.main_arg1) = m ((c.tc : Thread Cert.DUqIdeal.nD Cert.DUqIdeal.τ).loc Cert.DUqIdeal.main_arg1))
      ∧ θ_run (Cert.DUqRefIdeal.defs (F := Ideal)) (onTc (τ := Cert.DUqRefIdeal.τ) (Cert.DUqRefIdeal.main (F := Ideal))) ⟨m', fun _ => 0, g'⟩ (fun r => ∀ c : Dev Cert.DUqRefIdeal.nD,
          r.2.mem ((c.tc : Thread Cert.DUqRefIdeal.nD Cert.DUqRefIdeal.τ).loc Cert.DUqRefIdeal.main_v4) = v0 c
          ∧ r.2.mem ((c.tc : Thread Cert.DUqRefIdeal.nD Cert.DUqRefIdeal.τ).loc Cert.DUqRefIdeal.main_arg0) = m' ((c.tc : Thread Cert.DUqRefIdeal.nD Cert.DUqRefIdeal.τ).loc Cert.DUqRefIdeal.main_arg0)
          ∧ r.2.mem ((c.tc : Thread Cert.DUqRefIdeal.nD Cert.DUqRefIdeal.τ).loc Cert.DUqRefIdeal.main_arg1) = m' ((c.tc : Thread Cert.DUqRefIdeal.nD Cert.DUqRefIdeal.τ).loc Cert.DUqRefIdeal.main_arg1))

def preserves_DUk_DUkIdeal : Prop :=
  True

def algebraic_DUkIdeal_DUkRefIdeal [hDUkIdeal : Cert.DUkIdeal.Facts] [hDUkRefIdeal : Cert.DUkRefIdeal.Facts] : Prop :=
  ∀ (m : (ℓ : Loc Cert.DUkIdeal.nD Cert.DUkIdeal.τ Cert.DUkIdeal.sig) → Buf (Elt Ideal) ℓ) (g : Dev Cert.DUkIdeal.nD → PrngReg)
    (m' : (ℓ : Loc Cert.DUkRefIdeal.nD Cert.DUkRefIdeal.τ Cert.DUkRefIdeal.sig) → Buf (Elt Ideal) ℓ) (g' : Dev Cert.DUkRefIdeal.nD → PrngReg), Pre_DUkIdeal m →
    (∀ c : Dev Cert.DUkIdeal.nD,
      m' ((c.tc : Thread Cert.DUkRefIdeal.nD Cert.DUkRefIdeal.τ).loc Cert.DUkRefIdeal.main_arg0) = m ((c.tc : Thread Cert.DUkIdeal.nD Cert.DUkIdeal.τ).loc Cert.DUkIdeal.main_arg0)
      ∧ m' ((c.tc : Thread Cert.DUkRefIdeal.nD Cert.DUkRefIdeal.τ).loc Cert.DUkRefIdeal.main_arg1) = m ((c.tc : Thread Cert.DUkIdeal.nD Cert.DUkIdeal.τ).loc Cert.DUkIdeal.main_arg1)) →
    ∃ (v0 : (c : Dev Cert.DUkIdeal.nD) → Buf (Elt Ideal) ((c.tc : Thread Cert.DUkIdeal.nD Cert.DUkIdeal.τ).loc Cert.DUkIdeal.main_v0)),
      θ_run (Cert.DUkIdeal.defs (F := Ideal)) (onTc (τ := Cert.DUkIdeal.τ) (Cert.DUkIdeal.main (F := Ideal))) ⟨m, fun _ => 0, g⟩ (fun r => ∀ c : Dev Cert.DUkIdeal.nD,
          r.2.mem ((c.tc : Thread Cert.DUkIdeal.nD Cert.DUkIdeal.τ).loc Cert.DUkIdeal.main_v0) = v0 c
          ∧ r.2.mem ((c.tc : Thread Cert.DUkIdeal.nD Cert.DUkIdeal.τ).loc Cert.DUkIdeal.main_arg0) = m ((c.tc : Thread Cert.DUkIdeal.nD Cert.DUkIdeal.τ).loc Cert.DUkIdeal.main_arg0)
          ∧ r.2.mem ((c.tc : Thread Cert.DUkIdeal.nD Cert.DUkIdeal.τ).loc Cert.DUkIdeal.main_arg1) = m ((c.tc : Thread Cert.DUkIdeal.nD Cert.DUkIdeal.τ).loc Cert.DUkIdeal.main_arg1))
      ∧ θ_run (Cert.DUkRefIdeal.defs (F := Ideal)) (onTc (τ := Cert.DUkRefIdeal.τ) (Cert.DUkRefIdeal.main (F := Ideal))) ⟨m', fun _ => 0, g'⟩ (fun r => ∀ c : Dev Cert.DUkRefIdeal.nD,
          r.2.mem ((c.tc : Thread Cert.DUkRefIdeal.nD Cert.DUkRefIdeal.τ).loc Cert.DUkRefIdeal.main_v4) = v0 c
          ∧ r.2.mem ((c.tc : Thread Cert.DUkRefIdeal.nD Cert.DUkRefIdeal.τ).loc Cert.DUkRefIdeal.main_arg0) = m' ((c.tc : Thread Cert.DUkRefIdeal.nD Cert.DUkRefIdeal.τ).loc Cert.DUkRefIdeal.main_arg0)
          ∧ r.2.mem ((c.tc : Thread Cert.DUkRefIdeal.nD Cert.DUkRefIdeal.τ).loc Cert.DUkRefIdeal.main_arg1) = m' ((c.tc : Thread Cert.DUkRefIdeal.nD Cert.DUkRefIdeal.τ).loc Cert.DUkRefIdeal.main_arg1))

def preserves_DUv_DUvIdeal : Prop :=
  True

def algebraic_DUvIdeal_DUvRefIdeal [hDUvIdeal : Cert.DUvIdeal.Facts] [hDUvRefIdeal : Cert.DUvRefIdeal.Facts] : Prop :=
  ∀ (m : (ℓ : Loc Cert.DUvIdeal.nD Cert.DUvIdeal.τ Cert.DUvIdeal.sig) → Buf (Elt Ideal) ℓ) (g : Dev Cert.DUvIdeal.nD → PrngReg)
    (m' : (ℓ : Loc Cert.DUvRefIdeal.nD Cert.DUvRefIdeal.τ Cert.DUvRefIdeal.sig) → Buf (Elt Ideal) ℓ) (g' : Dev Cert.DUvRefIdeal.nD → PrngReg), Pre_DUvIdeal m →
    (∀ c : Dev Cert.DUvIdeal.nD,
      m' ((c.tc : Thread Cert.DUvRefIdeal.nD Cert.DUvRefIdeal.τ).loc Cert.DUvRefIdeal.main_arg0) = m ((c.tc : Thread Cert.DUvIdeal.nD Cert.DUvIdeal.τ).loc Cert.DUvIdeal.main_arg0)
      ∧ m' ((c.tc : Thread Cert.DUvRefIdeal.nD Cert.DUvRefIdeal.τ).loc Cert.DUvRefIdeal.main_arg1) = m ((c.tc : Thread Cert.DUvIdeal.nD Cert.DUvIdeal.τ).loc Cert.DUvIdeal.main_arg1)
      ∧ m' ((c.tc : Thread Cert.DUvRefIdeal.nD Cert.DUvRefIdeal.τ).loc Cert.DUvRefIdeal.main_arg2) = m ((c.tc : Thread Cert.DUvIdeal.nD Cert.DUvIdeal.τ).loc Cert.DUvIdeal.main_arg2)) →
    ∃ (v0 : (c : Dev Cert.DUvIdeal.nD) → Buf (Elt Ideal) ((c.tc : Thread Cert.DUvIdeal.nD Cert.DUvIdeal.τ).loc Cert.DUvIdeal.main_v0)),
      θ_run (Cert.DUvIdeal.defs (F := Ideal)) (onTc (τ := Cert.DUvIdeal.τ) (Cert.DUvIdeal.main (F := Ideal))) ⟨m, fun _ => 0, g⟩ (fun r => ∀ c : Dev Cert.DUvIdeal.nD,
          r.2.mem ((c.tc : Thread Cert.DUvIdeal.nD Cert.DUvIdeal.τ).loc Cert.DUvIdeal.main_v0) = v0 c
          ∧ r.2.mem ((c.tc : Thread Cert.DUvIdeal.nD Cert.DUvIdeal.τ).loc Cert.DUvIdeal.main_arg0) = m ((c.tc : Thread Cert.DUvIdeal.nD Cert.DUvIdeal.τ).loc Cert.DUvIdeal.main_arg0)
          ∧ r.2.mem ((c.tc : Thread Cert.DUvIdeal.nD Cert.DUvIdeal.τ).loc Cert.DUvIdeal.main_arg1) = m ((c.tc : Thread Cert.DUvIdeal.nD Cert.DUvIdeal.τ).loc Cert.DUvIdeal.main_arg1)
          ∧ r.2.mem ((c.tc : Thread Cert.DUvIdeal.nD Cert.DUvIdeal.τ).loc Cert.DUvIdeal.main_arg2) = m ((c.tc : Thread Cert.DUvIdeal.nD Cert.DUvIdeal.τ).loc Cert.DUvIdeal.main_arg2))
      ∧ θ_run (Cert.DUvRefIdeal.defs (F := Ideal)) (onTc (τ := Cert.DUvRefIdeal.τ) (Cert.DUvRefIdeal.main (F := Ideal))) ⟨m', fun _ => 0, g'⟩ (fun r => ∀ c : Dev Cert.DUvRefIdeal.nD,
          r.2.mem ((c.tc : Thread Cert.DUvRefIdeal.nD Cert.DUvRefIdeal.τ).loc Cert.DUvRefIdeal.main_v5) = v0 c
          ∧ r.2.mem ((c.tc : Thread Cert.DUvRefIdeal.nD Cert.DUvRefIdeal.τ).loc Cert.DUvRefIdeal.main_arg0) = m' ((c.tc : Thread Cert.DUvRefIdeal.nD Cert.DUvRefIdeal.τ).loc Cert.DUvRefIdeal.main_arg0)
          ∧ r.2.mem ((c.tc : Thread Cert.DUvRefIdeal.nD Cert.DUvRefIdeal.τ).loc Cert.DUvRefIdeal.main_arg1) = m' ((c.tc : Thread Cert.DUvRefIdeal.nD Cert.DUvRefIdeal.τ).loc Cert.DUvRefIdeal.main_arg1)
          ∧ r.2.mem ((c.tc : Thread Cert.DUvRefIdeal.nD Cert.DUvRefIdeal.τ).loc Cert.DUvRefIdeal.main_arg2) = m' ((c.tc : Thread Cert.DUvRefIdeal.nD Cert.DUvRefIdeal.τ).loc Cert.DUvRefIdeal.main_arg2))

def preserves_DwUq_DwUqIdeal : Prop :=
  True

def algebraic_DwUqIdeal_DwUqRefIdeal [hDwUqIdeal : Cert.DwUqIdeal.Facts] [hDwUqRefIdeal : Cert.DwUqRefIdeal.Facts] : Prop :=
  ∀ (m : (ℓ : Loc Cert.DwUqIdeal.nD Cert.DwUqIdeal.τ Cert.DwUqIdeal.sig) → Buf (Elt Ideal) ℓ) (g : Dev Cert.DwUqIdeal.nD → PrngReg)
    (m' : (ℓ : Loc Cert.DwUqRefIdeal.nD Cert.DwUqRefIdeal.τ Cert.DwUqRefIdeal.sig) → Buf (Elt Ideal) ℓ) (g' : Dev Cert.DwUqRefIdeal.nD → PrngReg), Pre_DwUqIdeal m →
    (∀ c : Dev Cert.DwUqIdeal.nD,
      m' ((c.tc : Thread Cert.DwUqRefIdeal.nD Cert.DwUqRefIdeal.τ).loc Cert.DwUqRefIdeal.main_arg0) = m ((c.tc : Thread Cert.DwUqIdeal.nD Cert.DwUqIdeal.τ).loc Cert.DwUqIdeal.main_arg0)
      ∧ m' ((c.tc : Thread Cert.DwUqRefIdeal.nD Cert.DwUqRefIdeal.τ).loc Cert.DwUqRefIdeal.main_arg1) = m ((c.tc : Thread Cert.DwUqIdeal.nD Cert.DwUqIdeal.τ).loc Cert.DwUqIdeal.main_arg1)) →
    ∃ (v0 : (c : Dev Cert.DwUqIdeal.nD) → Buf (Elt Ideal) ((c.tc : Thread Cert.DwUqIdeal.nD Cert.DwUqIdeal.τ).loc Cert.DwUqIdeal.main_v0)),
      θ_run (Cert.DwUqIdeal.defs (F := Ideal)) (onTc (τ := Cert.DwUqIdeal.τ) (Cert.DwUqIdeal.main (F := Ideal))) ⟨m, fun _ => 0, g⟩ (fun r => ∀ c : Dev Cert.DwUqIdeal.nD,
          r.2.mem ((c.tc : Thread Cert.DwUqIdeal.nD Cert.DwUqIdeal.τ).loc Cert.DwUqIdeal.main_v0) = v0 c
          ∧ r.2.mem ((c.tc : Thread Cert.DwUqIdeal.nD Cert.DwUqIdeal.τ).loc Cert.DwUqIdeal.main_arg0) = m ((c.tc : Thread Cert.DwUqIdeal.nD Cert.DwUqIdeal.τ).loc Cert.DwUqIdeal.main_arg0)
          ∧ r.2.mem ((c.tc : Thread Cert.DwUqIdeal.nD Cert.DwUqIdeal.τ).loc Cert.DwUqIdeal.main_arg1) = m ((c.tc : Thread Cert.DwUqIdeal.nD Cert.DwUqIdeal.τ).loc Cert.DwUqIdeal.main_arg1))
      ∧ θ_run (Cert.DwUqRefIdeal.defs (F := Ideal)) (onTc (τ := Cert.DwUqRefIdeal.τ) (Cert.DwUqRefIdeal.main (F := Ideal))) ⟨m', fun _ => 0, g'⟩ (fun r => ∀ c : Dev Cert.DwUqRefIdeal.nD,
          r.2.mem ((c.tc : Thread Cert.DwUqRefIdeal.nD Cert.DwUqRefIdeal.τ).loc Cert.DwUqRefIdeal.main_v6) = v0 c
          ∧ r.2.mem ((c.tc : Thread Cert.DwUqRefIdeal.nD Cert.DwUqRefIdeal.τ).loc Cert.DwUqRefIdeal.main_arg0) = m' ((c.tc : Thread Cert.DwUqRefIdeal.nD Cert.DwUqRefIdeal.τ).loc Cert.DwUqRefIdeal.main_arg0)
          ∧ r.2.mem ((c.tc : Thread Cert.DwUqRefIdeal.nD Cert.DwUqRefIdeal.τ).loc Cert.DwUqRefIdeal.main_arg1) = m' ((c.tc : Thread Cert.DwUqRefIdeal.nD Cert.DwUqRefIdeal.τ).loc Cert.DwUqRefIdeal.main_arg1))

def preserves_DwUk_DwUkIdeal : Prop :=
  True

def algebraic_DwUkIdeal_DwUkRefIdeal [hDwUkIdeal : Cert.DwUkIdeal.Facts] [hDwUkRefIdeal : Cert.DwUkRefIdeal.Facts] : Prop :=
  ∀ (m : (ℓ : Loc Cert.DwUkIdeal.nD Cert.DwUkIdeal.τ Cert.DwUkIdeal.sig) → Buf (Elt Ideal) ℓ) (g : Dev Cert.DwUkIdeal.nD → PrngReg)
    (m' : (ℓ : Loc Cert.DwUkRefIdeal.nD Cert.DwUkRefIdeal.τ Cert.DwUkRefIdeal.sig) → Buf (Elt Ideal) ℓ) (g' : Dev Cert.DwUkRefIdeal.nD → PrngReg), Pre_DwUkIdeal m →
    (∀ c : Dev Cert.DwUkIdeal.nD,
      m' ((c.tc : Thread Cert.DwUkRefIdeal.nD Cert.DwUkRefIdeal.τ).loc Cert.DwUkRefIdeal.main_arg0) = m ((c.tc : Thread Cert.DwUkIdeal.nD Cert.DwUkIdeal.τ).loc Cert.DwUkIdeal.main_arg0)
      ∧ m' ((c.tc : Thread Cert.DwUkRefIdeal.nD Cert.DwUkRefIdeal.τ).loc Cert.DwUkRefIdeal.main_arg1) = m ((c.tc : Thread Cert.DwUkIdeal.nD Cert.DwUkIdeal.τ).loc Cert.DwUkIdeal.main_arg1)) →
    ∃ (v0 : (c : Dev Cert.DwUkIdeal.nD) → Buf (Elt Ideal) ((c.tc : Thread Cert.DwUkIdeal.nD Cert.DwUkIdeal.τ).loc Cert.DwUkIdeal.main_v0)),
      θ_run (Cert.DwUkIdeal.defs (F := Ideal)) (onTc (τ := Cert.DwUkIdeal.τ) (Cert.DwUkIdeal.main (F := Ideal))) ⟨m, fun _ => 0, g⟩ (fun r => ∀ c : Dev Cert.DwUkIdeal.nD,
          r.2.mem ((c.tc : Thread Cert.DwUkIdeal.nD Cert.DwUkIdeal.τ).loc Cert.DwUkIdeal.main_v0) = v0 c
          ∧ r.2.mem ((c.tc : Thread Cert.DwUkIdeal.nD Cert.DwUkIdeal.τ).loc Cert.DwUkIdeal.main_arg0) = m ((c.tc : Thread Cert.DwUkIdeal.nD Cert.DwUkIdeal.τ).loc Cert.DwUkIdeal.main_arg0)
          ∧ r.2.mem ((c.tc : Thread Cert.DwUkIdeal.nD Cert.DwUkIdeal.τ).loc Cert.DwUkIdeal.main_arg1) = m ((c.tc : Thread Cert.DwUkIdeal.nD Cert.DwUkIdeal.τ).loc Cert.DwUkIdeal.main_arg1))
      ∧ θ_run (Cert.DwUkRefIdeal.defs (F := Ideal)) (onTc (τ := Cert.DwUkRefIdeal.τ) (Cert.DwUkRefIdeal.main (F := Ideal))) ⟨m', fun _ => 0, g'⟩ (fun r => ∀ c : Dev Cert.DwUkRefIdeal.nD,
          r.2.mem ((c.tc : Thread Cert.DwUkRefIdeal.nD Cert.DwUkRefIdeal.τ).loc Cert.DwUkRefIdeal.main_v6) = v0 c
          ∧ r.2.mem ((c.tc : Thread Cert.DwUkRefIdeal.nD Cert.DwUkRefIdeal.τ).loc Cert.DwUkRefIdeal.main_arg0) = m' ((c.tc : Thread Cert.DwUkRefIdeal.nD Cert.DwUkRefIdeal.τ).loc Cert.DwUkRefIdeal.main_arg0)
          ∧ r.2.mem ((c.tc : Thread Cert.DwUkRefIdeal.nD Cert.DwUkRefIdeal.τ).loc Cert.DwUkRefIdeal.main_arg1) = m' ((c.tc : Thread Cert.DwUkRefIdeal.nD Cert.DwUkRefIdeal.τ).loc Cert.DwUkRefIdeal.main_arg1))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDwd : Cert.Dwd.Facts) (hDwdIdeal : Cert.DwdIdeal.Facts) (hDwdRefIdeal : Cert.DwdRefIdeal.Facts) (hDwgu : Cert.Dwgu.Facts) (hDwguIdeal : Cert.DwguIdeal.Facts) (hDwguRefIdeal : Cert.DwguRefIdeal.Facts) (hDn : Cert.Dn.Facts) (hDnIdeal : Cert.DnIdeal.Facts) (hDnRefIdeal : Cert.DnRefIdeal.Facts) (hDIn : Cert.DIn.Facts) (hDInIdeal : Cert.DInIdeal.Facts) (hDInRefIdeal : Cert.DInRefIdeal.Facts) (hDwIn : Cert.DwIn.Facts) (hDwInIdeal : Cert.DwInIdeal.Facts) (hDwInRefIdeal : Cert.DwInRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hDOut : Cert.DOut.Facts) (hDOutIdeal : Cert.DOutIdeal.Facts) (hDOutRefIdeal : Cert.DOutRefIdeal.Facts) (hDwOut : Cert.DwOut.Facts) (hDwOutIdeal : Cert.DwOutIdeal.Facts) (hDwOutRefIdeal : Cert.DwOutRefIdeal.Facts) (hDBranch : Cert.DBranch.Facts) (hDBranchIdeal : Cert.DBranchIdeal.Facts) (hDBranchRefIdeal : Cert.DBranchRefIdeal.Facts) (hDwBranch : Cert.DwBranch.Facts) (hDwBranchIdeal : Cert.DwBranchIdeal.Facts) (hDwBranchRefIdeal : Cert.DwBranchRefIdeal.Facts) (hDNorm : Cert.DNorm.Facts) (hDNormIdeal : Cert.DNormIdeal.Facts) (hDNormRefIdeal : Cert.DNormRefIdeal.Facts) (hNorm : Cert.Norm.Facts) (hNormIdeal : Cert.NormIdeal.Facts) (hNormRefIdeal : Cert.NormRefIdeal.Facts) (hDGate : Cert.DGate.Facts) (hDGateIdeal : Cert.DGateIdeal.Facts) (hDGateRefIdeal : Cert.DGateRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hBranch : Cert.Branch.Facts) (hBranchIdeal : Cert.BranchIdeal.Facts) (hBranchRefIdeal : Cert.BranchRefIdeal.Facts) (hUq : Cert.Uq.Facts) (hUqIdeal : Cert.UqIdeal.Facts) (hUqRefIdeal : Cert.UqRefIdeal.Facts) (hUk : Cert.Uk.Facts) (hUkIdeal : Cert.UkIdeal.Facts) (hUkRefIdeal : Cert.UkRefIdeal.Facts) (hUv : Cert.Uv.Facts) (hUvIdeal : Cert.UvIdeal.Facts) (hUvRefIdeal : Cert.UvRefIdeal.Facts) (hDUq : Cert.DUq.Facts) (hDUqIdeal : Cert.DUqIdeal.Facts) (hDUqRefIdeal : Cert.DUqRefIdeal.Facts) (hDUk : Cert.DUk.Facts) (hDUkIdeal : Cert.DUkIdeal.Facts) (hDUkRefIdeal : Cert.DUkRefIdeal.Facts) (hDUv : Cert.DUv.Facts) (hDUvIdeal : Cert.DUvIdeal.Facts) (hDUvRefIdeal : Cert.DUvRefIdeal.Facts) (hDwUq : Cert.DwUq.Facts) (hDwUqIdeal : Cert.DwUqIdeal.Facts) (hDwUqRefIdeal : Cert.DwUqRefIdeal.Facts) (hDwUk : Cert.DwUk.Facts) (hDwUkIdeal : Cert.DwUkIdeal.Facts) (hDwUkRefIdeal : Cert.DwUkRefIdeal.Facts) (hPre_swa_tame : Cert.Pre_swa_tame.Facts) (hPre_dact_tame : Cert.Pre_dact_tame.Facts),
    quiescent_Kernel (hKernel := hKernel)
    ∧ quiescent_KernelIdeal (hKernelIdeal := hKernelIdeal)
    ∧ quiescent_KernelIdeal_pre_swa_tame (hKernelIdeal := hKernelIdeal) (hPre_swa_tame := hPre_swa_tame)
    ∧ quiescent_ReferenceIdeal (hReferenceIdeal := hReferenceIdeal)
    ∧ quiescent_ReferenceIdeal_pre_swa_tame (hReferenceIdeal := hReferenceIdeal) (hPre_swa_tame := hPre_swa_tame)
    ∧ quiescent_Dact (hDact := hDact)
    ∧ quiescent_DactIdeal (hDactIdeal := hDactIdeal)
    ∧ quiescent_DactIdeal_pre_dact_tame (hDactIdeal := hDactIdeal) (hPre_dact_tame := hPre_dact_tame)
    ∧ quiescent_DactRefIdeal (hDactRefIdeal := hDactRefIdeal)
    ∧ quiescent_DactRefIdeal_pre_dact_tame (hDactRefIdeal := hDactRefIdeal) (hPre_dact_tame := hPre_dact_tame)
    ∧ quiescent_Dwd (hDwd := hDwd)
    ∧ quiescent_DwdIdeal (hDwdIdeal := hDwdIdeal)
    ∧ quiescent_DwdRefIdeal (hDwdRefIdeal := hDwdRefIdeal)
    ∧ quiescent_Dwgu (hDwgu := hDwgu)
    ∧ quiescent_DwguIdeal (hDwguIdeal := hDwguIdeal)
    ∧ quiescent_DwguRefIdeal (hDwguRefIdeal := hDwguRefIdeal)
    ∧ quiescent_Dn (hDn := hDn)
    ∧ quiescent_DnIdeal (hDnIdeal := hDnIdeal)
    ∧ quiescent_DnRefIdeal (hDnRefIdeal := hDnRefIdeal)
    ∧ quiescent_DIn (hDIn := hDIn)
    ∧ quiescent_DInIdeal (hDInIdeal := hDInIdeal)
    ∧ quiescent_DInRefIdeal (hDInRefIdeal := hDInRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_DOut (hDOut := hDOut)
    ∧ quiescent_DOutIdeal (hDOutIdeal := hDOutIdeal)
    ∧ quiescent_DOutRefIdeal (hDOutRefIdeal := hDOutRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DBranch (hDBranch := hDBranch)
    ∧ quiescent_DBranchIdeal (hDBranchIdeal := hDBranchIdeal)
    ∧ quiescent_DBranchRefIdeal (hDBranchRefIdeal := hDBranchRefIdeal)
    ∧ quiescent_DwBranch (hDwBranch := hDwBranch)
    ∧ quiescent_DwBranchIdeal (hDwBranchIdeal := hDwBranchIdeal)
    ∧ quiescent_DwBranchRefIdeal (hDwBranchRefIdeal := hDwBranchRefIdeal)
    ∧ quiescent_DNorm (hDNorm := hDNorm)
    ∧ quiescent_DNormIdeal (hDNormIdeal := hDNormIdeal)
    ∧ quiescent_DNormRefIdeal (hDNormRefIdeal := hDNormRefIdeal)
    ∧ quiescent_Norm (hNorm := hNorm)
    ∧ quiescent_NormIdeal (hNormIdeal := hNormIdeal)
    ∧ quiescent_NormRefIdeal (hNormRefIdeal := hNormRefIdeal)
    ∧ quiescent_DGate (hDGate := hDGate)
    ∧ quiescent_DGateIdeal (hDGateIdeal := hDGateIdeal)
    ∧ quiescent_DGateRefIdeal (hDGateRefIdeal := hDGateRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_Branch (hBranch := hBranch)
    ∧ quiescent_BranchIdeal (hBranchIdeal := hBranchIdeal)
    ∧ quiescent_BranchRefIdeal (hBranchRefIdeal := hBranchRefIdeal)
    ∧ quiescent_Uq (hUq := hUq)
    ∧ quiescent_UqIdeal (hUqIdeal := hUqIdeal)
    ∧ quiescent_UqRefIdeal (hUqRefIdeal := hUqRefIdeal)
    ∧ quiescent_Uk (hUk := hUk)
    ∧ quiescent_UkIdeal (hUkIdeal := hUkIdeal)
    ∧ quiescent_UkRefIdeal (hUkRefIdeal := hUkRefIdeal)
    ∧ quiescent_Uv (hUv := hUv)
    ∧ quiescent_UvIdeal (hUvIdeal := hUvIdeal)
    ∧ quiescent_UvRefIdeal (hUvRefIdeal := hUvRefIdeal)
    ∧ quiescent_DUq (hDUq := hDUq)
    ∧ quiescent_DUqIdeal (hDUqIdeal := hDUqIdeal)
    ∧ quiescent_DUqRefIdeal (hDUqRefIdeal := hDUqRefIdeal)
    ∧ quiescent_DUk (hDUk := hDUk)
    ∧ quiescent_DUkIdeal (hDUkIdeal := hDUkIdeal)
    ∧ quiescent_DUkRefIdeal (hDUkRefIdeal := hDUkRefIdeal)
    ∧ quiescent_DUv (hDUv := hDUv)
    ∧ quiescent_DUvIdeal (hDUvIdeal := hDUvIdeal)
    ∧ quiescent_DUvRefIdeal (hDUvRefIdeal := hDUvRefIdeal)
    ∧ quiescent_DwUq (hDwUq := hDwUq)
    ∧ quiescent_DwUqIdeal (hDwUqIdeal := hDwUqIdeal)
    ∧ quiescent_DwUqRefIdeal (hDwUqRefIdeal := hDwUqRefIdeal)
    ∧ quiescent_DwUk (hDwUk := hDwUk)
    ∧ quiescent_DwUkIdeal (hDwUkIdeal := hDwUkIdeal)
    ∧ quiescent_DwUkRefIdeal (hDwUkRefIdeal := hDwUkRefIdeal)
    ∧ preserves_Kernel_KernelIdeal
    ∧ algebraic_KernelIdeal_ReferenceIdeal_pre_swa_tame (hKernelIdeal := hKernelIdeal) (hReferenceIdeal := hReferenceIdeal) (hPre_swa_tame := hPre_swa_tame)
    ∧ preserves_Dact_DactIdeal
    ∧ algebraic_DactIdeal_DactRefIdeal_pre_dact_tame (hDactIdeal := hDactIdeal) (hDactRefIdeal := hDactRefIdeal) (hPre_dact_tame := hPre_dact_tame)
    ∧ preserves_Dwd_DwdIdeal
    ∧ algebraic_DwdIdeal_DwdRefIdeal (hDwdIdeal := hDwdIdeal) (hDwdRefIdeal := hDwdRefIdeal)
    ∧ preserves_Dwgu_DwguIdeal
    ∧ algebraic_DwguIdeal_DwguRefIdeal (hDwguIdeal := hDwguIdeal) (hDwguRefIdeal := hDwguRefIdeal)
    ∧ preserves_Dn_DnIdeal
    ∧ algebraic_DnIdeal_DnRefIdeal (hDnIdeal := hDnIdeal) (hDnRefIdeal := hDnRefIdeal)
    ∧ preserves_DIn_DInIdeal
    ∧ algebraic_DInIdeal_DInRefIdeal (hDInIdeal := hDInIdeal) (hDInRefIdeal := hDInRefIdeal)
    ∧ preserves_DwIn_DwInIdeal
    ∧ algebraic_DwInIdeal_DwInRefIdeal (hDwInIdeal := hDwInIdeal) (hDwInRefIdeal := hDwInRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_DOut_DOutIdeal
    ∧ algebraic_DOutIdeal_DOutRefIdeal (hDOutIdeal := hDOutIdeal) (hDOutRefIdeal := hDOutRefIdeal)
    ∧ preserves_DwOut_DwOutIdeal
    ∧ algebraic_DwOutIdeal_DwOutRefIdeal (hDwOutIdeal := hDwOutIdeal) (hDwOutRefIdeal := hDwOutRefIdeal)
    ∧ preserves_DBranch_DBranchIdeal
    ∧ algebraic_DBranchIdeal_DBranchRefIdeal (hDBranchIdeal := hDBranchIdeal) (hDBranchRefIdeal := hDBranchRefIdeal)
    ∧ preserves_DwBranch_DwBranchIdeal
    ∧ algebraic_DwBranchIdeal_DwBranchRefIdeal (hDwBranchIdeal := hDwBranchIdeal) (hDwBranchRefIdeal := hDwBranchRefIdeal)
    ∧ preserves_DNorm_DNormIdeal
    ∧ algebraic_DNormIdeal_DNormRefIdeal (hDNormIdeal := hDNormIdeal) (hDNormRefIdeal := hDNormRefIdeal)
    ∧ preserves_Norm_NormIdeal
    ∧ algebraic_NormIdeal_NormRefIdeal (hNormIdeal := hNormIdeal) (hNormRefIdeal := hNormRefIdeal)
    ∧ preserves_DGate_DGateIdeal
    ∧ algebraic_DGateIdeal_DGateRefIdeal (hDGateIdeal := hDGateIdeal) (hDGateRefIdeal := hDGateRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_Branch_BranchIdeal
    ∧ algebraic_BranchIdeal_BranchRefIdeal (hBranchIdeal := hBranchIdeal) (hBranchRefIdeal := hBranchRefIdeal)
    ∧ preserves_Uq_UqIdeal
    ∧ algebraic_UqIdeal_UqRefIdeal (hUqIdeal := hUqIdeal) (hUqRefIdeal := hUqRefIdeal)
    ∧ preserves_Uk_UkIdeal
    ∧ algebraic_UkIdeal_UkRefIdeal (hUkIdeal := hUkIdeal) (hUkRefIdeal := hUkRefIdeal)
    ∧ preserves_Uv_UvIdeal
    ∧ algebraic_UvIdeal_UvRefIdeal (hUvIdeal := hUvIdeal) (hUvRefIdeal := hUvRefIdeal)
    ∧ preserves_DUq_DUqIdeal
    ∧ algebraic_DUqIdeal_DUqRefIdeal (hDUqIdeal := hDUqIdeal) (hDUqRefIdeal := hDUqRefIdeal)
    ∧ preserves_DUk_DUkIdeal
    ∧ algebraic_DUkIdeal_DUkRefIdeal (hDUkIdeal := hDUkIdeal) (hDUkRefIdeal := hDUkRefIdeal)
    ∧ preserves_DUv_DUvIdeal
    ∧ algebraic_DUvIdeal_DUvRefIdeal (hDUvIdeal := hDUvIdeal) (hDUvRefIdeal := hDUvRefIdeal)
    ∧ preserves_DwUq_DwUqIdeal
    ∧ algebraic_DwUqIdeal_DwUqRefIdeal (hDwUqIdeal := hDwUqIdeal) (hDwUqRefIdeal := hDwUqRefIdeal)
    ∧ preserves_DwUk_DwUkIdeal
    ∧ algebraic_DwUkIdeal_DwUkRefIdeal (hDwUkIdeal := hDwUkIdeal) (hDwUkRefIdeal := hDwUkRefIdeal)
-- ==== Pre_dact_tame.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S_ : Shape := ⟨0, ![]⟩
abbrev S1x4x4096x704 : Shape := ⟨4, ![1, 4, 4096, 704]⟩
abbrev S4x4096x704 : Shape := ⟨3, ![4, 4096, 704]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)
  slices_S2x4x4096x704_S1x4x4096x704_1_0_0_0 : S2x4x4096x704.Slices ![1, 0, 0, 0] S1x4x4096x704
  shapeCasts_S1x4x4096x704_S4x4096x704 : S1x4x4096x704.ShapeCasts S4x4096x704
  bcast_S_S4x4096x704 : S_.BroadcastsInDim S4x4096x704 (![] : Fin 0 → Fin S4x4096x704.rank)

variable [Facts]

def fn {F : FTy → Type} [FloatOps F] (main_arg0 : FVec F S4096x1024 .bf16) (main_arg1 : FVec F S4x704x1024 .bf16) (main_arg2 : FVec F S2x4x4096x704 .bf16) : IVec S4096x1024 1 × IVec S4x704x1024 1 × IVec S4x4096x704 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S1x4x4096x704 .bf16 := (extractStridedSlice S1x4x4096x704 ![1, 0, 0, 0] · slices_S2x4x4096x704_S1x4x4096x704_1_0_0_0) main_arg2
  let main_v9 : FVec F S4x4096x704 .bf16 := shapeCast S4x4096x704 main_v8 shapeCasts_S1x4x4096x704_S4x4096x704
  let main_v10 : FVec F S4x4096x704 .f32 := (extf .f32 · bitsLt_bf16_f32) main_v9
  let main_v11 : FVec F S4x4096x704 .f32 := Host.absf main_v10
  let main_cst_1 : FVec F S_ .f32 := constant S_ .f32 0x7F800000#32
  let main_v12 : FVec F S4x4096x704 .f32 := broadcastInDim S4x4096x704 ![] bcast_S_S4x4096x704 main_cst_1
  let main_v13 : IVec S4x4096x704 1 := cmpf .olt main_v11 main_v12
  (main_v3, main_v7, main_v13)
-- ==== Pre_swa_tame.lean ====
abbrev S2x2048x1024 : Shape := ⟨3, ![2, 2048, 1024]⟩
abbrev S2x2048x256 : Shape := ⟨3, ![2, 2048, 256]⟩
abbrev S2x2048x4096 : Shape := ⟨3, ![2, 2048, 4096]⟩
abbrev S2x2048 : Shape := ⟨2, ![2, 2048]⟩
abbrev S8 : Shape := ⟨1, ![8]⟩
abbrev S_ : Shape := ⟨0, ![]⟩

class Facts : Prop where
  bitsLt_bf16_f32 : FTy.bits .bf16 < FTy.bits .f32
  bcast_S_S2x2048x1024 : S_.BroadcastsInDim S2x2048x1024 (![] : Fin 0 → Fin S2x2048x1024.rank)
  bcast_S_S2x2048x256 : S_.BroadcastsInDim S2x2048x256 (![] : Fin 0 → Fin S2x2048x256.rank)
  slices_S2x2048x4096_S2x2048x256_0_0_1280 : S2x2048x4096.Slices ![0, 0, 1280] S2x2048x256
  bcast_S_S2x2048 : S_.BroadcastsInDim S2x2048 (![] : Fin 0 → Fin S2x2048.rank)
  bcast_S_S8 : S_.BroadcastsInDim S8 (![] : Fin 0 → Fin S8.rank)

variable [Facts]

def fn_part1 {F : FTy → Type} [FloatOps F] (main_v3 : IVec S2x2048x1024 1) (main_v7 : IVec S2x2048x256 1) (main_v11 : IVec S2x2048x256 1) (main_v13 : IVec S2x2048 1) (main_v16 : IVec S8 1) (main_v17 : FVec F S2x2048x1024 .f32) (main_cst_3 : FVec F S_ .f32) : IVec S2x2048x1024 1 × IVec S2x2048x256 1 × IVec S2x2048x256 1 × IVec S2x2048 1 × IVec S8 1 × IVec S2x2048x1024 1 :=
  let main_v18 : FVec F S2x2048x1024 .f32 := broadcastInDim S2x2048x1024 ![] bcast_S_S2x2048x1024 main_cst_3
  let main_v19 : IVec S2x2048x1024 1 := cmpf .olt main_v17 main_v18
  (main_v3, main_v7, main_v11, main_v13, main_v16, main_v19)

def fn {F : FTy → Type} [FloatOps F] (main_arg0 : FVec F S2x2048x1024 .bf16) (main_arg1 : FVec F S2x2048x256 .bf16) (main_arg2 : FVec F S2x2048x4096 .f32) (main_arg3 : IVec S2x2048 32) (main_arg4 : FVec F S8 .f32) (main_arg5 : FVec F S2x2048x1024 .f32) : IVec S2x2048x1024 1 × IVec S2x2048x256 1 × IVec S2x2048x256 1 × IVec S2x2048 1 × IVec S8 1 × IVec S2x2048x1024 1 :=
  let main_v0 : FVec F S2x2048x1024 .f32 := (extf .f32 · bitsLt_bf16_f32) main_arg0
  let main_v1 : FVec F S2x2048x1024 .f32 := Host.absf main_v0
  let main_cst : FVec F S_ .f32 := constant S_ .f32 0x7F800000#32
  let main_v2 : FVec F S2x2048x1024 .f32 := broadcastInDim S2x2048x1024 ![] bcast_S_S2x2048x1024 main_cst
  let main_v3 : IVec S2x2048x1024 1 := cmpf .olt main_v1 main_v2
  let main_v4 : FVec F S2x2048x256 .f32 := (extf .f32 · bitsLt_bf16_f32) main_arg1
  let main_v5 : FVec F S2x2048x256 .f32 := Host.absf main_v4
  let main_cst_0 : FVec F S_ .f32 := constant S_ .f32 0x7F800000#32
  let main_v6 : FVec F S2x2048x256 .f32 := broadcastInDim S2x2048x256 ![] bcast_S_S2x2048x256 main_cst_0
  let main_v7 : IVec S2x2048x256 1 := cmpf .olt main_v5 main_v6
  let main_v8 : FVec F S2x2048x256 .f32 := (extractStridedSlice S2x2048x256 ![0, 0, 1280] · slices_S2x2048x4096_S2x2048x256_0_0_1280) main_arg2
  let main_v9 : FVec F S2x2048x256 .f32 := Host.absf main_v8
  let main_cst_1 : FVec F S_ .f32 := constant S_ .f32 0x7F800000#32
  let main_v10 : FVec F S2x2048x256 .f32 := broadcastInDim S2x2048x256 ![] bcast_S_S2x2048x256 main_cst_1
  let main_v11 : IVec S2x2048x256 1 := cmpf .olt main_v9 main_v10
  let main_c : IVec S_ 32 := constantI S_ 32 0#32
  let main_v12 : IVec S2x2048 32 := broadcastInDim S2x2048 ![] bcast_S_S2x2048 main_c
  let main_v13 : IVec S2x2048 1 := cmpi .sge main_arg3 main_v12
  let main_v14 : FVec F S8 .f32 := Host.absf main_arg4
  let main_cst_2 : FVec F S_ .f32 := constant S_ .f32 0x7F800000#32
  let main_v15 : FVec F S8 .f32 := broadcastInDim S8 ![] bcast_S_S8 main_cst_2
  let main_v16 : IVec S8 1 := cmpf .olt main_v14 main_v15
  let main_v17 : FVec F S2x2048x1024 .f32 := Host.absf main_arg5
  let main_cst_3 : FVec F S_ .f32 := constant S_ .f32 0x7F800000#32
  fn_part1 (F := F) main_v3 main_v7 main_v11 main_v13 main_v16 main_v17 main_cst_3
-- ==== Kernel.lean ====
abbrev S2x2048x1024 : Shape := ⟨3, ![2, 2048, 1024]⟩
abbrev S2x2048x256 : Shape := ⟨3, ![2, 2048, 256]⟩
abbrev S2x2048x4096 : Shape := ⟨3, ![2, 2048, 4096]⟩
abbrev S2x2048 : Shape := ⟨2, ![2, 2048]⟩
abbrev S8 : Shape := ⟨1, ![8]⟩
abbrev S_ : Shape := ⟨0, ![]⟩
abbrev S2x2048x1 : Shape := ⟨3, ![2, 2048, 1]⟩
abbrev S2x1x2048 : Shape := ⟨3, ![2, 1, 2048]⟩
abbrev S8x128 : Shape := ⟨2, ![8, 128]⟩
abbrev S1x128x512 : Shape := ⟨3, ![1, 128, 512]⟩
abbrev S1x128x128 : Shape := ⟨3, ![1, 128, 128]⟩
abbrev S1x128x1 : Shape := ⟨3, ![1, 128, 1]⟩
abbrev S1x1x128 : Shape := ⟨3, ![1, 1, 128]⟩
abbrev S1x2048x128 : Shape := ⟨3, ![1, 2048, 128]⟩
abbrev S128x128 : Shape := ⟨2, ![128, 128]⟩
abbrev S256x128 : Shape := ⟨2, ![256, 128]⟩
abbrev S128x1 : Shape := ⟨2, ![128, 1]⟩
abbrev S1x128 : Shape := ⟨2, ![1, 128]⟩
abbrev S1x256 : Shape := ⟨2, ![1, 256]⟩
abbrev S128x256 : Shape := ⟨2, ![128, 256]⟩
abbrev S2048x128 : Shape := ⟨2, ![2048, 128]⟩
abbrev S1 : Shape := ⟨1, ![1]⟩
abbrev S128 : Shape := ⟨1, ![128]⟩
abbrev S1x1x1 : Shape := ⟨3, ![1, 1, 1]⟩
abbrev S1x256x128 : Shape := ⟨3, ![1, 256, 128]⟩

abbrev nBuf : Space → Nat
  | .hbm => 27
  | .vmem => 25
  | .smem => 2
  | _ => 0

abbrev bufTy : (tb : Table) → Fin (tcTables nBuf tb) → BufTy
  | .hbm, ⟨0, _⟩ => ⟨S2x2048x1024, .bf16⟩
  | .hbm, ⟨1, _⟩ => ⟨S2x2048x256, .bf16⟩
  | .hbm, ⟨2, _⟩ => ⟨S2x2048x4096, .f32⟩
  | .hbm, ⟨3, _⟩ => ⟨S2x2048, .i32⟩
  | .hbm, ⟨4, _⟩ => ⟨S8, .f32⟩
  | .hbm, ⟨5, _⟩ => ⟨S2x2048x1024, .f32⟩
  | .hbm, ⟨6, _⟩ => ⟨S2x2048, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S2x2048x1, .f32⟩
  | .hbm, ⟨22, _⟩ => ⟨S2x1x2048, .f32⟩
  | .hbm, ⟨23, _⟩ => ⟨S2x2048x1024, .f32⟩
  | .hbm, ⟨24, _⟩ => ⟨S2x2048x256, .f32⟩
  | .hbm, ⟨25, _⟩ => ⟨S2x2048x256, .f32⟩
  | .hbm, ⟨26, _⟩ => ⟨S8x128, .f32⟩
  | .local _ .vmem, ⟨0, _⟩ => ⟨S1x128x512, .bf16⟩
  | .local _ .vmem, ⟨1, _⟩ => ⟨S1x128x512, .bf16⟩
  | .local _ .vmem, ⟨2, _⟩ => ⟨S1x128x128, .bf16⟩
  | .local _ .vmem, ⟨3, _⟩ => ⟨S1x128x128, .bf16⟩
  | .local _ .vmem, ⟨4, _⟩ => ⟨S1x128x128, .bf16⟩
  | .local _ .vmem, ⟨5, _⟩ => ⟨S1x128x128, .bf16⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x128x512, .f32⟩
  | .local _ .vmem, ⟨17, _⟩ => ⟨S1x128x512, .f32⟩
  | .local _ .vmem, ⟨18, _⟩ => ⟨S1x128x512, .f32⟩
  | .local _ .vmem, ⟨19, _⟩ => ⟨S1x128x512, .f32⟩
  | .local _ .vmem, ⟨20, _⟩ => ⟨S1x2048x128, .f32⟩
  | .local _ .vmem, ⟨21, _⟩ => ⟨S1x2048x128, .f32⟩
  | .local _ .vmem, ⟨22, _⟩ => ⟨S1x2048x128, .f32⟩
  | .local _ .vmem, ⟨23, _⟩ => ⟨S1x2048x128, .f32⟩
  | .local _ .vmem, ⟨24, _⟩ => ⟨S8x128, .f32⟩
  | .local _ .smem, ⟨0, _⟩ => ⟨S8, .f32⟩
  | .local _ .smem, ⟨1, _⟩ => ⟨S8, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg8_0 : Ref sig .tc := ⟨.smem, 0, rfl⟩
abbrev cc0_stg9_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨3, ![2, 2, 16], ![false, false, false]⟩

def k0_off1 (i : grid0.Coords) (c0_i32_31 : BitVec 32) : Fin 1 → Nat :=
  let arg1 : BitVec 32 := BitVec.ofNat 32 (i 1).val
  let c4_i32 : BitVec 32 := 4#32
  let v51 : BitVec 32 := Scalar.muli arg1 c4_i32
  let v52 : BitVec 32 := Scalar.addi v51 c0_i32_31
  let v55 : Index := Scalar.indexCast v52
  ![v55.toNat]
def k0_cond3 (i : grid0.Coords) : BitVec 1 :=
  let arg2 : BitVec 32 := BitVec.ofNat 32 (i 2).val
  let c0_i32_132 : BitVec 32 := 0#32
  let v327 : BitVec 1 := Scalar.cmpi .sgt arg2 c0_i32_132
  let v328 : BitVec 32 := Scalar.extui v327
  let c0_i32_133 : BitVec 32 := 0#32
  let v329 : BitVec 1 := Scalar.cmpi .ne v328 c0_i32_133
  v329

def k0_mult1 (i : grid0.Coords) : BitVec 32 :=
  let arg2 : BitVec 32 := BitVec.ofNat 32 (i 2).val
  let c1_i32_136 : BitVec 32 := 1#32
  let v333 : BitVec 32 := Scalar.subi arg2 c1_i32_136
  let c128_i32_137 : BitVec 32 := 128#32
  let v334 : BitVec 32 := Scalar.muli v333 c128_i32_137
  v334
def k0_off2 (i : grid0.Coords) : Fin 3 → Nat :=
  let c0_138 : Index := 0#32
  let arg2 : BitVec 32 := BitVec.ofNat 32 (i 2).val
  let c1_i32_136 : BitVec 32 := 1#32
  let v333 : BitVec 32 := Scalar.subi arg2 c1_i32_136
  let c128_i32_137 : BitVec 32 := 128#32
  let v334 : BitVec 32 := Scalar.muli v333 c128_i32_137
  let v335 : BitVec 32 := v334
  let v336 : Index := Scalar.indexCast v335
  let c0_139 : Index := 0#32
  ![0, v336.toNat, 0]
def k0_cond2 (i : grid0.Coords) : BitVec 1 :=
  let arg2 : BitVec 32 := BitVec.ofNat 32 (i 2).val
  let c0_i32_27 : BitVec 32 := 0#32
  let v44 : BitVec 1 := Scalar.cmpi .eq arg2 c0_i32_27
  let v45 : BitVec 32 := Scalar.extui v44
  let c0_i32_28 : BitVec 32 := 0#32
  let v46 : BitVec 1 := Scalar.cmpi .ne v45 c0_i32_28
  v46

def k0_cond4 (i : grid0.Coords) : BitVec 1 :=
  let arg2 : BitVec 32 := BitVec.ofNat 32 (i 2).val
  let c0_i32_134 : BitVec 32 := 0#32
  let v330 : BitVec 1 := Scalar.cmpi .eq arg2 c0_i32_134
  let v331 : BitVec 32 := Scalar.extui v330
  let c0_i32_135 : BitVec 32 := 0#32
  let v332 : BitVec 1 := Scalar.cmpi .ne v331 c0_i32_135
  v332

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  ![arg0.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c10_i32 : BitVec 32 := 10#32
  let v2 : BitVec 32 := Scalar.addi c10_i32 arg1
  let c0_i32_0 : BitVec 32 := 0#32
  ![arg0.toNat, v1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, arg2.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .smem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S1x2048x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== KernelIdeal.lean ====
variable {F : FTy → Type} [FloatOps F] [Named F]
def κ : String → Option EReal := fun
  | "mask" => some ⊥
  | _ => none
-- ==== ReferenceIdeal.lean ====
abbrev S2x2048x1024 : Shape := ⟨3, ![2, 2048, 1024]⟩
abbrev S2x2048x256 : Shape := ⟨3, ![2, 2048, 256]⟩
abbrev S2x2048x4096 : Shape := ⟨3, ![2, 2048, 4096]⟩
abbrev S2x2048 : Shape := ⟨2, ![2, 2048]⟩
abbrev S8 : Shape := ⟨1, ![8]⟩
abbrev S2x16x128x2x4x128 : Shape := ⟨6, ![2, 16, 128, 2, 4, 128]⟩
abbrev S2x16x128x2x128 : Shape := ⟨5, ![2, 16, 128, 2, 128]⟩
abbrev S2x1x128x2x128 : Shape := ⟨5, ![2, 1, 128, 2, 128]⟩
abbrev S_ : Shape := ⟨0, ![]⟩
abbrev S2x15x128x2x128 : Shape := ⟨5, ![2, 15, 128, 2, 128]⟩
abbrev S2x16x256x2x128 : Shape := ⟨5, ![2, 16, 256, 2, 128]⟩
abbrev S2x16x128 : Shape := ⟨3, ![2, 16, 128]⟩
abbrev S2x1x128 : Shape := ⟨3, ![2, 1, 128]⟩
abbrev S2x15x128 : Shape := ⟨3, ![2, 15, 128]⟩
abbrev S2x16x256 : Shape := ⟨3, ![2, 16, 256]⟩
abbrev S2x16x2x256x128x4 : Shape := ⟨6, ![2, 16, 2, 256, 128, 4]⟩
abbrev S2x16x2x4x128x256 : Shape := ⟨6, ![2, 16, 2, 4, 128, 256]⟩
abbrev S2x16x128x1 : Shape := ⟨4, ![2, 16, 128, 1]⟩
abbrev S2x16x1x256 : Shape := ⟨4, ![2, 16, 1, 256]⟩
abbrev S2x16x128x256 : Shape := ⟨4, ![2, 16, 128, 256]⟩
abbrev S2x4 : Shape := ⟨2, ![2, 4]⟩
abbrev S1x1x2x4x1x1 : Shape := ⟨6, ![1, 1, 2, 4, 1, 1]⟩
abbrev S2x16x1x1x128x256 : Shape := ⟨6, ![2, 16, 1, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x16x2x4x128x1 : Shape := ⟨6, ![2, 16, 2, 4, 128, 1]⟩
abbrev S2x16x2x4x128x257 : Shape := ⟨6, ![2, 16, 2, 4, 128, 257]⟩
abbrev S2x16x2x4x128 : Shape := ⟨5, ![2, 16, 2, 4, 128]⟩
abbrev S2x16x2x128x4x128 : Shape := ⟨6, ![2, 16, 2, 128, 4, 128]⟩
abbrev S2x16x2x128x256 : Shape := ⟨5, ![2, 16, 2, 128, 256]⟩
abbrev S2x16x2x256x128 : Shape := ⟨5, ![2, 16, 2, 256, 128]⟩
abbrev S8x1 : Shape := ⟨2, ![8, 1]⟩
abbrev S8x128 : Shape := ⟨2, ![8, 128]⟩

abbrev nBuf : Space → Nat
  | .hbm => 213
  | .vmem => 0
  | .smem => 0
  | _ => 0

abbrev hbmTy0_0 (i : Nat) : BufTy := match i % 128 with
  | 0 => ⟨S2x2048x1024, .bf16⟩
  | 1 => ⟨S2x2048x256, .bf16⟩
  | 2 => ⟨S2x2048x4096, .f32⟩
  | 3 => ⟨S2x2048, .i32⟩
  | 4 => ⟨S8, .f32⟩
  | 5 => ⟨S2x2048x1024, .f32⟩
  | 6 => ⟨S2x2048x1024, .f32⟩
  | 7 => ⟨S2x2048x256, .f32⟩
  | 8 => ⟨S2x2048x256, .f32⟩
  | 9 => ⟨S2x16x128x2x4x128, .f32⟩
  | 10 => ⟨S2x16x128x2x128, .f32⟩
  | 11 => ⟨S2x16x128x2x128, .f32⟩
  | 12 => ⟨S2x1x128x2x128, .f32⟩
  | 13 => ⟨S_, .f32⟩
  | 14 => ⟨S2x1x128x2x128, .f32⟩
  | 15 => ⟨S2x15x128x2x128, .f32⟩
  | 16 => ⟨S2x16x128x2x128, .f32⟩
  | 17 => ⟨S_, .f32⟩
  | 18 => ⟨S2x1x128x2x128, .f32⟩
  | 19 => ⟨S2x16x256x2x128, .f32⟩
  | 20 => ⟨S2x1x128x2x128, .f32⟩
  | 21 => ⟨S_, .f32⟩
  | 22 => ⟨S2x1x128x2x128, .f32⟩
  | 23 => ⟨S2x15x128x2x128, .f32⟩
  | 24 => ⟨S2x16x128x2x128, .f32⟩
  | 25 => ⟨S_, .f32⟩
  | 26 => ⟨S2x1x128x2x128, .f32⟩
  | 27 => ⟨S2x16x256x2x128, .f32⟩
  | 28 => ⟨S2x16x128, .i32⟩
  | 29 => ⟨S2x1x128, .i32⟩
  | 30 => ⟨S_, .i32⟩
  | 31 => ⟨S2x1x128, .i32⟩
  | 32 => ⟨S2x15x128, .i32⟩
  | 33 => ⟨S2x16x128, .i32⟩
  | 34 => ⟨S2x16x256, .i32⟩
  | 35 => ⟨S2x16x2x256x128x4, .f32⟩
  | 36 => ⟨S2x16x2x4x128x256, .f32⟩
  | 37 => ⟨S_, .f32⟩
  | 38 => ⟨S2x16x2x4x128x256, .f32⟩
  | 39 => ⟨S2x16x2x4x128x256, .f32⟩
  | 40 => ⟨S2x16x128x1, .i32⟩
  | 41 => ⟨S2x16x1x256, .i32⟩
  | 42 => ⟨S2x16x128x256, .i32⟩
  | 43 => ⟨S2x16x128x256, .i32⟩
  | 44 => ⟨S2x16x128x256, .i32⟩
  | 45 => ⟨S2x16x128x256, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S8, .f32⟩
  | 60 => ⟨S2x4, .f32⟩
  | 61 => ⟨S1x1x2x4x1x1, .f32⟩
  | 62 => ⟨S2x16x1x1x128x256, .f32⟩
  | 63 => ⟨S2x16x2x4x128x256, .f32⟩
  | 64 => ⟨S2x16x2x4x128x256, .f32⟩
  | 65 => ⟨S2x16x2x4x128x256, .f32⟩
  | 66 => ⟨S2x16x2x4x128x256, .f32⟩
  | 67 => ⟨S128, .i32⟩
  | 68 => ⟨S128x1, .i32⟩
  | 69 => ⟨S_, .i32⟩
  | 70 => ⟨S128x1, .i32⟩
  | 71 => ⟨S128x1, .i32⟩
  | 72 => ⟨S256, .i32⟩
  | 73 => ⟨S1x256, .i32⟩
  | 74 => ⟨S128x256, .i32⟩
  | 75 => ⟨S128x256, .i32⟩
  | 76 => ⟨S128x256, .i32⟩
  | 77 => ⟨S_, .i32⟩
  | 78 => ⟨S128x256, .i32⟩
  | 79 => ⟨S128x256, .i1⟩
  | 80 => ⟨S_, .i32⟩
  | 81 => ⟨S128x256, .i32⟩
  | 82 => ⟨S128x256, .i1⟩
  | 83 => ⟨S128x256, .i1⟩
  | 84 => ⟨S16, .i32⟩
  | 85 => ⟨S16x1x1, .i32⟩
  | 86 => ⟨S_, .i32⟩
  | 87 => ⟨S16x1x1, .i32⟩
  | 88 => ⟨S16x1x1, .i1⟩
  | 89 => ⟨S1x1x256, .i32⟩
  | 90 => ⟨S_, .i32⟩
  | 91 => ⟨S1x1x256, .i32⟩
  | 92 => ⟨S1x1x256, .i1⟩
  | 93 => ⟨S16x1x256, .i1⟩
  | 94 => ⟨S16x1x256, .i1⟩
  | 95 => ⟨S16x1x256, .i1⟩
  | 96 => ⟨S1x128x256, .i1⟩
  | 97 => ⟨S16x128x256, .i1⟩
  | 98 => ⟨S16x128x256, .i1⟩
  | 99 => ⟨S16x128x256, .i1⟩
  | 100 => ⟨S1x16x1x1x128x256, .i1⟩
  | 101 => ⟨S_, .f32⟩
  | 102 => ⟨S_, .f32⟩
  | 103 => ⟨S2x16x2x4x128x256, .i1⟩
  | 104 => ⟨S2x16x2x4x128x256, .f32⟩
  | 105 => ⟨S2x16x2x4x128x256, .f32⟩
  | 106 => ⟨S_, .f32⟩
  | 107 => ⟨S2x16x2x4x128x256, .f32⟩
  | 108 => ⟨S2x4, .f32⟩
  | 109 => ⟨S1x1x2x4x1x1, .f32⟩
  | 110 => ⟨S2x16x2x4x128x1, .f32⟩
  | 111 => ⟨S2x16x2x4x128x257, .f32⟩
  | 112 => ⟨S_, .f32⟩
  | 113 => ⟨S2x16x2x4x128, .f32⟩
  | 114 => ⟨S2x16x2x4x128x1, .f32⟩
  | 115 => ⟨S2x16x2x4x128x257, .f32⟩
  | 116 => ⟨S2x16x2x4x128x257, .i1⟩
  | 117 => ⟨S2x16x2x4x128x257, .f32⟩
  | 118 => ⟨S_, .f32⟩
  | 119 => ⟨S2x16x2x4x128, .f32⟩
  | 120 => ⟨S_, .f32⟩
  | 121 => ⟨S2x16x2x4x128, .f32⟩
  | 122 => ⟨S2x16x2x4x128, .f32⟩
  | 123 => ⟨S_, .f32⟩
  | 124 => ⟨S2x16x2x4x128, .f32⟩
  | 125 => ⟨S2x16x2x4x128, .i1⟩
  | 126 => ⟨S_, .f32⟩
  | 127 => ⟨S2x16x2x4x128, .f32⟩
  | _ => ⟨S2x2048x1024, .bf16⟩

abbrev hbmTy0_1 (i : Nat) : BufTy := match i % 128 with
  | 0 => ⟨S2x16x2x4x128, .i1⟩
  | 1 => ⟨S_, .f32⟩
  | 2 => ⟨S2x16x2x4x128, .f32⟩
  | 3 => ⟨S_, .f32⟩
  | 4 => ⟨S2x16x2x4x128, .f32⟩
  | 5 => ⟨S_, .f32⟩
  | 6 => ⟨S2x16x2x4x128, .f32⟩
  | 7 => ⟨S2x16x2x4x128, .f32⟩
  | 8 => ⟨S2x16x2x4x128, .f32⟩
  | 9 => ⟨S2x16x2x4x128x1, .f32⟩
  | 10 => ⟨S2x16x2x4x128x257, .f32⟩
  | 11 => ⟨S2x16x2x4x128x257, .f32⟩
  | 12 => ⟨S2x16x2x4x128x257, .f32⟩
  | 13 => ⟨S_, .f32⟩
  | 14 => ⟨S2x16x2x4x128, .f32⟩
  | 15 => ⟨S2x16x2x4x128x1, .f32⟩
  | 16 => ⟨S2x16x2x4x128x257, .f32⟩
  | 17 => ⟨S2x16x2x4x128x257, .f32⟩
  | 18 => ⟨S2x16x2x4x128x1, .f32⟩
  | 19 => ⟨S_, .f32⟩
  | 20 => ⟨S2x16x2x4x128x1, .f32⟩
  | 21 => ⟨S2x16x2x4x128x1, .f32⟩
  | 22 => ⟨S2x16x2x4x128x256, .f32⟩
  | 23 => ⟨S2x16x2x128x4x128, .f32⟩
  | 24 => ⟨S2x16x128x2x4x128, .f32⟩
  | 25 => ⟨S2x2048x1024, .f32⟩
  | 26 => ⟨S2x16x128x2x4x128, .f32⟩
  | 27 => ⟨S2x16x2x128x4x128, .f32⟩
  | 28 => ⟨S2x16x2x4x128x256, .f32⟩
  | 29 => ⟨S2x16x2x128x256, .f32⟩
  | 30 => ⟨S2x16x256x2x128, .f32⟩
  | 31 => ⟨S_, .f32⟩
  | 32 => ⟨S2x16x2x4x128x257, .f32⟩
  | 33 => ⟨S2x16x2x4x128x257, .f32⟩
  | 34 => ⟨S2x16x2x4x128x257, .f32⟩
  | 35 => ⟨S2x16x2x4x128x257, .f32⟩
  | 36 => ⟨S_, .f32⟩
  | 37 => ⟨S2x16x2x4x128, .f32⟩
  | 38 => ⟨S2x16x2x4x128x1, .f32⟩
  | 39 => ⟨S2x16x2x4x128x1, .f32⟩
  | 40 => ⟨S2x16x2x4x128x257, .f32⟩
  | 41 => ⟨S2x16x2x4x128x257, .f32⟩
  | 42 => ⟨S_, .f32⟩
  | 43 => ⟨S2x16x2x4x128, .f32⟩
  | 44 => ⟨S2x16x2x4x128x257, .f32⟩
  | 45 => ⟨S2x16x2x4x128x257, .f32⟩
  | 46 => ⟨S2x16x2x4x128x257, .f32⟩
  | 47 => ⟨S2x16x2x4x128x256, .f32⟩
  | 48 => ⟨S2x16x2x4x128x1, .f32⟩
  | 49 => ⟨S_, .f32⟩
  | 50 => ⟨S2x4, .f32⟩
  | 51 => ⟨S1x1x2x4x1x1, .f32⟩
  | 52 => ⟨S_, .f32⟩
  | 53 => ⟨S2x4, .f32⟩
  | 54 => ⟨S8, .f32⟩
  | 55 => ⟨S_, .f32⟩
  | 56 => ⟨S2x16x2x4x128x256, .f32⟩
  | 57 => ⟨S2x16x2x4x128x256, .f32⟩
  | 58 => ⟨S_, .f32⟩
  | 59 => ⟨S2x16x2x4x128x256, .f32⟩
  | 60 => ⟨S2x16x2x4x128x256, .f32⟩
  | 61 => ⟨S2x16x2x256x128x4, .f32⟩
  | 62 => ⟨S2x16x2x128x4x128, .f32⟩
  | 63 => ⟨S2x16x128x2x4x128, .f32⟩
  | 64 => ⟨S2x16x2x256x128, .f32⟩
  | 65 => ⟨S2x16x256x2x128, .f32⟩
  | 66 => ⟨S2x16x128x2x128, .f32⟩
  | 67 => ⟨S2x16x128x2x128, .f32⟩
  | 68 => ⟨S2x1x128x2x128, .f32⟩
  | 69 => ⟨S2x15x128x2x128, .f32⟩
  | 70 => ⟨S_, .f32⟩
  | 71 => ⟨S2x16x128x2x128, .f32⟩
  | 72 => ⟨S2x16x128x2x128, .f32⟩
  | 73 => ⟨S2x16x128x2x128, .f32⟩
  | 74 => ⟨S2x16x128x2x128, .f32⟩
  | 75 => ⟨S2x1x128x2x128, .f32⟩
  | 76 => ⟨S2x15x128x2x128, .f32⟩
  | 77 => ⟨S_, .f32⟩
  | 78 => ⟨S2x16x128x2x128, .f32⟩
  | 79 => ⟨S2x16x128x2x128, .f32⟩
  | 80 => ⟨S2x2048x256, .f32⟩
  | 81 => ⟨S2x2048x256, .f32⟩
  | 82 => ⟨S2x2048x1024, .f32⟩
  | 83 => ⟨S8x1, .f32⟩
  | 84 => ⟨S8x128, .f32⟩
  | _ => ⟨S2x2048x1024, .bf16⟩

abbrev hbmTy (i : Nat) : BufTy := match i / 128 with
  | 0 => hbmTy0_0 i
  | 1 => hbmTy0_1 i
  | _ => ⟨S2x2048x1024, .bf16⟩

abbrev bufTy : (tb : Table) → Fin (tcTables nBuf tb) → BufTy
  | .hbm, ⟨i, _⟩ => hbmTy i
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_c_9 : Ref sig .tc := ⟨.hbm, 77, rfl⟩
abbrev main_v60 : Ref sig .tc := ⟨.hbm, 78, rfl⟩
abbrev main_v61 : Ref sig .tc := ⟨.hbm, 79, rfl⟩
abbrev main_c_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_13 : Ref sig .tc := ⟨.hbm, 101, rfl⟩
abbrev main_call0_v0 : Ref sig .tc := ⟨.hbm, 102, rfl⟩
abbrev main_v80_1 : Ref sig .tc := ⟨.hbm, 103, rfl⟩
abbrev main_call0_v2 : Ref sig .tc := ⟨.hbm, 104, rfl⟩
abbrev main_v80_0 : Ref sig .tc := ⟨.hbm, 105, rfl⟩
abbrev main_call0_cst : Ref sig .tc := ⟨.hbm, 106, rfl⟩
abbrev main_v80_2 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_cst_17 : Ref sig .tc := ⟨.hbm, 123, rfl⟩
abbrev main_v93 : Ref sig .tc := ⟨.hbm, 124, rfl⟩
abbrev main_v94 : Ref sig .tc := ⟨.hbm, 125, rfl⟩
abbrev main_cst_18 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_cst_20 : Ref sig .tc := ⟨.hbm, 131, rfl⟩
abbrev main_v98 : Ref sig .tc := ⟨.hbm, 132, rfl⟩
abbrev main_cst_21 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_22 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_23 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_24 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_25 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_26 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_27 : Ref sig .tc := ⟨.hbm, 177, rfl⟩
abbrev main_v137 : Ref sig .tc := ⟨.hbm, 178, rfl⟩
abbrev main_v138 : Ref sig .tc := ⟨.hbm, 179, rfl⟩
abbrev main_cst_28 : Ref sig .tc := ⟨.hbm, 180, rfl⟩
abbrev main_v139 : Ref sig .tc := ⟨.hbm, 181, rfl⟩
abbrev main_v140 : Ref sig .tc := ⟨.hbm, 182, rfl⟩
abbrev main_call1_cst : Ref sig .tc := ⟨.hbm, 183, rfl⟩
abbrev main_call1_v0 : Ref sig .tc := ⟨.hbm, 184, rfl⟩
abbrev main_v141 : Ref sig .tc := ⟨.hbm, 185, rfl⟩
abbrev main_cst_29 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_cst_30 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_31 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩

abbrev nD : Nat := 1
abbrev τ : Topo := Topo.v7x

variable {F : FTy → Type} [FloatOps F]

def κ : String → Option EReal := fun
  | "mask" => some ⊥
  | _ => none
-- ==== Dact.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S1024x1024 : Shape := ⟨2, ![1024, 1024]⟩
abbrev S1x704x1024 : Shape := ⟨3, ![1, 704, 1024]⟩
abbrev S2x1x1024x704 : Shape := ⟨4, ![2, 1, 1024, 704]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S2x4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x1024x704, .bf16⟩
  | .local _ .vmem, ⟨5, _⟩ => ⟨S2x1x1024x704, .bf16⟩
  | .local _ .vmem, ⟨6, _⟩ => ⟨S2x1x1024x704, .bf16⟩
  | .local _ .vmem, ⟨7, _⟩ => ⟨S2x1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DactRefIdeal.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S_ : Shape := ⟨0, ![]⟩
abbrev S4096x4x704 : Shape := ⟨3, ![4096, 4, 704]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S4096x1024, .f32⟩
  | .hbm, ⟨4, _⟩ => ⟨S4x704x1024, .f32⟩
  | .hbm, ⟨5, _⟩ => ⟨S1x4x4096x704, .bf16⟩
  | .hbm, ⟨6, _⟩ => ⟨S4x4096x704, .bf16⟩
  | .hbm, ⟨7, _⟩ => ⟨S4x4096x704, .f32⟩
  | .hbm, ⟨8, _⟩ => ⟨S1x4x4096x704, .bf16⟩
  | .hbm, ⟨9, _⟩ => ⟨S4x4096x704, .bf16⟩
  | .hbm, ⟨10, _⟩ => ⟨S4x4096x704, .f32⟩
  | .hbm, ⟨11, _⟩ => ⟨S4x4096x704, .f32⟩
  | .hbm, ⟨12, _⟩ => ⟨S4x4096x704, .f32⟩
  | .hbm, ⟨13, _⟩ => ⟨S_, .f32⟩
  | .hbm, ⟨14, _⟩ => ⟨S4x4096x704, .f32⟩
  | .hbm, ⟨15, _⟩ => ⟨S4x4096x704, .f32⟩
  | .hbm, ⟨16, _⟩ => ⟨S_, .f32⟩
  | .hbm, ⟨17, _⟩ => ⟨S4x4096x704, .f32⟩
  | .hbm, ⟨18, _⟩ => ⟨S4x4096x704, .f32⟩
  | .hbm, ⟨19, _⟩ => ⟨S_, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4x4096x704, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x4x704, .f32⟩
  | .hbm, ⟨33, _⟩ => ⟨S4x4096x704, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S4x4096x704, .f32⟩
  | .hbm, ⟨38, _⟩ => ⟨S4x4096x704, .f32⟩
  | .hbm, ⟨39, _⟩ => ⟨S4x4096x704, .f32⟩
  | .hbm, ⟨40, _⟩ => ⟨S1x4x4096x704, .f32⟩
  | .hbm, ⟨41, _⟩ => ⟨S1x4x4096x704, .f32⟩
  | .hbm, ⟨42, _⟩ => ⟨S2x4x4096x704, .f32⟩
  | .hbm, ⟨43, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v8_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v8_1 : Ref sig .tc := ⟨.hbm, 22, rfl⟩
abbrev main_v8_0 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_cst_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Dwd.lean ====
abbrev S4x4096x704 : Shape := ⟨3, ![4, 4096, 704]⟩
abbrev S4096x1024 : Shape := ⟨2, ![4096, 1024]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v5 : BitVec 1 := Scalar.cmpi .eq arg1 c1_i32
  let v11 : BitVec 32 := Scalar.extui v5
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwdRefIdeal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4096x1024, .f32⟩
  | .hbm, ⟨3, _⟩ => ⟨S4x4096x704, .f32⟩
  | .hbm, ⟨4, _⟩ => ⟨S_, .f32⟩
  | .hbm, ⟨5, _⟩ => ⟨S4x704x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x4x704, .f32⟩
  | .hbm, ⟨14, _⟩ => ⟨S4x704x1024, .f32⟩
  | .hbm, ⟨15, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Dwgu.lean ====
abbrev S4096x1024 : Shape := ⟨2, ![4096, 1024]⟩
abbrev S2x4x4096x704 : Shape := ⟨4, ![2, 4, 4096, 704]⟩
abbrev S4x2048x704 : Shape := ⟨3, ![4, 2048, 704]⟩
abbrev S2048x1024 : Shape := ⟨2, ![2048, 1024]⟩
abbrev S1x1x2048x704 : Shape := ⟨4, ![1, 1, 2048, 704]⟩
abbrev S1x1024x704 : Shape := ⟨3, ![1, 1024, 704]⟩
abbrev S1024x704 : Shape := ⟨2, ![1024, 704]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4x4096x704, .bf16⟩
  | .hbm, ⟨2, _⟩ => ⟨S4x2048x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1x2048x704, .bf16⟩
  | .local _ .vmem, ⟨3, _⟩ => ⟨S1x1x2048x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v5 : BitVec 1 := Scalar.cmpi .eq arg2 c1_i32
  let v11 : BitVec 32 := Scalar.extui v5
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwguRefIdeal.lean ====
abbrev S4096x1024 : Shape := ⟨2, ![4096, 1024]⟩
abbrev S2x4x4096x704 : Shape := ⟨4, ![2, 4, 4096, 704]⟩
abbrev S_ : Shape := ⟨0, ![]⟩
abbrev S4x1024x704 : Shape := ⟨3, ![4, 1024, 704]⟩
abbrev S4x704x4096 : Shape := ⟨3, ![4, 704, 4096]⟩
abbrev S4x4096x704 : Shape := ⟨3, ![4, 4096, 704]⟩
abbrev S1x4x4096x704 : Shape := ⟨4, ![1, 4, 4096, 704]⟩
abbrev S4x704x1024 : Shape := ⟨3, ![4, 704, 1024]⟩
abbrev S4x2048x704 : Shape := ⟨3, ![4, 2048, 704]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4x4096x704, .bf16⟩
  | .hbm, ⟨2, _⟩ => ⟨S4096x1024, .f32⟩
  | .hbm, ⟨3, _⟩ => ⟨S2x4x4096x704, .f32⟩
  | .hbm, ⟨4, _⟩ => ⟨S_, .f32⟩
  | .hbm, ⟨5, _⟩ => ⟨S4x1024x704, .f32⟩
  | .hbm, ⟨6, _⟩ => ⟨S4x704x4096, .f32⟩
  | .hbm, ⟨7, _⟩ => ⟨S4x4096x704, .f32⟩
  | .hbm, ⟨8, _⟩ => ⟨S4x704x4096, .f32⟩
  | .hbm, ⟨9, _⟩ => ⟨S4x4096x704, .f32⟩
  | .hbm, ⟨10, _⟩ => ⟨S1x4x4096x704, .f32⟩
  | .hbm, ⟨11, _⟩ => ⟨S4x4096x704, .f32⟩
  | .hbm, ⟨12, _⟩ => ⟨S1x4x4096x704, .f32⟩
  | .hbm, ⟨13, _⟩ => ⟨S4x4096x704, .f32⟩
  | .hbm, ⟨14, _⟩ => ⟨S4x704x4096, .f32⟩
  | .hbm, ⟨15, _⟩ => ⟨S4x704x1024, .f32⟩
  | .hbm, ⟨16, _⟩ => ⟨S4x1024x704, .f32⟩
  | .hbm, ⟨17, _⟩ => ⟨S4x704x4096, .f32⟩
  | .hbm, ⟨18, _⟩ => ⟨S4x704x1024, .f32⟩
  | .hbm, ⟨19, _⟩ => ⟨S4x1024x704, .f32⟩
  | .hbm, ⟨20, _⟩ => ⟨S4x2048x704, .f32⟩
  | .hbm, ⟨21, _⟩ => ⟨S4x2048x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Dn.lean ====
abbrev S2x4x4096x704 : Shape := ⟨4, ![2, 4, 4096, 704]⟩
abbrev S4x2048x704 : Shape := ⟨3, ![4, 2048, 704]⟩
abbrev S4096x1024 : Shape := ⟨2, ![4096, 1024]⟩
abbrev S1x4x512x704 : Shape := ⟨4, ![1, 4, 512, 704]⟩
abbrev S4x1024x704 : Shape := ⟨3, ![4, 1024, 704]⟩
abbrev S512x1024 : Shape := ⟨2, ![512, 1024]⟩
abbrev S1x1x512x704 : Shape := ⟨4, ![1, 1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 3
  | .vmem => 7
  | .smem => 0
  | _ => 0

abbrev bufTy : (tb : Table) → Fin (tcTables nBuf tb) → BufTy
  | .hbm, ⟨0, _⟩ => ⟨S2x4x4096x704, .bf16⟩
  | .hbm, ⟨1, _⟩ => ⟨S4x2048x704, .bf16⟩
  | .hbm, ⟨2, _⟩ => ⟨S4096x1024, .f32⟩
  | .local _ .vmem, ⟨0, _⟩ => ⟨S1x4x512x704, .bf16⟩
  | .local _ .vmem, ⟨1, _⟩ => ⟨S1x4x512x704, .bf16⟩
  | .local _ .vmem, ⟨2, _⟩ => ⟨S4x1024x704, .bf16⟩
  | .local _ .vmem, ⟨3, _⟩ => ⟨S4x1024x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v24 : BitVec 1 := Scalar.cmpi .eq arg1 c1_i32
  let v30 : BitVec 32 := Scalar.extui v24
  let c0_i32_29 : BitVec 32 := 0#32
  let v31 : BitVec 1 := Scalar.cmpi .ne v30 c0_i32_29
  v31

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DnRefIdeal.lean ====
abbrev S2x4x4096x704 : Shape := ⟨4, ![2, 4, 4096, 704]⟩
abbrev S4x2048x704 : Shape := ⟨3, ![4, 2048, 704]⟩
abbrev S4x1024x704 : Shape := ⟨3, ![4, 1024, 704]⟩
abbrev S_ : Shape := ⟨0, ![]⟩
abbrev S4096x1024 : Shape := ⟨2, ![4096, 1024]⟩
abbrev S4x704x4096 : Shape := ⟨3, ![4, 704, 4096]⟩
abbrev S4x4096x704 : Shape := ⟨3, ![4, 4096, 704]⟩
abbrev S1x4x4096x704 : Shape := ⟨4, ![1, 4, 4096, 704]⟩

abbrev nBuf : Space → Nat
  | .hbm => 21
  | .vmem => 0
  | .smem => 0
  | _ => 0

abbrev bufTy : (tb : Table) → Fin (tcTables nBuf tb) → BufTy
  | .hbm, ⟨0, _⟩ => ⟨S2x4x4096x704, .bf16⟩
  | .hbm, ⟨1, _⟩ => ⟨S4x2048x704, .bf16⟩
  | .hbm, ⟨2, _⟩ => ⟨S4x2048x704, .f32⟩
  | .hbm, ⟨3, _⟩ => ⟨S2x4x4096x704, .f32⟩
  | .hbm, ⟨4, _⟩ => ⟨S4x1024x704, .f32⟩
  | .hbm, ⟨5, _⟩ => ⟨S4x1024x704, .f32⟩
  | .hbm, ⟨6, _⟩ => ⟨S_, .f32⟩
  | .hbm, ⟨7, _⟩ => ⟨S4096x1024, .f32⟩
  | .hbm, ⟨8, _⟩ => ⟨S4x704x4096, .f32⟩
  | .hbm, ⟨9, _⟩ => ⟨S4x4096x704, .f32⟩
  | .hbm, ⟨10, _⟩ => ⟨S4x704x4096, .f32⟩
  | .hbm, ⟨11, _⟩ => ⟨S4x4096x704, .f32⟩
  | .hbm, ⟨12, _⟩ => ⟨S1x4x4096x704, .f32⟩
  | .hbm, ⟨13, _⟩ => ⟨S4x4096x704, .f32⟩
  | .hbm, ⟨14, _⟩ => ⟨S1x4x4096x704, .f32⟩
  | .hbm, ⟨15, _⟩ => ⟨S4x4096x704, .f32⟩
  | .hbm, ⟨16, _⟩ => ⟨S4x704x4096, .f32⟩
  | .hbm, ⟨17, _⟩ => ⟨S4096x1024, .f32⟩
  | .hbm, ⟨18, _⟩ => ⟨S4x704x4096, .f32⟩
  | .hbm, ⟨19, _⟩ => ⟨S4096x1024, .f32⟩
  | .hbm, ⟨20, _⟩ => ⟨S4096x1024, .f32⟩
  | _, _ => ⟨S2x4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]
-- ==== DIn.lean ====
abbrev S4096x4096 : Shape := ⟨2, ![4096, 4096]⟩
abbrev S1024x4096 : Shape := ⟨2, ![1024, 4096]⟩
abbrev S4096x1024 : Shape := ⟨2, ![4096, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v4 : BitVec 1 := Scalar.cmpi .eq arg2 c1_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DInRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x4096, .f32⟩
  | .hbm, ⟨3, _⟩ => ⟨S1024x4096, .f32⟩
  | .hbm, ⟨4, _⟩ => ⟨S_, .f32⟩
  | .hbm, ⟨5, _⟩ => ⟨S4096x1024, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwIn.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v4 : BitVec 1 := Scalar.cmpi .eq arg2 c3_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x1024 : Shape := ⟨2, ![4096, 1024]⟩
abbrev S4x2048x704 : Shape := ⟨3, ![4, 2048, 704]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S1x1024x704 : Shape := ⟨3, ![1, 1024, 704]⟩
abbrev S2x1x1024x704 : Shape := ⟨4, ![2, 1, 1024, 704]⟩
abbrev S1024x704 : Shape := ⟨2, ![1024, 704]⟩
abbrev S1x1x1024x704 : Shape := ⟨4, ![1, 1, 1024, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x2048x704, .bf16⟩
  | .hbm, ⟨2, _⟩ => ⟨S2x4x4096x704, .bf16⟩
  | .hbm, ⟨3, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x1024x704, .bf16⟩
  | .local _ .vmem, ⟨7, _⟩ => ⟨S2x1x1024x704, .bf16⟩
  | .local _ .vmem, ⟨8, _⟩ => ⟨S1x1024x704, .bf16⟩
  | .local _ .vmem, ⟨9, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpRefIdeal.lean ====
abbrev S4096x1024 : Shape := ⟨2, ![4096, 1024]⟩
abbrev S4x2048x704 : Shape := ⟨3, ![4, 2048, 704]⟩
abbrev S4x1024x704 : Shape := ⟨3, ![4, 1024, 704]⟩
abbrev S4x704x4096 : Shape := ⟨3, ![4, 704, 4096]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x2048x704, .bf16⟩
  | .hbm, ⟨2, _⟩ => ⟨S4096x1024, .f32⟩
  | .hbm, ⟨3, _⟩ => ⟨S4x2048x704, .f32⟩
  | .hbm, ⟨4, _⟩ => ⟨S4x1024x704, .f32⟩
  | .hbm, ⟨5, _⟩ => ⟨S4x704x4096, .f32⟩
  | .hbm, ⟨6, _⟩ => ⟨S4x4096x704, .f32⟩
  | .hbm, ⟨7, _⟩ => ⟨S4x1024x704, .f32⟩
  | .hbm, ⟨8, _⟩ => ⟨S4x704x4096, .f32⟩
  | .hbm, ⟨9, _⟩ => ⟨S4x4096x704, .f32⟩
  | .hbm, ⟨10, _⟩ => ⟨S1x4x4096x704, .f32⟩
  | .hbm, ⟨11, _⟩ => ⟨S1x4x4096x704, .f32⟩
  | .hbm, ⟨12, _⟩ => ⟨S2x4x4096x704, .f32⟩
  | .hbm, ⟨13, _⟩ => ⟨S2x4x4096x704, .bf16⟩
  | .hbm, ⟨14, _⟩ => ⟨S4x4096x704, .f32⟩
  | .hbm, ⟨15, _⟩ => ⟨S4x4096x704, .f32⟩
  | .hbm, ⟨16, _⟩ => ⟨S_, .f32⟩
  | .hbm, ⟨17, _⟩ => ⟨S4x4096x704, .f32⟩
  | .hbm, ⟨18, _⟩ => ⟨S4x4096x704, .f32⟩
  | .hbm, ⟨19, _⟩ => ⟨S_, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .f32⟩
  | .hbm, ⟨24, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Down.lean ====
abbrev S4x4096x704 : Shape := ⟨3, ![4, 4096, 704]⟩
abbrev S4x704x1024 : Shape := ⟨3, ![4, 704, 1024]⟩
abbrev S4096x1024 : Shape := ⟨2, ![4096, 1024]⟩
abbrev S4x512x704 : Shape := ⟨3, ![4, 512, 704]⟩
abbrev S512x1024 : Shape := ⟨2, ![512, 1024]⟩
abbrev S8x128 : Shape := ⟨2, ![8, 128]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S4x4096x704, .f32⟩
  | .hbm, ⟨4, _⟩ => ⟨S4x704x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DOut.lean ====
abbrev S4096x1024 : Shape := ⟨2, ![4096, 1024]⟩
abbrev S4x256x1024 : Shape := ⟨3, ![4, 256, 1024]⟩
abbrev S1024x1024 : Shape := ⟨2, ![1024, 1024]⟩
abbrev S1x256x1024 : Shape := ⟨3, ![1, 256, 1024]⟩
abbrev S1024x256 : Shape := ⟨2, ![1024, 256]⟩
abbrev S8x128 : Shape := ⟨2, ![8, 128]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x256, .f32⟩
  | .local _ .vmem, ⟨5, _⟩ => ⟨S1024x256, .f32⟩
  | .local _ .vmem, ⟨6, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DOutRefIdeal.lean ====
abbrev S4096x1024 : Shape := ⟨2, ![4096, 1024]⟩
abbrev S4x256x1024 : Shape := ⟨3, ![4, 256, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S4x256x1024, .f32⟩
  | .hbm, ⟨4, _⟩ => ⟨S1024x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwOut.lean ====
abbrev S4096x1024 : Shape := ⟨2, ![4096, 1024]⟩
abbrev S4x256x1024 : Shape := ⟨3, ![4, 256, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v4 : BitVec 1 := Scalar.cmpi .eq arg1 c1_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwOutRefIdeal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DBranch.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DBranchRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwBranch.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v4 : BitVec 1 := Scalar.cmpi .eq arg2 c3_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwBranchRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DNorm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DNormRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== DGate.lean ====
abbrev S4096x4096 : Shape := ⟨2, ![4096, 4096]⟩
abbrev S4096x1024 : Shape := ⟨2, ![4096, 1024]⟩
abbrev S256x1024 : Shape := ⟨2, ![256, 1024]⟩

abbrev nBuf : Space → Nat
  | .hbm => 8
  | .vmem => 18
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DGateRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Gate.lean ====
abbrev S4096x4096 : Shape := ⟨2, ![4096, 4096]⟩
abbrev S4096x1024 : Shape := ⟨2, ![4096, 1024]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Out.lean ====
abbrev S4096x1024 : Shape := ⟨2, ![4096, 1024]⟩
abbrev S4x256x1024 : Shape := ⟨3, ![4, 256, 1024]⟩
abbrev S1024x1024 : Shape := ⟨2, ![1024, 1024]⟩
abbrev S8x128 : Shape := ⟨2, ![8, 128]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S4096x1024 : Shape := ⟨2, ![4096, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x256x1024, .bf16⟩
  | .hbm, ⟨2, _⟩ => ⟨S4096x1024, .f32⟩
  | .hbm, ⟨3, _⟩ => ⟨S4096x1024, .f32⟩
  | .hbm, ⟨4, _⟩ => ⟨S4x256x1024, .f32⟩
  | .hbm, ⟨5, _⟩ => ⟨S1024x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Branch.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Uq.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Uk.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkRefIdeal.lean ====
abbrev S4096x128 : Shape := ⟨2, ![4096, 128]⟩
abbrev S128x1024 : Shape := ⟨2, ![128, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x128, .f32⟩
  | .hbm, ⟨3, _⟩ => ⟨S128x1024, .f32⟩
  | .hbm, ⟨4, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Uv.lean ====
abbrev S4096x128 : Shape := ⟨2, ![4096, 128]⟩
abbrev S128x1024 : Shape := ⟨2, ![128, 1024]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UvRefIdeal.lean ====
abbrev S4096x128 : Shape := ⟨2, ![4096, 128]⟩
abbrev S128x1024 : Shape := ⟨2, ![128, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x1024, .bf16⟩
  | .hbm, ⟨2, _⟩ => ⟨S4096x128, .f32⟩
  | .hbm, ⟨3, _⟩ => ⟨S128x1024, .f32⟩
  | .hbm, ⟨4, _⟩ => ⟨S4096x1024, .f32⟩
  | .hbm, ⟨5, _⟩ => ⟨S4096x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== DUq.lean ====
abbrev S4096x1024 : Shape := ⟨2, ![4096, 1024]⟩
abbrev S256x1024 : Shape := ⟨2, ![256, 1024]⟩
abbrev S4096x256 : Shape := ⟨2, ![4096, 256]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUqRefIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x1024, .f32⟩
  | .hbm, ⟨3, _⟩ => ⟨S256x1024, .f32⟩
  | .hbm, ⟨4, _⟩ => ⟨S_, .f32⟩
  | .hbm, ⟨5, _⟩ => ⟨S4096x256, .f32⟩
  | .hbm, ⟨6, _⟩ => ⟨S4096x1024, .f32⟩
  | .hbm, ⟨7, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DUk.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DUkRefIdeal.lean ====
abbrev S4096x1024 : Shape := ⟨2, ![4096, 1024]⟩
abbrev S128x1024 : Shape := ⟨2, ![128, 1024]⟩
abbrev S_ : Shape := ⟨0, ![]⟩
abbrev S4096x128 : Shape := ⟨2, ![4096, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x1024, .f32⟩
  | .hbm, ⟨3, _⟩ => ⟨S128x1024, .f32⟩
  | .hbm, ⟨4, _⟩ => ⟨S_, .f32⟩
  | .hbm, ⟨5, _⟩ => ⟨S4096x128, .f32⟩
  | .hbm, ⟨6, _⟩ => ⟨S4096x1024, .f32⟩
  | .hbm, ⟨7, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DUv.lean ====
abbrev S4096x1024 : Shape := ⟨2, ![4096, 1024]⟩
abbrev S128x1024 : Shape := ⟨2, ![128, 1024]⟩
abbrev S4096x128 : Shape := ⟨2, ![4096, 128]⟩
abbrev S1024x1024 : Shape := ⟨2, ![1024, 1024]⟩
abbrev S1024x128 : Shape := ⟨2, ![1024, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .hbm, ⟨3, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DUvRefIdeal.lean ====
abbrev S4096x1024 : Shape := ⟨2, ![4096, 1024]⟩
abbrev S128x1024 : Shape := ⟨2, ![128, 1024]⟩
abbrev S4096x128 : Shape := ⟨2, ![4096, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S128x1024, .bf16⟩
  | .hbm, ⟨2, _⟩ => ⟨S4096x128, .f32⟩
  | .hbm, ⟨3, _⟩ => ⟨S4096x1024, .f32⟩
  | .hbm, ⟨4, _⟩ => ⟨S128x1024, .f32⟩
  | .hbm, ⟨5, _⟩ => ⟨S_, .f32⟩
  | .hbm, ⟨6, _⟩ => ⟨S4096x128, .f32⟩
  | .hbm, ⟨7, _⟩ => ⟨S4096x1024, .f32⟩
  | .hbm, ⟨8, _⟩ => ⟨S4096x128, .f32⟩
  | .hbm, ⟨9, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== DwUq.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v4 : BitVec 1 := Scalar.cmpi .eq arg2 c3_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUqRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S4096x1024, .f32⟩
  | .hbm, ⟨4, _⟩ => ⟨S_, .f32⟩
  | .hbm, ⟨5, _⟩ => ⟨S256x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwUk.lean ====
abbrev S4096x128 : Shape := ⟨2, ![4096, 128]⟩
abbrev S4096x1024 : Shape := ⟨2, ![4096, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S128x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .bf16⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v4 : BitVec 1 := Scalar.cmpi .eq arg2 c3_i32
  let v10 : BitVec 32 := Scalar.extui v4
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwUkRefIdeal.lean ====
abbrev S4096x128 : Shape := ⟨2, ![4096, 128]⟩
abbrev S4096x1024 : Shape := ⟨2, ![4096, 1024]⟩
abbrev S_ : Shape := ⟨0, ![]⟩
abbrev S128x1024 : Shape := ⟨2, ![128, 1024]⟩
abbrev S1024x128 : Shape := ⟨2, ![1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x128, .f32⟩
  | .hbm, ⟨3, _⟩ => ⟨S4096x1024, .f32⟩
  | .hbm, ⟨4, _⟩ => ⟨S_, .f32⟩
  | .hbm, ⟨5, _⟩ => ⟨S128x1024, .f32⟩
  | .hbm, ⟨6, _⟩ => ⟨S4096x1024, .f32⟩
  | .hbm, ⟨7, _⟩ => ⟨S1024x128, .f32⟩
  | .hbm, ⟨8, _⟩ => ⟨S128x1024, .f32⟩
  | .hbm, ⟨9, _⟩ => ⟨S128x1024, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Finite.lean ====
/- Finite extended reals: what a test `|x| < ∞` says, and the operations that keep it. -/
module

public import Idealize.ShloMosaic.Lib.StableHlo
public import Idealize.ShloMosaic.PureOps
public import Idealize.ShloMosaic.Lib.Pointwise

@[expose] public section

noncomputable section

namespace Cert.Finite

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (h : ∀ k, IsReal (f k)) : IsReal (∑ k, f k) := by
  induction n with
  | zero => exact ⟨0, by simp⟩
  | succ n ih =>
    obtain ⟨a, ha⟩ := h 0
    obtain ⟨b, hb⟩ := ih fun k => h k.succ
    exact ⟨a + b, by rw [Fin.sum_univ_succ, ha, hb, EReal.coe_add]⟩

/-- The word of infinity. -/
theorem inf_word : Ideal.ofBits .f32 0x7F800000#32 = ⊤ := by
  simp [Ideal.ofBits, Ideal.ieee]

/-- A magnitude below infinity is a real number's. -/
theorem isReal_of_abs {x : EReal} (h : Ideal.cmp .olt (max x (-x)) ⊤ = 1#1) : IsReal x := by
  have h' := (Ideal.cmp_olt_eq_one _ _).1 h
  induction x with
  | bot => simp at h'
  | top => simp at h'
  | coe r => exact ⟨r, rfl⟩

/-- The test on a 16-bit array. -/
theorem of_test_bf16 {s s0 : Shape} {mp} (x : FVec Ideal s .bf16) (he) (hb : s0.BroadcastsInDim s mp) (j : s.Idx)
    (h : cmpf .olt (Host.absf (extf .f32 x he)) (broadcastInDim s mp hb (constant s0 .f32 0x7F800000#32)) j = 1#1) : IsReal (x j) := by
  apply isReal_of_abs
  rw [← inf_word]
  exact h

/-- The test on a 32-bit array. -/
theorem of_test_f32 {s s0 : Shape} {mp} (x : FVec Ideal s .f32) (hb : s0.BroadcastsInDim s mp) (j : s.Idx)
    (h : cmpf .olt (Host.absf x) (broadcastInDim s mp hb (constant s0 .f32 0x7F800000#32)) j = 1#1) : IsReal (x j) := by
  apply isReal_of_abs
  rw [← inf_word]
  exact h

/-- A nonnegative finite factor leaves a sum of extended reals. -/
theorem mul_sum_of_nonneg {n : ℕ} (x : EReal) (h0 : 0 ≤ x) (h1 : x ≠ ⊤) (f : Fin n → EReal) : x * ∑ k, f k = ∑ k, x * f k := by
  induction n with
  | zero => simp
  | succ n ih => rw [Fin.sum_univ_succ, Fin.sum_univ_succ, EReal.left_distrib_of_nonneg_of_ne_top h0 h1, ih]

/-- The printed word is one half. -/
theorem half : Ideal.ofBits .f32 0x3F000000#32 = (((1 : ℝ) / 2 : ℝ) : EReal) := by
  simp [Ideal.ofBits, Ideal.ieee, -EReal.coe_mul]; norm_num

/-- A sum as its four quarters. -/
theorem sum_quarters (n : ℕ) {N : ℕ} (h : N = n + n + (n + n)) (f : Fin N → EReal) :
    ∑ k, f k = (∑ k : Fin n, f ⟨k.val, by omega⟩) + (∑ k : Fin n, f ⟨n + k.val, by omega⟩)
      + (∑ k : Fin n, f ⟨n + n + k.val, by omega⟩) + ∑ k : Fin n, f ⟨n + n + n + k.val, by omega⟩ := by
  subst h
  rw [Fin.sum_univ_two_halves (n + n) (n + n) rfl, Fin.sum_univ_two_halves n n rfl, Fin.sum_univ_two_halves n n rfl, ← add_assoc]
  refine congrArg₂ (· + ·) (congrArg₂ (· + ·) rfl (Finset.sum_congr rfl fun k _ => congrArg f (Fin.ext ?_))) (Finset.sum_congr rfl fun k _ => congrArg f (Fin.ext ?_))
  · rfl
  · exact (Nat.add_assoc _ _ _).symm

end Cert.Finite
-- ==== Proof.Ffn.Dact.lean ====
/- The value of `ffn_down_dact`. -/
module

public import proofs.«01_k».proof.Proof.Gen.DactIdeal.Value
public import proofs.«01_k».proof.Proof.Gen.DactRefIdeal.Run
public import proofs.«01_k».proof.Proof.Gen.DactRefIdeal.Read
public import proofs.«01_k».proof.Pre_dact_tame
public import proofs.«01_k».proof.Proof.Finite
public import Idealize.ShloMosaic.Lib.Pointwise

@[expose] public section

set_option maxRecDepth 16384

noncomputable section

namespace Cert.DactIdeal.Sum

open Cert.DactIdeal Cert.DactIdeal.Gen Idealize.ShloMosaic Idealize.ShloMosaic.TcCoe Idealize.SL.Sem
open Idealize.ShloMosaic.Pipeline (Dat)

open Cert.Finite

/-- One half of the incoming gradient through the down weights. -/
def dx (x0 : S4096x1024.Idx → EReal) (x1 : S4x704x1024.Idx → EReal) (i : S2x4x4096x704.Idx) : EReal :=
  (∑ k : Fin 1024, x0 (ix2 (i 2) k) * x1 (ix3 (i 1) (i 3) k)) * Ideal.ofBits .f32 0x3F000000#32

/-- What the kernel writes at an index: the gate half at branch 0, the up half at branch 1. -/
def spec (x0 : S4096x1024.Idx → EReal) (x1 : S4x704x1024.Idx → EReal) (x2 : S2x4x4096x704.Idx → EReal) (i : S2x4x4096x704.Idx) : EReal :=
  if (i 0).val < 1 then
    dx x0 x1 i * x2 (ix4 1 (i 1) (i 2) (i 3)) * (Ideal.logistic (x2 (ix4 0 (i 1) (i 2) (i 3))) * (1 + x2 (ix4 0 (i 1) (i 2) (i 3)) * (1 - Ideal.logistic (x2 (ix4 0 (i 1) (i 2) (i 3))))))
  else dx x0 x1 i * (x2 (ix4 0 (i 1) (i 2) (i 3)) * Ideal.logistic (x2 (ix4 0 (i 1) (i 2) (i 3))))

/-! ## The kernel -/

theorem pay4_apply (x0 : Vec Ideal S1024x1024 .bf16) (x1 : Vec Ideal S1x704x1024 .bf16) (g u : Vec Ideal S1x1x1024x704 .bf16) (j : S1x1x1024x704.Idx) :
    k0_pay4 (F := Ideal) x0 x1 g u j
      = (∑ k : Fin 1024, x0 (ix2 (j 2) k) * x1 (ix3 0 (j 3) k)) * Ideal.ofBits .f32 0x3F000000#32 * u j * (Ideal.logistic (g j) * (1 + g j * (1 - Ideal.logistic (g j)))) := by
  pointwise [k0_pay4, k0_pay3, k0_pay2, k0_pay1]

theorem pay5_apply (x0 : Vec Ideal S1024x1024 .bf16) (x1 : Vec Ideal S1x704x1024 .bf16) (g : Vec Ideal S1x1x1024x704 .bf16) (j : S1x1x1024x704.Idx) :
    k0_pay5 (F := Ideal) x0 x1 g j
      = (∑ k : Fin 1024, x0 (ix2 (j 2) k) * x1 (ix3 0 (j 3) k)) * Ideal.ofBits .f32 0x3F000000#32 * (g j * Ideal.logistic (g j)) := by
  pointwise [k0_pay5, k0_pay3, k0_pay2, k0_pay1]

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point writes, at an index, over the three input blocks. -/
def blockSpec (x0 : S1024x1024.Idx → EReal) (x1 : S1x704x1024.Idx → EReal) (x2 : S2x1x1024x704.Idx → EReal) (y : S2x1x1024x704.Idx) : EReal :=
  if (y 0).val < 1 then
    (∑ k : Fin 1024, x0 (ix2 (y 2) k) * x1 (ix3 0 (y 3) k)) * Ideal.ofBits .f32 0x3F000000#32 * x2 (ix4 1 0 (y 2) (y 3))
      * (Ideal.logistic (x2 (ix4 0 0 (y 2) (y 3))) * (1 + x2 (ix4 0 0 (y 2) (y 3)) * (1 - Ideal.logistic (x2 (ix4 0 0 (y 2) (y 3))))))
  else (∑ k : Fin 1024, x0 (ix2 (y 2) k) * x1 (ix3 0 (y 3) k)) * Ideal.ofBits .f32 0x3F000000#32 * (x2 (ix4 0 0 (y 2) (y 3)) * Ideal.logistic (x2 (ix4 0 0 (y 2) (y 3))))

theorem emb2 (x : S1x1x1024x704.Idx) : r0_2.emb x = (ix4 0 0 (x 2) (x 3) : S2x1x1024x704.Idx) := by
  funext a
  have x0 : (x 0).val < 1 := (x 0).isLt
  have x1 : (x 1).val < 1 := (x 1).isLt
  apply Fin.ext
  match a with
  | ⟨0, _⟩ => show 0 + 1 * (x 0).val = 0; omega
  | ⟨1, _⟩ => show 0 + 1 * (x 1).val = 0; omega
  | ⟨2, _⟩ => show 0 + 1 * (x 2).val = (x 2).val; omega
  | ⟨3, _⟩ => show 0 + 1 * (x 3).val = (x 3).val; omega

theorem emb3 (x : S1x1x1024x704.Idx) : r0_3.emb x = (ix4 1 0 (x 2) (x 3) : S2x1x1024x704.Idx) := by
  funext a
  have x0 : (x 0).val < 1 := (x 0).isLt
  have x1 : (x 1).val < 1 := (x 1).isLt
  apply Fin.ext
  match a with
  | ⟨0, _⟩ => show 1 + 1 * (x 0).val = 1; omega
  | ⟨1, _⟩ => show 0 + 1 * (x 1).val = 0; omega
  | ⟨2, _⟩ => show 0 + 1 * (x 2).val = (x 2).val; omega
  | ⟨3, _⟩ => show 0 + 1 * (x 3).val = (x 3).val; omega

theorem out_eq (x0 : Vec Ideal S1024x1024 .bf16) (x1 : Vec Ideal S1x704x1024 .bf16) (x2 : Vec Ideal S2x1x1024x704 .bf16) (y : S2x1x1024x704.Idx) :
    out0_3 (F := Ideal) x0 x1 x2 y = blockSpec x0 x1 x2 y := by
  unfold out0_3
  refine View.canon_apply_of_pieces (Val := Elt Ideal) (e := .bf16) (blockSpec x0 x1 x2) _ ?_ y (cover0_3 _ _ y)
  have g : ∀ x : S1x1x1024x704.Idx, View.ld x2 r0_2 x = x2 (ix4 0 0 (x 2) (x 3)) := fun x => congrArg x2 (emb2 x)
  have u : ∀ x : S1x1x1024x704.Idx, View.ld x2 r0_3 x = x2 (ix4 1 0 (x 2) (x 3)) := fun x => congrArg x2 (emb3 x)
  intro p hp
  rcases List.mem_cons.1 hp with rfl | hp
  · intro x
    show k0_pay5 (F := Ideal) _ _ _ x = blockSpec x0 x1 x2 (r0_3.emb x)
    rw [emb3, pay5_apply, View.ld_unit_zero (S := S1024x1024) hz2, View.ld_unit_zero (S := S1x704x1024) hz3, g]
    rfl
  · obtain rfl := List.mem_singleton.1 hp
    intro x
    show k0_pay4 (F := Ideal) _ _ _ _ x = blockSpec x0 x1 x2 (r0_2.emb x)
    rw [emb2, pay4_apply, View.ld_unit_zero (S := S1024x1024) hz2, View.ld_unit_zero (S := S1x704x1024) hz3, g, u]
    rfl

/-- Where the blocks lie: the shard is the slow coordinate, the tokens' quarter the fast one. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 4) = 0 ∧ win0_2.index t (1 : Fin 4) = t.val / 4 ∧ win0_2.index t (2 : Fin 4) = t.val % 4 ∧ win0_2.index t (3 : Fin 4) = 0 :=
  (by decide +kernel : ∀ t : Fin grid0.N, _)
theorem idx3 : ∀ t : Fin cfg0.N, win0_3.index t (0 : Fin 4) = 0 ∧ win0_3.index t (1 : Fin 4) = t.val / 4 ∧ win0_3.index t (2 : Fin 4) = t.val % 4 ∧ win0_3.index t (3 : Fin 4) = 0 :=
  (by decide +kernel : ∀ t : Fin grid0.N, _)
theorem flush3 : ∀ t : Fin cfg0.N, (cfg0.win 3).flush t = true :=
  (by decide +kernel : ∀ t : Fin grid0.N, win0_3.flush t = true)

/-- The product of two arrays' entries. -/
def prod {s s' : Shape} (x : s.Idx → EReal) (y : s'.Idx → EReal) (i : s.Idx) (j : s'.Idx) : EReal := x i * y j

section Blocks

variable (m : (ℓ : Loc nD τ sig) → Buf (Elt Ideal) ℓ)

theorem blk0_apply (c : Dev nD) (t : Fin cfg0.N) (y : S1024x1024.Idx) (i : S4096x1024.Idx)
    (h0 : (i 0).val = t.val % 4 * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1x704x1024.Idx) (i : S4x704x1024.Idx)
    (h0 : (i 0).val = t.val / 4) (h1 : (i 1).val = (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  have y0 : (y 0).val < 1 := (y 0).isLt
  match a with
  | ⟨0, _⟩ => show win0_1.index t 0 * 1 + 1 * (y 0).val = (i 0).val; rw [e.1]; omega
  | ⟨1, _⟩ => show win0_1.index t 1 * 704 + 1 * (y 1).val = (i 1).val; rw [e.2.1]; omega
  | ⟨2, _⟩ => show win0_1.index t 2 * 1024 + 1 * (y 2).val = (i 2).val; rw [e.2.2]; omega

theorem blk2_apply (c : Dev nD) (t : Fin cfg0.N) (y : S2x1x1024x704.Idx) (i : S2x4x4096x704.Idx)
    (h0 : (i 0).val = (y 0).val) (h1 : (i 1).val = t.val / 4) (h2 : (i 2).val = t.val % 4 * 1024 + (y 2).val) (h3 : (i 3).val = (y 3).val) :
    iblk m c 2 t y = m ((c : Thread nD τ).loc main_arg2) i := by
  unfold iblk
  rw [View.read_apply]
  show V m c main_arg2 _ = m (c.tc.loc main_arg2) _
  unfold V
  congr 1
  funext a
  apply Fin.ext
  have e := idx2 t
  have y1 : (y 1).val < 1 := (y 1).isLt
  match a with
  | ⟨0, _⟩ => show win0_2.index t 0 * 2 + 1 * (y 0).val = (i 0).val; rw [e.1]; omega
  | ⟨1, _⟩ => show win0_2.index t 1 * 1 + 1 * (y 1).val = (i 1).val; rw [e.2.1]; omega
  | ⟨2, _⟩ => show win0_2.index t 2 * 1024 + 1 * (y 2).val = (i 2).val; rw [e.2.2.1]; omega
  | ⟨3, _⟩ => show win0_2.index t 3 * 704 + 1 * (y 3).val = (i 3).val; rw [e.2.2.2]; omega

/-- The array the kernel leaves. -/
theorem arr_eq (c : Dev nD) :
    (dats m 0 c).arrAt 3 cfg0.N = spec (m ((c : Thread nD τ).loc main_arg0)) (m ((c : Thread nD τ).loc main_arg1)) (m ((c : Thread nD τ).loc main_arg2)) := by
  funext i
  have i0 : (i 0).val < 2 := (i 0).isLt
  have i1 : (i 1).val < 4 := (i 1).isLt
  have i2 : (i 2).val < 4096 := (i 2).isLt
  have i3 : (i 3).val < 704 := (i 3).isLt
  have hN : cfg0.N = 16 := N_0
  obtain ⟨n, hn⟩ : ∃ n, n = (i 1).val * 4 + (i 2).val / 1024 := ⟨_, rfl⟩
  have hlt : n < cfg0.N := by omega
  have e := idx3 ⟨n, hlt⟩
  dsimp only at e
  have h := congrFun (Value.blocks3 m c ⟨n, hlt⟩ (flush3 _)) (ix4 (i 0) 0 ⟨(i 2).val % 1024, by omega⟩ (i 3) : S2x1x1024x704.Idx)
  rw [View.read_apply, Value.flushed3] at h
  have hi : ((cfg0.win 3).blk ⟨n, hlt⟩).view.emb (ix4 (i 0) 0 ⟨(i 2).val % 1024, by omega⟩ (i 3) : S2x1x1024x704.Idx) = i := by
    funext a
    apply Fin.ext
    match a with
    | ⟨0, _⟩ => show win0_3.index ⟨n, hlt⟩ 0 * 2 + 1 * (i 0).val = (i 0).val; rw [e.1]; omega
    | ⟨1, _⟩ => show win0_3.index ⟨n, hlt⟩ 1 * 1 + 1 * 0 = (i 1).val; rw [e.2.1]; omega
    | ⟨2, _⟩ => show win0_3.index ⟨n, hlt⟩ 2 * 1024 + 1 * ((i 2).val % 1024) = (i 2).val; rw [e.2.2.1]; omega
    | ⟨3, _⟩ => show win0_3.index ⟨n, hlt⟩ 3 * 704 + 1 * (i 3).val = (i 3).val; rw [e.2.2.2]; omega
  rw [hi] at h
  refine h.trans ?_
  show out0_3 (F := Ideal) _ _ _ (ix4 (i 0) 0 ⟨(i 2).val % 1024, by omega⟩ (i 3)) = _
  rw [out_eq]
  unfold blockSpec spec dx
  have s : (∑ k : Fin 1024, prod (iblk m c 0 ⟨n, hlt⟩) (iblk m c 1 ⟨n, hlt⟩) (ix2 ⟨(i 2).val % 1024, by omega⟩ k) (ix3 0 (i 3) k))
      = ∑ k : Fin 1024, prod (m ((c : Thread nD τ).loc main_arg0)) (m ((c : Thread nD τ).loc main_arg1)) (ix2 (i 2) k) (ix3 (i 1) (i 3) k) := by
    refine Finset.sum_congr rfl fun k _ => ?_
    unfold prod
    congr 1
    · refine blk0_apply m c _ _ _ ?_ rfl
      show (i 2).val = n % 4 * 1024 + (i 2).val % 1024; omega
    · refine blk1_apply m c _ _ _ ?_ rfl rfl
      show (i 1).val = n / 4; omega
  have b : ∀ a : Fin 2, iblk m c 2 ⟨n, hlt⟩ (ix4 a 0 ⟨(i 2).val % 1024, by omega⟩ (i 3)) = m ((c : Thread nD τ).loc main_arg2) (ix4 a (i 1) (i 2) (i 3)) := by
    intro a
    refine blk2_apply m c _ _ _ rfl ?_ ?_ rfl
    · show (i 1).val = n / 4; omega
    · show (i 2).val = n % 4 * 1024 + (i 2).val % 1024; omega
  unfold prod at s
  dsimp only [ix4]
  rw [b 0, b 1, s]
  rfl

end Blocks

/-! ## The reference -/

/-- The reference's own form of the same: the product rule of `g * logistic g` with its two terms apart. -/
def refSpec (x0 : S4096x1024.Idx → EReal) (x1 : S4x704x1024.Idx → EReal) (x2 : S2x4x4096x704.Idx → EReal) (i : S2x4x4096x704.Idx) : EReal :=
  let g := x2 (ix4 0 (i 1) (i 2) (i 3))
  let X := ∑ k : Fin 1024, Ideal.ofBits .f32 0x3F000000#32 * x0 (ix2 (i 2) k) * x1 (ix3 (i 1) (i 3) k)
  let Y := X * x2 (ix4 1 (i 1) (i 2) (i 3))
  if (i 0).val < 1 then Y * Ideal.logistic g + g * Y * (Ideal.logistic g * (1 - Ideal.logistic g)) else g * Ideal.logistic g * X

open Cert.DactRefIdeal.Read in
theorem ref_apply (x0 : (⟨S4096x1024, .bf16⟩ : BufTy).Contents (Elt Ideal)) (x1 : (⟨S4x704x1024, .bf16⟩ : BufTy).Contents (Elt Ideal)) (x2 : (⟨S2x4x4096x704, .bf16⟩ : BufTy).Contents (Elt Ideal)) (i : S2x4x4096x704.Idx) :
    val_main_v23 (F := Ideal) x0 x1 x2 i = refSpec x0 x1 x2 i := by
  unfold val_main_v23 val_main_v22 val_main_v21 val_main_v20 refSpec Ideal.logistic
  pointwise [val_main_v19, val_main_v17, val_main_v18, val_main_call1_v0, val_main_call1_v1, val_main_call1_v2, val_main_v8_0, val_main_v8_1, val_main_v8_2, val_main_call0_v7, val_main_call0_v6, val_main_call0_v4, val_main_call0_v3, val_main_call0_v2, val_main_call0_v1, val_main_call0_v0, val_main_call0_cst, val_main_call0_cst_0, val_main_call0_cst_1, val_main_v7, val_main_v6, val_main_v5, val_main_v4, val_main_v3, val_main_v2, val_main_v1, val_main_v0, val_main_v16, val_main_v15, val_main_v14, val_main_v13, val_main_cst_0]
  split_ifs <;> rfl

/-- The two forms agree where the incoming gradient, the weights and the up half are finite. -/
theorem spec_eq (x0 : S4096x1024.Idx → EReal) (x1 : S4x704x1024.Idx → EReal) (x2 : S2x4x4096x704.Idx → EReal) (i : S2x4x4096x704.Idx)
    (h0 : ∀ j, IsReal (x0 j)) (h1 : ∀ j, IsReal (x1 j)) (hu : IsReal (x2 (ix4 1 (i 1) (i 2) (i 3)))) : spec x0 x1 x2 i = refSpec x0 x1 x2 i := by
  unfold spec refSpec dx
  have hX : (∑ k : Fin 1024, Ideal.ofBits .f32 0x3F000000#32 * x0 (ix2 (i 2) k) * x1 (ix3 (i 1) (i 3) k))
      = (∑ k : Fin 1024, x0 (ix2 (i 2) k) * x1 (ix3 (i 1) (i 3) k)) * Ideal.ofBits .f32 0x3F000000#32 := by
    rw [mul_comm, half, mul_sum_of_nonneg _ (by rw [EReal.coe_nonneg]; norm_num) (EReal.coe_ne_top _)]
    simp only [mul_assoc]
  dsimp only
  rw [hX]
  have hr : IsReal ((∑ k : Fin 1024, x0 (ix2 (i 2) k) * x1 (ix3 (i 1) (i 3) k)) * Ideal.ofBits .f32 0x3F000000#32) :=
    (IsReal.sum fun k => (h0 _).mul (h1 _)).mul ⟨_, half⟩
  obtain ⟨X, hX'⟩ := hr
  obtain ⟨u, hu'⟩ := hu
  rw [hX', hu']
  generalize x2 (ix4 0 (i 1) (i 2) (i 3)) = g
  split
  · induction g with
    | bot => simp
    | top =>
      have h : (1 : EReal) - 1 = 0 := by
        show ((1 : ℝ) : EReal) - ((1 : ℝ) : EReal) = 0
        rw [← EReal.coe_sub, sub_self, EReal.coe_zero]
      simp [h]
    | coe g =>
      rw [Ideal.logistic_coe]
      generalize (1 + Real.exp (-g))⁻¹ = σ
      norm_cast
      ring
  · rw [mul_comm]

theorem arr_eq_ref (m : (ℓ : Loc nD τ sig) → Buf (Elt Ideal) ℓ) (c : Dev nD)
    (h0 : ∀ j : S4096x1024.Idx, IsReal (m ((c : Thread nD τ).loc main_arg0) j)) (h1 : ∀ j : S4x704x1024.Idx, IsReal (m ((c : Thread nD τ).loc main_arg1) j))
    (h2 : ∀ j : Cert.Pre_dact_tame.S4x4096x704.Idx, IsReal (m ((c : Thread nD τ).loc main_arg2) (ix4 1 (j 0) (j 1) (j 2)))) :
    (dats m 0 c).arrAt 3 cfg0.N = Cert.DactRefIdeal.Read.val_main_v23 (F := Ideal) (m ((c : Thread nD τ).loc main_arg0)) (m ((c : Thread nD τ).loc main_arg1)) (m ((c : Thread nD τ).loc main_arg2)) := by
  rw [arr_eq]
  funext i
  rw [ref_apply]
  exact spec_eq _ _ _ _ h0 h1 (h2 (ix3 (i 1) (i 2) (i 3)))

/-- What the precondition says. -/
theorem tame [Cert.Pre_dact_tame.Facts] (x0 : FVec Ideal S4096x1024 .bf16) (x1 : FVec Ideal S4x704x1024 .bf16) (x2 : FVec Ideal S2x4x4096x704 .bf16)
    (h : (Cert.Pre_dact_tame.fn (F := Ideal) x0 x1 x2).1 = (fun _ => 1#1) ∧ (Cert.Pre_dact_tame.fn (F := Ideal) x0 x1 x2).2.1 = (fun _ => 1#1) ∧ (Cert.Pre_dact_tame.fn (F := Ideal) x0 x1 x2).2.2 = (fun _ => 1#1)) :
    (∀ j, IsReal (x0 j)) ∧ (∀ j, IsReal (x1 j)) ∧ ∀ j : Cert.Pre_dact_tame.S4x4096x704.Idx, IsReal (x2 (ix4 1 (j 0) (j 1) (j 2))) := by
  refine ⟨fun j => of_test_bf16 x0 _ _ j (congrFun h.1 j), fun j => of_test_bf16 x1 _ _ j (congrFun h.2.1 j), fun j => ?_⟩
  have h2 := of_test_bf16 _ _ _ j (congrFun h.2.2 j)
  refine Eq.mp (congrArg IsReal ?_) h2
  pointwise

/-- The two programs run side by side: same arguments, same result. -/
theorem algebraic (m : (ℓ : Loc nD τ sig) → Buf (Elt Ideal) ℓ) (g : Dev nD → PrngReg)
    (m' : (ℓ : Loc Cert.DactRefIdeal.nD Cert.DactRefIdeal.τ Cert.DactRefIdeal.sig) → Buf (Elt Ideal) ℓ) (g' : Dev Cert.DactRefIdeal.nD → PrngReg)
    (hag : ∀ c : Dev nD,
      m' ((c.tc : Thread Cert.DactRefIdeal.nD Cert.DactRefIdeal.τ).loc Cert.DactRefIdeal.main_arg0) = m ((c.tc : Thread nD τ).loc main_arg0)
      ∧ m' ((c.tc : Thread Cert.DactRefIdeal.nD Cert.DactRefIdeal.τ).loc Cert.DactRefIdeal.main_arg1) = m ((c.tc : Thread nD τ).loc main_arg1)
      ∧ m' ((c.tc : Thread Cert.DactRefIdeal.nD Cert.DactRefIdeal.τ).loc Cert.DactRefIdeal.main_arg2) = m ((c.tc : Thread nD τ).loc main_arg2))
    (h0 : ∀ (c : Dev nD) (j : S4096x1024.Idx), IsReal (m ((c : Thread nD τ).loc main_arg0) j)) (h1 : ∀ (c : Dev nD) (j : S4x704x1024.Idx), IsReal (m ((c : Thread nD τ).loc main_arg1) j))
    (h2 : ∀ (c : Dev nD) (j : Cert.Pre_dact_tame.S4x4096x704.Idx), IsReal (m ((c : Thread nD τ).loc main_arg2) (ix4 1 (j 0) (j 1) (j 2)))) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v23) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2)) :=
  ⟨fun c => (dats m 0 c).arrAt 3 cfg0.N, Value.run_blocks m g,
    (θ_run _ _ _).mono (fun _ h c => ⟨(h c).1.trans (by
        rw [Cert.DactRefIdeal.Read.val_main_v23_eq, (hag c).1, (hag c).2.1, (hag c).2.2]; exact (arr_eq_ref m c (h0 c) (h1 c) (h2 c)).symm), (h c).2⟩)
      (Cert.DactRefIdeal.Value.run m' g')⟩

end Cert.DactIdeal.Sum
-- ==== Proof.Ffn.Dwd.lean ====
/- The value of `gmm_down_dw`, the gradient of the down-projection's weight: each block of the result is half the sum, over
   the two halves of the tokens, of the products of the hidden layer with the incoming gradient; the reference writes one
   contraction over all 4096 tokens, the factor one half on the incoming gradient. -/
module

public import proofs.«01_k».proof.Proof.Gen.DwdIdeal.Value
public import proofs.«01_k».proof.Proof.Gen.DwdRefIdeal.Run
public import proofs.«01_k».proof.Proof.Gen.DwdRefIdeal.Read
public import proofs.«01_k».proof.Proof.Finite
public import Idealize.ShloMosaic.Lib.Pointwise

@[expose] public section

set_option maxRecDepth 16384

noncomputable section

namespace Cert.DwdIdeal.Sum

open Cert.DwdIdeal Cert.DwdIdeal.Gen Idealize.ShloMosaic Idealize.ShloMosaic.TcCoe Idealize.SL.Sem
open Idealize.ShloMosaic.Pipeline (Dat)
open Cert.Finite (half mul_sum_of_nonneg)

section Blocks

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a first half the scratch ends holding the half's product. -/
theorem sout_A (c : Dev nD) (i : grid0.Coords) (a2 : Memref sig .tc .vmem S1x2048x704 .bf16) (h2 : a2.IsWhole) (a3 : Memref sig .tc .vmem S2048x1024 .bf16) (h3 : a3.IsWhole) (a4 : Memref sig .tc .vmem S1x704x1024 .bf16) (h4 : a4.IsWhole) (a5 : Memref sig .tc .vmem S704x1024 .f32) (h5 : a5.IsWhole) (hc0 : cond0_0 i) (hc1 : ¬cond0_1 i) (hc2 : ¬cond0_2 i)
    (x0 : Vec F S1x2048x704 .bf16) (x1 : Vec F S2048x1024 .bf16) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  simp only [View.readAt_eq_ld, h2.read_unread, h3.read_unread, View.ld_unit_zero (S := S2048x1024) hz2, View.ld_unit_zero (S := S1x2048x704) hz3]

/-- At a second half the block written is the rounded half of what the first half left plus the second half's product. -/
theorem out_B (c : Dev nD) (i : grid0.Coords) (a2 : Memref sig .tc .vmem S1x2048x704 .bf16) (h2 : a2.IsWhole) (a3 : Memref sig .tc .vmem S2048x1024 .bf16) (h3 : a3.IsWhole) (a4 : Memref sig .tc .vmem S1x704x1024 .bf16) (h4 : a4.IsWhole) (a5 : Memref sig .tc .vmem S704x1024 .f32) (h5 : a5.IsWhole) (hc0 : ¬cond0_0 i) (hc1 : cond0_1 i) (hc2 : cond0_2 i)
    (x0 : Vec F S1x2048x704 .bf16) (x1 : Vec F S2048x1024 .bf16) (xs : Vec F S704x1024 .f32) :
    out0_B_2 c i a2 h2 a3 h3 a4 h4 a5 h5 hc0 hc1 hc2 x0 x1 xs = k0_pay4 (k0_pay3 x0 x1 xs) := by
  unfold out0_B_2
  rw [View.read_writes_eq_canon _ _ _ (cover0_B_2 c i a2 h2 a3 h3 a4 h4 a5 h5 hc0 hc1 hc2 x0 x1 xs)]
  unfold kernelRun0_B
  dsimp only
  sl_unfold_words
  rw [View.canon_unit_zero hz3, View.readCov_unit_zero (S := S704x1024) _ hz2]
  simp only [View.readAt_eq_ld, h2.read_unread, h3.read_unread, h5.read_unread, View.ld_unit_zero (S := S2048x1024) hz2, View.ld_unit_zero (S := S1x2048x704) hz3, View.ld_unit_zero (S := S704x1024) hz2]

/-- The block a second half writes back: the two halves' products added, rounded. -/
theorem outs_eq (c : Dev nD) (n : ℕ) (h : n + 1 < cfg0.N) (h' : n < cfg0.N) (he : n % 2 = 0) :
    (outsAt0 m c (n + 1) h).1 = k0_pay4 (k0_pay3 (iblk m c 0 ⟨n + 1, h⟩) (iblk m c 1 ⟨n + 1, h⟩) (k0_pay2 (iblk m c 0 ⟨n, h'⟩) (iblk m c 1 ⟨n, h'⟩))) := by
  rw [outsAt0_B m c ⟨n + 1, h⟩ (by dsimp only; omega) (by dsimp only; omega) (by dsimp only; omega)]
  dsimp only
  rw [out_B]
  congr 2
  show (outsAt0 m c n _).2 = _
  rw [outsAt0_A m c ⟨n, h'⟩ he (by dsimp only; omega) (by dsimp only; omega)]
  dsimp only
  rw [sout_A]

/-- Where the input blocks lie: the tokens' half is the point's parity, the shard the rest. -/
theorem idx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem blk0_apply (c : Dev nD) (t : Fin cfg0.N) (y : S1x2048x704.Idx) (i : S4x4096x704.Idx)
    (h0 : (i 0).val = t.val / 2) (h1 : (i 1).val = t.val % 2 * 2048 + (y 1).val) (h2 : (i 2).val = (y 2).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  have y0 : (y 0).val < 1 := (y 0).isLt
  match a with
  | ⟨0, _⟩ => show win0_0.index t 0 * 1 + 1 * (y 0).val = (i 0).val; rw [e.1]; omega
  | ⟨1, _⟩ => show win0_0.index t 1 * 2048 + 1 * (y 1).val = (i 1).val; rw [e.2.1]; omega
  | ⟨2, _⟩ => show win0_0.index t 2 * 704 + 1 * (y 2).val = (i 2).val; rw [e.2.2]; omega

theorem blk1_apply (c : Dev nD) (t : Fin cfg0.N) (y : S2048x1024.Idx) (i : S4096x1024.Idx)
    (h0 : (i 0).val = t.val % 2 * 2048 + (y 0).val) (h1 : (i 1).val = (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 2048 + 1 * (y 0).val = (i 0).val; rw [e.1]; omega
  | ⟨1, _⟩ => show win0_1.index t 1 * 1024 + 1 * (y 1).val = (i 1).val; rw [e.2]; omega

end Blocks

/-- Half of both halves' products, at an index. -/
theorem pay_apply (xa xb : Vec Ideal S1x2048x704 .bf16) (ya yb : Vec Ideal S2048x1024 .bf16) (j : S1x704x1024.Idx) :
    k0_pay4 (F := Ideal) (k0_pay3 xb yb (k0_pay2 xa ya)) j
      = ((∑ k : Fin 2048, xa (ix3 0 k (j 1)) * ya (ix2 k (j 2))) + ∑ k : Fin 2048, xb (ix3 0 k (j 1)) * yb (ix2 k (j 2))) * Ideal.ofBits .f32 0x3F000000#32 := by
  pointwise [k0_pay4, k0_pay3, k0_pay2, k0_pay1]

/-- The reference at an index: the contraction over all the tokens, the factor one half on the incoming gradient. -/
theorem ref_apply (x0 : (⟨S4x4096x704, .bf16⟩ : BufTy).Contents (Elt Ideal)) (x1 : (⟨S4096x1024, .bf16⟩ : BufTy).Contents (Elt Ideal)) (i : S4x704x1024.Idx) :
    Cert.DwdRefIdeal.Read.val_main_v10 (F := Ideal) x0 x1 i
      = ∑ k : Fin 4096, (Ideal.ofBits .f32 0x3F000000#32 * x1 (ix2 k (i 2))) * x0 (ix3 (i 0) k (i 1)) := by
  rw [← Cert.DwdRefIdeal.Read.val_main_v10_eq]
  pointwise

/-- The kernel's result is the reference's. -/
theorem G2_eq (m : (ℓ : Loc nD τ sig) → Buf (Elt Ideal) ℓ) (c : Dev nD) :
    Value.G2 m c = Cert.DwdRefIdeal.Read.val_main_v10 (F := Ideal) (m ((c : Thread nD τ).loc main_arg0)) (m ((c : Thread nD τ).loc main_arg1)) := by
  funext i
  have i0 : (i 0).val < 4 := (i 0).isLt
  have i1 : (i 1).val < 704 := (i 1).isLt
  have i2 : (i 2).val < 1024 := (i 2).isLt
  have hN : cfg0.N = 8 := N_0
  have hp : Value.pt2Of i < cfg0.N := by rw [hN]; show 2 * (1 * ((i 0).val / 1 - 0) + 1 * ((i 1).val / 704 - 0) + 1 * ((i 2).val / 1024 - 0)) + 1 < 8; omega
  have hr : Value.run2Of i = (i 0).val := by
    show 1 * ((i 0).val / 1 - 0) + 1 * ((i 1).val / 704 - 0) + 1 * ((i 2).val / 1024 - 0) = _; omega
  generalize hn : 2 * Value.run2Of i = n at *
  have hn' : n < cfg0.N := by omega
  unfold Value.G2
  rw [dif_pos hp, ← Value.outsAt0_sweep m c (Value.pt2Of i) hp]
  have e := outs_eq m c n (by omega) hn' (by omega)
  have e' : (outsAt0 m c (Value.pt2Of i) hp).1 = (outsAt0 m c (n + 1) (by omega)).1 := by
    congr 2; show 2 * Value.run2Of i + 1 = n + 1; rw [hn]
  rw [e', e, pay_apply, ref_apply, half]
  simp only [mul_assoc]
  rw [← mul_sum_of_nonneg _ (by rw [EReal.coe_nonneg]; norm_num) (EReal.coe_ne_top _), mul_comm, Fin.sum_univ_two_halves 2048 2048 rfl]
  congr 2
  all_goals
    refine Finset.sum_congr rfl fun k _ => ?_
    have hk := k.isLt
    rw [mul_comm]
    congr 1
    · refine blk1_apply m c _ _ _ ?_ ?_
      · show (_ : ℕ) = _ % 2 * 2048 + k.val; simp only [ix2, ix3]; omega
      · show (i 2).val = (i 2).val % 1024; omega
    · refine blk0_apply m c _ _ _ ?_ ?_ ?_
      · show (i 0).val = _ / 2; dsimp only; omega
      · show (_ : ℕ) = _ % 2 * 2048 + k.val; simp only [ix2, ix3]; omega
      · show (i 1).val = (i 1).val % 704; omega

/-- The two programs run side by side: same arguments, same result. -/
theorem algebraic (m : (ℓ : Loc nD τ sig) → Buf (Elt Ideal) ℓ) (g : Dev nD → PrngReg)
    (m' : (ℓ : Loc Cert.DwdRefIdeal.nD Cert.DwdRefIdeal.τ Cert.DwdRefIdeal.sig) → Buf (Elt Ideal) ℓ) (g' : Dev Cert.DwdRefIdeal.nD → PrngReg)
    (hag : ∀ c : Dev nD,
      m' ((c.tc : Thread Cert.DwdRefIdeal.nD Cert.DwdRefIdeal.τ).loc Cert.DwdRefIdeal.main_arg0) = m ((c.tc : Thread nD τ).loc main_arg0)
      ∧ m' ((c.tc : Thread Cert.DwdRefIdeal.nD Cert.DwdRefIdeal.τ).loc Cert.DwdRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DwdRefIdeal.defs (F := Ideal)) (onTc (τ := Cert.DwdRefIdeal.τ) (Cert.DwdRefIdeal.main (F := Ideal))) ⟨m', fun _ => 0, g'⟩ (fun r => ∀ c : Dev Cert.DwdRefIdeal.nD,
          r.2.mem ((c.tc : Thread Cert.DwdRefIdeal.nD Cert.DwdRefIdeal.τ).loc Cert.DwdRefIdeal.main_v10) = v0 c
          ∧ r.2.mem ((c.tc : Thread Cert.DwdRefIdeal.nD Cert.DwdRefIdeal.τ).loc Cert.DwdRefIdeal.main_arg0) = m' ((c.tc : Thread Cert.DwdRefIdeal.nD Cert.DwdRefIdeal.τ).loc Cert.DwdRefIdeal.main_arg0)
          ∧ r.2.mem ((c.tc : Thread Cert.DwdRefIdeal.nD Cert.DwdRefIdeal.τ).loc Cert.DwdRefIdeal.main_arg1) = m' ((c.tc : Thread Cert.DwdRefIdeal.nD Cert.DwdRefIdeal.τ).loc Cert.DwdRefIdeal.main_arg1)) :=
  ⟨fun c => Value.G2 m c, Value.run m g,
    (θ_run _ _ _).mono (fun _ h c => ⟨(h c).1.trans (by
        rw [Cert.DwdRefIdeal.Read.val_main_v10_eq, (hag c).1, (hag c).2]; exact (G2_eq m c).symm), (h c).2⟩)
      (Cert.DwdRefIdeal.Value.run m' g')⟩

end Cert.DwdIdeal.Sum

end
-- ==== Proof.Ffn.Dwgu.lean ====
/- The value of `gmm_up_dw`, the gradient of the two up-projection weights: each block of the result is the sum, over the
   two halves of the tokens, of the products of the layer's input with the gradients of the gate and of the up branch;
   together they are the contraction over all 4096 tokens which the reference writes. -/
module

public import proofs.«01_k».proof.Proof.Gen.DwguIdeal.Value
public import proofs.«01_k».proof.Proof.Gen.DwguRefIdeal.Run
public import proofs.«01_k».proof.Proof.Gen.DwguRefIdeal.Read
public import Idealize.ShloMosaic.Lib.Pointwise

@[expose] public section

set_option maxRecDepth 16384

noncomputable section

namespace Cert.DwguIdeal.Sum

open Cert.DwguIdeal Cert.DwguIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At a first half the scratch ends holding the half's product. -/
theorem sout_A (c : Dev nD) (i : grid0.Coords) (a3 : Memref sig .tc .vmem S2048x1024 .bf16) (h3 : a3.IsWhole) (a4 : Memref sig .tc .vmem S1x1x2048x704 .bf16) (h4 : a4.IsWhole) (a5 : Memref sig .tc .vmem S1x1024x704 .bf16) (h5 : a5.IsWhole) (a6 : Memref sig .tc .vmem S1024x704 .f32) (h6 : a6.IsWhole) (hc0 : cond0_0 i) (hc1 : ¬cond0_1 i) (hc2 : ¬cond0_2 i)
    (x0 : Vec F S2048x1024 .bf16) (x1 : Vec F S1x1x2048x704 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S2048x1024) hz2, View.ld_unit_zero (S := S1x1x2048x704) hz4]

/-- At a second half the block written is the rounding of what the first half left plus the second half's product. -/
theorem out_B (c : Dev nD) (i : grid0.Coords) (a3 : Memref sig .tc .vmem S2048x1024 .bf16) (h3 : a3.IsWhole) (a4 : Memref sig .tc .vmem S1x1x2048x704 .bf16) (h4 : a4.IsWhole) (a5 : Memref sig .tc .vmem S1x1024x704 .bf16) (h5 : a5.IsWhole) (a6 : Memref sig .tc .vmem S1024x704 .f32) (h6 : a6.IsWhole) (hc0 : ¬cond0_0 i) (hc1 : cond0_1 i) (hc2 : cond0_2 i)
    (x0 : Vec F S2048x1024 .bf16) (x1 : Vec F S1x1x2048x704 .bf16) (xs : Vec F S1024x704 .f32) :
    out0_B_2 c i a3 h3 a4 h4 a5 h5 a6 h6 hc0 hc1 hc2 x0 x1 xs = k0_pay4 (k0_pay3 x0 x1 xs) := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz3, View.readCov_unit_zero (S := S1024x704) _ hz2]
  simp only [View.readAt_eq_ld, h3.read_unread, h4.read_unread, h6.read_unread, View.ld_unit_zero (S := S2048x1024) hz2, View.ld_unit_zero (S := S1x1x2048x704) hz4, View.ld_unit_zero (S := S1024x704) hz2]

/-- The block a second half writes back: the two halves' products added, rounded. -/
theorem outs_eq (c : Dev nD) (n : ℕ) (h : n + 1 < cfg0.N) (h' : n < cfg0.N) (he : n % 2 = 0) :
    (outsAt0 m c (n + 1) h).1 = k0_pay4 (k0_pay3 (iblk m c 0 ⟨n + 1, h⟩) (iblk m c 1 ⟨n + 1, h⟩) (k0_pay2 (iblk m c 0 ⟨n, h'⟩) (iblk m c 1 ⟨n, h'⟩))) := by
  rw [outsAt0_B m c ⟨n + 1, h⟩ (by dsimp only; omega) (by dsimp only; omega) (by dsimp only; omega)]
  dsimp only
  rw [out_B]
  congr 2
  show (outsAt0 m c n _).2 = _
  rw [outsAt0_A m c ⟨n, h'⟩ he (by dsimp only; omega) (by dsimp only; omega)]
  dsimp only
  rw [sout_A]

/-- Where the input blocks lie: the tokens' half is the point's parity, the shard and the branch follow from the rest. -/
theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 4) = t.val / 8 ∧ win0_1.index t (1 : Fin 4) = t.val / 2 % 4
    ∧ win0_1.index t (2 : Fin 4) = t.val % 2 ∧ win0_1.index t (3 : Fin 4) = 0 :=
  (by decide +kernel : ∀ t : Fin grid0.N, _)

theorem blk0_apply (c : Dev nD) (t : Fin cfg0.N) (y : S2048x1024.Idx) (i : S4096x1024.Idx)
    (h0 : (i 0).val = t.val % 2 * 2048 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 2048 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1x1x2048x704.Idx) (i : S2x4x4096x704.Idx)
    (h0 : (i 0).val = t.val / 8) (h1 : (i 1).val = t.val / 2 % 4) (h2 : (i 2).val = t.val % 2 * 2048 + (y 2).val) (h3 : (i 3).val = (y 3).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  have y0 : (y 0).val < 1 := (y 0).isLt
  have y1 : (y 1).val < 1 := (y 1).isLt
  match a with
  | ⟨0, _⟩ => show win0_1.index t 0 * 1 + 1 * (y 0).val = (i 0).val; rw [e.1]; omega
  | ⟨1, _⟩ => show win0_1.index t 1 * 1 + 1 * (y 1).val = (i 1).val; rw [e.2.1]; omega
  | ⟨2, _⟩ => show win0_1.index t 2 * 2048 + 1 * (y 2).val = (i 2).val; rw [e.2.2.1]; omega
  | ⟨3, _⟩ => show win0_1.index t 3 * 704 + 1 * (y 3).val = (i 3).val; rw [e.2.2.2]; omega

end Blocks

/-- A half's product and the sum of both, at an index. -/
theorem pay_apply (xa xb : Vec Ideal S2048x1024 .bf16) (ya yb : Vec Ideal S1x1x2048x704 .bf16) (j : S1x1024x704.Idx) :
    k0_pay4 (F := Ideal) (k0_pay3 xb yb (k0_pay2 xa ya)) j
      = (∑ k : Fin 2048, xa (ix2 k (j 1)) * ya (ix4 0 0 k (j 2))) + ∑ k : Fin 2048, xb (ix2 k (j 1)) * yb (ix4 0 0 k (j 2)) := by
  pointwise [k0_pay4, k0_pay3, k0_pay2, k0_pay1]

/-- The reference at an index: the contraction over all the tokens with the gate's gradients in the first 1024 rows and
    the up branch's in the others. -/
theorem ref_apply (x0 : (⟨S4096x1024, .bf16⟩ : BufTy).Contents (Elt Ideal)) (x1 : (⟨S2x4x4096x704, .bf16⟩ : BufTy).Contents (Elt Ideal)) (i : S4x2048x704.Idx) :
    Cert.DwguRefIdeal.Read.val_main_v18 (F := Ideal) x0 x1 i
      = if h : (i 1).val < 1024 then ∑ k : Fin 4096, x1 (ix4 0 (i 0) k (i 2)) * x0 (ix2 k ⟨(i 1).val, h⟩)
        else ∑ k : Fin 4096, x1 (ix4 1 (i 0) k (i 2)) * x0 (ix2 k ⟨(i 1).val - 1024, by have h1 : (i 1).val < 2048 := (i 1).isLt; omega⟩) := by
  rw [← Cert.DwguRefIdeal.Read.val_main_v18_eq]
  pointwise

/-- The kernel's result is the reference's. -/
theorem G2_eq (m : (ℓ : Loc nD τ sig) → Buf (Elt Ideal) ℓ) (c : Dev nD) :
    Value.G2 m c = Cert.DwguRefIdeal.Read.val_main_v18 (F := Ideal) (m ((c : Thread nD τ).loc main_arg0)) (m ((c : Thread nD τ).loc main_arg1)) := by
  funext i
  have i0 : (i 0).val < 4 := (i 0).isLt
  have i1 : (i 1).val < 2048 := (i 1).isLt
  have i2 : (i 2).val < 704 := (i 2).isLt
  have hN : cfg0.N = 16 := N_0
  have hp : Value.pt2Of i < cfg0.N := by rw [hN]; show 2 * (1 * ((i 0).val / 1 - 0) + 4 * ((i 1).val / 1024 - 0) + 8 * ((i 2).val / 704 - 0)) + 1 < 16; omega
  have hr : Value.run2Of i = (i 0).val + 4 * ((i 1).val / 1024) := by
    show 1 * ((i 0).val / 1 - 0) + 4 * ((i 1).val / 1024 - 0) + 8 * ((i 2).val / 704 - 0) = _; omega
  generalize hn : 2 * Value.run2Of i = n at *
  have hn' : n < cfg0.N := by omega
  unfold Value.G2
  rw [dif_pos hp, ← Value.outsAt0_sweep m c (Value.pt2Of i) hp]
  have e := outs_eq m c n (by omega) hn' (by omega)
  have e' : (outsAt0 m c (Value.pt2Of i) hp).1 = (outsAt0 m c (n + 1) (by omega)).1 := by
    congr 2; show 2 * Value.run2Of i + 1 = n + 1; rw [hn]
  rw [e', e, pay_apply, ref_apply]
  by_cases h : (i 1).val < 1024
  · rw [dif_pos h, Fin.sum_univ_two_halves 2048 2048 rfl]
    congr 1
    all_goals
      refine Finset.sum_congr rfl fun k _ => ?_
      have hk := k.isLt
      rw [mul_comm]
      congr 1
      · refine blk1_apply m c _ _ _ ?_ ?_ ?_ ?_
        · show 0 = _ / 8; dsimp only; omega
        · show (i 0).val = _ / 2 % 4; dsimp only; omega
        · show (_ : ℕ) = _ % 2 * 2048 + k.val; simp only [ix2, ix4]; omega
        · show (i 2).val = (i 2).val % 704; omega
      · refine blk0_apply m c _ _ _ ?_ ?_
        · show (_ : ℕ) = _ % 2 * 2048 + k.val; simp only [ix2, ix4]; omega
        · show (i 1).val = (i 1).val % 1024; omega
  · rw [dif_neg h, Fin.sum_univ_two_halves 2048 2048 rfl]
    congr 1
    all_goals
      refine Finset.sum_congr rfl fun k _ => ?_
      have hk := k.isLt
      rw [mul_comm]
      congr 1
      · refine blk1_apply m c _ _ _ ?_ ?_ ?_ ?_
        · show 1 = _ / 8; dsimp only; omega
        · show (i 0).val = _ / 2 % 4; dsimp only; omega
        · show (_ : ℕ) = _ % 2 * 2048 + k.val; simp only [ix2, ix4]; omega
        · show (i 2).val = (i 2).val % 704; omega
      · refine blk0_apply m c _ _ _ ?_ ?_
        · show (_ : ℕ) = _ % 2 * 2048 + k.val; simp only [ix2, ix4]; omega
        · show (i 1).val - 1024 = (i 1).val % 1024; omega

/-- The two programs run side by side: same arguments, same result. -/
theorem algebraic (m : (ℓ : Loc nD τ sig) → Buf (Elt Ideal) ℓ) (g : Dev nD → PrngReg)
    (m' : (ℓ : Loc Cert.DwguRefIdeal.nD Cert.DwguRefIdeal.τ Cert.DwguRefIdeal.sig) → Buf (Elt Ideal) ℓ) (g' : Dev Cert.DwguRefIdeal.nD → PrngReg)
    (hag : ∀ c : Dev nD,
      m' ((c.tc : Thread Cert.DwguRefIdeal.nD Cert.DwguRefIdeal.τ).loc Cert.DwguRefIdeal.main_arg0) = m ((c.tc : Thread nD τ).loc main_arg0)
      ∧ m' ((c.tc : Thread Cert.DwguRefIdeal.nD Cert.DwguRefIdeal.τ).loc Cert.DwguRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DwguRefIdeal.defs (F := Ideal)) (onTc (τ := Cert.DwguRefIdeal.τ) (Cert.DwguRefIdeal.main (F := Ideal))) ⟨m', fun _ => 0, g'⟩ (fun r => ∀ c : Dev Cert.DwguRefIdeal.nD,
          r.2.mem ((c.tc : Thread Cert.DwguRefIdeal.nD Cert.DwguRefIdeal.τ).loc Cert.DwguRefIdeal.main_v18) = v0 c
          ∧ r.2.mem ((c.tc : Thread Cert.DwguRefIdeal.nD Cert.DwguRefIdeal.τ).loc Cert.DwguRefIdeal.main_arg0) = m' ((c.tc : Thread Cert.DwguRefIdeal.nD Cert.DwguRefIdeal.τ).loc Cert.DwguRefIdeal.main_arg0)
          ∧ r.2.mem ((c.tc : Thread Cert.DwguRefIdeal.nD Cert.DwguRefIdeal.τ).loc Cert.DwguRefIdeal.main_arg1) = m' ((c.tc : Thread Cert.DwguRefIdeal.nD Cert.DwguRefIdeal.τ).loc Cert.DwguRefIdeal.main_arg1)) :=
  ⟨fun c => Value.G2 m c, Value.run m g,
    (θ_run _ _ _).mono (fun _ h c => ⟨(h c).1.trans (by
        rw [Cert.DwguRefIdeal.Read.val_main_v18_eq, (hag c).1, (hag c).2]; exact (G2_eq m c).symm), (h c).2⟩)
      (Cert.DwguRefIdeal.Value.run m' g')⟩

end Cert.DwguIdeal.Sum

end
-- ==== Proof.Ffn.Dn.lean ====
/- The value of `gmm_up_dx`, the gradient of the FFN's input: each block of rows is the sum, over the two branches and the
   four shards, of the products of the branch's gradient with its weight; the reference writes one contraction over shards
   and columns per branch. -/
module

public import proofs.«01_k».proof.Proof.Gen.DnIdeal.Value
public import proofs.«01_k».proof.Proof.Gen.DnRefIdeal.Run
public import proofs.«01_k».proof.Proof.Gen.DnRefIdeal.Read
public import Idealize.ShloMosaic.Lib.Pointwise

@[expose] public section

set_option maxRecDepth 16384

noncomputable section

namespace Cert.DnIdeal.Sum

open Cert.DnIdeal Cert.DnIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The product of one branch: over the four shards, the branch's gradient with its weight. -/
def branch (x0 : Vec F S1x4x512x704 .bf16) (x1 : Vec F S4x1024x704 .bf16) : Vec F S512x1024 .f32 :=
  k0_pay3 (View.ld x0 (Rect.unit ![0, 0, 0, 0] ![1, 1, 512, 704] inb_S1x4x512x704_S1x1x512x704_0_0_0_0))
    (View.ld x1 (Rect.unit ![0, 0, 0] ![1, 1024, 704] inb_S4x1024x704_S1x1024x704_0_0_0))
    (View.ld x0 (Rect.unit ![0, 1, 0, 0] ![1, 1, 512, 704] inb_S1x4x512x704_S1x1x512x704_0_1_0_0))
    (View.ld x1 (Rect.unit ![1, 0, 0] ![1, 1024, 704] inb_S4x1024x704_S1x1024x704_1_0_0))
    (View.ld x0 (Rect.unit ![0, 2, 0, 0] ![1, 1, 512, 704] inb_S1x4x512x704_S1x1x512x704_0_2_0_0))
    (View.ld x1 (Rect.unit ![2, 0, 0] ![1, 1024, 704] inb_S4x1024x704_S1x1024x704_2_0_0))
    (View.ld x0 (Rect.unit ![0, 3, 0, 0] ![1, 1, 512, 704] inb_S1x4x512x704_S1x1x512x704_0_3_0_0))
    (View.ld x1 (Rect.unit ![3, 0, 0] ![1, 1024, 704] inb_S4x1024x704_S1x1024x704_3_0_0))

/-- At a first branch the scratch ends holding the branch's product. -/
theorem sout_A (c : Dev nD) (i : grid0.Coords) (a2 : Memref sig .tc .vmem S1x4x512x704 .bf16) (h2 : a2.IsWhole) (a3 : Memref sig .tc .vmem S4x1024x704 .bf16) (h3 : a3.IsWhole) (a4 : Memref sig .tc .vmem S512x1024 .f32) (h4 : a4.IsWhole) (a5 : Memref sig .tc .vmem S512x1024 .f32) (h5 : a5.IsWhole) (hc0 : cond0_0 i) (hc1 : ¬cond0_1 i) (hc2 : ¬cond0_2 i)
    (x0 : Vec F S1x4x512x704 .bf16) (x1 : Vec F S4x1024x704 .bf16) :
    sout0_A_0 c i a2 h2 a3 h3 a4 h4 a5 h5 hc0 hc1 hc2 x0 x1 = k0_pay1 (branch x0 x1) := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  simp only [View.readAt_eq_ld, h2.read_unread, h3.read_unread]
  rfl

/-- At a second branch the block written is what the first branch left plus the second branch's product. -/
theorem out_B (c : Dev nD) (i : grid0.Coords) (a2 : Memref sig .tc .vmem S1x4x512x704 .bf16) (h2 : a2.IsWhole) (a3 : Memref sig .tc .vmem S4x1024x704 .bf16) (h3 : a3.IsWhole) (a4 : Memref sig .tc .vmem S512x1024 .f32) (h4 : a4.IsWhole) (a5 : Memref sig .tc .vmem S512x1024 .f32) (h5 : a5.IsWhole) (hc0 : ¬cond0_0 i) (hc1 : cond0_1 i) (hc2 : cond0_2 i)
    (x0 : Vec F S1x4x512x704 .bf16) (x1 : Vec F S4x1024x704 .bf16) (xs : Vec F S512x1024 .f32) :
    out0_B_2 c i a2 h2 a3 h3 a4 h4 a5 h5 hc0 hc1 hc2 x0 x1 xs = k0_pay2 (branch x0 x1) xs := by
  unfold out0_B_2
  rw [View.read_writes_eq_canon _ _ _ (cover0_B_2 c i a2 h2 a3 h3 a4 h4 a5 h5 hc0 hc1 hc2 x0 x1 xs)]
  unfold kernelRun0_B
  dsimp only
  sl_unfold_words
  rw [View.canon_unit_zero hz2, View.readCov_unit_zero (S := S512x1024) _ hz2]
  simp only [View.readAt_eq_ld, h2.read_unread, h3.read_unread, h5.read_unread, View.ld_unit_zero (S := S512x1024) hz2]
  rfl

/-- The block a second branch writes back: the two branches' products added. -/
theorem outs_eq (c : Dev nD) (n : ℕ) (h : n + 1 < cfg0.N) (h' : n < cfg0.N) (he : n % 2 = 0) :
    (outsAt0 m c (n + 1) h).1 = k0_pay2 (branch (iblk m c 0 ⟨n + 1, h⟩) (iblk m c 1 ⟨n + 1, h⟩)) (k0_pay1 (branch (iblk m c 0 ⟨n, h'⟩) (iblk m c 1 ⟨n, h'⟩))) := by
  rw [outsAt0_B m c ⟨n + 1, h⟩ (by dsimp only; omega) (by dsimp only; omega) (by dsimp only; omega)]
  dsimp only
  rw [out_B]
  congr 2
  show (outsAt0 m c n _).2 = _
  rw [outsAt0_A m c ⟨n, h'⟩ he (by dsimp only; omega) (by dsimp only; omega)]
  dsimp only
  rw [sout_A]

/-- Where the input blocks lie: the branch is the point's parity, the rows follow from the rest. -/
theorem idx0 : ∀ t : Fin cfg0.N, win0_0.index t (0 : Fin 4) = t.val % 2 ∧ win0_0.index t (1 : Fin 4) = 0
    ∧ win0_0.index t (2 : Fin 4) = t.val / 2 ∧ win0_0.index t (3 : Fin 4) = 0 :=
  (by decide +kernel : ∀ t : Fin grid0.N, _)
theorem idx1 : ∀ t : Fin cfg0.N, win0_1.index t (0 : Fin 3) = 0 ∧ win0_1.index t (1 : Fin 3) = t.val % 2 ∧ win0_1.index t (2 : Fin 3) = 0 :=
  (by decide +kernel : ∀ t : Fin grid0.N, _)

theorem blk0_apply (c : Dev nD) (t : Fin cfg0.N) (y : S1x4x512x704.Idx) (i : S2x4x4096x704.Idx)
    (h0 : (i 0).val = t.val % 2) (h1 : (i 1).val = (y 1).val) (h2 : (i 2).val = t.val / 2 * 512 + (y 2).val) (h3 : (i 3).val = (y 3).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  have y0 : (y 0).val < 1 := (y 0).isLt
  match a with
  | ⟨0, _⟩ => show win0_0.index t 0 * 1 + 1 * (y 0).val = (i 0).val; rw [e.1]; omega
  | ⟨1, _⟩ => show win0_0.index t 1 * 4 + 1 * (y 1).val = (i 1).val; rw [e.2.1]; omega
  | ⟨2, _⟩ => show win0_0.index t 2 * 512 + 1 * (y 2).val = (i 2).val; rw [e.2.2.1]; omega
  | ⟨3, _⟩ => show win0_0.index t 3 * 704 + 1 * (y 3).val = (i 3).val; rw [e.2.2.2]; omega

theorem blk1_apply (c : Dev nD) (t : Fin cfg0.N) (y : S4x1024x704.Idx) (i : S4x2048x704.Idx)
    (h0 : (i 0).val = (y 0).val) (h1 : (i 1).val = t.val % 2 * 1024 + (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 4 + 1 * (y 0).val = (i 0).val; rw [e.1]; omega
  | ⟨1, _⟩ => show win0_1.index t 1 * 1024 + 1 * (y 1).val = (i 1).val; rw [e.2.1]; omega
  | ⟨2, _⟩ => show win0_1.index t 2 * 704 + 1 * (y 2).val = (i 2).val; rw [e.2.2]; omega

end Blocks

/-- Both branches' products added, at an index. -/
theorem pay_apply (xa xb : Vec Ideal S1x4x512x704 .bf16) (ya yb : Vec Ideal S4x1024x704 .bf16) (j : S512x1024.Idx) :
    k0_pay2 (F := Ideal) (branch xb yb) (k0_pay1 (branch xa ya)) j
      = (∑ s : Fin 4, ∑ k : Fin 704, xa (ix4 0 s (j 0) k) * ya (ix3 s (j 1) k)) + ∑ s : Fin 4, ∑ k : Fin 704, xb (ix4 0 s (j 0) k) * yb (ix3 s (j 1) k) := by
  simp only [Fin.sum_univ_four]
  unfold branch
  pointwise [k0_pay3, k0_pay2, k0_pay1]

/-- The reference at an index: per branch one contraction over the shards and their columns. -/
theorem ref_apply (x0 : (⟨S2x4x4096x704, .bf16⟩ : BufTy).Contents (Elt Ideal)) (x1 : (⟨S4x2048x704, .bf16⟩ : BufTy).Contents (Elt Ideal)) (i : S4096x1024.Idx) :
    Cert.DnRefIdeal.Read.val_main_v17 (F := Ideal) x0 x1 i
      = (∑ s : Fin 4, ∑ k : Fin 704, x0 (ix4 1 s (i 0) k) * x1 (ix3 s ⟨1024 + (i 1).val, by have h1 : (i 1).val < 1024 := (i 1).isLt; omega⟩ k))
        + ∑ s : Fin 4, ∑ k : Fin 704, x0 (ix4 0 s (i 0) k) * x1 (ix3 s ⟨(i 1).val, by have h1 : (i 1).val < 1024 := (i 1).isLt; omega⟩ k) := by
  rw [← Cert.DnRefIdeal.Read.val_main_v17_eq]
  pointwise

set_option maxHeartbeats 2000000 in
/-- The kernel's result is the reference's. -/
theorem G2_eq (m : (ℓ : Loc nD τ sig) → Buf (Elt Ideal) ℓ) (c : Dev nD) :
    Value.G2 m c = Cert.DnRefIdeal.Read.val_main_v17 (F := Ideal) (m ((c : Thread nD τ).loc main_arg0)) (m ((c : Thread nD τ).loc main_arg1)) := by
  funext i
  have i0 : (i 0).val < 4096 := (i 0).isLt
  have i1 : (i 1).val < 1024 := (i 1).isLt
  have hN : cfg0.N = 16 := N_0
  have hp : Value.pt2Of i < cfg0.N := by rw [hN]; show 2 * (1 * ((i 0).val / 512 - 0) + 1 * ((i 1).val / 1024 - 0)) + 1 < 16; omega
  have hr : Value.run2Of i = (i 0).val / 512 := by
    show 1 * ((i 0).val / 512 - 0) + 1 * ((i 1).val / 1024 - 0) = _; omega
  generalize hn : 2 * Value.run2Of i = n at *
  have hn' : n < cfg0.N := by omega
  unfold Value.G2
  rw [dif_pos hp, ← Value.outsAt0_sweep m c (Value.pt2Of i) hp]
  have e := outs_eq m c n (by omega) hn' (by omega)
  have e' : (outsAt0 m c (Value.pt2Of i) hp).1 = (outsAt0 m c (n + 1) (by omega)).1 := by
    congr 2; show 2 * Value.run2Of i + 1 = n + 1; rw [hn]
  rw [e', e, pay_apply, ref_apply, add_comm]
  refine congrArg₂ (· + ·) ?_ ?_
  all_goals
    refine Finset.sum_congr rfl fun s _ => Finset.sum_congr rfl fun k _ => ?_
    congr 1
    · refine blk0_apply m c _ _ _ ?_ ?_ ?_ ?_
      · first
          | (show 0 = n % 2; omega)
          | (show 1 = (n + 1) % 2; omega)
      · rfl
      · first
          | (show (i 0).val = n / 2 * 512 + (i 0).val % 512; omega)
          | (show (i 0).val = (n + 1) / 2 * 512 + (i 0).val % 512; omega)
      · rfl
    · refine blk1_apply m c _ _ _ ?_ ?_ ?_
      · rfl
      · first
          | (show (i 1).val = n % 2 * 1024 + (i 1).val % 1024; omega)
          | (show 1024 + (i 1).val = (n + 1) % 2 * 1024 + (i 1).val % 1024; omega)
      · rfl

/-- The two programs run side by side: same arguments, same result. -/
theorem algebraic (m : (ℓ : Loc nD τ sig) → Buf (Elt Ideal) ℓ) (g : Dev nD → PrngReg)
    (m' : (ℓ : Loc Cert.DnRefIdeal.nD Cert.DnRefIdeal.τ Cert.DnRefIdeal.sig) → Buf (Elt Ideal) ℓ) (g' : Dev Cert.DnRefIdeal.nD → PrngReg)
    (hag : ∀ c : Dev nD,
      m' ((c.tc : Thread Cert.DnRefIdeal.nD Cert.DnRefIdeal.τ).loc Cert.DnRefIdeal.main_arg0) = m ((c.tc : Thread nD τ).loc main_arg0)
      ∧ m' ((c.tc : Thread Cert.DnRefIdeal.nD Cert.DnRefIdeal.τ).loc Cert.DnRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v17) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)) :=
  ⟨fun c => Value.G2 m c, Value.run m g,
    (θ_run _ _ _).mono (fun _ h c => ⟨(h c).1.trans (by
        rw [Cert.DnRefIdeal.Read.val_main_v17_eq, (hag c).1, (hag c).2]; exact (G2_eq m c).symm), (h c).2⟩)
      (Cert.DnRefIdeal.Value.run m' g')⟩

end Cert.DnIdeal.Sum

end
-- ==== Proof.Ffn.Up.lean ====
/- The value of `ffn_up_act`: each block holds the products of the normalised input with a shard's gate and up weights, and
   the activation `gate * logistic gate * up` of the two. -/
module

public import proofs.«01_k».proof.Proof.Gen.UpIdeal.Value
public import proofs.«01_k».proof.Proof.Gen.UpRefIdeal.Run
public import proofs.«01_k».proof.Proof.Gen.UpRefIdeal.Read
public import Idealize.ShloMosaic.Lib.Pointwise

@[expose] public section

set_option maxRecDepth 16384

noncomputable section

namespace Cert.UpIdeal.Sum

open Cert.UpIdeal Cert.UpIdeal.Gen Idealize.ShloMosaic Idealize.ShloMosaic.TcCoe Idealize.SL.Sem
open Idealize.ShloMosaic.Pipeline (Dat)

/-- The gate's and the up branch's product at a shard, a row and a column: the gate's weights are the first 1024 rows. -/
def gate (x0 : S4096x1024.Idx → EReal) (x1 : S4x2048x704.Idx → EReal) (s : Fin 4) (r : Fin 4096) (n : Fin 704) : EReal :=
  ∑ k : Fin 1024, x0 (ix2 r k) * x1 (ix3 s ⟨k.val, by omega⟩ n)
def up (x0 : S4096x1024.Idx → EReal) (x1 : S4x2048x704.Idx → EReal) (s : Fin 4) (r : Fin 4096) (n : Fin 704) : EReal :=
  ∑ k : Fin 1024, x0 (ix2 r k) * x1 (ix3 s ⟨1024 + k.val, by omega⟩ n)

/-- The two results at an index. -/
def specGu (x0 : S4096x1024.Idx → EReal) (x1 : S4x2048x704.Idx → EReal) (i : S2x4x4096x704.Idx) : EReal :=
  if (i 0).val < 1 then gate x0 x1 (i 1) (i 2) (i 3) else up x0 x1 (i 1) (i 2) (i 3)
def specH (x0 : S4096x1024.Idx → EReal) (x1 : S4x2048x704.Idx → EReal) (i : S4x4096x704.Idx) : EReal :=
  gate x0 x1 (i 0) (i 1) (i 2) * Ideal.logistic (gate x0 x1 (i 0) (i 1) (i 2)) * up x0 x1 (i 0) (i 1) (i 2)

/-! ## The kernel -/

theorem hz2 : (![0, 0] : Fin 2 → Nat) = fun _ => 0 := funext fun a => by fin_cases a <;> rfl
theorem hz3 : (![0, 0, 0] : Fin 3 → Nat) = fun _ => 0 := funext fun a => by fin_cases a <;> rfl

/-- A block's product at an index. -/
def dot (x : S1024x1024.Idx → EReal) (w : S1x1024x704.Idx → EReal) (r : Fin 1024) (n : Fin 704) : EReal := ∑ k : Fin 1024, x (ix2 r k) * w (ix3 0 k n)

theorem pay3_apply (x : Vec Ideal S1024x1024 .bf16) (w : Vec Ideal S1x1024x704 .bf16) (j : S1x1x1024x704.Idx) :
    k0_pay3 (F := Ideal) x w j = dot x w (j 2) (j 3) := by
  unfold dot
  pointwise [k0_pay3, k0_pay1]

theorem pay4_apply (x : Vec Ideal S1024x1024 .bf16) (w : Vec Ideal S1x1024x704 .bf16) (j : S1x1x1024x704.Idx) :
    k0_pay4 (F := Ideal) x w j = dot x w (j 2) (j 3) := by
  unfold dot
  pointwise [k0_pay4, k0_pay2]

theorem pay5_apply (x : Vec Ideal S1024x1024 .bf16) (w v : Vec Ideal S1x1024x704 .bf16) (j : S1x1024x704.Idx) :
    k0_pay5 (F := Ideal) x w v j = dot x w (j 1) (j 2) * Ideal.logistic (dot x w (j 1) (j 2)) * dot x v (j 1) (j 2) := by
  unfold dot
  pointwise [k0_pay5, k0_pay1, k0_pay2]

/-- The first block a point writes, at an index, over its input blocks. -/
def blockSpec (x0 : S1024x1024.Idx → EReal) (x1 x2 : S1x1024x704.Idx → EReal) (y : S2x1x1024x704.Idx) : EReal :=
  if (y 0).val < 1 then dot x0 x1 (y 2) (y 3) else dot x0 x2 (y 2) (y 3)

theorem emb2 (x : S1x1x1024x704.Idx) : r0_2.emb x = (ix4 0 0 (x 2) (x 3) : S2x1x1024x704.Idx) := by
  funext a
  have x0 : (x 0).val < 1 := (x 0).isLt
  have x1 : (x 1).val < 1 := (x 1).isLt
  apply Fin.ext
  match a with
  | ⟨0, _⟩ => show 0 + 1 * (x 0).val = 0; omega
  | ⟨1, _⟩ => show 0 + 1 * (x 1).val = 0; omega
  | ⟨2, _⟩ => show 0 + 1 * (x 2).val = (x 2).val; omega
  | ⟨3, _⟩ => show 0 + 1 * (x 3).val = (x 3).val; omega

theorem emb3 (x : S1x1x1024x704.Idx) : r0_3.emb x = (ix4 1 0 (x 2) (x 3) : S2x1x1024x704.Idx) := by
  funext a
  have x0 : (x 0).val < 1 := (x 0).isLt
  have x1 : (x 1).val < 1 := (x 1).isLt
  apply Fin.ext
  match a with
  | ⟨0, _⟩ => show 1 + 1 * (x 0).val = 1; omega
  | ⟨1, _⟩ => show 0 + 1 * (x 1).val = 0; omega
  | ⟨2, _⟩ => show 0 + 1 * (x 2).val = (x 2).val; omega
  | ⟨3, _⟩ => show 0 + 1 * (x 3).val = (x 3).val; omega

theorem out3_eq (x0 : Vec Ideal S1024x1024 .bf16) (x1 x2 : Vec Ideal S1x1024x704 .bf16) (y : S2x1x1024x704.Idx) :
    out0_3 (F := Ideal) x0 x1 x2 y = blockSpec x0 x1 x2 y := by
  unfold out0_3
  refine View.canon_apply_of_pieces (Val := Elt Ideal) (e := .bf16) (blockSpec x0 x1 x2) _ ?_ y (cover0_3 _ _ y)
  intro p hp
  rcases List.mem_cons.1 hp with rfl | hp
  · intro x
    show k0_pay4 (F := Ideal) _ _ x = blockSpec x0 x1 x2 (r0_3.emb x)
    rw [emb3, pay4_apply, View.ld_unit_zero (S := S1024x1024) hz2, View.ld_unit_zero (S := S1x1024x704) hz3]
    rfl
  · obtain rfl := List.mem_singleton.1 hp
    intro x
    show k0_pay3 (F := Ideal) _ _ x = blockSpec x0 x1 x2 (r0_2.emb x)
    rw [emb2, pay3_apply, View.ld_unit_zero (S := S1024x1024) hz2, View.ld_unit_zero (S := S1x1024x704) hz3]
    rfl

theorem out4_eq (x0 : Vec Ideal S1024x1024 .bf16) (x1 x2 : Vec Ideal S1x1024x704 .bf16) (y : S1x1024x704.Idx) :
    out0_4 (F := Ideal) x0 x1 x2 y = dot x0 x1 (y 1) (y 2) * Ideal.logistic (dot x0 x1 (y 1) (y 2)) * dot x0 x2 (y 1) (y 2) := by
  unfold out0_4
  rw [View.canon_unit_zero hz3, pay5_apply, View.ld_unit_zero (S := S1024x1024) hz2]
  simp only [View.ld_unit_zero (S := S1x1024x704) hz3]

/-- Where the blocks lie: the shard is the slow coordinate, the tokens' quarter the fast one. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 1 ∧ win0_2.index t (2 : Fin 3) = 0 :=
  (by decide +kernel : ∀ t : Fin grid0.N, _)
theorem idx3 : ∀ t : Fin cfg0.N, win0_3.index t (0 : Fin 4) = 0 ∧ win0_3.index t (1 : Fin 4) = t.val / 4 ∧ win0_3.index t (2 : Fin 4) = t.val % 4 ∧ win0_3.index t (3 : Fin 4) = 0 :=
  (by decide +kernel : ∀ t : Fin grid0.N, _)
theorem idx4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem flush3 : ∀ t : Fin cfg0.N, (cfg0.win 3).flush t = true :=
  (by decide +kernel : ∀ t : Fin grid0.N, win0_3.flush t = true)
theorem flush4 : ∀ t : Fin cfg0.N, (cfg0.win 4).flush t = true :=
  (by decide +kernel : ∀ t : Fin grid0.N, win0_4.flush t = true)

section Blocks

variable (m : (ℓ : Loc nD τ sig) → Buf (Elt Ideal) ℓ)

theorem blk0_apply (c : Dev nD) (t : Fin cfg0.N) (y : S1024x1024.Idx) (i : S4096x1024.Idx)
    (h0 : (i 0).val = (t.val % 4) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1x1024x704.Idx) (i : S4x2048x704.Idx)
    (h0 : (i 0).val = (t.val / 4) * 1 + (y 0).val) (h1 : (i 1).val = (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  have y0 : (y 0).val < 1 := (y 0).isLt
  match a with
  | ⟨0, _⟩ => show win0_1.index t 0 * 1 + 1 * (y 0).val = (i 0).val; rw [e.1]; omega
  | ⟨1, _⟩ => show win0_1.index t 1 * 1024 + 1 * (y 1).val = (i 1).val; rw [e.2.1]; omega
  | ⟨2, _⟩ => show win0_1.index t 2 * 704 + 1 * (y 2).val = (i 2).val; rw [e.2.2]; omega

theorem blk2_apply (c : Dev nD) (t : Fin cfg0.N) (y : S1x1024x704.Idx) (i : S4x2048x704.Idx)
    (h0 : (i 0).val = (t.val / 4) * 1 + (y 0).val) (h1 : (i 1).val = (1) * 1024 + (y 1).val) (h2 : (i 2).val = (y 2).val) :
    iblk m c 2 t y = m ((c : Thread nD τ).loc main_arg1) i := by
  unfold iblk
  rw [View.read_apply]
  show V m c main_arg1 _ = m (c.tc.loc main_arg1) _
  unfold V
  congr 1
  funext a
  apply Fin.ext
  have e := idx2 t
  have y0 : (y 0).val < 1 := (y 0).isLt
  match a with
  | ⟨0, _⟩ => show win0_2.index t 0 * 1 + 1 * (y 0).val = (i 0).val; rw [e.1]; omega
  | ⟨1, _⟩ => show win0_2.index t 1 * 1024 + 1 * (y 1).val = (i 1).val; rw [e.2.1]; omega
  | ⟨2, _⟩ => show win0_2.index t 2 * 704 + 1 * (y 2).val = (i 2).val; rw [e.2.2]; omega

/-- The products of a point's blocks are the arrays'. -/
theorem dot_gate (c : Dev nD) (t : Fin cfg0.N) (s : Fin 4) (r : Fin 4096) (n : Fin 704) (hs : s.val = t.val / 4) (hr : r.val / 1024 = t.val % 4) :
    dot (iblk m c 0 t) (iblk m c 1 t) ⟨r.val % 1024, by omega⟩ n = gate (m ((c : Thread nD τ).loc main_arg0)) (m ((c : Thread nD τ).loc main_arg1)) s r n := by
  unfold dot gate
  refine Finset.sum_congr rfl fun k _ => congrArg₂ (· * ·) (blk0_apply m c _ _ _ ?_ rfl) (blk1_apply m c _ _ _ ?_ ?_ rfl)
  · show r.val = t.val % 4 * 1024 + r.val % 1024; omega
  · show s.val = t.val / 4 * 1 + 0; omega
  · rfl

theorem dot_up (c : Dev nD) (t : Fin cfg0.N) (s : Fin 4) (r : Fin 4096) (n : Fin 704) (hs : s.val = t.val / 4) (hr : r.val / 1024 = t.val % 4) :
    dot (iblk m c 0 t) (iblk m c 2 t) ⟨r.val % 1024, by omega⟩ n = up (m ((c : Thread nD τ).loc main_arg0)) (m ((c : Thread nD τ).loc main_arg1)) s r n := by
  unfold dot up
  refine Finset.sum_congr rfl fun k _ => congrArg₂ (· * ·) (blk0_apply m c _ _ _ ?_ rfl) (blk2_apply m c _ _ _ ?_ ?_ rfl)
  · show r.val = t.val % 4 * 1024 + r.val % 1024; omega
  · show s.val = t.val / 4 * 1 + 0; omega
  · show 1024 + k.val = 1 * 1024 + k.val; omega

/-- The arrays the kernel leaves. -/
theorem arr3_eq (c : Dev nD) :
    (dats m 0 c).arrAt 3 cfg0.N = specGu (m ((c : Thread nD τ).loc main_arg0)) (m ((c : Thread nD τ).loc main_arg1)) := by
  funext i
  have i0 : (i 0).val < 2 := (i 0).isLt
  have i1 : (i 1).val < 4 := (i 1).isLt
  have i2 : (i 2).val < 4096 := (i 2).isLt
  have hN : cfg0.N = 16 := N_0
  obtain ⟨n, hn⟩ : ∃ n, n = (i 1).val * 4 + (i 2).val / 1024 := ⟨_, rfl⟩
  have hlt : n < cfg0.N := by omega
  have e := idx3 ⟨n, hlt⟩
  dsimp only at e
  have h := congrFun (Value.blocks3 m c ⟨n, hlt⟩ (flush3 _)) (ix4 (i 0) 0 ⟨(i 2).val % 1024, by omega⟩ (i 3) : S2x1x1024x704.Idx)
  rw [View.read_apply, Value.flushed3] at h
  have hi : ((cfg0.win 3).blk ⟨n, hlt⟩).view.emb (ix4 (i 0) 0 ⟨(i 2).val % 1024, by omega⟩ (i 3) : S2x1x1024x704.Idx) = i := by
    funext a
    apply Fin.ext
    match a with
    | ⟨0, _⟩ => show win0_3.index ⟨n, hlt⟩ 0 * 2 + 1 * (i 0).val = (i 0).val; rw [e.1]; omega
    | ⟨1, _⟩ => show win0_3.index ⟨n, hlt⟩ 1 * 1 + 1 * 0 = (i 1).val; rw [e.2.1]; omega
    | ⟨2, _⟩ => show win0_3.index ⟨n, hlt⟩ 2 * 1024 + 1 * ((i 2).val % 1024) = (i 2).val; rw [e.2.2.1]; omega
    | ⟨3, _⟩ => show win0_3.index ⟨n, hlt⟩ 3 * 704 + 1 * (i 3).val = (i 3).val; rw [e.2.2.2]; omega
  rw [hi] at h
  refine h.trans ?_
  show out0_3 (F := Ideal) _ _ _ (ix4 (i 0) 0 ⟨(i 2).val % 1024, by omega⟩ (i 3)) = _
  rw [out3_eq]
  unfold blockSpec specGu
  exact congrArg₂ (fun a b => if (i 0).val < 1 then a else b)
    (dot_gate m c ⟨n, hlt⟩ (i 1) (i 2) (i 3) (by dsimp only; omega) (by dsimp only; omega)) (dot_up m c ⟨n, hlt⟩ (i 1) (i 2) (i 3) (by dsimp only; omega) (by dsimp only; omega))

theorem arr4_eq (c : Dev nD) :
    (dats m 0 c).arrAt 4 cfg0.N = specH (m ((c : Thread nD τ).loc main_arg0)) (m ((c : Thread nD τ).loc main_arg1)) := by
  funext i
  have i0 : (i 0).val < 4 := (i 0).isLt
  have i1 : (i 1).val < 4096 := (i 1).isLt
  have hN : cfg0.N = 16 := N_0
  obtain ⟨n, hn⟩ : ∃ n, n = (i 0).val * 4 + (i 1).val / 1024 := ⟨_, rfl⟩
  have hlt : n < cfg0.N := by omega
  have e := idx4 ⟨n, hlt⟩
  dsimp only at e
  have h := congrFun (Value.blocks4 m c ⟨n, hlt⟩ (flush4 _)) (ix3 0 ⟨(i 1).val % 1024, by omega⟩ (i 2) : S1x1024x704.Idx)
  rw [View.read_apply, Value.flushed4] at h
  have hi : ((cfg0.win 4).blk ⟨n, hlt⟩).view.emb (ix3 0 ⟨(i 1).val % 1024, by omega⟩ (i 2) : S1x1024x704.Idx) = i := by
    funext a
    apply Fin.ext
    match a with
    | ⟨0, _⟩ => show win0_4.index ⟨n, hlt⟩ 0 * 1 + 1 * 0 = (i 0).val; rw [e.1]; omega
    | ⟨1, _⟩ => show win0_4.index ⟨n, hlt⟩ 1 * 1024 + 1 * ((i 1).val % 1024) = (i 1).val; rw [e.2.1]; omega
    | ⟨2, _⟩ => show win0_4.index ⟨n, hlt⟩ 2 * 704 + 1 * (i 2).val = (i 2).val; rw [e.2.2]; omega
  rw [hi] at h
  refine h.trans ?_
  show out0_4 (F := Ideal) _ _ _ (ix3 0 ⟨(i 1).val % 1024, by omega⟩ (i 2)) = _
  rw [out4_eq]
  unfold specH
  exact congrArg₂ (fun a b => a * Ideal.logistic a * b)
    (dot_gate m c ⟨n, hlt⟩ (i 0) (i 1) (i 2) (by dsimp only; omega) (by dsimp only; omega)) (dot_up m c ⟨n, hlt⟩ (i 0) (i 1) (i 2) (by dsimp only; omega) (by dsimp only; omega))

end Blocks

/-! ## The reference -/

theorem refGu_apply (x0 : (⟨S4096x1024, .bf16⟩ : BufTy).Contents (Elt Ideal)) (x1 : (⟨S4x2048x704, .bf16⟩ : BufTy).Contents (Elt Ideal)) (i : S2x4x4096x704.Idx) :
    Cert.UpRefIdeal.Read.val_main_v11 (F := Ideal) x0 x1 i
      = if (i 0).val < 1 then ∑ k : Fin 1024, x1 (ix3 (i 1) ⟨k.val, by omega⟩ (i 3)) * x0 (ix2 (i 2) k)
        else ∑ k : Fin 1024, x1 (ix3 (i 1) ⟨1024 + k.val, by omega⟩ (i 3)) * x0 (ix2 (i 2) k) := by
  rw [← Cert.UpRefIdeal.Read.val_main_v11_eq]
  pointwise
  split_ifs <;> rfl

theorem refH_apply (x0 : (⟨S4096x1024, .bf16⟩ : BufTy).Contents (Elt Ideal)) (x1 : (⟨S4x2048x704, .bf16⟩ : BufTy).Contents (Elt Ideal)) (i : S4x4096x704.Idx) :
    Cert.UpRefIdeal.Read.val_main_v14 (F := Ideal) x0 x1 i
      = (∑ k : Fin 1024, x1 (ix3 (i 0) ⟨k.val, by omega⟩ (i 2)) * x0 (ix2 (i 1) k))
        * Ideal.logistic (∑ k : Fin 1024, x1 (ix3 (i 0) ⟨k.val, by omega⟩ (i 2)) * x0 (ix2 (i 1) k))
        * ∑ k : Fin 1024, x1 (ix3 (i 0) ⟨1024 + k.val, by omega⟩ (i 2)) * x0 (ix2 (i 1) k) := by
  rw [← Cert.UpRefIdeal.Read.val_main_v14_eq]
  unfold Ideal.logistic
  pointwise

theorem specGu_eq (x0 : (⟨S4096x1024, .bf16⟩ : BufTy).Contents (Elt Ideal)) (x1 : (⟨S4x2048x704, .bf16⟩ : BufTy).Contents (Elt Ideal)) :
    specGu x0 x1 = Cert.UpRefIdeal.Read.val_main_v11 (F := Ideal) x0 x1 := by
  funext i
  rw [refGu_apply]
  unfold specGu gate up
  simp only [mul_comm]

theorem specH_eq (x0 : (⟨S4096x1024, .bf16⟩ : BufTy).Contents (Elt Ideal)) (x1 : (⟨S4x2048x704, .bf16⟩ : BufTy).Contents (Elt Ideal)) :
    specH x0 x1 = Cert.UpRefIdeal.Read.val_main_v14 (F := Ideal) x0 x1 := by
  funext i
  rw [refH_apply]
  unfold specH gate up
  have e : ∀ f g : Fin 1024 → EReal, ∑ k, f k * g k = ∑ k, g k * f k := fun f g => Finset.sum_congr rfl fun k _ => mul_comm _ _
  rw [e (fun k => x0 (ix2 (i 1) k)) (fun k => x1 (ix3 (i 0) ⟨k.val, by omega⟩ (i 2))),
    e (fun k => x0 (ix2 (i 1) k)) (fun k => x1 (ix3 (i 0) ⟨1024 + k.val, by omega⟩ (i 2)))]

/-- The two programs run side by side: same arguments, same results. -/
theorem algebraic (m : (ℓ : Loc nD τ sig) → Buf (Elt Ideal) ℓ) (g : Dev nD → PrngReg)
    (m' : (ℓ : Loc Cert.UpRefIdeal.nD Cert.UpRefIdeal.τ Cert.UpRefIdeal.sig) → Buf (Elt Ideal) ℓ) (g' : Dev Cert.UpRefIdeal.nD → PrngReg)
    (hag : ∀ c : Dev nD,
      m' ((c.tc : Thread Cert.UpRefIdeal.nD Cert.UpRefIdeal.τ).loc Cert.UpRefIdeal.main_arg0) = m ((c.tc : Thread nD τ).loc main_arg0)
      ∧ m' ((c.tc : Thread Cert.UpRefIdeal.nD Cert.UpRefIdeal.τ).loc Cert.UpRefIdeal.main_arg1) = m ((c.tc : Thread nD τ).loc main_arg1)) :
    ∃ (v0 : (c : Dev nD) → Buf (Elt Ideal) ((c.tc : Thread nD τ).loc main_v0_0)) (v1 : (c : Dev nD) → Buf (Elt Ideal) ((c.tc : Thread nD τ).loc main_v0_1)),
      θ_run (defs (F := Ideal)) (onTc (τ := τ) (main (F := Ideal))) ⟨m, fun _ => 0, g⟩ (fun r => ∀ c : Dev nD,
          r.2.mem ((c.tc : Thread nD τ).loc main_v0_0) = v0 c
          ∧ r.2.mem ((c.tc : Thread nD τ).loc main_v0_1) = v1 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v14) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)) :=
  ⟨fun c => (dats m 0 c).arrAt 3 cfg0.N, fun c => (dats m 0 c).arrAt 4 cfg0.N, Value.run_blocks m g,
    (θ_run _ _ _).mono (fun _ h c => ⟨(h c).1.trans (by
        rw [Cert.UpRefIdeal.Read.val_main_v11_eq, (hag c).1, (hag c).2]; exact (specGu_eq _ _).symm.trans (arr3_eq m c).symm), (h c).2.1.trans (by
        rw [Cert.UpRefIdeal.Read.val_main_v14_eq, (hag c).1, (hag c).2]; exact (specH_eq _ _).symm.trans (arr4_eq m c).symm), (h c).2.2⟩)
      (Cert.UpRefIdeal.Value.run m' g')⟩

end Cert.UpIdeal.Sum

end
-- ==== Proof.Ffn.Down.lean ====
/- The value of `gmm_down`: each block of rows is the residual plus half the sum, over the four shards, of the products of
   the activation with the down weights; the reference writes one contraction over shards and columns. -/
module

public import proofs.«01_k».proof.Proof.Gen.DownIdeal.Value
public import proofs.«01_k».proof.Proof.Gen.DownRefIdeal.Run
public import proofs.«01_k».proof.Proof.Gen.DownRefIdeal.Read
public import Idealize.ShloMosaic.Lib.Pointwise

@[expose] public section

set_option maxRecDepth 16384

noncomputable section

namespace Cert.DownIdeal.Sum

open Cert.DownIdeal Cert.DownIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The residual's block plus half the four shards' products. -/
def half4 (x0 : Vec F S4x512x704 .bf16) (x1 : Vec F S4x704x1024 .bf16) (x2 : Vec F S512x1024 .f32) : Vec F S512x1024 .f32 :=
  k0_pay1 (View.ld x0 (Rect.unit ![0, 0, 0] ![1, 512, 704] inb_S4x512x704_S1x512x704_0_0_0))
    (View.ld x1 (Rect.unit ![0, 0, 0] ![1, 704, 1024] inb_S4x704x1024_S1x704x1024_0_0_0))
    (View.ld x0 (Rect.unit ![1, 0, 0] ![1, 512, 704] inb_S4x512x704_S1x512x704_1_0_0))
    (View.ld x1 (Rect.unit ![1, 0, 0] ![1, 704, 1024] inb_S4x704x1024_S1x704x1024_1_0_0))
    (View.ld x0 (Rect.unit ![2, 0, 0] ![1, 512, 704] inb_S4x512x704_S1x512x704_2_0_0))
    (View.ld x1 (Rect.unit ![2, 0, 0] ![1, 704, 1024] inb_S4x704x1024_S1x704x1024_2_0_0))
    (View.ld x0 (Rect.unit ![3, 0, 0] ![1, 512, 704] inb_S4x512x704_S1x512x704_3_0_0))
    (View.ld x1 (Rect.unit ![3, 0, 0] ![1, 704, 1024] inb_S4x704x1024_S1x704x1024_3_0_0)) x2

theorem out_A (c : Dev nD) (i : grid0.Coords) (a1 : Memref sig .tc .vmem S4x512x704 .bf16) (h1 : a1.IsWhole) (a2 : Memref sig .tc .vmem S4x704x1024 .bf16) (h2 : a2.IsWhole) (a3 : Memref sig .tc .vmem S512x1024 .f32) (h3 : a3.IsWhole) (a4 : Memref sig .tc .vmem S512x1024 .f32) (h4 : a4.IsWhole) (a5 : Memref sig .tc .vmem S8x128 .f32) (h5 : a5.IsWhole)
    (x0 : Vec F S4x512x704 .bf16) (x1 : Vec F S4x704x1024 .bf16) (x2 : Vec F S512x1024 .f32) :
    out0_A_3 c i a1 h1 a2 h2 a3 h3 a4 h4 a5 h5 x0 x1 x2 = half4 x0 x1 x2 := by
  unfold out0_A_3
  rw [View.read_writes_eq_canon _ _ _ (cover0_A_3 c i a1 h1 a2 h2 a3 h3 a4 h4 a5 h5 x0 x1 x2)]
  unfold kernelRun0_A
  dsimp only
  sl_unfold_words
  rw [View.canon_unit_zero hz2]
  simp only [View.readAt_eq_ld, h1.read_unread, h2.read_unread, h3.read_unread, View.ld_unit_zero (S := S512x1024) hz2]
  rfl

/-- Where the blocks lie: the point is the block of rows. -/
theorem idx0 : ∀ t : Fin cfg0.N, win0_0.index t (0 : Fin 3) = 0 ∧ win0_0.index t (1 : Fin 3) = t.val ∧ win0_0.index t (2 : Fin 3) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem flush3 : ∀ t : Fin cfg0.N, (cfg0.win 3).flush t = true :=
  (by decide +kernel : ∀ t : Fin grid0.N, win0_3.flush t = true)

theorem blk0_apply (c : Dev nD) (t : Fin cfg0.N) (y : S4x512x704.Idx) (i : S4x4096x704.Idx)
    (h0 : (i 0).val = (y 0).val) (h1 : (i 1).val = (t.val) * 512 + (y 1).val) (h2 : (i 2).val = (y 2).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 4 + 1 * (y 0).val = (i 0).val; rw [e.1]; omega
  | ⟨1, _⟩ => show win0_0.index t 1 * 512 + 1 * (y 1).val = (i 1).val; rw [e.2.1]; omega
  | ⟨2, _⟩ => show win0_0.index t 2 * 704 + 1 * (y 2).val = (i 2).val; rw [e.2.2]; omega

theorem blk1_apply (c : Dev nD) (t : Fin cfg0.N) (y : S4x704x1024.Idx) (i : S4x704x1024.Idx)
    (h0 : (i 0).val = (y 0).val) (h1 : (i 1).val = (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 4 + 1 * (y 0).val = (i 0).val; rw [e.1]; omega
  | ⟨1, _⟩ => show win0_1.index t 1 * 704 + 1 * (y 1).val = (i 1).val; rw [e.2.1]; omega
  | ⟨2, _⟩ => show win0_1.index t 2 * 1024 + 1 * (y 2).val = (i 2).val; rw [e.2.2]; omega

theorem blk2_apply (c : Dev nD) (t : Fin cfg0.N) (y : S512x1024.Idx) (i : S4096x1024.Idx)
    (h0 : (i 0).val = (t.val) * 512 + (y 0).val) (h1 : (i 1).val = (y 1).val) :
    iblk m c 2 t y = m ((c : Thread nD τ).loc main_arg2) i := by
  unfold iblk
  rw [View.read_apply]
  show V m c main_arg2 _ = m (c.tc.loc main_arg2) _
  unfold V
  congr 1
  funext a
  apply Fin.ext
  have e := idx2 t
  match a with
  | ⟨0, _⟩ => show win0_2.index t 0 * 512 + 1 * (y 0).val = (i 0).val; rw [e.1]; omega
  | ⟨1, _⟩ => show win0_2.index t 1 * 1024 + 1 * (y 1).val = (i 1).val; rw [e.2]; omega

end Blocks

theorem pay_apply (x0 : Vec Ideal S4x512x704 .bf16) (x1 : Vec Ideal S4x704x1024 .bf16) (x2 : Vec Ideal S512x1024 .f32) (j : S512x1024.Idx) :
    half4 (F := Ideal) x0 x1 x2 j = x2 j + (∑ s : Fin 4, ∑ k : Fin 704, x0 (ix3 s (j 0) k) * x1 (ix3 s k (j 1))) * Ideal.ofBits .f32 0x3F000000#32 := by
  simp only [Fin.sum_univ_four]
  unfold half4
  pointwise [k0_pay1]

theorem ref_apply (x0 : (⟨S4x4096x704, .bf16⟩ : BufTy).Contents (Elt Ideal)) (x1 : (⟨S4x704x1024, .bf16⟩ : BufTy).Contents (Elt Ideal)) (x2 : (⟨S4096x1024, .f32⟩ : BufTy).Contents (Elt Ideal)) (i : S4096x1024.Idx) :
    Cert.DownRefIdeal.Read.val_main_v5 (F := Ideal) x0 x1 x2 i
      = x2 i + Ideal.ofBits .f32 0x3F000000#32 * ∑ s : Fin 4, ∑ k : Fin 704, x0 (ix3 s (i 0) k) * x1 (ix3 s k (i 1)) := by
  rw [← Cert.DownRefIdeal.Read.val_main_v5_eq, Finset.sum_comm]
  pointwise

/-- The array the kernel leaves is the reference's. -/
theorem arr_eq (m : (ℓ : Loc nD τ sig) → Buf (Elt Ideal) ℓ) (c : Dev nD) :
    (dats m 0 c).arrAt 3 cfg0.N = Cert.DownRefIdeal.Read.val_main_v5 (F := Ideal) (m ((c : Thread nD τ).loc main_arg0)) (m ((c : Thread nD τ).loc main_arg1)) (m ((c : Thread nD τ).loc main_arg2)) := by
  funext i
  have i0 : (i 0).val < 4096 := (i 0).isLt
  have i1 : (i 1).val < 1024 := (i 1).isLt
  have hN : cfg0.N = 8 := N_0
  obtain ⟨n, hn⟩ : ∃ n, n = (i 0).val / 512 := ⟨_, rfl⟩
  have hlt : n < cfg0.N := by omega
  have e := idx3 ⟨n, hlt⟩
  dsimp only at e
  have h := congrFun (Value.blocks3 m c ⟨n, hlt⟩ (flush3 _)) (ix2 ⟨(i 0).val % 512, by omega⟩ (i 1) : S512x1024.Idx)
  rw [View.read_apply, Value.flushed3_A, out_A] at h
  have hi : ((cfg0.win 3).blk ⟨n, hlt⟩).view.emb (ix2 ⟨(i 0).val % 512, by omega⟩ (i 1) : S512x1024.Idx) = i := by
    funext a
    apply Fin.ext
    match a with
    | ⟨0, _⟩ => show win0_3.index ⟨n, hlt⟩ 0 * 512 + 1 * ((i 0).val % 512) = (i 0).val; rw [e.1]; omega
    | ⟨1, _⟩ => show win0_3.index ⟨n, hlt⟩ 1 * 1024 + 1 * (i 1).val = (i 1).val; rw [e.2]; omega
  rw [hi] at h
  refine h.trans ?_
  show half4 (F := Ideal) _ _ _ (ix2 ⟨(i 0).val % 512, by omega⟩ (i 1)) = _
  rw [pay_apply, ref_apply, mul_comm]
  have hr : (i 0).val = n * 512 + (i 0).val % 512 := by omega
  refine congrArg₂ (· + ·) (blk2_apply m c _ _ _ hr rfl) (congrArg _ ?_)
  refine Finset.sum_congr rfl fun s _ => Finset.sum_congr rfl fun k _ => ?_
  exact congrArg₂ (· * ·) (blk0_apply m c _ _ _ rfl hr rfl) (blk1_apply m c _ _ _ rfl rfl rfl)

/-- The two programs run side by side: same arguments, same result. -/
theorem algebraic (m : (ℓ : Loc nD τ sig) → Buf (Elt Ideal) ℓ) (g : Dev nD → PrngReg)
    (m' : (ℓ : Loc Cert.DownRefIdeal.nD Cert.DownRefIdeal.τ Cert.DownRefIdeal.sig) → Buf (Elt Ideal) ℓ) (g' : Dev Cert.DownRefIdeal.nD → PrngReg)
    (hag : ∀ c : Dev nD,
      m' ((c.tc : Thread Cert.DownRefIdeal.nD Cert.DownRefIdeal.τ).loc Cert.DownRefIdeal.main_arg0) = m ((c.tc : Thread nD τ).loc main_arg0)
      ∧ m' ((c.tc : Thread Cert.DownRefIdeal.nD Cert.DownRefIdeal.τ).loc Cert.DownRefIdeal.main_arg1) = m ((c.tc : Thread nD τ).loc main_arg1)
      ∧ m' ((c.tc : Thread Cert.DownRefIdeal.nD Cert.DownRefIdeal.τ).loc Cert.DownRefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)) :=
  ⟨fun c => (dats m 0 c).arrAt 3 cfg0.N, Value.run_blocks m g,
    (θ_run _ _ _).mono (fun _ h c => ⟨(h c).1.trans (by
        rw [Cert.DownRefIdeal.Read.val_main_v5_eq, (hag c).1, (hag c).2.1, (hag c).2.2]; exact (arr_eq m c).symm), (h c).2⟩)
      (Cert.DownRefIdeal.Value.run m' g')⟩

end Cert.DownIdeal.Sum

end
-- ==== Proof.Mixer.Proj.lean ====
/- The value of the product of the mixer's normalised input with the joined input weights (`mm_nn`): every block of the
   result is one product over the full width; the reference is the one product. -/
module

public import proofs.«01_k».proof.Proof.Gen.ProjIdeal.Value
public import proofs.«01_k».proof.Proof.Gen.ProjRefIdeal.Run
public import proofs.«01_k».proof.Proof.Gen.ProjRefIdeal.Read
public import Idealize.ShloMosaic.Lib.Pointwise

@[expose] public section

set_option maxRecDepth 16384

noncomputable section

namespace Cert.ProjIdeal.Sum

open Cert.ProjIdeal Cert.ProjIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The block a point writes is the product of its two input blocks. -/
theorem out_A (c : Dev nD) (i : grid0.Coords) (a3 : Memref sig .tc .vmem S1024x1024 .bf16) (h3 : a3.IsWhole) (a4 : Memref sig .tc .vmem S1024x2048 .bf16) (h4 : a4.IsWhole) (a5 : Memref sig .tc .vmem S1024x2048 .f32) (h5 : a5.IsWhole) (a6 : Memref sig .tc .vmem S1024x2048 .f32) (h6 : a6.IsWhole)
    (x0 : Vec F S1024x1024 .bf16) (x1 : Vec F S1024x2048 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x1024) hz2, View.ld_unit_zero (S := S1024x2048) hz2]

/-- Where the blocks lie: the rows' quarter is the slow coordinate, the columns' half the fast one. -/
theorem idx0 : ∀ t : Fin cfg0.N, win0_0.index t (0 : Fin 2) = t.val / 2 ∧ win0_0.index t (1 : Fin 2) = 0 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)
theorem idx2 : ∀ t : Fin cfg0.N, win0_2.index t (0 : Fin 2) = t.val / 2 ∧ win0_2.index t (1 : Fin 2) = t.val % 2 :=
  (by decide +kernel : ∀ t : Fin grid0.N, _)
theorem flush2 : ∀ t : Fin cfg0.N, (cfg0.win 2).flush t = true :=
  (by decide +kernel : ∀ t : Fin grid0.N, win0_2.flush t = true)

theorem blk0_apply (c : Dev nD) (t : Fin cfg0.N) (y : S1024x1024.Idx) (i : S4096x1024.Idx)
    (h0 : (i 0).val = (t.val / 2) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1024x2048.Idx) (i : S1024x4096.Idx)
    (h0 : (i 0).val = (y 0).val) (h1 : (i 1).val = (t.val % 2) * 2048 + (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 2048 + 1 * (y 1).val = (i 1).val; rw [e.2]; omega

end Blocks

theorem pay_apply (x0 : Vec Ideal S1024x1024 .bf16) (x1 : Vec Ideal S1024x2048 .bf16) (j : S1024x2048.Idx) :
    k0_pay1 (F := Ideal) x0 x1 j = ∑ k : Fin 1024, x0 (ix2 (j 0) k) * x1 (ix2 k (j 1)) := by
  pointwise [k0_pay1]

theorem ref_apply (x0 : (⟨S4096x1024, .bf16⟩ : BufTy).Contents (Elt Ideal)) (x1 : (⟨S1024x4096, .bf16⟩ : BufTy).Contents (Elt Ideal)) (i : S4096x4096.Idx) :
    Cert.ProjRefIdeal.Read.val_main_v2 (F := Ideal) x0 x1 i = ∑ k : Fin 1024, x0 (ix2 (i 0) k) * x1 (ix2 k (i 1)) := by
  rw [← Cert.ProjRefIdeal.Read.val_main_v2_eq]
  pointwise

/-- The array the kernel leaves is the reference's. -/
theorem arr_eq (m : (ℓ : Loc nD τ sig) → Buf (Elt Ideal) ℓ) (c : Dev nD) :
    (dats m 0 c).arrAt 2 cfg0.N = Cert.ProjRefIdeal.Read.val_main_v2 (F := Ideal) (m ((c : Thread nD τ).loc main_arg0)) (m ((c : Thread nD τ).loc main_arg1)) := by
  funext i
  have i0 : (i 0).val < 4096 := (i 0).isLt
  have i1 : (i 1).val < 4096 := (i 1).isLt
  have hN : cfg0.N = 8 := N_0
  obtain ⟨n, hn⟩ : ∃ n, n = (i 0).val / 1024 * 2 + (i 1).val / 2048 := ⟨_, rfl⟩
  have hlt : n < cfg0.N := by omega
  have e := idx2 ⟨n, hlt⟩
  dsimp only at e
  have h := congrFun (Value.blocks2 m c ⟨n, hlt⟩ (flush2 _)) (ix2 ⟨(i 0).val % 1024, by omega⟩ ⟨(i 1).val % 2048, by omega⟩ : S1024x2048.Idx)
  rw [View.read_apply, Value.flushed2_A, out_A] at h
  have hi : ((cfg0.win 2).blk ⟨n, hlt⟩).view.emb (ix2 ⟨(i 0).val % 1024, by omega⟩ ⟨(i 1).val % 2048, by omega⟩ : S1024x2048.Idx) = i := by
    funext a
    apply Fin.ext
    match a with
    | ⟨0, _⟩ => show win0_2.index ⟨n, hlt⟩ 0 * 1024 + 1 * ((i 0).val % 1024) = (i 0).val; rw [e.1]; omega
    | ⟨1, _⟩ => show win0_2.index ⟨n, hlt⟩ 1 * 2048 + 1 * ((i 1).val % 2048) = (i 1).val; rw [e.2]; omega
  rw [hi] at h
  refine h.trans ?_
  show k0_pay1 (F := Ideal) _ _ (ix2 ⟨(i 0).val % 1024, by omega⟩ ⟨(i 1).val % 2048, by omega⟩) = _
  rw [pay_apply, ref_apply]
  refine Finset.sum_congr rfl fun k _ => ?_
  congr 1
  · refine blk0_apply m c _ _ _ ?_ rfl
    show (i 0).val = n / 2 * 1024 + (i 0).val % 1024; omega
  · refine blk1_apply m c _ _ _ rfl ?_
    show (i 1).val = n % 2 * 2048 + (i 1).val % 2048; omega

/-- The two programs run side by side: same arguments, same result. -/
theorem algebraic (m : (ℓ : Loc nD τ sig) → Buf (Elt Ideal) ℓ) (g : Dev nD → PrngReg)
    (m' : (ℓ : Loc Cert.ProjRefIdeal.nD Cert.ProjRefIdeal.τ Cert.ProjRefIdeal.sig) → Buf (Elt Ideal) ℓ) (g' : Dev Cert.ProjRefIdeal.nD → PrngReg)
    (hag : ∀ c : Dev nD,
      m' ((c.tc : Thread Cert.ProjRefIdeal.nD Cert.ProjRefIdeal.τ).loc Cert.ProjRefIdeal.main_arg0) = m ((c.tc : Thread nD τ).loc main_arg0)
      ∧ m' ((c.tc : Thread Cert.ProjRefIdeal.nD Cert.ProjRefIdeal.τ).loc Cert.ProjRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)) :=
  ⟨fun c => (dats m 0 c).arrAt 2 cfg0.N, Value.run_blocks m g,
    (θ_run _ _ _).mono (fun _ h c => ⟨(h c).1.trans (by
        rw [Cert.ProjRefIdeal.Read.val_main_v2_eq, (hag c).1, (hag c).2]; exact (arr_eq m c).symm), (h c).2⟩)
      (Cert.ProjRefIdeal.Value.run m' g')⟩

end Cert.ProjIdeal.Sum

end
-- ==== Proof.Mixer.DIn.lean ====
/- The value of the gradient of the mixer's normalised input through the joined input weights (`mm_nt`): each block of rows
   is the sum, over the two halves of the 4096 columns, of the products; the reference is one contraction. -/
module

public import proofs.«01_k».proof.Proof.Gen.DInIdeal.Value
public import proofs.«01_k».proof.Proof.Gen.DInRefIdeal.Run
public import proofs.«01_k».proof.Proof.Gen.DInRefIdeal.Read
public import Idealize.ShloMosaic.Lib.Pointwise

@[expose] public section

set_option maxRecDepth 16384

noncomputable section

namespace Cert.DInIdeal.Sum

open Cert.DInIdeal Cert.DInIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- At a first half the scratch ends holding the half's product. -/
theorem sout_A (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (hc2 : ¬cond0_2 i)
    (x0 : Vec F S1024x2048 .bf16) (x1 : Vec F S1024x2048 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x2048) hz2]

/-- At a second half the block written is what the first half left plus the second half's product. -/
theorem out_B (c : Dev nD) (i : grid0.Coords) (a3 : Memref sig .tc .vmem S1024x2048 .bf16) (h3 : a3.IsWhole) (a4 : Memref sig .tc .vmem S1024x2048 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (hc2 : cond0_2 i)
    (x0 : Vec F S1024x2048 .bf16) (x1 : Vec F S1024x2048 .bf16) (xs : Vec F S1024x1024 .f32) :
    out0_B_2 c i a3 h3 a4 h4 a5 h5 a6 h6 hc0 hc1 hc2 x0 x1 xs = k0_pay3 x0 x1 xs := by
  unfold out0_B_2
  rw [View.read_writes_eq_canon _ _ _ (cover0_B_2 c i a3 h3 a4 h4 a5 h5 a6 h6 hc0 hc1 hc2 x0 x1 xs)]
  unfold kernelRun0_B
  dsimp only
  sl_unfold_words
  rw [View.canon_unit_zero hz2, View.readCov_unit_zero (S := S1024x1024) _ hz2]
  simp only [View.readAt_eq_ld, h3.read_unread, h4.read_unread, h6.read_unread, View.ld_unit_zero (S := S1024x2048) hz2, View.ld_unit_zero (S := S1024x1024) hz2]

/-- The block a second half writes back: the two halves' products added. -/
theorem outs_eq (c : Dev nD) (n : ℕ) (h : n + 1 < cfg0.N) (h' : n < cfg0.N) (he : n % 2 = 0) :
    (outsAt0 m c (n + 1) h).1 = k0_pay3 (iblk m c 0 ⟨n + 1, h⟩) (iblk m c 1 ⟨n + 1, h⟩) (k0_pay2 (iblk m c 0 ⟨n, h'⟩) (iblk m c 1 ⟨n, h'⟩)) := by
  rw [outsAt0_B m c ⟨n + 1, h⟩ (by dsimp only; omega) (by dsimp only; omega) (by dsimp only; omega)]
  dsimp only
  rw [out_B]
  congr 1
  show (outsAt0 m c n _).2 = _
  rw [outsAt0_A m c ⟨n, h'⟩ he (by dsimp only; omega) (by dsimp only; omega)]
  dsimp only
  rw [sout_A]

/-- Where the blocks lie: the columns' half is the point's parity, the rows follow from the rest. -/
theorem idx0 : ∀ t : Fin cfg0.N, win0_0.index t (0 : Fin 2) = t.val / 2 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val % 2 :=
  (by decide +kernel : ∀ t : Fin grid0.N, _)

theorem blk0_apply (c : Dev nD) (t : Fin cfg0.N) (y : S1024x2048.Idx) (i : S4096x4096.Idx)
    (h0 : (i 0).val = (t.val / 2) * 1024 + (y 0).val) (h1 : (i 1).val = (t.val % 2) * 2048 + (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 2048 + 1 * (y 1).val = (i 1).val; rw [e.2]; omega

theorem blk1_apply (c : Dev nD) (t : Fin cfg0.N) (y : S1024x2048.Idx) (i : S1024x4096.Idx)
    (h0 : (i 0).val = (y 0).val) (h1 : (i 1).val = (t.val % 2) * 2048 + (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 2048 + 1 * (y 1).val = (i 1).val; rw [e.2]; omega

end Blocks

theorem pay_apply (xa xb ya yb : Vec Ideal S1024x2048 .bf16) (j : S1024x1024.Idx) :
    k0_pay3 (F := Ideal) xb yb (k0_pay2 xa ya) j
      = (∑ k : Fin 2048, xa (ix2 (j 0) k) * ya (ix2 (j 1) k)) + ∑ k : Fin 2048, xb (ix2 (j 0) k) * yb (ix2 (j 1) k) := by
  pointwise [k0_pay3, k0_pay2, k0_pay1]

theorem ref_apply (x0 : (⟨S4096x4096, .bf16⟩ : BufTy).Contents (Elt Ideal)) (x1 : (⟨S1024x4096, .bf16⟩ : BufTy).Contents (Elt Ideal)) (i : S4096x1024.Idx) :
    Cert.DInRefIdeal.Read.val_main_v4 (F := Ideal) x0 x1 i = ∑ k : Fin 4096, x0 (ix2 (i 0) k) * x1 (ix2 (i 1) k) := by
  rw [← Cert.DInRefIdeal.Read.val_main_v4_eq]
  pointwise

/-- The kernel's result is the reference's. -/
theorem G2_eq (m : (ℓ : Loc nD τ sig) → Buf (Elt Ideal) ℓ) (c : Dev nD) :
    Value.G2 m c = Cert.DInRefIdeal.Read.val_main_v4 (F := Ideal) (m ((c : Thread nD τ).loc main_arg0)) (m ((c : Thread nD τ).loc main_arg1)) := by
  funext i
  have i0 : (i 0).val < 4096 := (i 0).isLt
  have i1 : (i 1).val < 1024 := (i 1).isLt
  have hN : cfg0.N = 8 := N_0
  have hr : Value.run2Of i = (i 0).val / 1024 := by
    show 1 * ((i 0).val / 1024 - 0) + 1 * ((i 1).val / 1024 - 0) = _; omega
  have hp : Value.pt2Of i < cfg0.N := by show 2 * Value.run2Of i + 1 < cfg0.N; omega
  generalize hn : 2 * Value.run2Of i = n at *
  have hn' : n < cfg0.N := by omega
  unfold Value.G2
  rw [dif_pos hp, ← Value.outsAt0_sweep m c (Value.pt2Of i) hp]
  have e' : (outsAt0 m c (Value.pt2Of i) hp).1 = (outsAt0 m c (n + 1) (by omega)).1 := by
    congr 2; show 2 * Value.run2Of i + 1 = n + 1; rw [hn]
  rw [e', outs_eq m c n (by omega) hn' (by omega), pay_apply, ref_apply, Fin.sum_univ_two_halves 2048 2048 rfl]
  refine congrArg₂ (· + ·) ?_ ?_
  all_goals
    refine Finset.sum_congr rfl fun k _ => ?_
    have hk := k.isLt
    refine congrArg₂ (· * ·) (blk0_apply m c _ _ _ ?_ ?_) (blk1_apply m c _ _ _ ?_ ?_)
    · show (i 0).val = _ / 2 * 1024 + (i 0).val % 1024; dsimp only; omega
    · show (_ : ℕ) = _ % 2 * 2048 + k.val; simp only [ix2]; omega
    · show (i 1).val = (i 1).val % 1024; omega
    · show (_ : ℕ) = _ % 2 * 2048 + k.val; simp only [ix2]; omega

/-- The two programs run side by side: same arguments, same result. -/
theorem algebraic (m : (ℓ : Loc nD τ sig) → Buf (Elt Ideal) ℓ) (g : Dev nD → PrngReg)
    (m' : (ℓ : Loc Cert.DInRefIdeal.nD Cert.DInRefIdeal.τ Cert.DInRefIdeal.sig) → Buf (Elt Ideal) ℓ) (g' : Dev Cert.DInRefIdeal.nD → PrngReg)
    (hag : ∀ c : Dev nD,
      m' ((c.tc : Thread Cert.DInRefIdeal.nD Cert.DInRefIdeal.τ).loc Cert.DInRefIdeal.main_arg0) = m ((c.tc : Thread nD τ).loc main_arg0)
      ∧ m' ((c.tc : Thread Cert.DInRefIdeal.nD Cert.DInRefIdeal.τ).loc Cert.DInRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DInRefIdeal.defs (F := Ideal)) (onTc (τ := Cert.DInRefIdeal.τ) (Cert.DInRefIdeal.main (F := Ideal))) ⟨m', fun _ => 0, g'⟩ (fun r => ∀ c : Dev Cert.DInRefIdeal.nD,
          r.2.mem ((c.tc : Thread Cert.DInRefIdeal.nD Cert.DInRefIdeal.τ).loc Cert.DInRefIdeal.main_v4) = v0 c
          ∧ r.2.mem ((c.tc : Thread Cert.DInRefIdeal.nD Cert.DInRefIdeal.τ).loc Cert.DInRefIdeal.main_arg0) = m' ((c.tc : Thread Cert.DInRefIdeal.nD Cert.DInRefIdeal.τ).loc Cert.DInRefIdeal.main_arg0)
          ∧ r.2.mem ((c.tc : Thread Cert.DInRefIdeal.nD Cert.DInRefIdeal.τ).loc Cert.DInRefIdeal.main_arg1) = m' ((c.tc : Thread Cert.DInRefIdeal.nD Cert.DInRefIdeal.τ).loc Cert.DInRefIdeal.main_arg1)) :=
  ⟨fun c => Value.G2 m c, Value.run m g,
    (θ_run _ _ _).mono (fun _ h c => ⟨(h c).1.trans (by
        rw [Cert.DInRefIdeal.Read.val_main_v4_eq, (hag c).1, (hag c).2]; exact (G2_eq m c).symm), (h c).2⟩)
      (Cert.DInRefIdeal.Value.run m' g')⟩

end Cert.DInIdeal.Sum

end
-- ==== Proof.Mixer.DwIn.lean ====
/- The value of the gradient of the mixer's joined input weights (`mm_tn`): each half of the columns is the sum, over the
   four quarters of the tokens, of the products, rounded; the reference is one contraction over all tokens, rounded. -/
module

public import proofs.«01_k».proof.Proof.Gen.DwInIdeal.Value
public import proofs.«01_k».proof.Proof.Gen.DwInRefIdeal.Run
public import proofs.«01_k».proof.Proof.Gen.DwInRefIdeal.Read
public import proofs.«01_k».proof.Proof.Finite
public import Idealize.ShloMosaic.Lib.Pointwise

@[expose] public section

set_option maxRecDepth 16384

noncomputable section

namespace Cert.DwInIdeal.Sum

open Cert.DwInIdeal Cert.DwInIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- At a first quarter the scratch ends holding the quarter's product. -/
theorem sout_A (c : Dev nD) (i : grid0.Coords) (a3 : Memref sig .tc .vmem S1024x1024 .bf16) (h3 : a3.IsWhole) (a4 : Memref sig .tc .vmem S1024x2048 .bf16) (h4 : a4.IsWhole) (a5 : Memref sig .tc .vmem S1024x2048 .bf16) (h5 : a5.IsWhole) (a6 : Memref sig .tc .vmem S1024x2048 .f32) (h6 : a6.IsWhole) (hc0 : cond0_0 i) (hc1 : ¬cond0_1 i) (hc2 : ¬cond0_2 i)
    (x0 : Vec F S1024x1024 .bf16) (x1 : Vec F S1024x2048 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x1024) hz2, View.ld_unit_zero (S := S1024x2048) hz2]

/-- At a middle quarter the scratch ends holding what it held plus the quarter's product. -/
theorem sout_B (c : Dev nD) (i : grid0.Coords) (a3 : Memref sig .tc .vmem S1024x1024 .bf16) (h3 : a3.IsWhole) (a4 : Memref sig .tc .vmem S1024x2048 .bf16) (h4 : a4.IsWhole) (a5 : Memref sig .tc .vmem S1024x2048 .bf16) (h5 : a5.IsWhole) (a6 : Memref sig .tc .vmem S1024x2048 .f32) (h6 : a6.IsWhole) (hc0 : ¬cond0_0 i) (hc1 : cond0_1 i) (hc2 : ¬cond0_2 i)
    (x0 : Vec F S1024x1024 .bf16) (x1 : Vec F S1024x2048 .bf16) (xs : Vec F S1024x2048 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x1024) hz2, View.ld_unit_zero (S := S1024x2048) hz2]

/-- At a last quarter the block written is the rounding of the same sum. -/
theorem out_C (c : Dev nD) (i : grid0.Coords) (a3 : Memref sig .tc .vmem S1024x1024 .bf16) (h3 : a3.IsWhole) (a4 : Memref sig .tc .vmem S1024x2048 .bf16) (h4 : a4.IsWhole) (a5 : Memref sig .tc .vmem S1024x2048 .bf16) (h5 : a5.IsWhole) (a6 : Memref sig .tc .vmem S1024x2048 .f32) (h6 : a6.IsWhole) (hc0 : ¬cond0_0 i) (hc1 : cond0_1 i) (hc2 : cond0_2 i)
    (x0 : Vec F S1024x1024 .bf16) (x1 : Vec F S1024x2048 .bf16) (xs : Vec F S1024x2048 .f32) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x2048) _ hz2]
  simp only [View.readAt_eq_ld, h3.read_unread, h4.read_unread, h6.read_unread, View.ld_unit_zero (S := S1024x1024) hz2, View.ld_unit_zero (S := S1024x2048) hz2]

/-- What a middle quarter leaves in the scratch. -/
theorem mid_eq (c : Dev nD) (n : ℕ) (h : n + 1 < cfg0.N) (h1 : ¬(n + 1) % 4 = 0) (h2 : ¬(n + 1) % 4 = 3) :
    (outsAt0 m c (n + 1) h).2 = k0_pay3 (iblk m c 0 ⟨n + 1, h⟩) (iblk m c 1 ⟨n + 1, h⟩) (outsAt0 m c n (by omega)).2 := by
  rw [outsAt0_B m c ⟨n + 1, h⟩ h1 (by dsimp only; omega) h2]
  dsimp only
  rw [sout_B]
  rfl

/-- The block a last quarter writes back: the four quarters' products added, rounded. -/
theorem outs_eq (c : Dev nD) (n : ℕ) (h : n + 3 < cfg0.N) (he : n % 4 = 0) :
    (outsAt0 m c (n + 3) h).1 = k0_pay4 (k0_pay3 (iblk m c 0 ⟨n + 3, h⟩) (iblk m c 1 ⟨n + 3, h⟩)
      (k0_pay3 (iblk m c 0 ⟨n + 2, by omega⟩) (iblk m c 1 ⟨n + 2, by omega⟩)
      (k0_pay3 (iblk m c 0 ⟨n + 1, by omega⟩) (iblk m c 1 ⟨n + 1, by omega⟩)
      (k0_pay2 (iblk m c 0 ⟨n, by omega⟩) (iblk m c 1 ⟨n, by omega⟩))))) := by
  rw [outsAt0_C m c ⟨n + 3, h⟩ (by dsimp only; omega) (by dsimp only; omega) (by dsimp only; omega)]
  dsimp only
  rw [out_C]
  congr 2
  show (outsAt0 m c (n + 2) _).2 = _
  rw [mid_eq m c (n + 1) (by omega) (by omega) (by omega), mid_eq m c n (by omega) (by omega) (by omega),
    outsAt0_A m c ⟨n, by omega⟩ he (by dsimp only; omega) (by dsimp only; omega)]
  dsimp only
  rw [sout_A]

/-- Where the blocks lie: the tokens' quarter is the fast coordinate, the columns' half the slow one. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)

theorem blk0_apply (c : Dev nD) (t : Fin cfg0.N) (y : S1024x1024.Idx) (i : S4096x1024.Idx)
    (h0 : (i 0).val = (t.val % 4) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1024x2048.Idx) (i : S4096x4096.Idx)
    (h0 : (i 0).val = (t.val % 4) * 1024 + (y 0).val) (h1 : (i 1).val = (t.val / 4) * 2048 + (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 2048 + 1 * (y 1).val = (i 1).val; rw [e.2]; omega

end Blocks

/-- The four products added, at an index. -/
theorem pay_apply (xa xb xc xd : Vec Ideal S1024x1024 .bf16) (ya yb yc yd : Vec Ideal S1024x2048 .bf16) (j : S1024x2048.Idx) :
    k0_pay4 (F := Ideal) (k0_pay3 xd yd (k0_pay3 xc yc (k0_pay3 xb yb (k0_pay2 xa ya)))) j
      = (∑ k : Fin 1024, xa (ix2 k (j 0)) * ya (ix2 k (j 1))) + (∑ k : Fin 1024, xb (ix2 k (j 0)) * yb (ix2 k (j 1)))
        + (∑ k : Fin 1024, xc (ix2 k (j 0)) * yc (ix2 k (j 1))) + ∑ k : Fin 1024, xd (ix2 k (j 0)) * yd (ix2 k (j 1)) := by
  pointwise [k0_pay4, k0_pay3, k0_pay2, k0_pay1]

theorem ref_apply (x0 : (⟨S4096x1024, .bf16⟩ : BufTy).Contents (Elt Ideal)) (x1 : (⟨S4096x4096, .bf16⟩ : BufTy).Contents (Elt Ideal)) (i : S1024x4096.Idx) :
    Cert.DwInRefIdeal.Read.val_main_v6 (F := Ideal) x0 x1 i = ∑ k : Fin 4096, x1 (ix2 k (i 1)) * x0 (ix2 k (i 0)) := by
  rw [← Cert.DwInRefIdeal.Read.val_main_v6_eq]
  pointwise

/-- The kernel's result is the reference's. -/
theorem G2_eq (m : (ℓ : Loc nD τ sig) → Buf (Elt Ideal) ℓ) (c : Dev nD) :
    Value.G2 m c = Cert.DwInRefIdeal.Read.val_main_v6 (F := Ideal) (m ((c : Thread nD τ).loc main_arg0)) (m ((c : Thread nD τ).loc main_arg1)) := by
  funext i
  have i0 : (i 0).val < 1024 := (i 0).isLt
  have i1 : (i 1).val < 4096 := (i 1).isLt
  have hN : cfg0.N = 8 := N_0
  have hr : Value.run2Of i = (i 1).val / 2048 := by
    show 2 * ((i 0).val / 1024 - 0) + 1 * ((i 1).val / 2048 - 0) = _; omega
  have hp : Value.pt2Of i < cfg0.N := by show 4 * Value.run2Of i + 3 < cfg0.N; omega
  generalize hn : 4 * Value.run2Of i = n at *
  unfold Value.G2
  rw [dif_pos hp, ← Value.outsAt0_sweep m c (Value.pt2Of i) hp]
  have e' : (outsAt0 m c (Value.pt2Of i) hp).1 = (outsAt0 m c (n + 3) (by omega)).1 := by
    congr 2; show 4 * Value.run2Of i + 3 = n + 3; rw [hn]
  rw [e', outs_eq m c n (by omega) (by omega), pay_apply, ref_apply, Cert.Finite.sum_quarters 1024 rfl]
  refine congrArg₂ (· + ·) (congrArg₂ (· + ·) (congrArg₂ (· + ·) ?_ ?_) ?_) ?_
  all_goals
    refine Finset.sum_congr rfl fun k _ => ?_
    have hk := k.isLt
    rw [mul_comm]
    refine congrArg₂ (· * ·) (blk1_apply m c _ _ _ ?_ ?_) (blk0_apply m c _ _ _ ?_ ?_)
    · show (_ : ℕ) = _ % 4 * 1024 + k.val; simp only [ix2]; omega
    · show (i 1).val = _ / 4 * 2048 + (i 1).val % 2048; dsimp only; omega
    · show (_ : ℕ) = _ % 4 * 1024 + k.val; simp only [ix2]; omega
    · show (i 0).val = (i 0).val % 1024; omega

/-- The two programs run side by side: same arguments, same result. -/
theorem algebraic (m : (ℓ : Loc nD τ sig) → Buf (Elt Ideal) ℓ) (g : Dev nD → PrngReg)
    (m' : (ℓ : Loc Cert.DwInRefIdeal.nD Cert.DwInRefIdeal.τ Cert.DwInRefIdeal.sig) → Buf (Elt Ideal) ℓ) (g' : Dev Cert.DwInRefIdeal.nD → PrngReg)
    (hag : ∀ c : Dev nD,
      m' ((c.tc : Thread Cert.DwInRefIdeal.nD Cert.DwInRefIdeal.τ).loc Cert.DwInRefIdeal.main_arg0) = m ((c.tc : Thread nD τ).loc main_arg0)
      ∧ m' ((c.tc : Thread Cert.DwInRefIdeal.nD Cert.DwInRefIdeal.τ).loc Cert.DwInRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v6) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)) :=
  ⟨fun c => Value.G2 m c, Value.run m g,
    (θ_run _ _ _).mono (fun _ h c => ⟨(h c).1.trans (by
        rw [Cert.DwInRefIdeal.Read.val_main_v6_eq, (hag c).1, (hag c).2]; exact (G2_eq m c).symm), (h c).2⟩)
      (Cert.DwInRefIdeal.Value.run m' g')⟩

end Cert.DwInIdeal.Sum

end
-- ==== Proof.Mixer.DOut.lean ====
/- The value of the incoming gradient times the output weights (`gmm_rows_dx`): the weights lie in four shards of 256 rows,
   each block of the result is one product with one shard; the reference is one product with the shards joined. -/
module

public import proofs.«01_k».proof.Proof.Gen.DOutIdeal.Value
public import proofs.«01_k».proof.Proof.Gen.DOutRefIdeal.Run
public import proofs.«01_k».proof.Proof.Gen.DOutRefIdeal.Read
public import Idealize.ShloMosaic.Lib.Pointwise

@[expose] public section

set_option maxRecDepth 16384

noncomputable section

namespace Cert.DOutIdeal.Sum

open Cert.DOutIdeal Cert.DOutIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The block a point writes is the product of its two input blocks. -/
theorem out_A (c : Dev nD) (i : grid0.Coords) (a2 : Memref sig .tc .vmem S1024x1024 .bf16) (h2 : a2.IsWhole) (a3 : Memref sig .tc .vmem S1x256x1024 .bf16) (h3 : a3.IsWhole) (a4 : Memref sig .tc .vmem S1024x256 .f32) (h4 : a4.IsWhole) (a5 : Memref sig .tc .vmem S8x128 .f32) (h5 : a5.IsWhole)
    (x0 : Vec F S1024x1024 .bf16) (x1 : Vec F S1x256x1024 .bf16) :
    out0_A_2 c i a2 h2 a3 h3 a4 h4 a5 h5 x0 x1 = k0_pay1 x0 x1 := by
  unfold out0_A_2
  rw [View.read_writes_eq_canon _ _ _ (cover0_A_2 c i a2 h2 a3 h3 a4 h4 a5 h5 x0 x1)]
  unfold kernelRun0_A
  dsimp only
  sl_unfold_words
  rw [View.canon_unit_zero hz2]
  simp only [View.readAt_eq_ld, h2.read_unread, h3.read_unread, View.ld_unit_zero (S := S1024x1024) hz2, View.ld_unit_zero (S := S1x256x1024) hz3]

/-- Where the blocks lie: the shard is the slow coordinate, the rows' quarter the fast one. -/
theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val % 4 ∧ win0_2.index t (1 : Fin 2) = t.val / 4 :=
  (by decide +kernel : ∀ t : Fin grid0.N, _)
theorem flush2 : ∀ t : Fin cfg0.N, (cfg0.win 2).flush t = true :=
  (by decide +kernel : ∀ t : Fin grid0.N, win0_2.flush t = true)

theorem blk0_apply (c : Dev nD) (t : Fin cfg0.N) (y : S1024x1024.Idx) (i : S4096x1024.Idx)
    (h0 : (i 0).val = (t.val % 4) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1x256x1024.Idx) (i : S4x256x1024.Idx)
    (h0 : (i 0).val = t.val / 4) (h1 : (i 1).val = (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  have y0 : (y 0).val < 1 := (y 0).isLt
  match a with
  | ⟨0, _⟩ => show win0_1.index t 0 * 1 + 1 * (y 0).val = (i 0).val; rw [e.1]; omega
  | ⟨1, _⟩ => show win0_1.index t 1 * 256 + 1 * (y 1).val = (i 1).val; rw [e.2.1]; omega
  | ⟨2, _⟩ => show win0_1.index t 2 * 1024 + 1 * (y 2).val = (i 2).val; rw [e.2.2]; omega

end Blocks

theorem pay_apply (x0 : Vec Ideal S1024x1024 .bf16) (x1 : Vec Ideal S1x256x1024 .bf16) (j : S1024x256.Idx) :
    k0_pay1 (F := Ideal) x0 x1 j = ∑ k : Fin 1024, x0 (ix2 (j 0) k) * x1 (ix3 0 (j 1) k) := by
  pointwise [k0_pay1]

/-- The reference at a column that is row `b` of shard `a`. -/
theorem ref_apply (x0 : (⟨S4096x1024, .bf16⟩ : BufTy).Contents (Elt Ideal)) (x1 : (⟨S4x256x1024, .bf16⟩ : BufTy).Contents (Elt Ideal)) (i : S4096x1024.Idx)
    (a : Fin 4) (b : Fin 256) (h : (i 1).val = a.val * 256 + b.val) :
    Cert.DOutRefIdeal.Read.val_main_v5 (F := Ideal) x0 x1 i = ∑ k : Fin 1024, x0 (ix2 (i 0) k) * x1 (ix3 a b k) := by
  rw [Cert.DOutRefIdeal.Read.val_main_v5_apply]
  refine Finset.sum_congr rfl fun k _ => congrArg₂ (· * ·) (congrArg x0 (funext fun d => Fin.ext ?_)) ?_
  · match d with
    | ⟨0, _⟩ => rfl
    | ⟨1, _⟩ => rfl
  · rw [Cert.DOutRefIdeal.Read.val_main_v2_apply]
    refine congrArg x1 (funext fun d => Fin.ext ?_)
    have ha := a.isLt
    have hb := b.isLt
    have hk := k.isLt
    match d with
    | ⟨0, _⟩ => show ((i 1).val * 1024 + k.val) / 262144 = a.val; omega
    | ⟨1, _⟩ => show ((i 1).val * 1024 + k.val) / 1024 % 256 = b.val; omega
    | ⟨2, _⟩ => show ((i 1).val * 1024 + k.val) % 1024 = k.val; omega

/-- The array the kernel leaves is the reference's. -/
theorem arr_eq (m : (ℓ : Loc nD τ sig) → Buf (Elt Ideal) ℓ) (c : Dev nD) :
    (dats m 0 c).arrAt 2 cfg0.N = Cert.DOutRefIdeal.Read.val_main_v5 (F := Ideal) (m ((c : Thread nD τ).loc main_arg0)) (m ((c : Thread nD τ).loc main_arg1)) := by
  funext i
  have i0 : (i 0).val < 4096 := (i 0).isLt
  have i1 : (i 1).val < 1024 := (i 1).isLt
  have hN : cfg0.N = 16 := N_0
  obtain ⟨n, hn⟩ : ∃ n, n = (i 1).val / 256 * 4 + (i 0).val / 1024 := ⟨_, rfl⟩
  have hlt : n < cfg0.N := by omega
  have e := idx2 ⟨n, hlt⟩
  dsimp only at e
  have h := congrFun (Value.blocks2 m c ⟨n, hlt⟩ (flush2 _)) (ix2 ⟨(i 0).val % 1024, by omega⟩ ⟨(i 1).val % 256, by omega⟩ : S1024x256.Idx)
  rw [View.read_apply, Value.flushed2_A, out_A] at h
  have hi : ((cfg0.win 2).blk ⟨n, hlt⟩).view.emb (ix2 ⟨(i 0).val % 1024, by omega⟩ ⟨(i 1).val % 256, by omega⟩ : S1024x256.Idx) = i := by
    funext a
    apply Fin.ext
    match a with
    | ⟨0, _⟩ => show win0_2.index ⟨n, hlt⟩ 0 * 1024 + 1 * ((i 0).val % 1024) = (i 0).val; rw [e.1]; omega
    | ⟨1, _⟩ => show win0_2.index ⟨n, hlt⟩ 1 * 256 + 1 * ((i 1).val % 256) = (i 1).val; rw [e.2]; omega
  rw [hi] at h
  refine h.trans ?_
  show k0_pay1 (F := Ideal) _ _ (ix2 ⟨(i 0).val % 1024, by omega⟩ ⟨(i 1).val % 256, by omega⟩) = _
  rw [pay_apply, ref_apply _ _ _ ⟨(i 1).val / 256, by omega⟩ ⟨(i 1).val % 256, by omega⟩ (by dsimp only; omega)]
  refine Finset.sum_congr rfl fun k _ => congrArg₂ (· * ·) (blk0_apply m c _ _ _ ?_ rfl) (blk1_apply m c _ _ _ ?_ rfl rfl)
  · show (i 0).val = n % 4 * 1024 + (i 0).val % 1024; omega
  · show (i 1).val / 256 = n / 4; omega

/-- The two programs run side by side: same arguments, same result. -/
theorem algebraic (m : (ℓ : Loc nD τ sig) → Buf (Elt Ideal) ℓ) (g : Dev nD → PrngReg)
    (m' : (ℓ : Loc Cert.DOutRefIdeal.nD Cert.DOutRefIdeal.τ Cert.DOutRefIdeal.sig) → Buf (Elt Ideal) ℓ) (g' : Dev Cert.DOutRefIdeal.nD → PrngReg)
    (hag : ∀ c : Dev nD,
      m' ((c.tc : Thread Cert.DOutRefIdeal.nD Cert.DOutRefIdeal.τ).loc Cert.DOutRefIdeal.main_arg0) = m ((c.tc : Thread nD τ).loc main_arg0)
      ∧ m' ((c.tc : Thread Cert.DOutRefIdeal.nD Cert.DOutRefIdeal.τ).loc Cert.DOutRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v5) = v0 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1)) :=
  ⟨fun c => (dats m 0 c).arrAt 2 cfg0.N, Value.run_blocks m g,
    (θ_run _ _ _).mono (fun _ h c => ⟨(h c).1.trans (by
        rw [Cert.DOutRefIdeal.Read.val_main_v5_eq, (hag c).1, (hag c).2]; exact (arr_eq m c).symm), (h c).2⟩)
      (Cert.DOutRefIdeal.Value.run m' g')⟩

end Cert.DOutIdeal.Sum

end
-- ==== Proof.Mixer.DwOut.lean ====
/- The value of the gradient of the output weights (`gmm_rows_dw`), in four shards of 256 rows: each shard is the sum, over
   the two halves of the tokens, of the products, rounded; the reference is one contraction over all tokens, rounded and
   cut into the shards. -/
module

public import proofs.«01_k».proof.Proof.Gen.DwOutIdeal.Value
public import proofs.«01_k».proof.Proof.Gen.DwOutRefIdeal.Run
public import proofs.«01_k».proof.Proof.Gen.DwOutRefIdeal.Read
public import Idealize.ShloMosaic.Lib.Pointwise

@[expose] public section

set_option maxRecDepth 16384

noncomputable section

namespace Cert.DwOutIdeal.Sum

open Cert.DwOutIdeal Cert.DwOutIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- At a first half the scratch ends holding the half's product. -/
theorem sout_A (c : Dev nD) (i : grid0.Coords) (a2 : Memref sig .tc .vmem S2048x256 .bf16) (h2 : a2.IsWhole) (a3 : Memref sig .tc .vmem S2048x1024 .bf16) (h3 : a3.IsWhole) (a4 : Memref sig .tc .vmem S1x256x1024 .bf16) (h4 : a4.IsWhole) (a5 : Memref sig .tc .vmem S256x1024 .f32) (h5 : a5.IsWhole) (hc0 : cond0_0 i) (hc1 : ¬cond0_1 i) (hc2 : ¬cond0_2 i)
    (x0 : Vec F S2048x256 .bf16) (x1 : Vec F S2048x1024 .bf16) :
    sout0_A_0 c i a2 h2 a3 h3 a4 h4 a5 h5 hc0 hc1 hc2 x0 x1 = k0_pay2 x0 x1 := by
  unfold sout0_A_0
  rw [View.read_writes_eq_canon _ _ _ (scover0_A_0 c i a2 h2 a3 h3 a4 h4 a5 h5 hc0 hc1 hc2 x0 x1)]
  unfold kernelRun0_A
  dsimp only
  sl_unfold_words
  rw [View.canon_unit_zero hz2]
  simp only [View.readAt_eq_ld, h2.read_unread, h3.read_unread, View.ld_unit_zero (S := S2048x1024) hz2, View.ld_unit_zero (S := S2048x256) hz2]

/-- At a second half the block written is the rounding of what the first half left plus the second half's product. -/
theorem out_B (c : Dev nD) (i : grid0.Coords) (a2 : Memref sig .tc .vmem S2048x256 .bf16) (h2 : a2.IsWhole) (a3 : Memref sig .tc .vmem S2048x1024 .bf16) (h3 : a3.IsWhole) (a4 : Memref sig .tc .vmem S1x256x1024 .bf16) (h4 : a4.IsWhole) (a5 : Memref sig .tc .vmem S256x1024 .f32) (h5 : a5.IsWhole) (hc0 : ¬cond0_0 i) (hc1 : cond0_1 i) (hc2 : cond0_2 i)
    (x0 : Vec F S2048x256 .bf16) (x1 : Vec F S2048x1024 .bf16) (xs : Vec F S256x1024 .f32) :
    out0_B_2 c i a2 h2 a3 h3 a4 h4 a5 h5 hc0 hc1 hc2 x0 x1 xs = k0_pay4 (k0_pay3 x0 x1 xs) := by
  unfold out0_B_2
  rw [View.read_writes_eq_canon _ _ _ (cover0_B_2 c i a2 h2 a3 h3 a4 h4 a5 h5 hc0 hc1 hc2 x0 x1 xs)]
  unfold kernelRun0_B
  dsimp only
  sl_unfold_words
  rw [View.canon_unit_zero hz3, View.readCov_unit_zero (S := S256x1024) _ hz2]
  simp only [View.readAt_eq_ld, h2.read_unread, h3.read_unread, h5.read_unread, View.ld_unit_zero (S := S2048x1024) hz2, View.ld_unit_zero (S := S2048x256) hz2, View.ld_unit_zero (S := S256x1024) hz2]

/-- The block a second half writes back: the two halves' products added, rounded. -/
theorem outs_eq (c : Dev nD) (n : ℕ) (h : n + 1 < cfg0.N) (h' : n < cfg0.N) (he : n % 2 = 0) :
    (outsAt0 m c (n + 1) h).1 = k0_pay4 (k0_pay3 (iblk m c 0 ⟨n + 1, h⟩) (iblk m c 1 ⟨n + 1, h⟩) (k0_pay2 (iblk m c 0 ⟨n, h'⟩) (iblk m c 1 ⟨n, h'⟩))) := by
  rw [outsAt0_B m c ⟨n + 1, h⟩ (by dsimp only; omega) (by dsimp only; omega) (by dsimp only; omega)]
  dsimp only
  rw [out_B]
  congr 2
  show (outsAt0 m c n _).2 = _
  rw [outsAt0_A m c ⟨n, h'⟩ he (by dsimp only; omega) (by dsimp only; omega)]
  dsimp only
  rw [sout_A]

/-- Where the input blocks lie: the tokens' half is the point's parity, the shard the rest. -/
theorem idx0 : ∀ t : Fin cfg0.N, win0_0.index t (0 : Fin 2) = t.val % 2 ∧ win0_0.index t (1 : Fin 2) = t.val / 2 :=
  (by decide +kernel : ∀ t : Fin grid0.N, _)
theorem idx1 : ∀ t : Fin cfg0.N, win0_1.index t (0 : Fin 2) = t.val % 2 ∧ win0_1.index t (1 : Fin 2) = 0 :=
  (by decide +kernel : ∀ t : Fin grid0.N, _)

theorem blk0_apply (c : Dev nD) (t : Fin cfg0.N) (y : S2048x256.Idx) (i : S4096x1024.Idx)
    (h0 : (i 0).val = t.val % 2 * 2048 + (y 0).val) (h1 : (i 1).val = t.val / 2 * 256 + (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 2048 + 1 * (y 0).val = (i 0).val; rw [e.1]; omega
  | ⟨1, _⟩ => show win0_0.index t 1 * 256 + 1 * (y 1).val = (i 1).val; rw [e.2]; omega

theorem blk1_apply (c : Dev nD) (t : Fin cfg0.N) (y : S2048x1024.Idx) (i : S4096x1024.Idx)
    (h0 : (i 0).val = t.val % 2 * 2048 + (y 0).val) (h1 : (i 1).val = (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 2048 + 1 * (y 0).val = (i 0).val; rw [e.1]; omega
  | ⟨1, _⟩ => show win0_1.index t 1 * 1024 + 1 * (y 1).val = (i 1).val; rw [e.2]; omega

end Blocks

/-- Both halves' products, at an index. -/
theorem pay_apply (xa xb : Vec Ideal S2048x256 .bf16) (ya yb : Vec Ideal S2048x1024 .bf16) (j : S1x256x1024.Idx) :
    k0_pay4 (F := Ideal) (k0_pay3 xb yb (k0_pay2 xa ya)) j
      = (∑ k : Fin 2048, xa (ix2 k (j 1)) * ya (ix2 k (j 2))) + ∑ k : Fin 2048, xb (ix2 k (j 1)) * yb (ix2 k (j 2)) := by
  pointwise [k0_pay4, k0_pay3, k0_pay2, k0_pay1]

/-- The reference at a shard's row that is row `r` of all. -/
theorem ref_apply (x0 x1 : (⟨S4096x1024, .bf16⟩ : BufTy).Contents (Elt Ideal)) (i : S4x256x1024.Idx)
    (r : Fin 1024) (h : r.val = (i 0).val * 256 + (i 1).val) :
    Cert.DwOutRefIdeal.Read.val_main_v7 (F := Ideal) x0 x1 i = ∑ k : Fin 4096, x0 (ix2 k r) * x1 (ix2 k (i 2)) := by
  have h2 : (i 2).val < 1024 := (i 2).isLt
  rw [Cert.DwOutRefIdeal.Read.val_main_v7_apply]
  show Cert.DwOutRefIdeal.Read.val_main_v5 (F := Ideal) x0 x1 _ = _
  rw [Cert.DwOutRefIdeal.Read.val_main_v5_apply, Cert.DwOutRefIdeal.Read.val_main_v4_apply]
  refine Finset.sum_congr rfl fun k _ => (mul_comm _ _).trans (congrArg₂ (· * ·) (congrArg x0 (funext fun d => Fin.ext ?_)) (congrArg x1 (funext fun d => Fin.ext ?_)))
  · match d with
    | ⟨0, _⟩ => rfl
    | ⟨1, _⟩ => show (((i 0).val * 256 + (i 1).val) * 1024 + (i 2).val) / 1024 = r.val; omega
  · match d with
    | ⟨0, _⟩ => rfl
    | ⟨1, _⟩ => show (((i 0).val * 256 + (i 1).val) * 1024 + (i 2).val) % 1024 = (i 2).val; omega

/-- The kernel's result is the reference's. -/
theorem G2_eq (m : (ℓ : Loc nD τ sig) → Buf (Elt Ideal) ℓ) (c : Dev nD) :
    Value.G2 m c = Cert.DwOutRefIdeal.Read.val_main_v7 (F := Ideal) (m ((c : Thread nD τ).loc main_arg0)) (m ((c : Thread nD τ).loc main_arg1)) := by
  funext i
  have i0 : (i 0).val < 4 := (i 0).isLt
  have i1 : (i 1).val < 256 := (i 1).isLt
  have i2 : (i 2).val < 1024 := (i 2).isLt
  have hN : cfg0.N = 8 := N_0
  have hr : Value.run2Of i = (i 0).val := by
    show 1 * ((i 0).val / 1 - 0) + 1 * ((i 1).val / 256 - 0) + 1 * ((i 2).val / 1024 - 0) = _; omega
  have hp : Value.pt2Of i < cfg0.N := by show 2 * Value.run2Of i + 1 < cfg0.N; omega
  generalize hn : 2 * Value.run2Of i = n at *
  have hn' : n < cfg0.N := by omega
  unfold Value.G2
  rw [dif_pos hp, ← Value.outsAt0_sweep m c (Value.pt2Of i) hp]
  have e' : (outsAt0 m c (Value.pt2Of i) hp).1 = (outsAt0 m c (n + 1) (by omega)).1 := by
    congr 2; show 2 * Value.run2Of i + 1 = n + 1; rw [hn]
  rw [e', outs_eq m c n (by omega) hn' (by omega), pay_apply, ref_apply _ _ _ ⟨(i 0).val * 256 + (i 1).val, by omega⟩ rfl,
    Fin.sum_univ_two_halves 2048 2048 rfl]
  refine congrArg₂ (· + ·) ?_ ?_
  all_goals
    refine Finset.sum_congr rfl fun k _ => ?_
    have hk := k.isLt
    refine congrArg₂ (· * ·) (blk0_apply m c _ _ _ ?_ ?_) (blk1_apply m c _ _ _ ?_ ?_)
    · show (_ : ℕ) = _ % 2 * 2048 + k.val; simp only [ix2]; omega
    · show (i 0).val * 256 + (i 1).val = _ / 2 * 256 + (i 1).val % 256; dsimp only; omega
    · show (_ : ℕ) = _ % 2 * 2048 + k.val; simp only [ix2]; omega
    · show (i 2).val = (i 2).val % 1024; omega

/-- The two programs run side by side: same arguments, same result. -/
theorem algebraic (m : (ℓ : Loc nD τ sig) → Buf (Elt Ideal) ℓ) (g : Dev nD → PrngReg)
    (m' : (ℓ : Loc Cert.DwOutRefIdeal.nD Cert.DwOutRefIdeal.τ Cert.DwOutRefIdeal.sig) → Buf (Elt Ideal) ℓ) (g' : Dev Cert.DwOutRefIdeal.nD → PrngReg)
    (hag : ∀ c : Dev nD,
      m' ((c.tc : Thread Cert.DwOutRefIdeal.nD Cert.DwOutRefIdeal.τ).loc Cert.DwOutRefIdeal.main_arg0) = m ((c.tc : Thread nD τ).loc main_arg0)
      ∧ m' ((c.tc : Thread Cert.DwOutRefIdeal.nD Cert.DwOutRefIdeal.τ).loc Cert.DwOutRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)) :=
  ⟨fun c => Value.G2 m c, Value.run m g,
    (θ_run _ _ _).mono (fun _ h c => ⟨(h c).1.trans (by
        rw [Cert.DwOutRefIdeal.Read.val_main_v7_eq, (hag c).1, (hag c).2]; exact (G2_eq m c).symm), (h c).2⟩)
      (Cert.DwOutRefIdeal.Value.run m' g')⟩

end Cert.DwOutIdeal.Sum

end
-- ==== Proof.Mixer.DBranch.lean ====
/- The value of the product of the incoming gradient of an attention branch with the branch's weights (`mm_nt`): every block of rows is
   one product over the full width; the reference is the one product. -/
module

public import proofs.«01_k».proof.Proof.Gen.DBranchIdeal.Value
public import proofs.«01_k».proof.Proof.Gen.DBranchRefIdeal.Run
public import proofs.«01_k».proof.Proof.Gen.DBranchRefIdeal.Read
public import Idealize.ShloMosaic.Lib.Pointwise

@[expose] public section

set_option maxRecDepth 16384

noncomputable section

namespace Cert.DBranchIdeal.Sum

open Cert.DBranchIdeal Cert.DBranchIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The block a point writes is the product of its two input blocks. -/
theorem out_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x1024) hz2]

/-- Where the blocks lie: the point is the quarter of the rows. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

theorem blk0_apply (c : Dev nD) (t : Fin cfg0.N) (y : S1024x1024.Idx) (i : S4096x1024.Idx)
    (h0 : (i 0).val = (t.val) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1024x1024.Idx) (i : S1024x1024.Idx)
    (h0 : (i 0).val = (y 0).val) (h1 : (i 1).val = (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 1024 + 1 * (y 1).val = (i 1).val; rw [e.2]; omega

end Blocks

theorem pay_apply (x0 : Vec Ideal S1024x1024 .bf16) (x1 : Vec Ideal S1024x1024 .bf16) (j : S1024x1024.Idx) :
    k0_pay1 (F := Ideal) x0 x1 j = ∑ k : Fin 1024, x0 (ix2 (j 0) k) * x1 (ix2 (j 1) k) := by
  pointwise [k0_pay1]

theorem ref_apply (x0 : (⟨S4096x1024, .bf16⟩ : BufTy).Contents (Elt Ideal)) (x1 : (⟨S1024x1024, .bf16⟩ : BufTy).Contents (Elt Ideal)) (i : S4096x1024.Idx) :
    Cert.DBranchRefIdeal.Read.val_main_v4 (F := Ideal) x0 x1 i = ∑ k : Fin 1024, x0 (ix2 (i 0) k) * x1 (ix2 (i 1) k) := by
  rw [← Cert.DBranchRefIdeal.Read.val_main_v4_eq]
  pointwise

/-- The array the kernel leaves is the reference's. -/
theorem arr_eq (m : (ℓ : Loc nD τ sig) → Buf (Elt Ideal) ℓ) (c : Dev nD) :
    (dats m 0 c).arrAt 2 cfg0.N = Cert.DBranchRefIdeal.Read.val_main_v4 (F := Ideal) (m ((c : Thread nD τ).loc main_arg0)) (m ((c : Thread nD τ).loc main_arg1)) := by
  funext i
  have i0 : (i 0).val < 4096 := (i 0).isLt
  have i1 : (i 1).val < 1024 := (i 1).isLt
  have hN : cfg0.N = 4 := N_0
  obtain ⟨n, hn⟩ : ∃ n, n = (i 0).val / 1024 := ⟨_, rfl⟩
  have hlt : n < cfg0.N := by omega
  have e := idx2 ⟨n, hlt⟩
  dsimp only at e
  have h := congrFun (Value.blocks2 m c ⟨n, hlt⟩ (flush2 _)) (ix2 ⟨(i 0).val % 1024, by omega⟩ (i 1) : S1024x1024.Idx)
  rw [View.read_apply, Value.flushed2_A, out_A] at h
  have hi : ((cfg0.win 2).blk ⟨n, hlt⟩).view.emb (ix2 ⟨(i 0).val % 1024, by omega⟩ (i 1) : S1024x1024.Idx) = i := by
    funext a
    apply Fin.ext
    match a with
    | ⟨0, _⟩ => show win0_2.index ⟨n, hlt⟩ 0 * 1024 + 1 * ((i 0).val % 1024) = (i 0).val; rw [e.1]; omega
    | ⟨1, _⟩ => show win0_2.index ⟨n, hlt⟩ 1 * 1024 + 1 * (i 1).val = (i 1).val; rw [e.2]; omega
  rw [hi] at h
  refine h.trans ?_
  show k0_pay1 (F := Ideal) _ _ (ix2 ⟨(i 0).val % 1024, by omega⟩ (i 1)) = _
  rw [pay_apply, ref_apply]
  refine Finset.sum_congr rfl fun k _ => ?_
  congr 1
  · refine blk0_apply m c _ _ _ ?_ rfl
    show (i 0).val = n * 1024 + (i 0).val % 1024; omega
  · exact blk1_apply m c _ _ _ rfl rfl

/-- The two programs run side by side: same arguments, same result. -/
theorem algebraic (m : (ℓ : Loc nD τ sig) → Buf (Elt Ideal) ℓ) (g : Dev nD → PrngReg)
    (m' : (ℓ : Loc Cert.DBranchRefIdeal.nD Cert.DBranchRefIdeal.τ Cert.DBranchRefIdeal.sig) → Buf (Elt Ideal) ℓ) (g' : Dev Cert.DBranchRefIdeal.nD → PrngReg)
    (hag : ∀ c : Dev nD,
      m' ((c.tc : Thread Cert.DBranchRefIdeal.nD Cert.DBranchRefIdeal.τ).loc Cert.DBranchRefIdeal.main_arg0) = m ((c.tc : Thread nD τ).loc main_arg0)
      ∧ m' ((c.tc : Thread Cert.DBranchRefIdeal.nD Cert.DBranchRefIdeal.τ).loc Cert.DBranchRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DBranchRefIdeal.defs (F := Ideal)) (onTc (τ := Cert.DBranchRefIdeal.τ) (Cert.DBranchRefIdeal.main (F := Ideal))) ⟨m', fun _ => 0, g'⟩ (fun r => ∀ c : Dev Cert.DBranchRefIdeal.nD,
          r.2.mem ((c.tc : Thread Cert.DBranchRefIdeal.nD Cert.DBranchRefIdeal.τ).loc Cert.DBranchRefIdeal.main_v4) = v0 c
          ∧ r.2.mem ((c.tc : Thread Cert.DBranchRefIdeal.nD Cert.DBranchRefIdeal.τ).loc Cert.DBranchRefIdeal.main_arg0) = m' ((c.tc : Thread Cert.DBranchRefIdeal.nD Cert.DBranchRefIdeal.τ).loc Cert.DBranchRefIdeal.main_arg0)
          ∧ r.2.mem ((c.tc : Thread Cert.DBranchRefIdeal.nD Cert.DBranchRefIdeal.τ).loc Cert.DBranchRefIdeal.main_arg1) = m' ((c.tc : Thread Cert.DBranchRefIdeal.nD Cert.DBranchRefIdeal.τ).loc Cert.DBranchRefIdeal.main_arg1)) :=
  ⟨fun c => (dats m 0 c).arrAt 2 cfg0.N, Value.run_blocks m g,
    (θ_run _ _ _).mono (fun _ h c => ⟨(h c).1.trans (by
        rw [Cert.DBranchRefIdeal.Read.val_main_v4_eq, (hag c).1, (hag c).2]; exact (arr_eq m c).symm), (h c).2⟩)
      (Cert.DBranchRefIdeal.Value.run m' g')⟩

end Cert.DBranchIdeal.Sum

end
-- ==== Proof.Mixer.DwBranch.lean ====
/- The value of the gradient of an attention branch's weights (`mm_tn`): the sum, over the four quarters of the tokens, of
   the products, rounded; the reference is one contraction over all tokens, rounded. -/
module

public import proofs.«01_k».proof.Proof.Gen.DwBranchIdeal.Value
public import proofs.«01_k».proof.Proof.Gen.DwBranchRefIdeal.Run
public import proofs.«01_k».proof.Proof.Gen.DwBranchRefIdeal.Read
public import proofs.«01_k».proof.Proof.Finite
public import Idealize.ShloMosaic.Lib.Pointwise

@[expose] public section

set_option maxRecDepth 16384

noncomputable section

namespace Cert.DwBranchIdeal.Sum

open Cert.DwBranchIdeal Cert.DwBranchIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- At a first quarter the scratch ends holding the quarter's product. -/
theorem sout_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i)
    (x0 : Vec F S1024x1024 .bf16) (x1 : Vec F S1024x1024 .bf16) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x1024) hz2]

/-- At a middle quarter the scratch ends holding what it held plus the quarter's product. -/
theorem sout_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (hc2 : ¬cond0_2 i)
    (x0 : Vec F S1024x1024 .bf16) (x1 : Vec F S1024x1024 .bf16) (xs : Vec F S1024x1024 .f32) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x1024) hz2]

/-- At a last quarter the block written is the rounding of the same sum. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i) (hc2 : cond0_2 i)
    (x0 : Vec F S1024x1024 .bf16) (x1 : Vec F S1024x1024 .bf16) (xs : Vec F S1024x1024 .f32) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S1024x1024) _ hz2]
  simp only [View.readAt_eq_ld, h3.read_unread, h4.read_unread, h6.read_unread, View.ld_unit_zero (S := S1024x1024) hz2]

/-- What a middle quarter leaves in the scratch. -/
theorem mid_eq (c : Dev nD) (n : ℕ) (h : n + 1 < cfg0.N) (h1 : ¬(n + 1) % 4 = 0) (h2 : ¬(n + 1) % 4 = 3) :
    (outsAt0 m c (n + 1) h).2 = k0_pay3 (iblk m c 0 ⟨n + 1, h⟩) (iblk m c 1 ⟨n + 1, h⟩) (outsAt0 m c n (by omega)).2 := by
  rw [outsAt0_B m c ⟨n + 1, h⟩ h1 (by dsimp only; omega) h2]
  dsimp only
  rw [sout_B]
  rfl

/-- The block a last quarter writes back: the four quarters' products added, rounded. -/
theorem outs_eq (c : Dev nD) (n : ℕ) (h : n + 3 < cfg0.N) (he : n % 4 = 0) :
    (outsAt0 m c (n + 3) h).1 = k0_pay4 (k0_pay3 (iblk m c 0 ⟨n + 3, h⟩) (iblk m c 1 ⟨n + 3, h⟩)
      (k0_pay3 (iblk m c 0 ⟨n + 2, by omega⟩) (iblk m c 1 ⟨n + 2, by omega⟩)
      (k0_pay3 (iblk m c 0 ⟨n + 1, by omega⟩) (iblk m c 1 ⟨n + 1, by omega⟩)
      (k0_pay2 (iblk m c 0 ⟨n, by omega⟩) (iblk m c 1 ⟨n, by omega⟩))))) := by
  have hN : cfg0.N = 4 := N_0
  rw [outsAt0_C m c ⟨n + 3, h⟩ (by dsimp only; omega) (by dsimp only; omega) (by dsimp only; omega)]
  dsimp only
  rw [out_C]
  congr 2
  show (outsAt0 m c (n + 2) _).2 = _
  rw [mid_eq m c (n + 1) (by omega) (by omega) (by omega), mid_eq m c n (by omega) (by omega) (by omega),
    outsAt0_A m c ⟨n, by omega⟩ he (by dsimp only; omega) (by dsimp only; omega)]
  dsimp only
  rw [sout_A]

/-- Where the blocks lie: the point is the quarter of the tokens. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)

theorem blk0_apply (c : Dev nD) (t : Fin cfg0.N) (y : S1024x1024.Idx) (i : S4096x1024.Idx)
    (h0 : (i 0).val = (t.val) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1024x1024.Idx) (i : S4096x1024.Idx)
    (h0 : (i 0).val = (t.val) * 1024 + (y 0).val) (h1 : (i 1).val = (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 1024 + 1 * (y 1).val = (i 1).val; rw [e.2]; omega

end Blocks

/-- The four products added, at an index. -/
theorem pay_apply (xa xb xc xd : Vec Ideal S1024x1024 .bf16) (ya yb yc yd : Vec Ideal S1024x1024 .bf16) (j : S1024x1024.Idx) :
    k0_pay4 (F := Ideal) (k0_pay3 xd yd (k0_pay3 xc yc (k0_pay3 xb yb (k0_pay2 xa ya)))) j
      = (∑ k : Fin 1024, xa (ix2 k (j 0)) * ya (ix2 k (j 1))) + (∑ k : Fin 1024, xb (ix2 k (j 0)) * yb (ix2 k (j 1)))
        + (∑ k : Fin 1024, xc (ix2 k (j 0)) * yc (ix2 k (j 1))) + ∑ k : Fin 1024, xd (ix2 k (j 0)) * yd (ix2 k (j 1)) := by
  pointwise [k0_pay4, k0_pay3, k0_pay2, k0_pay1]

theorem ref_apply (x0 : (⟨S4096x1024, .bf16⟩ : BufTy).Contents (Elt Ideal)) (x1 : (⟨S4096x1024, .bf16⟩ : BufTy).Contents (Elt Ideal)) (i : S1024x1024.Idx) :
    Cert.DwBranchRefIdeal.Read.val_main_v6 (F := Ideal) x0 x1 i = ∑ k : Fin 4096, x1 (ix2 k (i 1)) * x0 (ix2 k (i 0)) := by
  rw [← Cert.DwBranchRefIdeal.Read.val_main_v6_eq]
  pointwise

/-- The kernel's result is the reference's. -/
theorem G2_eq (m : (ℓ : Loc nD τ sig) → Buf (Elt Ideal) ℓ) (c : Dev nD) :
    Value.G2 m c = Cert.DwBranchRefIdeal.Read.val_main_v6 (F := Ideal) (m ((c : Thread nD τ).loc main_arg0)) (m ((c : Thread nD τ).loc main_arg1)) := by
  funext i
  have i0 : (i 0).val < 1024 := (i 0).isLt
  have i1 : (i 1).val < 1024 := (i 1).isLt
  have hN : cfg0.N = 4 := N_0
  have hr : Value.run2Of i = 0 := by
    show 1 * ((i 0).val / 1024 - 0) + 1 * ((i 1).val / 1024 - 0) = _; omega
  have hp : Value.pt2Of i < cfg0.N := by show 4 * Value.run2Of i + 3 < cfg0.N; omega
  generalize hn : 4 * Value.run2Of i = n at *
  unfold Value.G2
  rw [dif_pos hp, ← Value.outsAt0_sweep m c (Value.pt2Of i) hp]
  have e' : (outsAt0 m c (Value.pt2Of i) hp).1 = (outsAt0 m c (n + 3) (by omega)).1 := by
    congr 2; show 4 * Value.run2Of i + 3 = n + 3; rw [hn]
  rw [e', outs_eq m c n (by omega) (by omega), pay_apply, ref_apply, Cert.Finite.sum_quarters 1024 rfl]
  refine congrArg₂ (· + ·) (congrArg₂ (· + ·) (congrArg₂ (· + ·) ?_ ?_) ?_) ?_
  all_goals
    refine Finset.sum_congr rfl fun k _ => ?_
    have hk := k.isLt
    rw [mul_comm]
    refine congrArg₂ (· * ·) (blk1_apply m c _ _ _ ?_ ?_) (blk0_apply m c _ _ _ ?_ ?_)
    · show (_ : ℕ) = _ * 1024 + k.val; simp only [ix2]; omega
    · show (i 1).val = (i 1).val % 1024; omega
    · show (_ : ℕ) = _ * 1024 + k.val; simp only [ix2]; omega
    · show (i 0).val = (i 0).val % 1024; omega

/-- The two programs run side by side: same arguments, same result. -/
theorem algebraic (m : (ℓ : Loc nD τ sig) → Buf (Elt Ideal) ℓ) (g : Dev nD → PrngReg)
    (m' : (ℓ : Loc Cert.DwBranchRefIdeal.nD Cert.DwBranchRefIdeal.τ Cert.DwBranchRefIdeal.sig) → Buf (Elt Ideal) ℓ) (g' : Dev Cert.DwBranchRefIdeal.nD → PrngReg)
    (hag : ∀ c : Dev nD,
      m' ((c.tc : Thread Cert.DwBranchRefIdeal.nD Cert.DwBranchRefIdeal.τ).loc Cert.DwBranchRefIdeal.main_arg0) = m ((c.tc : Thread nD τ).loc main_arg0)
      ∧ m' ((c.tc : Thread Cert.DwBranchRefIdeal.nD Cert.DwBranchRefIdeal.τ).loc Cert.DwBranchRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.DwBranchRefIdeal.defs (F := Ideal)) (onTc (τ := Cert.DwBranchRefIdeal.τ) (Cert.DwBranchRefIdeal.main (F := Ideal))) ⟨m', fun _ => 0, g'⟩ (fun r => ∀ c : Dev Cert.DwBranchRefIdeal.nD,
          r.2.mem ((c.tc : Thread Cert.DwBranchRefIdeal.nD Cert.DwBranchRefIdeal.τ).loc Cert.DwBranchRefIdeal.main_v6) = v0 c
          ∧ r.2.mem ((c.tc : Thread Cert.DwBranchRefIdeal.nD Cert.DwBranchRefIdeal.τ).loc Cert.DwBranchRefIdeal.main_arg0) = m' ((c.tc : Thread Cert.DwBranchRefIdeal.nD Cert.DwBranchRefIdeal.τ).loc Cert.DwBranchRefIdeal.main_arg0)
          ∧ r.2.mem ((c.tc : Thread Cert.DwBranchRefIdeal.nD Cert.DwBranchRefIdeal.τ).loc Cert.DwBranchRefIdeal.main_arg1) = m' ((c.tc : Thread Cert.DwBranchRefIdeal.nD Cert.DwBranchRefIdeal.τ).loc Cert.DwBranchRefIdeal.main_arg1)) :=
  ⟨fun c => Value.G2 m c, Value.run m g,
    (θ_run _ _ _).mono (fun _ h c => ⟨(h c).1.trans (by
        rw [Cert.DwBranchRefIdeal.Read.val_main_v6_eq, (hag c).1, (hag c).2]; exact (G2_eq m c).symm), (h c).2⟩)
      (Cert.DwBranchRefIdeal.Value.run m' g')⟩

end Cert.DwBranchIdeal.Sum

end
-- ==== Proof.Mixer.Out.lean ====
/- The value of `gmm_rows`: each block of rows is the residual plus the sum, over the four shards of the output weights, of the
   products of 256 columns with the shard; the reference is one product with the shards joined. -/
module

public import proofs.«01_k».proof.Proof.Gen.OutIdeal.Value
public import proofs.«01_k».proof.Proof.Gen.OutRefIdeal.Run
public import proofs.«01_k».proof.Proof.Gen.OutRefIdeal.Read
public import proofs.«01_k».proof.Proof.Finite
public import Idealize.ShloMosaic.Lib.Pointwise

@[expose] public section

set_option maxRecDepth 16384

noncomputable section

namespace Cert.OutIdeal.Sum

open Cert.OutIdeal Cert.OutIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The residual's block plus the four shards' products. -/
def sum4 (x0 : Vec F S1024x1024 .bf16) (x1 : Vec F S4x256x1024 .bf16) (x2 : Vec F S1024x1024 .f32) : Vec F S1024x1024 .f32 :=
  k0_pay1 (View.ld x0 (Rect.unit ![0, 0] ![1024, 256] inb_S1024x1024_S1024x256_0_0))
    (View.ld x1 (Rect.unit ![0, 0, 0] ![1, 256, 1024] inb_S4x256x1024_S1x256x1024_0_0_0))
    (View.ld x0 (Rect.unit ![0, 256] ![1024, 256] inb_S1024x1024_S1024x256_0_256))
    (View.ld x1 (Rect.unit ![1, 0, 0] ![1, 256, 1024] inb_S4x256x1024_S1x256x1024_1_0_0))
    (View.ld x0 (Rect.unit ![0, 512] ![1024, 256] inb_S1024x1024_S1024x256_0_512))
    (View.ld x1 (Rect.unit ![2, 0, 0] ![1, 256, 1024] inb_S4x256x1024_S1x256x1024_2_0_0))
    (View.ld x0 (Rect.unit ![0, 768] ![1024, 256] inb_S1024x1024_S1024x256_0_768))
    (View.ld x1 (Rect.unit ![3, 0, 0] ![1, 256, 1024] inb_S4x256x1024_S1x256x1024_3_0_0)) x2

theorem out_A (c : Dev nD) (i : grid0.Coords) (a1 : Memref sig .tc .vmem S1024x1024 .bf16) (h1 : a1.IsWhole) (a2 : Memref sig .tc .vmem S4x256x1024 .bf16) (h2 : a2.IsWhole) (a3 : Memref sig .tc .vmem S1024x1024 .f32) (h3 : a3.IsWhole) (a4 : Memref sig .tc .vmem S1024x1024 .f32) (h4 : a4.IsWhole) (a5 : Memref sig .tc .vmem S8x128 .f32) (h5 : a5.IsWhole)
    (x0 : Vec F S1024x1024 .bf16) (x1 : Vec F S4x256x1024 .bf16) (x2 : Vec F S1024x1024 .f32) :
    out0_A_3 c i a1 h1 a2 h2 a3 h3 a4 h4 a5 h5 x0 x1 x2 = sum4 x0 x1 x2 := by
  unfold out0_A_3
  rw [View.read_writes_eq_canon _ _ _ (cover0_A_3 c i a1 h1 a2 h2 a3 h3 a4 h4 a5 h5 x0 x1 x2)]
  unfold kernelRun0_A
  dsimp only
  sl_unfold_words
  rw [View.canon_unit_zero hz2]
  simp only [View.readAt_eq_ld, h1.read_unread, h2.read_unread, h3.read_unread, View.ld_unit_zero (S := S1024x1024) hz2]
  rfl

/-- Where the blocks lie: the point is the block of rows. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem flush3 : ∀ t : Fin cfg0.N, (cfg0.win 3).flush t = true :=
  (by decide +kernel : ∀ t : Fin grid0.N, win0_3.flush t = true)

theorem blk0_apply (c : Dev nD) (t : Fin cfg0.N) (y : S1024x1024.Idx) (i : S4096x1024.Idx)
    (h0 : (i 0).val = (t.val) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S4x256x1024.Idx) (i : S4x256x1024.Idx)
    (h0 : (i 0).val = (y 0).val) (h1 : (i 1).val = (y 1).val) (h2 : (i 2).val = (y 2).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 4 + 1 * (y 0).val = (i 0).val; rw [e.1]; omega
  | ⟨1, _⟩ => show win0_1.index t 1 * 256 + 1 * (y 1).val = (i 1).val; rw [e.2.1]; omega
  | ⟨2, _⟩ => show win0_1.index t 2 * 1024 + 1 * (y 2).val = (i 2).val; rw [e.2.2]; omega

theorem blk2_apply (c : Dev nD) (t : Fin cfg0.N) (y : S1024x1024.Idx) (i : S4096x1024.Idx)
    (h0 : (i 0).val = (t.val) * 1024 + (y 0).val) (h1 : (i 1).val = (y 1).val) :
    iblk m c 2 t y = m ((c : Thread nD τ).loc main_arg2) i := by
  unfold iblk
  rw [View.read_apply]
  show V m c main_arg2 _ = m (c.tc.loc main_arg2) _
  unfold V
  congr 1
  funext a
  apply Fin.ext
  have e := idx2 t
  match a with
  | ⟨0, _⟩ => show win0_2.index t 0 * 1024 + 1 * (y 0).val = (i 0).val; rw [e.1]; omega
  | ⟨1, _⟩ => show win0_2.index t 1 * 1024 + 1 * (y 1).val = (i 1).val; rw [e.2]; omega

end Blocks

theorem pay_apply (x0 : Vec Ideal S1024x1024 .bf16) (x1 : Vec Ideal S4x256x1024 .bf16) (x2 : Vec Ideal S1024x1024 .f32) (j : S1024x1024.Idx) :
    sum4 (F := Ideal) x0 x1 x2 j = x2 j + ((∑ k : Fin 256, x0 (ix2 (j 0) ⟨k.val, by omega⟩) * x1 (ix3 0 k (j 1)))
      + (∑ k : Fin 256, x0 (ix2 (j 0) ⟨256 + k.val, by omega⟩) * x1 (ix3 1 k (j 1)))
      + (∑ k : Fin 256, x0 (ix2 (j 0) ⟨256 + 256 + k.val, by omega⟩) * x1 (ix3 2 k (j 1)))
      + ∑ k : Fin 256, x0 (ix2 (j 0) ⟨256 + 256 + 256 + k.val, by omega⟩) * x1 (ix3 3 k (j 1))) := by
  unfold sum4
  pointwise [k0_pay1]

/-- Where row `k` of all the weights lies: in shard `k / 256`. -/
def row (k : Fin 1024) (c : Fin 1024) : S4x256x1024.Idx := ix3 ⟨k.val / 256, by omega⟩ ⟨k.val % 256, by omega⟩ c

theorem ref_apply (x0 : (⟨S4096x1024, .bf16⟩ : BufTy).Contents (Elt Ideal)) (x1 : (⟨S4x256x1024, .bf16⟩ : BufTy).Contents (Elt Ideal)) (x2 : (⟨S4096x1024, .f32⟩ : BufTy).Contents (Elt Ideal)) (i : S4096x1024.Idx) :
    Cert.OutRefIdeal.Read.val_main_v4 (F := Ideal) x0 x1 x2 i
      = x2 i + ∑ k : Fin 1024, x0 (ix2 (i 0) k) * x1 (row k (i 1)) := by
  have h1 : (i 1).val < 1024 := (i 1).isLt
  show x2 i + Cert.OutRefIdeal.Read.val_main_v3 (F := Ideal) x0 x1 i = _
  rw [Cert.OutRefIdeal.Read.val_main_v3_apply]
  refine congrArg (x2 i + ·) (Finset.sum_congr rfl fun k _ => congrArg₂ (· * ·) (congrArg x0 (funext fun d => Fin.ext ?_)) ?_)
  · match d with
    | ⟨0, _⟩ => rfl
    | ⟨1, _⟩ => rfl
  · rw [Cert.OutRefIdeal.Read.val_main_v2_apply]
    refine congrArg x1 (funext fun d => Fin.ext ?_)
    have hk := k.isLt
    match d with
    | ⟨0, _⟩ => show (k.val * 1024 + (i 1).val) / 262144 = k.val / 256; omega
    | ⟨1, _⟩ => show (k.val * 1024 + (i 1).val) / 1024 % 256 = k.val % 256; omega
    | ⟨2, _⟩ => show (k.val * 1024 + (i 1).val) % 1024 = (i 1).val; omega

/-- The array the kernel leaves is the reference's. -/
theorem arr_eq (m : (ℓ : Loc nD τ sig) → Buf (Elt Ideal) ℓ) (c : Dev nD) :
    (dats m 0 c).arrAt 3 cfg0.N = Cert.OutRefIdeal.Read.val_main_v4 (F := Ideal) (m ((c : Thread nD τ).loc main_arg0)) (m ((c : Thread nD τ).loc main_arg1)) (m ((c : Thread nD τ).loc main_arg2)) := by
  funext i
  have i0 : (i 0).val < 4096 := (i 0).isLt
  have i1 : (i 1).val < 1024 := (i 1).isLt
  have hN : cfg0.N = 4 := N_0
  obtain ⟨n, hn⟩ : ∃ n, n = (i 0).val / 1024 := ⟨_, rfl⟩
  have hlt : n < cfg0.N := by omega
  have e := idx3 ⟨n, hlt⟩
  dsimp only at e
  have h := congrFun (Value.blocks3 m c ⟨n, hlt⟩ (flush3 _)) (ix2 ⟨(i 0).val % 1024, by omega⟩ (i 1) : S1024x1024.Idx)
  rw [View.read_apply, Value.flushed3_A, out_A] at h
  have hi : ((cfg0.win 3).blk ⟨n, hlt⟩).view.emb (ix2 ⟨(i 0).val % 1024, by omega⟩ (i 1) : S1024x1024.Idx) = i := by
    funext a
    apply Fin.ext
    match a with
    | ⟨0, _⟩ => show win0_3.index ⟨n, hlt⟩ 0 * 1024 + 1 * ((i 0).val % 1024) = (i 0).val; rw [e.1]; omega
    | ⟨1, _⟩ => show win0_3.index ⟨n, hlt⟩ 1 * 1024 + 1 * (i 1).val = (i 1).val; rw [e.2]; omega
  rw [hi] at h
  refine h.trans ?_
  show sum4 (F := Ideal) _ _ _ (ix2 ⟨(i 0).val % 1024, by omega⟩ (i 1)) = _
  rw [pay_apply, ref_apply, Cert.Finite.sum_quarters 256 rfl]
  have hr : (i 0).val = n * 1024 + (i 0).val % 1024 := by omega
  refine congrArg₂ (· + ·) (blk2_apply m c _ _ _ hr rfl) (congrArg₂ (· + ·) (congrArg₂ (· + ·) (congrArg₂ (· + ·) ?_ ?_) ?_) ?_)
  all_goals refine Finset.sum_congr rfl fun k _ => congrArg₂ (· * ·) (blk0_apply m c _ _ _ hr rfl) (blk1_apply m c _ _ _ ?_ ?_ rfl)
  · show k.val / 256 = 0; omega
  · show k.val % 256 = k.val; omega
  · show (256 + k.val) / 256 = 1; omega
  · show (256 + k.val) % 256 = k.val; omega
  · show (256 + 256 + k.val) / 256 = 2; omega
  · show (256 + 256 + k.val) % 256 = k.val; omega
  · show (256 + 256 + 256 + k.val) / 256 = 3; omega
  · show (256 + 256 + 256 + k.val) % 256 = k.val; omega

/-- The two programs run side by side: same arguments, same result. -/
theorem algebraic (m : (ℓ : Loc nD τ sig) → Buf (Elt Ideal) ℓ) (g : Dev nD → PrngReg)
    (m' : (ℓ : Loc Cert.OutRefIdeal.nD Cert.OutRefIdeal.τ Cert.OutRefIdeal.sig) → Buf (Elt Ideal) ℓ) (g' : Dev Cert.OutRefIdeal.nD → PrngReg)
    (hag : ∀ c : Dev nD,
      m' ((c.tc : Thread Cert.OutRefIdeal.nD Cert.OutRefIdeal.τ).loc Cert.OutRefIdeal.main_arg0) = m ((c.tc : Thread nD τ).loc main_arg0)
      ∧ m' ((c.tc : Thread Cert.OutRefIdeal.nD Cert.OutRefIdeal.τ).loc Cert.OutRefIdeal.main_arg1) = m ((c.tc : Thread nD τ).loc main_arg1)
      ∧ m' ((c.tc : Thread Cert.OutRefIdeal.nD Cert.OutRefIdeal.τ).loc Cert.OutRefIdeal.main_arg2) = m ((c.tc : Thread nD τ).loc main_arg2)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)) :=
  ⟨fun c => (dats m 0 c).arrAt 3 cfg0.N, Value.run_blocks m g,
    (θ_run _ _ _).mono (fun _ h c => ⟨(h c).1.trans (by
        rw [Cert.OutRefIdeal.Read.val_main_v4_eq, (hag c).1, (hag c).2.1, (hag c).2.2]; exact (arr_eq m c).symm), (h c).2⟩)
      (Cert.OutRefIdeal.Value.run m' g')⟩

end Cert.OutIdeal.Sum

end
-- ==== Proof.Mixer.Branch.lean ====
/- The value of the product of an attention branch's heads with its weights (`mm_nn`): every block of rows is one product
   over the full width; the reference is the one product. -/
module

public import proofs.«01_k».proof.Proof.Gen.BranchIdeal.Value
public import proofs.«01_k».proof.Proof.Gen.BranchRefIdeal.Run
public import proofs.«01_k».proof.Proof.Gen.BranchRefIdeal.Read
public import Idealize.ShloMosaic.Lib.Pointwise

@[expose] public section

set_option maxRecDepth 16384

noncomputable section

namespace Cert.BranchIdeal.Sum

open Cert.BranchIdeal Cert.BranchIdeal.Gen Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem hz2 : (![0, 0] : Fin 2 → Nat) = fun _ => 0 := funext fun a => by fin_cases a <;> rfl

/-- The block a point writes is the product of its two input blocks. -/
theorem out_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole)
    (x0 : Vec F S1024x1024 .bf16) (x1 : Vec F S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x1024) hz2]

/-- Where the blocks lie: the point is the quarter of the rows. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

theorem blk0_apply (c : Dev nD) (t : Fin cfg0.N) (y : S1024x1024.Idx) (i : S4096x1024.Idx)
    (h0 : (i 0).val = (t.val) * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1024x1024.Idx) (i : S1024x1024.Idx)
    (h0 : (i 0).val = (y 0).val) (h1 : (i 1).val = (y 1).val) :
    iblk m c 1 t y = m ((c : Thread nD τ).loc main_arg1) i := by
  unfold iblk
  rw [View.read_apply]
  show V m c main_arg1 _ = m (c.tc.loc main_arg1) _
  unfold V
  congr 1
  funext a
  apply Fin.ext
  have e := idx1 t
  match a with
  | ⟨0, _⟩ => show win0_1.index t 0 * 1024 + 1 * (y 0).val = (i 0).val; rw [e.1]; omega
  | ⟨1, _⟩ => show win0_1.index t 1 * 1024 + 1 * (y 1).val = (i 1).val; rw [e.2]; omega

end Blocks

theorem pay_apply (x0 : Vec Ideal S1024x1024 .bf16) (x1 : Vec Ideal S1024x1024 .bf16) (j : S1024x1024.Idx) :
    k0_pay1 (F := Ideal) x0 x1 j = ∑ k : Fin 1024, x0 (ix2 (j 0) k) * x1 (ix2 k (j 1)) := by
  pointwise [k0_pay1]

theorem ref_apply (x0 : (⟨S4096x1024, .bf16⟩ : BufTy).Contents (Elt Ideal)) (x1 : (⟨S1024x1024, .bf16⟩ : BufTy).Contents (Elt Ideal)) (i : S4096x1024.Idx) :
    Cert.BranchRefIdeal.Read.val_main_v2 (F := Ideal) x0 x1 i = ∑ k : Fin 1024, x0 (ix2 (i 0) k) * x1 (ix2 k (i 1)) := by
  rw [← Cert.BranchRefIdeal.Read.val_main_v2_eq]
  pointwise

/-- The array the kernel leaves is the reference's. -/
theorem arr_eq (m : (ℓ : Loc nD τ sig) → Buf (Elt Ideal) ℓ) (c : Dev nD) :
    (dats m 0 c).arrAt 2 cfg0.N = Cert.BranchRefIdeal.Read.val_main_v2 (F := Ideal) (m ((c : Thread nD τ).loc main_arg0)) (m ((c : Thread nD τ).loc main_arg1)) := by
  funext i
  have i0 : (i 0).val < 4096 := (i 0).isLt
  have i1 : (i 1).val < 1024 := (i 1).isLt
  have hN : cfg0.N = 4 := N_0
  obtain ⟨n, hn⟩ : ∃ n, n = (i 0).val / 1024 := ⟨_, rfl⟩
  have hlt : n < cfg0.N := by omega
  have e := idx2 ⟨n, hlt⟩
  dsimp only at e
  have h := congrFun (Value.blocks2 m c ⟨n, hlt⟩ (flush2 _)) (ix2 ⟨(i 0).val % 1024, by omega⟩ (i 1) : S1024x1024.Idx)
  rw [View.read_apply, Value.flushed2_A, out_A] at h
  have hi : ((cfg0.win 2).blk ⟨n, hlt⟩).view.emb (ix2 ⟨(i 0).val % 1024, by omega⟩ (i 1) : S1024x1024.Idx) = i := by
    funext a
    apply Fin.ext
    match a with
    | ⟨0, _⟩ => show win0_2.index ⟨n, hlt⟩ 0 * 1024 + 1 * ((i 0).val % 1024) = (i 0).val; rw [e.1]; omega
    | ⟨1, _⟩ => show win0_2.index ⟨n, hlt⟩ 1 * 1024 + 1 * (i 1).val = (i 1).val; rw [e.2]; omega
  rw [hi] at h
  refine h.trans ?_
  show k0_pay1 (F := Ideal) _ _ (ix2 ⟨(i 0).val % 1024, by omega⟩ (i 1)) = _
  rw [pay_apply, ref_apply]
  refine Finset.sum_congr rfl fun k _ => ?_
  congr 1
  · refine blk0_apply m c _ _ _ ?_ rfl
    show (i 0).val = n * 1024 + (i 0).val % 1024; omega
  · exact blk1_apply m c _ _ _ rfl rfl

/-- The two programs run side by side: same arguments, same result. -/
theorem algebraic (m : (ℓ : Loc nD τ sig) → Buf (Elt Ideal) ℓ) (g : Dev nD → PrngReg)
    (m' : (ℓ : Loc Cert.BranchRefIdeal.nD Cert.BranchRefIdeal.τ Cert.BranchRefIdeal.sig) → Buf (Elt Ideal) ℓ) (g' : Dev Cert.BranchRefIdeal.nD → PrngReg)
    (hag : ∀ c : Dev nD,
      m' ((c.tc : Thread Cert.BranchRefIdeal.nD Cert.BranchRefIdeal.τ).loc Cert.BranchRefIdeal.main_arg0) = m ((c.tc : Thread nD τ).loc main_arg0)
      ∧ m' ((c.tc : Thread Cert.BranchRefIdeal.nD Cert.BranchRefIdeal.τ).loc Cert.BranchRefIdeal.main_arg1) = m ((c.tc : Thread nD τ).loc main_arg1)) :
    ∃ (v0 : (c : Dev nD) → Buf (Elt Ideal) ((c.tc : Thread nD τ).loc main_v0)),
      θ_run (defs (F := Ideal)) (onTc (τ := τ) (main (F := Ideal))) ⟨m, fun _ => 0, g⟩ (fun r => ∀ c : Dev nD,
          r.2.mem ((c.tc : Thread nD τ).loc main_v0) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v2) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)) :=
  ⟨fun c => (dats m 0 c).arrAt 2 cfg0.N, Value.run_blocks m g,
    (θ_run _ _ _).mono (fun _ h c => ⟨(h c).1.trans (by
        rw [Cert.BranchRefIdeal.Read.val_main_v2_eq, (hag c).1, (hag c).2]; exact (arr_eq m c).symm), (h c).2⟩)
      (Cert.BranchRefIdeal.Value.run m' g')⟩

end Cert.BranchIdeal.Sum

end
-- ==== Proof.RmsNorm.lean ====
/- The arithmetic of the root-mean-square norm's backward pass over the extended reals. No entry need be finite: the
   reciprocal root of a mean square plus a positive constant is always a real number, and zero where the mean is infinite. -/
module

public import proofs.«01_k».proof.Proof.Finite

@[expose] public section

noncomputable section

namespace Cert.RmsNorm

open Idealize.ShloMosaic

/-- The printed word of the small constant is a positive real number. -/
theorem eps_word : ∃ e : ℝ, 0 < e ∧ Ideal.ofBits .f32 0x358637BD#32 = (e : EReal) := by
  refine ⟨_, ?_, by simp [Ideal.ofBits, Ideal.ieee, -EReal.coe_mul]; rfl⟩
  norm_num

/-- The printed word of the row length. -/
theorem len_word : Ideal.ofBits .f32 0x44800000#32 = ((1024 : ℝ) : EReal) := by
  simp [Ideal.ofBits, Ideal.ieee, -EReal.coe_mul]; norm_num

/-- The printed word of minus one half. -/
theorem neg_half_word : Ideal.ofBits .f32 0xBF000000#32 = ((-(1 / 2) : ℝ) : EReal) := by
  simp [Ideal.ofBits, Ideal.ieee, -EReal.coe_mul]; norm_num

/-- A mean square plus the constant: a positive real number, or infinite. -/
def shifted {n : ℕ} (x : Fin n → EReal) : EReal :=
  Ideal.div (∑ k, x k * x k) (Ideal.ofBits .f32 0x44800000#32) + Ideal.ofBits .f32 0x358637BD#32

theorem sq_nonneg (x : EReal) : 0 ≤ x * x := by
  induction x with
  | bot => simp
  | top => simp
  | coe r => rw [← EReal.coe_mul]; exact_mod_cast mul_self_nonneg r

theorem shifted_cases {n : ℕ} (x : Fin n → EReal) : (∃ s : ℝ, 0 < s ∧ shifted x = (s : EReal)) ∨ shifted x = ⊤ := by
  obtain ⟨e, he, h⟩ := eps_word
  have h0 : 0 ≤ ∑ k, x k * x k := Finset.sum_nonneg fun k _ => sq_nonneg _
  unfold shifted
  rw [h, len_word, Ideal.div_coe (by norm_num)]
  generalize ∑ k, x k * x k = v at h0
  induction v with
  | bot => simp at h0
  | top => right; rw [EReal.top_mul_coe_of_pos (by norm_num)]; rfl
  | coe r =>
    left
    have hr : 0 ≤ r := by exact_mod_cast h0
    exact ⟨r * (1 / 1024) + e, by positivity, by rw [EReal.coe_add, EReal.coe_mul]⟩

/-- The reciprocal root is a nonnegative real number, and its quotient by what it is the root of is its cube. -/
theorem root {n : ℕ} (x : Fin n → EReal) :
    ∃ r : ℝ, 0 ≤ r ∧ Ideal.rsqrt (shifted x) = (r : EReal) ∧ Ideal.div (Ideal.rsqrt (shifted x)) (shifted x) = ((r * r * r : ℝ) : EReal) := by
  rcases shifted_cases x with ⟨s, hs, h⟩ | h
  · refine ⟨(Real.sqrt s)⁻¹, by positivity, ?_, ?_⟩
    · rw [h, Ideal.rsqrt_coe, if_neg (by linarith), if_neg (by linarith)]
    · rw [h, Ideal.rsqrt_coe, if_neg (by linarith), if_neg (by linarith), Ideal.div_coe hs.ne', ← EReal.coe_mul]
      congr 1
      have : Real.sqrt s * Real.sqrt s = s := Real.mul_self_sqrt hs.le
      have h1 : (Real.sqrt s)⁻¹ * (Real.sqrt s)⁻¹ = 1 / s := by rw [← mul_inv, this, one_div]
      rw [mul_assoc, h1]
  · refine ⟨0, le_refl _, ?_, ?_⟩
    · rw [h]; simp
    · rw [h]; simp [Ideal.div]

/-- Two halves of the opposite. -/
theorem halves (z : EReal) (t : ℝ) (h : 0 ≤ t) : z * ((-(1 / 2) * t : ℝ) : EReal) + z * ((-(1 / 2) * t : ℝ) : EReal) = -(z * (t : EReal)) := by
  rcases h.eq_or_lt with rfl | h
  · simp
  · have hn : -(1 / 2) * t < 0 := by linarith
    induction z with
    | bot => rw [EReal.bot_mul_coe_of_neg hn, EReal.bot_mul_coe_of_pos h]; rfl
    | top => rw [EReal.top_mul_coe_of_neg hn, EReal.top_mul_coe_of_pos h]; rfl
    | coe r => rw [← EReal.coe_mul, ← EReal.coe_mul, ← EReal.coe_add, ← EReal.coe_neg]; congr 1; ring

/-- The gradient of one entry of a row: `r (a - x r mean (a x r))`, as the kernel computes it, is the sum of the three
    terms the product rule gives. -/
theorem grad {n : ℕ} (x a : Fin n → EReal) (j : Fin n) :
    Ideal.rsqrt (shifted x) * (a j - x j * Ideal.rsqrt (shifted x) * Ideal.div (∑ k, a k * (x k * Ideal.rsqrt (shifted x))) (Ideal.ofBits .f32 0x44800000#32))
      = a j * Ideal.rsqrt (shifted x)
        + x j * Ideal.div ((∑ k, x k * a k) * (Ideal.ofBits .f32 0xBF000000#32 * Ideal.div (Ideal.rsqrt (shifted x)) (shifted x))) (Ideal.ofBits .f32 0x44800000#32)
        + Ideal.div ((∑ k, x k * a k) * (Ideal.ofBits .f32 0xBF000000#32 * Ideal.div (Ideal.rsqrt (shifted x)) (shifted x))) (Ideal.ofBits .f32 0x44800000#32) * x j := by
  obtain ⟨r, h0, h1, h2⟩ := root x
  rw [h2, h1, len_word, neg_half_word, Ideal.div_coe (by norm_num), Ideal.div_coe (by norm_num)]
  have hr : (0 : EReal) ≤ (r : EReal) := by exact_mod_cast h0
  have hs : ∑ k, a k * (x k * (r : EReal)) = (r : EReal) * ∑ k, x k * a k := by
    rw [Cert.Finite.mul_sum_of_nonneg _ hr (EReal.coe_ne_top r)]
    exact Finset.sum_congr rfl fun k _ => by ac_rfl
  rw [hs, sub_eq_add_neg, EReal.left_distrib_of_nonneg_of_ne_top hr (EReal.coe_ne_top r), add_assoc, mul_comm (a j)]
  generalize ∑ k, x k * a k = q
  congr 1
  have e1 : x j * (q * (((-(1 / 2) : ℝ) : EReal) * ((r * r * r : ℝ) : EReal)) * ((1 / 1024 : ℝ) : EReal))
      = x j * q * ((-(1 / 2) * (r * r * r * (1 / 1024)) : ℝ) : EReal) := by
    rw [← EReal.coe_mul, mul_assoc q, ← EReal.coe_mul, ← mul_assoc]; congr 2; ring
  rw [mul_comm _ (x j), e1, halves _ _ (by positivity), mul_neg]
  congr 1
  have e2 : ((r * r * r * (1 / 1024) : ℝ) : EReal) = (r : EReal) * r * r * ((1 / 1024 : ℝ) : EReal) := by
    rw [EReal.coe_mul, EReal.coe_mul, EReal.coe_mul]
  rw [e2]
  ac_rfl

end Cert.RmsNorm

end
-- ==== Proof.Mixer.Norm.lean ====
/- The value of the root-mean-square norm's forward call (`rms_fwd`): each block of rows is normed by itself, so the blocks
   together are the reference's one expression. -/
module

public import proofs.«01_k».proof.Proof.Gen.NormIdeal.Value
public import proofs.«01_k».proof.Proof.Gen.NormRefIdeal.Run
public import proofs.«01_k».proof.Proof.Gen.NormRefIdeal.Read
public import proofs.«01_k».proof.Proof.RmsNorm
public import Idealize.ShloMosaic.Lib.Pointwise

@[expose] public section

set_option maxRecDepth 16384

noncomputable section

namespace Cert.NormIdeal.Sum

open Cert.NormIdeal Cert.NormIdeal.Gen Idealize.ShloMosaic Idealize.ShloMosaic.TcCoe Idealize.SL.Sem

theorem hz2 : (![0, 0] : Fin 2 → Nat) = fun _ => 0 := funext fun a => by fin_cases a <;> rfl

/-- The block a point writes is the payload of its two input blocks. -/
theorem out_eq (x0 : Vec Ideal S1024x1024 .f32) (x1 : Vec Ideal S1x1024 .f32) : out0_2 x0 x1 = k0_pay1 x0 x1 := by
  unfold out0_2
  rw [View.canon_unit_zero hz2, View.ld_unit_zero (S := S1024x1024) hz2, View.ld_unit_zero (S := S1x1024) hz2]

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem flush2 : ∀ t : Fin cfg0.N, (cfg0.win 2).flush t = true :=
  (by decide +kernel : ∀ t : Fin grid0.N, win0_2.flush t = true)

variable (m : (ℓ : Loc nD τ sig) → Buf (Elt Ideal) ℓ)

theorem blk0_apply (c : Dev nD) (t : Fin cfg0.N) (y : S1024x1024.Idx) (i : S4096x1024.Idx)
    (h0 : (i 0).val = t.val * 1024 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 1024 + 1 * (y 0).val = (i 0).val; rw [e.1]; omega
  | ⟨1, _⟩ => show win0_0.index t 1 * 1024 + 1 * (y 1).val = (i 1).val; rw [e.2]; omega

theorem blk1_apply (c : Dev nD) (t : Fin cfg0.N) (y : S1x1024.Idx) :
    iblk m c 1 t y = m ((c : Thread nD τ).loc main_arg1) y := by
  unfold iblk
  rw [View.read_apply]
  show V m c main_arg1 _ = m (c.tc.loc main_arg1) _
  unfold V
  congr 1
  funext a
  apply Fin.ext
  have e := idx1 t
  match a with
  | ⟨0, _⟩ => show win0_1.index t 0 * 1 + 1 * (y 0).val = (y 0).val; rw [e.1]; omega
  | ⟨1, _⟩ => show win0_1.index t 1 * 1024 + 1 * (y 1).val = (y 1).val; rw [e.2]; omega

open Cert.RmsNorm in
theorem pay_apply (x0 : Vec Ideal S1024x1024 .f32) (x1 : Vec Ideal S1x1024 .f32) (j : S1024x1024.Idx) :
    k0_pay1 (F := Ideal) x0 x1 j = x0 j * Ideal.rsqrt (shifted fun k : Fin 1024 => x0 (ix2 (j 0) k)) * x1 (ix2 0 (j 1)) := by
  unfold shifted
  pointwise [k0_pay1]

open Cert.RmsNorm in
theorem ref_apply (x0 : (⟨S4096x1024, .f32⟩ : BufTy).Contents (Elt Ideal)) (x1 : (⟨S1x1024, .f32⟩ : BufTy).Contents (Elt Ideal)) (i : S4096x1024.Idx) :
    Cert.NormRefIdeal.Read.val_main_v14 (F := Ideal) x0 x1 i = x0 i * Ideal.rsqrt (shifted fun k : Fin 1024 => x0 (ix2 (i 0) k)) * x1 (ix2 0 (i 1)) := by
  unfold shifted
  rw [← Cert.NormRefIdeal.Read.val_main_v14_eq]
  pointwise

/-- The array the kernel leaves is the reference's. -/
theorem arr_eq (c : Dev nD) :
    (dats m 0 c).arrAt 2 cfg0.N = Cert.NormRefIdeal.Read.val_main_v14 (F := Ideal) (m ((c : Thread nD τ).loc main_arg0)) (m ((c : Thread nD τ).loc main_arg1)) := by
  funext i
  have i0 : (i 0).val < 4096 := (i 0).isLt
  have hN : cfg0.N = 4 := N_0
  obtain ⟨n, hn⟩ : ∃ n, n = (i 0).val / 1024 := ⟨_, rfl⟩
  have hlt : n < cfg0.N := by omega
  have e := idx2 ⟨n, hlt⟩
  dsimp only at e
  have h := congrFun (Value.blocks2 m c ⟨n, hlt⟩ (flush2 _)) (ix2 ⟨(i 0).val % 1024, by omega⟩ (i 1) : S1024x1024.Idx)
  rw [View.read_apply, Value.flushed2, out_eq] at h
  have hi : ((cfg0.win 2).blk ⟨n, hlt⟩).view.emb (ix2 ⟨(i 0).val % 1024, by omega⟩ (i 1) : S1024x1024.Idx) = i := by
    funext a
    apply Fin.ext
    match a with
    | ⟨0, _⟩ => show win0_2.index ⟨n, hlt⟩ 0 * 1024 + 1 * ((i 0).val % 1024) = (i 0).val; rw [e.1]; omega
    | ⟨1, _⟩ => show win0_2.index ⟨n, hlt⟩ 1 * 1024 + 1 * (i 1).val = (i 1).val; rw [e.2]; omega
  rw [hi] at h
  refine h.trans ?_
  show k0_pay1 (F := Ideal) _ _ (ix2 ⟨(i 0).val % 1024, by omega⟩ (i 1)) = _
  rw [pay_apply, ref_apply]
  have hr : (fun k : Fin 1024 => iblk m c 0 ⟨n, hlt⟩ (ix2 ⟨(i 0).val % 1024, by omega⟩ k : S1024x1024.Idx)) = fun k => m ((c : Thread nD τ).loc main_arg0) (ix2 (i 0) k) :=
    funext fun k => blk0_apply m c _ _ _ (by show (i 0).val = n * 1024 + (i 0).val % 1024; omega) rfl
  refine congrArg₂ (· * ·) (congrArg₂ (· * ·) (blk0_apply m c _ _ _ ?_ rfl) (congrArg (fun f => Ideal.rsqrt (Cert.RmsNorm.shifted f)) hr)) (blk1_apply m c _ _)
  show (i 0).val = n * 1024 + (i 0).val % 1024; omega

end Cert.NormIdeal.Sum

end
-- ==== Proof.Mixer.DNorm.lean ====
/- The value of the root-mean-square norm's backward call (`rms_bwd`): each block of rows gives its rows of the input's
   gradient, in both formats, and the gain's gradient is added up over the eight blocks; the reference differentiates the
   whole norm at once. -/
module

public import proofs.«01_k».proof.Proof.Gen.DNormIdeal.Value
public import proofs.«01_k».proof.Proof.Gen.DNormRefIdeal.Run
public import proofs.«01_k».proof.Proof.Gen.DNormRefIdeal.Read
public import proofs.«01_k».proof.Proof.RmsNorm
public import Idealize.ShloMosaic.Lib.Pointwise

@[expose] public section

set_option maxRecDepth 16384

noncomputable section

namespace Cert.DNormIdeal.Sum

open Cert.DNormIdeal Cert.DNormIdeal.Gen Idealize.ShloMosaic Idealize.ShloMosaic.TcCoe Idealize.SL.Sem

theorem hz2 : (![0, 0] : Fin 2 → Nat) = fun _ => 0 := funext fun a => by fin_cases a <;> rfl

section Blocks

variable {F : FTy → Type} [FloatOps F]
variable (m : (ℓ : Loc nD τ sig) → Buf (Elt F) ℓ)

variable (c : Dev nD) (i : grid0.Coords) (a1 : Memref sig .tc .vmem S512x1024 .f32) (h1 : a1.IsWhole) (a2 : Memref sig .tc .vmem S1x1024 .f32) (h2 : a2.IsWhole)
  (a3 : Memref sig .tc .vmem S512x1024 .f32) (h3 : a3.IsWhole) (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S1x1024 .f32) (h7 : a7.IsWhole)
  (x0 : Vec F S512x1024 .f32) (x1 : Vec F S1x1024 .f32) (x2 x3 : Vec F S512x1024 .f32) (xo : Vec F S1x1024 .f32)

/-- What the two cases leave in the three outputs: the input's gradient, the same rounded, and the gain's gradient of the
    block, which every point but the first adds to what it finds. -/
theorem out_A_4 (hc0 : cond0_0 i) (hc1 : ¬cond0_1 i) : out0_A_4 c i a1 h1 a2 h2 a3 h3 a4 h4 a5 h5 a6 h6 a7 h7 hc0 hc1 x0 x1 x2 x3 = k0_pay4 x0 x2 x1 x3 := by
  unfold out0_A_4
  rw [View.read_writes_eq_canon _ _ _ (cover0_A_4 c i a1 h1 a2 h2 a3 h3 a4 h4 a5 h5 a6 h6 a7 h7 hc0 hc1 x0 x1 x2 x3)]
  unfold kernelRun0_A
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

theorem out_A_5 (hc0 : cond0_0 i) (hc1 : ¬cond0_1 i) : out0_A_5 c i a1 h1 a2 h2 a3 h3 a4 h4 a5 h5 a6 h6 a7 h7 hc0 hc1 x0 x1 x2 x3 = k0_pay5 x0 x2 x1 x3 := by
  unfold out0_A_5
  rw [View.read_writes_eq_canon _ _ _ (cover0_A_5 c i a1 h1 a2 h2 a3 h3 a4 h4 a5 h5 a6 h6 a7 h7 hc0 hc1 x0 x1 x2 x3)]
  unfold kernelRun0_A
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

theorem out_A_6 (hc0 : cond0_0 i) (hc1 : ¬cond0_1 i) : out0_A_6 c i a1 h1 a2 h2 a3 h3 a4 h4 a5 h5 a6 h6 a7 h7 hc0 hc1 x0 x1 x2 x3 = k0_pay6 x0 x2 := by
  unfold out0_A_6
  rw [View.read_writes_eq_canon _ _ _ (cover0_A_6 c i a1 h1 a2 h2 a3 h3 a4 h4 a5 h5 a6 h6 a7 h7 hc0 hc1 x0 x1 x2 x3)]
  unfold kernelRun0_A
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

theorem out_B_4 (hc0 : ¬cond0_0 i) (hc1 : cond0_1 i) : out0_B_4 c i a1 h1 a2 h2 a3 h3 a4 h4 a5 h5 a6 h6 a7 h7 hc0 hc1 x0 x1 x2 x3 xo = k0_pay4 x0 x2 x1 x3 := by
  unfold out0_B_4
  rw [View.read_writes_eq_canon _ _ _ (cover0_B_4 c i a1 h1 a2 h2 a3 h3 a4 h4 a5 h5 a6 h6 a7 h7 hc0 hc1 x0 x1 x2 x3 xo)]
  unfold kernelRun0_B
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

theorem out_B_5 (hc0 : ¬cond0_0 i) (hc1 : cond0_1 i) : out0_B_5 c i a1 h1 a2 h2 a3 h3 a4 h4 a5 h5 a6 h6 a7 h7 hc0 hc1 x0 x1 x2 x3 xo = k0_pay5 x0 x2 x1 x3 := by
  unfold out0_B_5
  rw [View.read_writes_eq_canon _ _ _ (cover0_B_5 c i a1 h1 a2 h2 a3 h3 a4 h4 a5 h5 a6 h6 a7 h7 hc0 hc1 x0 x1 x2 x3 xo)]
  unfold kernelRun0_B
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

theorem out_B_6 (hc0 : ¬cond0_0 i) (hc1 : cond0_1 i) : out0_B_6 c i a1 h1 a2 h2 a3 h3 a4 h4 a5 h5 a6 h6 a7 h7 hc0 hc1 x0 x1 x2 x3 xo = k0_pay1 (k0_pay6 x0 x2) xo := by
  unfold out0_B_6
  rw [View.read_writes_eq_canon _ _ _ (cover0_B_6 c i a1 h1 a2 h2 a3 h3 a4 h4 a5 h5 a6 h6 a7 h7 hc0 hc1 x0 x1 x2 x3 xo)]
  unfold kernelRun0_B
  dsimp only
  sl_unfold_words
  rw [View.canon_unit_zero hz2]
  simp only [View.readAt_eq_ld, h1.read_unread, h2.read_unread, h3.read_unread, h4.read_unread, h7.read_unread, View.ld_unit_zero (S := S512x1024) hz2, View.ld_unit_zero (S := S1x1024) hz2]

/-- The gain's gradient after the points up to `n`: the blocks' own, added in order. -/
def acc (c : Dev nD) : (n : ℕ) → n < cfg0.N → Vec F S1x1024 .f32
  | 0, h => k0_pay6 (iblk m c 0 ⟨0, h⟩) (iblk m c 2 ⟨0, h⟩)
  | n + 1, h => k0_pay1 (k0_pay6 (iblk m c 0 ⟨n + 1, h⟩) (iblk m c 2 ⟨n + 1, h⟩)) (acc c n (Nat.lt_of_succ_lt h))

theorem outs_acc (c : Dev nD) : ∀ (n : ℕ) (h : n < cfg0.N), (outsAt0 m c n h).2.2 = acc m c n h
  | 0, h => by
    rw [outsAt0_A m c ⟨0, h⟩ rfl (by dsimp only; omega)]
    dsimp only
    rw [out_A_6]
    rfl
  | n + 1, h => by
    have hN : cfg0.N = 8 := N_0
    rw [outsAt0_B m c ⟨n + 1, h⟩ (by dsimp only; omega) (by dsimp only; omega)]
    dsimp only
    rw [out_B_6]
    show k0_pay1 _ (outsAt0 m c n _).2.2 = k0_pay1 _ (acc m c n _)
    rw [outs_acc c n]

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem flush4 : ∀ t : Fin cfg0.N, (cfg0.win 4).flush t = true :=
  (by decide +kernel : ∀ t : Fin grid0.N, win0_4.flush t = true)
theorem flush5 : ∀ t : Fin cfg0.N, (cfg0.win 5).flush t = true :=
  (by decide +kernel : ∀ t : Fin grid0.N, win0_5.flush t = true)

theorem blk0_apply (c : Dev nD) (t : Fin cfg0.N) (y : S512x1024.Idx) (i : S4096x1024.Idx)
    (h0 : (i 0).val = t.val * 512 + (y 0).val) (h1 : (i 1).val = (y 1).val) :
    iblk m c 0 t y = m ((c : Thread nD τ).loc main_arg0) i := by
  unfold iblk
  rw [View.read_apply]
  show V m c main_arg0 _ = m (c.tc.loc main_arg0) _
  unfold V
  congr 1
  funext a
  apply Fin.ext
  have e := idx0 t
  match a with
  | ⟨0, _⟩ => show win0_0.index t 0 * 512 + 1 * (y 0).val = (i 0).val; rw [e.1]; omega
  | ⟨1, _⟩ => show win0_0.index t 1 * 1024 + 1 * (y 1).val = (i 1).val; rw [e.2]; omega

theorem blk2_apply (c : Dev nD) (t : Fin cfg0.N) (y : S512x1024.Idx) (i : S4096x1024.Idx)
    (h0 : (i 0).val = t.val * 512 + (y 0).val) (h1 : (i 1).val = (y 1).val) :
    iblk m c 2 t y = m ((c : Thread nD τ).loc main_arg2) i := by
  unfold iblk
  rw [View.read_apply]
  show V m c main_arg2 _ = m (c.tc.loc main_arg2) _
  unfold V
  congr 1
  funext a
  apply Fin.ext
  have e := idx2 t
  match a with
  | ⟨0, _⟩ => show win0_2.index t 0 * 512 + 1 * (y 0).val = (i 0).val; rw [e.1]; omega
  | ⟨1, _⟩ => show win0_2.index t 1 * 1024 + 1 * (y 1).val = (i 1).val; rw [e.2]; omega

theorem blk3_apply (c : Dev nD) (t : Fin cfg0.N) (y : S512x1024.Idx) (i : S4096x1024.Idx)
    (h0 : (i 0).val = t.val * 512 + (y 0).val) (h1 : (i 1).val = (y 1).val) :
    iblk m c 3 t y = m ((c : Thread nD τ).loc main_arg3) i := by
  unfold iblk
  rw [View.read_apply]
  show V m c main_arg3 _ = m (c.tc.loc main_arg3) _
  unfold V
  congr 1
  funext a
  apply Fin.ext
  have e := idx3 t
  match a with
  | ⟨0, _⟩ => show win0_3.index t 0 * 512 + 1 * (y 0).val = (i 0).val; rw [e.1]; omega
  | ⟨1, _⟩ => show win0_3.index t 1 * 1024 + 1 * (y 1).val = (i 1).val; rw [e.2]; omega

theorem blk1_apply (c : Dev nD) (t : Fin cfg0.N) (y : S1x1024.Idx) :
    iblk m c 1 t y = m ((c : Thread nD τ).loc main_arg1) y := by
  unfold iblk
  rw [View.read_apply]
  show V m c main_arg1 _ = m (c.tc.loc main_arg1) _
  unfold V
  congr 1
  funext a
  apply Fin.ext
  have e := idx1 t
  match a with
  | ⟨0, _⟩ => show win0_1.index t 0 * 1 + 1 * (y 0).val = (y 0).val; rw [e.1]; omega
  | ⟨1, _⟩ => show win0_1.index t 1 * 1024 + 1 * (y 1).val = (y 1).val; rw [e.2]; omega

/-- What a point writes back to the two row outputs, whichever its case. -/
theorem out4 (c : Dev nD) (t : Fin cfg0.N) : (dats m 0 c).flushed 4 t = (cfg0.win 4).cut (grid0.coords t) (k0_pay4 (iblk m c 0 t) (iblk m c 2 t) (iblk m c 1 t) (iblk m c 3 t)) := by
  have hN : cfg0.N = 8 := N_0
  have ht := t.isLt
  by_cases h : t.val = 0
  · rw [Value.flushed4_A m c t (by omega) (by omega), out_A_4]
  · rw [Value.flushed4_B m c t (by omega) (by omega), out_B_4]

theorem out5 (c : Dev nD) (t : Fin cfg0.N) : (dats m 0 c).flushed 5 t = (cfg0.win 5).cut (grid0.coords t) (k0_pay5 (iblk m c 0 t) (iblk m c 2 t) (iblk m c 1 t) (iblk m c 3 t)) := by
  have hN : cfg0.N = 8 := N_0
  have ht := t.isLt
  by_cases h : t.val = 0
  · rw [Value.flushed5_A m c t (by omega) (by omega), out_A_5]
  · rw [Value.flushed5_B m c t (by omega) (by omega), out_B_5]

end Blocks

open Cert.RmsNorm

/-- One entry of the input's gradient as the kernel forms it, from the row, the gained gradient's row and the residual. -/
def dxSpec (x a : Fin 1024 → EReal) (d : EReal) (j : Fin 1024) : EReal :=
  d + Ideal.rsqrt (shifted x) * (a j - x j * Ideal.rsqrt (shifted x) * Ideal.div (∑ k, a k * (x k * Ideal.rsqrt (shifted x))) (Ideal.ofBits .f32 0x44800000#32))

/-- One row's term of the gain's gradient. -/
def dgSpec (x : Fin 1024 → EReal) (b : EReal) (j : Fin 1024) : EReal := b * (x j * Ideal.rsqrt (shifted x))

theorem pay4_apply (x0 : Vec Ideal S512x1024 .f32) (x1 : Vec Ideal S1x1024 .f32) (x2 x3 : Vec Ideal S512x1024 .f32) (p : Fin 512) (q : Fin 1024) :
    k0_pay4 (F := Ideal) x0 x2 x1 x3 (ix2 p q) = dxSpec (fun k => x0 (ix2 p k)) (fun k => x2 (ix2 p k) * x1 (ix2 0 k)) (x3 (ix2 p q)) q := by
  unfold dxSpec shifted
  pointwise [k0_pay4, k0_pay3, k0_pay2]

theorem pay5_apply (x0 : Vec Ideal S512x1024 .f32) (x1 : Vec Ideal S1x1024 .f32) (x2 x3 : Vec Ideal S512x1024 .f32) (p : Fin 512) (q : Fin 1024) :
    k0_pay5 (F := Ideal) x0 x2 x1 x3 (ix2 p q) = dxSpec (fun k => x0 (ix2 p k)) (fun k => x2 (ix2 p k) * x1 (ix2 0 k)) (x3 (ix2 p q)) q := by
  rw [← pay4_apply]
  pointwise [k0_pay5]

theorem pay6_apply (x0 x2 : Vec Ideal S512x1024 .f32) (q : Fin 1024) :
    k0_pay6 (F := Ideal) x0 x2 (ix2 0 q) = ∑ p : Fin 512, dgSpec (fun k => x0 (ix2 p k)) (x2 (ix2 p q)) q := by
  unfold dgSpec shifted
  pointwise [k0_pay6, k0_pay3, k0_pay2]

theorem pay1_apply (v w : Vec Ideal S1x1024 .f32) (j : S1x1024.Idx) : k0_pay1 (F := Ideal) v w j = w j + v j := by
  pointwise [k0_pay1]

section Ref

variable (x0 x2 x3 : (⟨S4096x1024, .f32⟩ : BufTy).Contents (Elt Ideal)) (x1 : (⟨S1x1024, .f32⟩ : BufTy).Contents (Elt Ideal))

/-- The input's gradient over the whole array. -/
def dx (x0 x2 x3 : S4096x1024.Idx → EReal) (x1 : S1x1024.Idx → EReal) (i : S4096x1024.Idx) : EReal :=
  dxSpec (fun k => x0 (ix2 (i 0) k)) (fun k => x2 (ix2 (i 0) k) * x1 (ix2 0 k)) (x3 i) (i 1)

open Cert.DNormRefIdeal.Read in
theorem ref_dx (i : S4096x1024.Idx) : val_main_v38 (F := Ideal) x0 x1 x2 x3 i = dx x0 x2 x3 x1 i := by
  unfold dx dxSpec
  rw [grad (fun k => x0 (ix2 (i 0) k)) (fun k => x2 (ix2 (i 0) k) * x1 (ix2 0 k)) (i 1)]
  unfold shifted
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v38]
  simp only [Fin.sum_univ_one]

open Cert.DNormRefIdeal.Read in
theorem ref_dxb (i : S4096x1024.Idx) : val_main_v39 (F := Ideal) x0 x1 x2 x3 i = val_main_v38 (F := Ideal) x0 x1 x2 x3 i := by
  pointwise [val_main_v39]

open Cert.DNormRefIdeal.Read in
theorem ref_dg (q : Fin 1024) :
    val_main_v37 (F := Ideal) x0 x2 (ix2 0 q) = ∑ p : Fin 4096, dgSpec (fun k => x0 (ix2 p k)) (x2 (ix2 p q)) q := by
  unfold dgSpec shifted
  rw [← val_main_v37_eq]
  pointwise
  rw [Fin.sum_univ_one]
  exact Finset.sum_congr rfl fun p _ => mul_comm _ _

end Ref

section Arrays

variable (m : (ℓ : Loc nD τ sig) → Buf (Elt Ideal) ℓ)

/-- A row of a block is a row of the array. -/
theorem rows (b0 b2 b3 : Vec Ideal S512x1024 .f32) (b1 : Vec Ideal S1x1024 .f32) (x0 x2 x3 : S4096x1024.Idx → EReal) (x1 : S1x1024.Idx → EReal) (p : Fin 512) (i : S4096x1024.Idx)
    (h0 : ∀ k : Fin 1024, b0 (ix2 p k) = x0 (ix2 (i 0) k)) (h2 : ∀ k : Fin 1024, b2 (ix2 p k) = x2 (ix2 (i 0) k))
    (h1 : ∀ k : Fin 1024, b1 (ix2 0 k) = x1 (ix2 0 k)) (h3 : b3 (ix2 p (i 1)) = x3 i) :
    dxSpec (fun k => b0 (ix2 p k)) (fun k => b2 (ix2 p k) * b1 (ix2 0 k)) (b3 (ix2 p (i 1))) (i 1) = dx x0 x2 x3 x1 i := by
  unfold dx
  rw [h3]
  simp only [h0, h1, h2]

theorem arr4_eq (c : Dev nD) :
    (dats m 0 c).arrAt 4 cfg0.N = Cert.DNormRefIdeal.Read.val_main_v38 (F := Ideal) (m ((c : Thread nD τ).loc main_arg0)) (m ((c : Thread nD τ).loc main_arg1)) (m ((c : Thread nD τ).loc main_arg2)) (m ((c : Thread nD τ).loc main_arg3)) := by
  funext i
  have i0 : (i 0).val < 4096 := (i 0).isLt
  have hN : cfg0.N = 8 := N_0
  obtain ⟨n, hn⟩ : ∃ n, n = (i 0).val / 512 := ⟨_, rfl⟩
  have hlt : n < cfg0.N := by omega
  have e := idx4 ⟨n, hlt⟩
  dsimp only at e
  have h := congrFun (Value.blocks4 m c ⟨n, hlt⟩ (flush4 _)) (ix2 ⟨(i 0).val % 512, by omega⟩ (i 1) : S512x1024.Idx)
  have hi : ((cfg0.win 4).blk ⟨n, hlt⟩).view.emb (ix2 ⟨(i 0).val % 512, by omega⟩ (i 1) : S512x1024.Idx) = i := by
    funext a
    apply Fin.ext
    match a with
    | ⟨0, _⟩ => show win0_4.index ⟨n, hlt⟩ 0 * 512 + 1 * ((i 0).val % 512) = (i 0).val; rw [e.1]; omega
    | ⟨1, _⟩ => show win0_4.index ⟨n, hlt⟩ 1 * 1024 + 1 * (i 1).val = (i 1).val; rw [e.2]; omega
  rw [View.read_apply, out4, hi] at h
  refine h.trans ?_
  show k0_pay4 (F := Ideal) _ _ _ _ (ix2 ⟨(i 0).val % 512, by omega⟩ (i 1)) = _
  have h0 : (i 0).val = n * 512 + (i 0).val % 512 := by omega
  refine (pay4_apply _ _ _ _ _ _).trans (Eq.trans ?_ (ref_dx _ _ _ _ _).symm)
  exact rows _ _ _ _ _ _ _ _ _ i (fun k => blk0_apply m c _ _ _ h0 rfl) (fun k => blk2_apply m c _ _ _ h0 rfl) (fun k => blk1_apply m c _ _) (blk3_apply m c _ _ _ h0 rfl)

theorem arr5_eq (c : Dev nD) :
    (dats m 0 c).arrAt 5 cfg0.N = Cert.DNormRefIdeal.Read.val_main_v39 (F := Ideal) (m ((c : Thread nD τ).loc main_arg0)) (m ((c : Thread nD τ).loc main_arg1)) (m ((c : Thread nD τ).loc main_arg2)) (m ((c : Thread nD τ).loc main_arg3)) := by
  funext i
  have i0 : (i 0).val < 4096 := (i 0).isLt
  have hN : cfg0.N = 8 := N_0
  obtain ⟨n, hn⟩ : ∃ n, n = (i 0).val / 512 := ⟨_, rfl⟩
  have hlt : n < cfg0.N := by omega
  have e := idx5 ⟨n, hlt⟩
  dsimp only at e
  have h := congrFun (Value.blocks5 m c ⟨n, hlt⟩ (flush5 _)) (ix2 ⟨(i 0).val % 512, by omega⟩ (i 1) : S512x1024.Idx)
  have hi : ((cfg0.win 5).blk ⟨n, hlt⟩).view.emb (ix2 ⟨(i 0).val % 512, by omega⟩ (i 1) : S512x1024.Idx) = i := by
    funext a
    apply Fin.ext
    match a with
    | ⟨0, _⟩ => show win0_5.index ⟨n, hlt⟩ 0 * 512 + 1 * ((i 0).val % 512) = (i 0).val; rw [e.1]; omega
    | ⟨1, _⟩ => show win0_5.index ⟨n, hlt⟩ 1 * 1024 + 1 * (i 1).val = (i 1).val; rw [e.2]; omega
  rw [View.read_apply, out5, hi] at h
  refine h.trans ?_
  show k0_pay5 (F := Ideal) _ _ _ _ (ix2 ⟨(i 0).val % 512, by omega⟩ (i 1)) = _
  have h0 : (i 0).val = n * 512 + (i 0).val % 512 := by omega
  refine (pay5_apply _ _ _ _ _ _).trans (Eq.trans ?_ ((ref_dxb _ _ _ _ _).trans (ref_dx _ _ _ _ _)).symm)
  exact rows _ _ _ _ _ _ _ _ _ i (fun k => blk0_apply m c _ _ _ h0 rfl) (fun k => blk2_apply m c _ _ _ h0 rfl) (fun k => blk1_apply m c _ _) (blk3_apply m c _ _ _ h0 rfl)

theorem acc_apply (c : Dev nD) (q : Fin 1024) : ∀ (n : ℕ) (h : n < cfg0.N),
    acc m c n h (ix2 0 q) = ∑ t : Fin (n + 1), ∑ p : Fin 512, dgSpec (fun k => iblk m c 0 ⟨t.val, by omega⟩ (ix2 p k : S512x1024.Idx)) (iblk m c 2 ⟨t.val, by omega⟩ (ix2 p q : S512x1024.Idx)) q
  | 0, h => by
    rw [Fin.sum_univ_one]
    exact pay6_apply _ _ q
  | n + 1, h => by
    rw [Fin.sum_univ_castSucc]
    show k0_pay1 (F := Ideal) _ _ (ix2 0 q) = _
    rw [pay1_apply, acc_apply c q n, pay6_apply]
    rfl

/-- A sum over the rows is the sum over the blocks of the sums over their rows. -/
theorem sum_blocks (f : Fin 4096 → EReal) : ∑ p, f p = ∑ t : Fin 8, ∑ p : Fin 512, f ⟨t.val * 512 + p.val, by omega⟩ := by
  rw [← Fintype.sum_prod_type']
  refine (Fintype.sum_equiv (finProdFinEquiv (m := 8) (n := 512)) _ _ fun x => congrArg f (Fin.ext ?_)).symm
  show x.1.val * 512 + x.2.val = x.2.val + 512 * x.1.val
  omega

theorem arr6_eq (c : Dev nD) :
    (dats m 0 c).arrAt 6 cfg0.N = Cert.DNormRefIdeal.Read.val_main_v37 (F := Ideal) (m ((c : Thread nD τ).loc main_arg0)) (m ((c : Thread nD τ).loc main_arg2)) := by
  funext i
  have i0 : (i 0).val < 1 := (i 0).isLt
  have hN : cfg0.N = 8 := N_0
  have hlt : 7 < cfg0.N := by omega
  have e := idx6 ⟨7, hlt⟩
  have hd : ∀ t t' : Fin cfg0.N, (cfg0.win 6).flush t = true → (cfg0.win 6).flush t' = true → t ≠ t' →
      Disjoint ((cfg0.win 6).blk t).view.set ((cfg0.win 6).blk t').view.set := fun t t' ht ht' hne =>
    absurd (Fin.ext (by have a := (flush0_6 t).1 ht; have b := (flush0_6 t').1 ht'; have := t.isLt; have := t'.isLt; omega)) hne
  have h := congrFun ((dats m 0 c).read_blk_arrAt_eq_flushed 6 hd cfg0.N ⟨7, hlt⟩ hlt ((flush0_6 _).2 rfl)) (ix2 0 (i 1) : S1x1024.Idx)
  have hi : ((cfg0.win 6).blk ⟨7, hlt⟩).view.emb (ix2 0 (i 1) : S1x1024.Idx) = i := by
    funext a
    apply Fin.ext
    match a with
    | ⟨0, _⟩ => show win0_6.index ⟨7, hlt⟩ 0 * 1 + 1 * 0 = (i 0).val; rw [e.1]; omega
    | ⟨1, _⟩ => show win0_6.index ⟨7, hlt⟩ 1 * 1024 + 1 * (i 1).val = (i 1).val; rw [e.2]; omega
  rw [View.read_apply, hi, Value.flushed6] at h
  refine h.trans ?_
  show (outsAt0 m c 7 hlt).2.2 (ix2 0 (i 1)) = _
  have hi' : i = (ix2 0 (i 1) : S1x1024.Idx) := by
    funext a
    apply Fin.ext
    match a with
    | ⟨0, _⟩ => show (i 0).val = 0; omega
    | ⟨1, _⟩ => rfl
  refine (congrFun (outs_acc m c 7 hlt) _).trans ((acc_apply m c _ 7 hlt).trans (Eq.trans ?_ ((congrArg (Cert.DNormRefIdeal.Read.val_main_v37 (F := Ideal) _ _) hi').trans ((ref_dg _ _ _).trans (sum_blocks _))).symm))
  refine Finset.sum_congr rfl fun t _ => Finset.sum_congr rfl fun p _ => ?_
  have e0 : (fun k => iblk m c 0 ⟨t.val, by omega⟩ (ix2 p k : S512x1024.Idx)) = fun k : Fin 1024 => m ((c : Thread nD τ).loc main_arg0) (ix2 ⟨t.val * 512 + p.val, by omega⟩ k) :=
    funext fun k => blk0_apply m c _ _ _ rfl rfl
  rw [e0]
  exact congrArg (fun b => dgSpec _ b _) (blk2_apply m c _ _ _ rfl rfl)

end Arrays

end Cert.DNormIdeal.Sum

end
-- ==== Proof.Mixer.Gates.lean ====
/- The values of the mixer's gates, forward and backward. Both programs work entry by entry: the kernel reads the two gates
   as blocks of columns of the joined projection, the reference cuts the columns out, and `logistic` is `1 / (1 + exp (-x))`. -/
module

public import proofs.«01_k».proof.Proof.Gen.GateIdeal.Value
public import proofs.«01_k».proof.Proof.Gen.GateRefIdeal.Run
public import proofs.«01_k».proof.Proof.Gen.GateRefIdeal.Read
public import proofs.«01_k».proof.Proof.Gen.DGateIdeal.Value
public import proofs.«01_k».proof.Proof.Gen.DGateRefIdeal.Run
public import proofs.«01_k».proof.Proof.Gen.DGateRefIdeal.Read
public import Idealize.ShloMosaic.Lib.Pointwise

@[expose] public section

set_option maxRecDepth 16384

noncomputable section

namespace Cert.GateIdeal.Sum

open Cert.GateIdeal Cert.GateIdeal.Gen Idealize.ShloMosaic Idealize.ShloMosaic.TcCoe Idealize.SL.Sem

/-! The gates' columns of the joined projection: 2048 on for the first branch, 3072 on for the second. -/

theorem col_a (i : S4096x1024.Idx) : Value.inIdx4_0 i = ix2 (i 0) ⟨2048 + (i 1).val, by have h : (i 1).val < 1024 := (i 1).isLt; omega⟩ := by
  funext a
  apply Fin.ext
  match a with
  | ⟨0, _⟩ => rfl
  | ⟨1, _⟩ => exact Nat.add_comm _ _

theorem col_b (i : S4096x1024.Idx) : Value.inIdx4_2 i = ix2 (i 0) ⟨3072 + (i 1).val, by have h : (i 1).val < 1024 := (i 1).isLt; omega⟩ := by
  funext a
  apply Fin.ext
  match a with
  | ⟨0, _⟩ => rfl
  | ⟨1, _⟩ => exact Nat.add_comm _ _

/-- The gated sum of the two branches. -/
theorem gate_eq (p : (⟨S4096x4096, .f32⟩ : BufTy).Contents (Elt Ideal)) (a b : (⟨S4096x1024, .f32⟩ : BufTy).Contents (Elt Ideal)) :
    Value.G4 (F := Ideal) p a p b = Cert.GateRefIdeal.Read.val_main_v17 (F := Ideal) p a b := by
  funext i
  rw [← Cert.GateRefIdeal.Read.val_main_v17_eq]
  pointwise [Value.G4]
  unfold Ideal.logistic
  pointwise
  rw [col_a, col_b]
  rfl

end Cert.GateIdeal.Sum

namespace Cert.DGateIdeal.Sum

open Cert.DGateIdeal Cert.DGateIdeal.Gen Idealize.ShloMosaic Idealize.ShloMosaic.TcCoe Idealize.SL.Sem

theorem col5 (i : S4096x1024.Idx) : Value.inIdx5_0 i = ix2 (i 0) ⟨2048 + (i 1).val, by have h : (i 1).val < 1024 := (i 1).isLt; omega⟩ := by
  funext a
  apply Fin.ext
  match a with
  | ⟨0, _⟩ => rfl
  | ⟨1, _⟩ => exact Nat.add_comm _ _

theorem col6 (i : S4096x1024.Idx) : Value.inIdx6_0 i = ix2 (i 0) ⟨3072 + (i 1).val, by have h : (i 1).val < 1024 := (i 1).isLt; omega⟩ := by
  funext a
  apply Fin.ext
  match a with
  | ⟨0, _⟩ => rfl
  | ⟨1, _⟩ => exact Nat.add_comm _ _

theorem col7 (i : S4096x1024.Idx) : Value.inIdx7_0 i = ix2 (i 0) ⟨2048 + (i 1).val, by have h : (i 1).val < 1024 := (i 1).isLt; omega⟩ := by
  funext a
  apply Fin.ext
  match a with
  | ⟨0, _⟩ => rfl
  | ⟨1, _⟩ => exact Nat.add_comm _ _

theorem col8 (i : S4096x1024.Idx) : Value.inIdx8_0 i = ix2 (i 0) ⟨3072 + (i 1).val, by have h : (i 1).val < 1024 := (i 1).isLt; omega⟩ := by
  funext a
  apply Fin.ext
  match a with
  | ⟨0, _⟩ => rfl
  | ⟨1, _⟩ => exact Nat.add_comm _ _

/-- The gradient of the first branch: the incoming gradient times the gate. -/
theorem dya_eq (p : (⟨S4096x4096, .f32⟩ : BufTy).Contents (Elt Ideal)) (d : (⟨S4096x1024, .f32⟩ : BufTy).Contents (Elt Ideal)) :
    Value.G5 (F := Ideal) p d = Cert.DGateRefIdeal.Read.val_main_v31 (F := Ideal) p d := by
  funext i
  rw [← Cert.DGateRefIdeal.Read.val_main_v31_eq]
  pointwise [Value.G5]
  unfold Ideal.logistic
  pointwise
  rw [col5, mul_comm]
  rfl

/-- The gradient of the second branch. -/
theorem dyb_eq (p : (⟨S4096x4096, .f32⟩ : BufTy).Contents (Elt Ideal)) (d : (⟨S4096x1024, .f32⟩ : BufTy).Contents (Elt Ideal)) :
    Value.G6 (F := Ideal) p d = Cert.DGateRefIdeal.Read.val_main_v32 (F := Ideal) p d := by
  funext i
  rw [← Cert.DGateRefIdeal.Read.val_main_v32_eq]
  pointwise [Value.G6]
  unfold Ideal.logistic
  pointwise
  rw [col6, mul_comm]
  rfl

/-- The gradient of the first gate: the incoming gradient times the branch times the slope of `logistic`. -/
theorem dga_eq (p : (⟨S4096x4096, .f32⟩ : BufTy).Contents (Elt Ideal)) (d a : (⟨S4096x1024, .f32⟩ : BufTy).Contents (Elt Ideal)) :
    Value.G7 (F := Ideal) p d a = Cert.DGateRefIdeal.Read.val_main_v33 (F := Ideal) p a d := by
  funext i
  rw [← Cert.DGateRefIdeal.Read.val_main_v33_eq]
  pointwise [Value.G7]
  unfold Ideal.logistic
  pointwise
  rw [col7]
  rfl

/-- The gradient of the second gate. -/
theorem dgb_eq (p : (⟨S4096x4096, .f32⟩ : BufTy).Contents (Elt Ideal)) (d b : (⟨S4096x1024, .f32⟩ : BufTy).Contents (Elt Ideal)) :
    Value.G8 (F := Ideal) p d b = Cert.DGateRefIdeal.Read.val_main_v34 (F := Ideal) p b d := by
  funext i
  rw [← Cert.DGateRefIdeal.Read.val_main_v34_eq]
  pointwise [Value.G8]
  unfold Ideal.logistic
  pointwise
  rw [col8]
  rfl

end Cert.DGateIdeal.Sum

end
-- ==== Proof.Mixer.Latent.lean ====
/- The values of the three products that take the latents to the queries, keys and values (`mm_nn`): every block of rows is
   one product over the full width; the reference is the one product. The facts about blocks of rows at the head serve the
   backward products too. -/
module

public import proofs.«01_k».proof.Proof.Gen.UqIdeal.Value
public import proofs.«01_k».proof.Proof.Gen.UqRefIdeal.Run
public import proofs.«01_k».proof.Proof.Gen.UqRefIdeal.Read
public import proofs.«01_k».proof.Proof.Gen.UkIdeal.Value
public import proofs.«01_k».proof.Proof.Gen.UkRefIdeal.Run
public import proofs.«01_k».proof.Proof.Gen.UkRefIdeal.Read
public import proofs.«01_k».proof.Proof.Gen.UvIdeal.Value
public import proofs.«01_k».proof.Proof.Gen.UvRefIdeal.Run
public import proofs.«01_k».proof.Proof.Gen.UvRefIdeal.Read
public import proofs.«01_k».proof.Proof.Finite
public import Idealize.ShloMosaic.Lib.Pointwise

@[expose] public section

set_option maxRecDepth 16384

noncomputable section

open Idealize.ShloMosaic Idealize.ShloMosaic.TcCoe Idealize.SL.Sem

namespace Cert.Latent

/-- Row `y` of the `n`-th quarter of the tokens. -/
def row (n : Fin 4) (y : Fin 1024) : Fin 4096 := ⟨n.val * 1024 + y.val, by omega⟩

/-- Two arrays over all tokens agree if they do in each quarter. -/
theorem by_rows {N : ℕ} {α : Type} {f g : (Shape.mk 2 ![4096, N]).Idx → α}
    (h : ∀ (n : Fin 4) (y : Fin 1024) (z : Fin N), f (ix2 (row n y) z) = g (ix2 (row n y) z)) : f = g := by
  funext i
  have h0 : (i 0).val < 4096 := (i 0).isLt
  have e : i = ix2 (row ⟨(i 0).val / 1024, by omega⟩ ⟨(i 0).val % 1024, by omega⟩) (i 1) :=
    funext (Fin.forall_fin_two.2 ⟨Fin.ext (by show (i 0).val = (i 0).val / 1024 * 1024 + (i 0).val % 1024; omega), rfl⟩)
  rw [e]
  exact h _ _ _

variable {d : Fin 2 → ℕ} {i j : (a : Fin 2) → Fin (d a)} {p q : ℕ}

/-- Where a block of rows lies: an element's row is its row in the block's quarter, its column its column. -/
theorem rows (s1 : ℕ) {n : Fin 4} {y : Fin 1024} (e : p = n.val ∧ q = 0) (hr : (j 0).val = (row n y).val)
    (h0 : (i 0).val = p * 1024 + 1 * y.val) (h1 : (i 1).val = q * s1 + 1 * (j 1).val) : i = j := by
  obtain ⟨rfl, rfl⟩ := e
  have : (row n y).val = n.val * 1024 + y.val := rfl
  exact funext (Fin.forall_fin_two.2 ⟨Fin.ext (by omega), Fin.ext (by omega)⟩)

/-- A block that is the whole array lies at its place. -/
theorem whole (s0 s1 : ℕ) (e : p = 0 ∧ q = 0)
    (h0 : (i 0).val = p * s0 + 1 * (j 0).val) (h1 : (i 1).val = q * s1 + 1 * (j 1).val) : i = j := by
  obtain ⟨rfl, rfl⟩ := e
  exact funext (Fin.forall_fin_two.2 ⟨Fin.ext (by omega), Fin.ext (by omega)⟩)

/-- The product of a matrix with another. -/
def nn {M K N : ℕ} (x : (Shape.mk 2 ![M, K]).Idx → EReal) (w : (Shape.mk 2 ![K, N]).Idx → EReal) : (Shape.mk 2 ![M, N]).Idx → EReal :=
  fun i => ∑ k : Fin K, x (ix2 (i 0) k) * w (ix2 k (i 1))

/-- A row of the product is the row of its first factor times the second. -/
theorem nn_row {M M' K N : ℕ} {x : (Shape.mk 2 ![M, K]).Idx → EReal} {x' : (Shape.mk 2 ![M', K]).Idx → EReal}
    {w w' : (Shape.mk 2 ![K, N]).Idx → EReal} {y : Fin M} {y' : Fin M'} {z : Fin N} (hx : ∀ k, x (ix2 y k) = x' (ix2 y' k))
    (hw : ∀ k, w (ix2 k z) = w' (ix2 k z)) : nn x w (ix2 y z) = nn x' w' (ix2 y' z) :=
  Finset.sum_congr rfl fun k _ => congrArg₂ (· * ·) (hx k) (hw k)

/-- The product of a matrix with another's transpose, and a row of it. -/
def nt {M K N : ℕ} (x : (Shape.mk 2 ![M, N]).Idx → EReal) (w : (Shape.mk 2 ![K, N]).Idx → EReal) : (Shape.mk 2 ![M, K]).Idx → EReal :=
  fun i => ∑ k : Fin N, x (ix2 (i 0) k) * w (ix2 (i 1) k)

theorem nt_row {M M' K N : ℕ} {x : (Shape.mk 2 ![M, N]).Idx → EReal} {x' : (Shape.mk 2 ![M', N]).Idx → EReal}
    {w w' : (Shape.mk 2 ![K, N]).Idx → EReal} {y : Fin M} {y' : Fin M'} {z : Fin K} (hx : ∀ k, x (ix2 y k) = x' (ix2 y' k))
    (hw : ∀ k, w (ix2 z k) = w' (ix2 z k)) : nt x w (ix2 y z) = nt x' w' (ix2 y' z) :=
  Finset.sum_congr rfl fun k _ => congrArg₂ (· * ·) (hx k) (hw k)

/-- The product of a matrix's transpose with another. -/
def tn {M K N : ℕ} (x : (Shape.mk 2 ![M, K]).Idx → EReal) (w : (Shape.mk 2 ![M, N]).Idx → EReal) : (Shape.mk 2 ![K, N]).Idx → EReal :=
  fun i => ∑ k : Fin M, x (ix2 k (i 0)) * w (ix2 k (i 1))

/-- The same over all tokens is the sum over the four quarters. -/
theorem tn_quarters {K N : ℕ} {x : Fin 4 → (Shape.mk 2 ![1024, K]).Idx → EReal} {x' : (Shape.mk 2 ![4096, K]).Idx → EReal}
    {w : Fin 4 → (Shape.mk 2 ![1024, N]).Idx → EReal} {w' : (Shape.mk 2 ![4096, N]).Idx → EReal} {i : (Shape.mk 2 ![K, N]).Idx}
    (hx : ∀ n y, x n (ix2 y (i 0)) = x' (ix2 (row n y) (i 0))) (hw : ∀ n y, w n (ix2 y (i 1)) = w' (ix2 (row n y) (i 1))) :
    tn (x 0) (w 0) i + tn (x 1) (w 1) i + tn (x 2) (w 2) i + tn (x 3) (w 3) i = tn x' w' i := by
  unfold tn
  rw [Cert.Finite.sum_quarters 1024 rfl]
  simp only [hx, hw]
  refine congrArg₂ (· + ·) (congrArg₂ (· + ·) (congrArg₂ (· + ·) ?_ ?_) ?_) ?_
  all_goals
    refine Finset.sum_congr rfl fun k _ => ?_
    congr 3 <;> exact Fin.ext (by simp only [row, Fin.val_zero, Fin.val_one, Fin.val_two]; omega)

theorem hz2 : (![0, 0] : Fin 2 → Nat) = fun _ => 0 := funext fun a => by fin_cases a <;> rfl

end Cert.Latent

open Cert.Latent

/-! ## The queries -/

namespace Cert.UqIdeal.Sum

open Cert.UqIdeal Cert.UqIdeal.Gen

theorem out_A {F : FTy → Type} [FloatOps F] : ∀ c i a3 h3 a4 h4 a5 h5 a6 h6 x0 x1,
    out0_A_2 (F := F) c i a3 h3 a4 h4 a5 h5 a6 h6 x0 x1 = k0_pay1 x0 x1 := by
  intro c i a3 h3 a4 h4 a5 h5 a6 h6 x0 x1
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x256) hz2, View.ld_unit_zero (S := S256x1024) hz2]

/-- Where the blocks lie, and that each is written back. -/
theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem pay_apply : ∀ x0 x1 j, k0_pay1 (F := Ideal) x0 x1 j = nn (M := 1024) (K := 256) (N := 1024) x0 x1 j := by
  intro x0 x1 j
  unfold nn
  pointwise [k0_pay1]

theorem ref_apply : ∀ x0 x1 i, Cert.UqRefIdeal.Read.val_main_v2 (F := Ideal) x0 x1 i = nn (M := 4096) (K := 256) (N := 1024) x0 x1 i := by
  intro x0 x1 i
  rw [← Cert.UqRefIdeal.Read.val_main_v2_eq]
  unfold nn
  pointwise

theorem arr_eq (m : (ℓ : Loc nD τ sig) → Buf (Elt Ideal) ℓ) (c : Dev nD) :
    (dats m 0 c).arrAt 2 cfg0.N = Cert.UqRefIdeal.Read.val_main_v2 (F := Ideal) (m ((c : Thread nD τ).loc main_arg0)) (m ((c : Thread nD τ).loc main_arg1)) := by
  refine by_rows (N := 1024) fun n y z => ?_
  obtain ⟨e0, e1, e2, hf⟩ := idx (n.cast N_0.symm)
  have h := congrFun (Value.blocks2 m c (n.cast N_0.symm) hf) (ix2 y z)
  have hi : ((cfg0.win 2).blk (n.cast N_0.symm)).view.emb (ix2 y z : S1024x1024.Idx) = ix2 (row n y) z := rows 1024 e2 rfl rfl rfl
  rw [View.read_apply, Value.flushed2_A, out_A, hi] at h
  refine h.trans ((pay_apply _ _ _).trans ((nn_row (fun k => ?_) (fun k => ?_)).trans (ref_apply _ _ _).symm))
  · exact congrArg (m ((c : Thread nD τ).loc main_arg0)) (rows 256 e0 rfl rfl rfl)
  · exact congrArg (m ((c : Thread nD τ).loc main_arg1)) (whole 256 1024 e1 rfl rfl)

end Cert.UqIdeal.Sum

/-! ## The keys -/

namespace Cert.UkIdeal.Sum

open Cert.UkIdeal Cert.UkIdeal.Gen

theorem out_A {F : FTy → Type} [FloatOps F] : ∀ c i a3 h3 a4 h4 a5 h5 a6 h6 x0 x1,
    out0_A_2 (F := F) c i a3 h3 a4 h4 a5 h5 a6 h6 x0 x1 = k0_pay1 x0 x1 := by
  intro c i a3 h3 a4 h4 a5 h5 a6 h6 x0 x1
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x128) hz2, View.ld_unit_zero (S := S128x1024) hz2]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem pay_apply : ∀ x0 x1 j, k0_pay1 (F := Ideal) x0 x1 j = nn (M := 1024) (K := 128) (N := 1024) x0 x1 j := by
  intro x0 x1 j
  unfold nn
  pointwise [k0_pay1]

theorem ref_apply : ∀ x0 x1 i, Cert.UkRefIdeal.Read.val_main_v2 (F := Ideal) x0 x1 i = nn (M := 4096) (K := 128) (N := 1024) x0 x1 i := by
  intro x0 x1 i
  rw [← Cert.UkRefIdeal.Read.val_main_v2_eq]
  unfold nn
  pointwise

theorem arr_eq (m : (ℓ : Loc nD τ sig) → Buf (Elt Ideal) ℓ) (c : Dev nD) :
    (dats m 0 c).arrAt 2 cfg0.N = Cert.UkRefIdeal.Read.val_main_v2 (F := Ideal) (m ((c : Thread nD τ).loc main_arg0)) (m ((c : Thread nD τ).loc main_arg1)) := by
  refine by_rows (N := 1024) fun n y z => ?_
  obtain ⟨e0, e1, e2, hf⟩ := idx (n.cast N_0.symm)
  have h := congrFun (Value.blocks2 m c (n.cast N_0.symm) hf) (ix2 y z)
  have hi : ((cfg0.win 2).blk (n.cast N_0.symm)).view.emb (ix2 y z : S1024x1024.Idx) = ix2 (row n y) z := rows 1024 e2 rfl rfl rfl
  rw [View.read_apply, Value.flushed2_A, out_A, hi] at h
  refine h.trans ((pay_apply _ _ _).trans ((nn_row (fun k => ?_) (fun k => ?_)).trans (ref_apply _ _ _).symm))
  · exact congrArg (m ((c : Thread nD τ).loc main_arg0)) (rows 128 e0 rfl rfl rfl)
  · exact congrArg (m ((c : Thread nD τ).loc main_arg1)) (whole 128 1024 e1 rfl rfl)

end Cert.UkIdeal.Sum

/-! ## The values, rounded -/

namespace Cert.UvIdeal.Sum

open Cert.UvIdeal Cert.UvIdeal.Gen

theorem out_A {F : FTy → Type} [FloatOps F] : ∀ c i a3 h3 a4 h4 a5 h5 a6 h6 x0 x1,
    out0_A_2 (F := F) c i a3 h3 a4 h4 a5 h5 a6 h6 x0 x1 = k0_pay1 x0 x1 := by
  intro c i a3 h3 a4 h4 a5 h5 a6 h6 x0 x1
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x128) hz2, View.ld_unit_zero (S := S128x1024) hz2]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem pay_apply : ∀ x0 x1 j, k0_pay1 (F := Ideal) x0 x1 j = nn (M := 1024) (K := 128) (N := 1024) x0 x1 j := by
  intro x0 x1 j
  unfold nn
  pointwise [k0_pay1]

theorem ref_apply : ∀ x0 x1 i, Cert.UvRefIdeal.Read.val_main_v3 (F := Ideal) x0 x1 i = nn (M := 4096) (K := 128) (N := 1024) x0 x1 i := by
  intro x0 x1 i
  rw [← Cert.UvRefIdeal.Read.val_main_v3_eq]
  unfold nn
  pointwise

theorem arr_eq (m : (ℓ : Loc nD τ sig) → Buf (Elt Ideal) ℓ) (c : Dev nD) :
    (dats m 0 c).arrAt 2 cfg0.N = Cert.UvRefIdeal.Read.val_main_v3 (F := Ideal) (m ((c : Thread nD τ).loc main_arg0)) (m ((c : Thread nD τ).loc main_arg1)) := by
  refine by_rows (N := 1024) fun n y z => ?_
  obtain ⟨e0, e1, e2, hf⟩ := idx (n.cast N_0.symm)
  have h := congrFun (Value.blocks2 m c (n.cast N_0.symm) hf) (ix2 y z)
  have hi : ((cfg0.win 2).blk (n.cast N_0.symm)).view.emb (ix2 y z : S1024x1024.Idx) = ix2 (row n y) z := rows 1024 e2 rfl rfl rfl
  rw [View.read_apply, Value.flushed2_A, out_A, hi] at h
  refine h.trans ((pay_apply _ _ _).trans ((nn_row (fun k => ?_) (fun k => ?_)).trans (ref_apply _ _ _).symm))
  · exact congrArg (m ((c : Thread nD τ).loc main_arg0)) (rows 128 e0 rfl rfl rfl)
  · exact congrArg (m ((c : Thread nD τ).loc main_arg1)) (whole 128 1024 e1 rfl rfl)

end Cert.UvIdeal.Sum

end
-- ==== Proof.Mixer.DLatent.lean ====
/- The values of the three products that take the gradients of the queries, keys and values back to the latents (`mm_nt`):
   every block of rows is one product over the full width; the reference is the one product. -/
module

public import proofs.«01_k».proof.Proof.Gen.DUqIdeal.Value
public import proofs.«01_k».proof.Proof.Gen.DUqRefIdeal.Run
public import proofs.«01_k».proof.Proof.Gen.DUqRefIdeal.Read
public import proofs.«01_k».proof.Proof.Gen.DUkIdeal.Value
public import proofs.«01_k».proof.Proof.Gen.DUkRefIdeal.Run
public import proofs.«01_k».proof.Proof.Gen.DUkRefIdeal.Read
public import proofs.«01_k».proof.Proof.Gen.DUvIdeal.Value
public import proofs.«01_k».proof.Proof.Gen.DUvRefIdeal.Run
public import proofs.«01_k».proof.Proof.Gen.DUvRefIdeal.Read
public import proofs.«01_k».proof.Proof.Mixer.Latent
public import Idealize.ShloMosaic.Lib.Pointwise

@[expose] public section

set_option maxRecDepth 16384

noncomputable section

open Idealize.ShloMosaic Idealize.ShloMosaic.TcCoe Idealize.SL.Sem

open Cert.Latent

/-! ## From the queries -/

namespace Cert.DUqIdeal.Sum

open Cert.DUqIdeal Cert.DUqIdeal.Gen

theorem out_A {F : FTy → Type} [FloatOps F] : ∀ c i a3 h3 a4 h4 a5 h5 a6 h6 x0 x1,
    out0_A_2 (F := F) c i a3 h3 a4 h4 a5 h5 a6 h6 x0 x1 = k0_pay1 x0 x1 := by
  intro c i a3 h3 a4 h4 a5 h5 a6 h6 x0 x1
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x1024) hz2, View.ld_unit_zero (S := S256x1024) hz2]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem pay_apply : ∀ x0 x1 j, k0_pay1 (F := Ideal) x0 x1 j = nt (M := 1024) (K := 256) (N := 1024) x0 x1 j := by
  intro x0 x1 j
  unfold nt
  pointwise [k0_pay1]

theorem ref_apply : ∀ x0 x1 i, Cert.DUqRefIdeal.Read.val_main_v4 (F := Ideal) x0 x1 i = nt (M := 4096) (K := 256) (N := 1024) x0 x1 i := by
  intro x0 x1 i
  rw [← Cert.DUqRefIdeal.Read.val_main_v4_eq]
  unfold nt
  pointwise

theorem arr_eq (m : (ℓ : Loc nD τ sig) → Buf (Elt Ideal) ℓ) (c : Dev nD) :
    (dats m 0 c).arrAt 2 cfg0.N = Cert.DUqRefIdeal.Read.val_main_v4 (F := Ideal) (m ((c : Thread nD τ).loc main_arg0)) (m ((c : Thread nD τ).loc main_arg1)) := by
  refine by_rows (N := 256) fun n y z => ?_
  obtain ⟨e0, e1, e2, hf⟩ := idx (n.cast N_0.symm)
  have h := congrFun (Value.blocks2 m c (n.cast N_0.symm) hf) (ix2 y z)
  have hi : ((cfg0.win 2).blk (n.cast N_0.symm)).view.emb (ix2 y z : S1024x256.Idx) = ix2 (row n y) z := rows 256 e2 rfl rfl rfl
  rw [View.read_apply, Value.flushed2_A, out_A, hi] at h
  refine h.trans ((pay_apply _ _ _).trans ((nt_row (fun k => ?_) (fun k => ?_)).trans (ref_apply _ _ _).symm))
  · exact congrArg (m ((c : Thread nD τ).loc main_arg0)) (rows 1024 e0 rfl rfl rfl)
  · exact congrArg (m ((c : Thread nD τ).loc main_arg1)) (whole 256 1024 e1 rfl rfl)

end Cert.DUqIdeal.Sum

/-! ## From the keys -/

namespace Cert.DUkIdeal.Sum

open Cert.DUkIdeal Cert.DUkIdeal.Gen

theorem out_A {F : FTy → Type} [FloatOps F] : ∀ c i a3 h3 a4 h4 a5 h5 a6 h6 x0 x1,
    out0_A_2 (F := F) c i a3 h3 a4 h4 a5 h5 a6 h6 x0 x1 = k0_pay1 x0 x1 := by
  intro c i a3 h3 a4 h4 a5 h5 a6 h6 x0 x1
  unfold out0_A_2
  rw [View.read_writes_eq_canon _ _ _ (cover0_A_2 c i a3 h3 a4 h4 a5 h5 a6 h6 x0 x1)]
  unfold kernelRun0_A
  dsimp only
  sl_unfold_words
  rw [View.canon_unit_zero hz2]
  simp only [View.readAt_eq_ld, h3.read_unread, h4.read_unread, View.ld_unit_zero (S := S1024x1024) hz2, View.ld_unit_zero (S := S128x1024) hz2]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem pay_apply : ∀ x0 x1 j, k0_pay1 (F := Ideal) x0 x1 j = nt (M := 1024) (K := 128) (N := 1024) x0 x1 j := by
  intro x0 x1 j
  unfold nt
  pointwise [k0_pay1]

theorem ref_apply : ∀ x0 x1 i, Cert.DUkRefIdeal.Read.val_main_v4 (F := Ideal) x0 x1 i = nt (M := 4096) (K := 128) (N := 1024) x0 x1 i := by
  intro x0 x1 i
  rw [← Cert.DUkRefIdeal.Read.val_main_v4_eq]
  unfold nt
  pointwise

theorem arr_eq (m : (ℓ : Loc nD τ sig) → Buf (Elt Ideal) ℓ) (c : Dev nD) :
    (dats m 0 c).arrAt 2 cfg0.N = Cert.DUkRefIdeal.Read.val_main_v4 (F := Ideal) (m ((c : Thread nD τ).loc main_arg0)) (m ((c : Thread nD τ).loc main_arg1)) := by
  refine by_rows (N := 128) fun n y z => ?_
  obtain ⟨e0, e1, e2, hf⟩ := idx (n.cast N_0.symm)
  have h := congrFun (Value.blocks2 m c (n.cast N_0.symm) hf) (ix2 y z)
  have hi : ((cfg0.win 2).blk (n.cast N_0.symm)).view.emb (ix2 y z : S1024x128.Idx) = ix2 (row n y) z := rows 128 e2 rfl rfl rfl
  rw [View.read_apply, Value.flushed2_A, out_A, hi] at h
  refine h.trans ((pay_apply _ _ _).trans ((nt_row (fun k => ?_) (fun k => ?_)).trans (ref_apply _ _ _).symm))
  · exact congrArg (m ((c : Thread nD τ).loc main_arg0)) (rows 1024 e0 rfl rfl rfl)
  · exact congrArg (m ((c : Thread nD τ).loc main_arg1)) (whole 128 1024 e1 rfl rfl)

end Cert.DUkIdeal.Sum

/-! ## From the values, added to what came from the keys -/

namespace Cert.DUvIdeal.Sum

open Cert.DUvIdeal Cert.DUvIdeal.Gen

theorem out_A {F : FTy → Type} [FloatOps F] : ∀ c i a3 h3 a4 h4 a5 h5 a6 h6 a7 h7 x0 x1 x2,
    out0_A_3 (F := F) c i a3 h3 a4 h4 a5 h5 a6 h6 a7 h7 x0 x1 x2 = k0_pay1 x0 x1 x2 := by
  intro c i a3 h3 a4 h4 a5 h5 a6 h6 a7 h7 x0 x1 x2
  unfold out0_A_3
  rw [View.read_writes_eq_canon _ _ _ (cover0_A_3 c i a3 h3 a4 h4 a5 h5 a6 h6 a7 h7 x0 x1 x2)]
  unfold kernelRun0_A
  dsimp only
  sl_unfold_words
  rw [View.canon_unit_zero hz2]
  simp only [View.readAt_eq_ld, h3.read_unread, h4.read_unread, h5.read_unread, View.ld_unit_zero (S := S1024x1024) hz2,
    View.ld_unit_zero (S := S128x1024) hz2, View.ld_unit_zero (S := S1024x128) hz2]

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) ∧ win0_3.flush t = true :=
  (by decide +kernel : ∀ t : Fin grid0.N, _)

theorem pay_apply : ∀ x0 x1 x2 j, k0_pay1 (F := Ideal) x0 x1 x2 j = x2 j + nt (M := 1024) (K := 128) (N := 1024) x0 x1 j := by
  intro x0 x1 x2 j
  unfold nt
  pointwise [k0_pay1]

theorem ref_apply : ∀ x0 x1 x2 i, Cert.DUvRefIdeal.Read.val_main_v5 (F := Ideal) x0 x1 x2 i = x2 i + nt (M := 4096) (K := 128) (N := 1024) x0 x1 i := by
  intro x0 x1 x2 i
  rw [← Cert.DUvRefIdeal.Read.val_main_v5_eq]
  unfold nt
  pointwise

theorem arr_eq (m : (ℓ : Loc nD τ sig) → Buf (Elt Ideal) ℓ) (c : Dev nD) :
    (dats m 0 c).arrAt 3 cfg0.N = Cert.DUvRefIdeal.Read.val_main_v5 (F := Ideal) (m ((c : Thread nD τ).loc main_arg0)) (m ((c : Thread nD τ).loc main_arg1)) (m ((c : Thread nD τ).loc main_arg2)) := by
  refine by_rows (N := 128) fun n y z => ?_
  obtain ⟨e0, e1, e2, e3, hf⟩ := idx (n.cast N_0.symm)
  have h := congrFun (Value.blocks3 m c (n.cast N_0.symm) hf) (ix2 y z)
  have hi : ((cfg0.win 3).blk (n.cast N_0.symm)).view.emb (ix2 y z : S1024x128.Idx) = ix2 (row n y) z := rows 128 e3 rfl rfl rfl
  rw [View.read_apply, Value.flushed3_A, out_A, hi] at h
  refine h.trans ((pay_apply _ _ _ _).trans ((congrArg₂ (· + ·) ?_ (nt_row (fun k => ?_) (fun k => ?_))).trans (ref_apply _ _ _ _).symm))
  · exact congrArg (m ((c : Thread nD τ).loc main_arg2)) (rows 128 e2 rfl rfl rfl)
  · exact congrArg (m ((c : Thread nD τ).loc main_arg0)) (rows 1024 e0 rfl rfl rfl)
  · exact congrArg (m ((c : Thread nD τ).loc main_arg1)) (whole 128 1024 e1 rfl rfl)

end Cert.DUvIdeal.Sum

end
-- ==== Proof.Mixer.DwLatent.lean ====
/- The values of the gradients of the latents' weights (`mm_tn`): the sum, over the four quarters of the tokens, of
   the products, rounded; the reference is one contraction over all tokens, rounded. -/
module

public import proofs.«01_k».proof.Proof.Gen.DwUqIdeal.Value
public import proofs.«01_k».proof.Proof.Gen.DwUqRefIdeal.Run
public import proofs.«01_k».proof.Proof.Gen.DwUqRefIdeal.Read
public import proofs.«01_k».proof.Proof.Gen.DwUkIdeal.Value
public import proofs.«01_k».proof.Proof.Gen.DwUkRefIdeal.Run
public import proofs.«01_k».proof.Proof.Gen.DwUkRefIdeal.Read
public import proofs.«01_k».proof.Proof.Mixer.Latent
public import proofs.«01_k».proof.Proof.Finite
public import Idealize.ShloMosaic.Lib.Pointwise

@[expose] public section

set_option maxRecDepth 16384

noncomputable section

open Idealize.ShloMosaic Idealize.ShloMosaic.TcCoe Idealize.SL.Sem

open Cert.Latent

/-! ## The weights of the queries -/

namespace Cert.DwUqIdeal.Sum

open Cert.DwUqIdeal Cert.DwUqIdeal.Gen

/-- At the first quarter the scratch ends holding the quarter's product. -/
theorem sout_A {F : FTy → Type} [FloatOps F] : ∀ c i a3 h3 a4 h4 a5 h5 a6 h6 hc0 hc1 hc2 x0 x1,
    sout0_A_0 (F := F) c i a3 h3 a4 h4 a5 h5 a6 h6 hc0 hc1 hc2 x0 x1 = k0_pay2 x0 x1 := by
  intro c i a3 h3 a4 h4 a5 h5 a6 h6 hc0 hc1 hc2 x0 x1
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x256) hz2, View.ld_unit_zero (S := S1024x1024) hz2]

/-- At a middle quarter it ends holding what it held plus the quarter's product. -/
theorem sout_B {F : FTy → Type} [FloatOps F] : ∀ c i a3 h3 a4 h4 a5 h5 a6 h6 hc0 hc1 hc2 x0 x1 xs,
    sout0_B_0 (F := F) c i a3 h3 a4 h4 a5 h5 a6 h6 hc0 hc1 hc2 x0 x1 xs = k0_pay3 x0 x1 xs := by
  intro c i a3 h3 a4 h4 a5 h5 a6 h6 hc0 hc1 hc2 x0 x1 xs
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x256) hz2,
    View.ld_unit_zero (S := S1024x1024) hz2, View.ld_unit_zero (S := S256x1024) hz2]

/-- At the last quarter the block written is the rounding of the same sum. -/
theorem out_C {F : FTy → Type} [FloatOps F] : ∀ c i a3 h3 a4 h4 a5 h5 a6 h6 hc0 hc1 hc2 x0 x1 xs,
    out0_C_2 (F := F) c i a3 h3 a4 h4 a5 h5 a6 h6 hc0 hc1 hc2 x0 x1 xs = k0_pay4 (k0_pay3 x0 x1 xs) := by
  intro c i a3 h3 a4 h4 a5 h5 a6 h6 hc0 hc1 hc2 x0 x1 xs
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S256x1024) _ hz2]
  simp only [View.readAt_eq_ld, h3.read_unread, h4.read_unread, h6.read_unread, View.ld_unit_zero (S := S1024x256) hz2,
    View.ld_unit_zero (S := S1024x1024) hz2, View.ld_unit_zero (S := S256x1024) hz2]

theorem idx : ∀ t : Fin cfg0.N, (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- What is written back: the four quarters' products added, rounded. -/
theorem outs_eq {F : FTy → Type} [FloatOps F] (m : (ℓ : Loc nD τ sig) → Buf (Elt F) ℓ) (c : Dev nD) (h : 3 < cfg0.N) :
    (outsAt0 m c 3 h).1 = k0_pay4 (k0_pay3 (iblk m c 0 ⟨3, h⟩) (iblk m c 1 ⟨3, h⟩)
      (k0_pay3 (iblk m c 0 ⟨2, by omega⟩) (iblk m c 1 ⟨2, by omega⟩)
      (k0_pay3 (iblk m c 0 ⟨1, by omega⟩) (iblk m c 1 ⟨1, by omega⟩)
      (k0_pay2 (iblk m c 0 ⟨0, by omega⟩) (iblk m c 1 ⟨0, by omega⟩))))) := by
  rw [outsAt0_C m c ⟨3, h⟩ (by simp) (by simp) (by simp), out_C]
  show k0_pay4 (k0_pay3 _ _ (outsAt0 m c 2 _).2) = _
  rw [outsAt0_B m c ⟨2, by omega⟩ (by simp) (by simp) (by simp), sout_B]
  show k0_pay4 (k0_pay3 _ _ (k0_pay3 _ _ (outsAt0 m c 1 _).2)) = _
  rw [outsAt0_B m c ⟨1, by omega⟩ (by simp) (by simp) (by simp), sout_B]
  show k0_pay4 (k0_pay3 _ _ (k0_pay3 _ _ (k0_pay3 _ _ (outsAt0 m c 0 _).2))) = _
  rw [outsAt0_A m c ⟨0, by omega⟩ (by simp) (by simp) (by simp), sout_A]

theorem pay_apply : ∀ (xa xb xc xd : Vec Ideal S1024x256 .bf16) (ya yb yc yd : Vec Ideal S1024x1024 .bf16) j,
    k0_pay4 (F := Ideal) (k0_pay3 xd yd (k0_pay3 xc yc (k0_pay3 xb yb (k0_pay2 xa ya)))) j
      = tn (M := 1024) (K := 256) (N := 1024) xa ya j + tn (M := 1024) (K := 256) (N := 1024) xb yb j
        + tn (M := 1024) (K := 256) (N := 1024) xc yc j + tn (M := 1024) (K := 256) (N := 1024) xd yd j := by
  intro xa xb xc xd ya yb yc yd j
  unfold tn
  pointwise [k0_pay4, k0_pay3, k0_pay2, k0_pay1]

theorem ref_apply : ∀ x0 x1 i, Cert.DwUqRefIdeal.Read.val_main_v6 (F := Ideal) x0 x1 i = tn (M := 4096) (K := 256) (N := 1024) x0 x1 i := by
  intro x0 x1 i
  rw [← Cert.DwUqRefIdeal.Read.val_main_v6_eq]
  unfold tn
  simp only [mul_comm (x0 _)]
  pointwise

/-- The kernel's result is the reference's. -/
theorem G2_eq (m : (ℓ : Loc nD τ sig) → Buf (Elt Ideal) ℓ) (c : Dev nD) :
    Value.G2 m c = Cert.DwUqRefIdeal.Read.val_main_v6 (F := Ideal) (m ((c : Thread nD τ).loc main_arg0)) (m ((c : Thread nD τ).loc main_arg1)) := by
  funext i
  have i0 : (i 0).val < 256 := (i 0).isLt
  have i1 : (i 1).val < 1024 := (i 1).isLt
  have hp : Value.pt2Of i = 3 := by
    show 4 * (1 * ((i 0).val / 256 - 0) + 1 * ((i 1).val / 1024 - 0)) + 3 = 3; omega
  have h3 : 3 < cfg0.N := by rw [show cfg0.N = 4 from N_0]; decide
  have hp' : Value.pt2Of i < cfg0.N := hp ▸ h3
  unfold Value.G2
  rw [dif_pos hp', ← Value.outsAt0_sweep m c (Value.pt2Of i) hp']
  have e' : (outsAt0 m c (Value.pt2Of i) hp').1 = (outsAt0 m c 3 h3).1 := by congr 2
  have ej : ∀ j : S256x1024.Idx, j = i → (outsAt0 m c 3 h3).1 j = (outsAt0 m c 3 h3).1 i := fun j h => h ▸ rfl
  rw [e']
  refine (ej _ (funext (Fin.forall_fin_two.2 ⟨Fin.ext (Nat.mod_eq_of_lt i0), Fin.ext (Nat.mod_eq_of_lt i1)⟩))).trans ?_
  rw [outs_eq m c h3]
  refine (pay_apply _ _ _ _ _ _ _ _ _).trans (Eq.trans ?_ (ref_apply _ _ _).symm)
  exact tn_quarters (K := 256) (N := 1024) (x := fun n => iblk m c 0 (n.cast N_0.symm)) (w := fun n => iblk m c 1 (n.cast N_0.symm))
    (fun n y => congrArg (m ((c : Thread nD τ).loc main_arg0)) (rows 256 (idx (n.cast N_0.symm)).1 rfl rfl rfl))
    (fun n y => congrArg (m ((c : Thread nD τ).loc main_arg1)) (rows 1024 (idx (n.cast N_0.symm)).2 rfl rfl rfl))

end Cert.DwUqIdeal.Sum

/-! ## The weights of the keys and of the values -/

namespace Cert.DwUkIdeal.Sum

open Cert.DwUkIdeal Cert.DwUkIdeal.Gen

/-- At the first quarter the scratch ends holding the quarter's product. -/
theorem sout_A {F : FTy → Type} [FloatOps F] : ∀ c i a3 h3 a4 h4 a5 h5 a6 h6 hc0 hc1 hc2 x0 x1,
    sout0_A_0 (F := F) c i a3 h3 a4 h4 a5 h5 a6 h6 hc0 hc1 hc2 x0 x1 = k0_pay2 x0 x1 := by
  intro c i a3 h3 a4 h4 a5 h5 a6 h6 hc0 hc1 hc2 x0 x1
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz2]
  simp only [View.readAt_eq_ld, h3.read_unread, h4.read_unread, View.ld_unit_zero (S := S1024x128) hz2, View.ld_unit_zero (S := S1024x1024) hz2]

/-- At a middle quarter it ends holding what it held plus the quarter's product. -/
theorem sout_B {F : FTy → Type} [FloatOps F] : ∀ c i a3 h3 a4 h4 a5 h5 a6 h6 hc0 hc1 hc2 x0 x1 xs,
    sout0_B_0 (F := F) c i a3 h3 a4 h4 a5 h5 a6 h6 hc0 hc1 hc2 x0 x1 xs = k0_pay3 x0 x1 xs := by
  intro c i a3 h3 a4 h4 a5 h5 a6 h6 hc0 hc1 hc2 x0 x1 xs
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz2]
  simp only [View.readAt_eq_ld, h3.read_unread, h4.read_unread, h6.read_unread, View.ld_unit_zero (S := S1024x128) hz2,
    View.ld_unit_zero (S := S1024x1024) hz2, View.ld_unit_zero (S := S128x1024) hz2]

/-- At the last quarter the block written is the rounding of the same sum. -/
theorem out_C {F : FTy → Type} [FloatOps F] : ∀ c i a3 h3 a4 h4 a5 h5 a6 h6 hc0 hc1 hc2 x0 x1 xs,
    out0_C_2 (F := F) c i a3 h3 a4 h4 a5 h5 a6 h6 hc0 hc1 hc2 x0 x1 xs = k0_pay4 (k0_pay3 x0 x1 xs) := by
  intro c i a3 h3 a4 h4 a5 h5 a6 h6 hc0 hc1 hc2 x0 x1 xs
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz2, View.readCov_unit_zero (S := S128x1024) _ hz2]
  simp only [View.readAt_eq_ld, h3.read_unread, h4.read_unread, h6.read_unread, View.ld_unit_zero (S := S1024x128) hz2,
    View.ld_unit_zero (S := S1024x1024) hz2, View.ld_unit_zero (S := S128x1024) hz2]

theorem idx : ∀ t : Fin cfg0.N, (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

/-- What is written back: the four quarters' products added, rounded. -/
theorem outs_eq {F : FTy → Type} [FloatOps F] (m : (ℓ : Loc nD τ sig) → Buf (Elt F) ℓ) (c : Dev nD) (h : 3 < cfg0.N) :
    (outsAt0 m c 3 h).1 = k0_pay4 (k0_pay3 (iblk m c 0 ⟨3, h⟩) (iblk m c 1 ⟨3, h⟩)
      (k0_pay3 (iblk m c 0 ⟨2, by omega⟩) (iblk m c 1 ⟨2, by omega⟩)
      (k0_pay3 (iblk m c 0 ⟨1, by omega⟩) (iblk m c 1 ⟨1, by omega⟩)
      (k0_pay2 (iblk m c 0 ⟨0, by omega⟩) (iblk m c 1 ⟨0, by omega⟩))))) := by
  rw [outsAt0_C m c ⟨3, h⟩ (by simp) (by simp) (by simp), out_C]
  show k0_pay4 (k0_pay3 _ _ (outsAt0 m c 2 _).2) = _
  rw [outsAt0_B m c ⟨2, by omega⟩ (by simp) (by simp) (by simp), sout_B]
  show k0_pay4 (k0_pay3 _ _ (k0_pay3 _ _ (outsAt0 m c 1 _).2)) = _
  rw [outsAt0_B m c ⟨1, by omega⟩ (by simp) (by simp) (by simp), sout_B]
  show k0_pay4 (k0_pay3 _ _ (k0_pay3 _ _ (k0_pay3 _ _ (outsAt0 m c 0 _).2))) = _
  rw [outsAt0_A m c ⟨0, by omega⟩ (by simp) (by simp) (by simp), sout_A]

theorem pay_apply : ∀ (xa xb xc xd : Vec Ideal S1024x128 .bf16) (ya yb yc yd : Vec Ideal S1024x1024 .bf16) j,
    k0_pay4 (F := Ideal) (k0_pay3 xd yd (k0_pay3 xc yc (k0_pay3 xb yb (k0_pay2 xa ya)))) j
      = tn (M := 1024) (K := 128) (N := 1024) xa ya j + tn (M := 1024) (K := 128) (N := 1024) xb yb j
        + tn (M := 1024) (K := 128) (N := 1024) xc yc j + tn (M := 1024) (K := 128) (N := 1024) xd yd j := by
  intro xa xb xc xd ya yb yc yd j
  unfold tn
  pointwise [k0_pay4, k0_pay3, k0_pay2, k0_pay1]

theorem ref_apply : ∀ x0 x1 i, Cert.DwUkRefIdeal.Read.val_main_v6 (F := Ideal) x0 x1 i = tn (M := 4096) (K := 128) (N := 1024) x0 x1 i := by
  intro x0 x1 i
  rw [← Cert.DwUkRefIdeal.Read.val_main_v6_eq]
  unfold tn
  simp only [mul_comm (x0 _)]
  pointwise

/-- The kernel's result is the reference's. -/
theorem G2_eq (m : (ℓ : Loc nD τ sig) → Buf (Elt Ideal) ℓ) (c : Dev nD) :
    Value.G2 m c = Cert.DwUkRefIdeal.Read.val_main_v6 (F := Ideal) (m ((c : Thread nD τ).loc main_arg0)) (m ((c : Thread nD τ).loc main_arg1)) := by
  funext i
  have i0 : (i 0).val < 128 := (i 0).isLt
  have i1 : (i 1).val < 1024 := (i 1).isLt
  have hp : Value.pt2Of i = 3 := by
    show 4 * (1 * ((i 0).val / 128 - 0) + 1 * ((i 1).val / 1024 - 0)) + 3 = 3; omega
  have h3 : 3 < cfg0.N := by rw [show cfg0.N = 4 from N_0]; decide
  have hp' : Value.pt2Of i < cfg0.N := hp ▸ h3
  unfold Value.G2
  rw [dif_pos hp', ← Value.outsAt0_sweep m c (Value.pt2Of i) hp']
  have e' : (outsAt0 m c (Value.pt2Of i) hp').1 = (outsAt0 m c 3 h3).1 := by congr 2
  have ej : ∀ j : S128x1024.Idx, j = i → (outsAt0 m c 3 h3).1 j = (outsAt0 m c 3 h3).1 i := fun j h => h ▸ rfl
  rw [e']
  refine (ej _ (funext (Fin.forall_fin_two.2 ⟨Fin.ext (Nat.mod_eq_of_lt i0), Fin.ext (Nat.mod_eq_of_lt i1)⟩))).trans ?_
  rw [outs_eq m c h3]
  refine (pay_apply _ _ _ _ _ _ _ _ _).trans (Eq.trans ?_ (ref_apply _ _ _).symm)
  exact tn_quarters (K := 128) (N := 1024) (x := fun n => iblk m c 0 (n.cast N_0.symm)) (w := fun n => iblk m c 1 (n.cast N_0.symm))
    (fun n y => congrArg (m ((c : Thread nD τ).loc main_arg0)) (rows 128 (idx (n.cast N_0.symm)).1 rfl rfl rfl))
    (fun n y => congrArg (m ((c : Thread nD τ).loc main_arg1)) (rows 1024 (idx (n.cast N_0.symm)).2 rfl rfl rfl))

end Cert.DwUkIdeal.Sum

end
-- ==== Proof.Swa.Runs.lean ====
module

public import proofs.«01_k».proof.Proof.Gen.KernelIdeal.Frame
public import proofs.«01_k».proof.Proof.Gen.KernelIdeal.Skeleton

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's first condition, from the grid coordinates: the very first point of the grid. -/
abbrev cond1 (i : grid0.Coords) : Prop :=
  (Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32) = 1#1

variable (c : Dev nD) (i : grid0.Coords)
  (arg3 : Memref sig .tc .vmem S1x128x512 .bf16) (harg3 : arg3.IsWhole)
  (arg4 : Memref sig .tc .vmem S1x128x128 .bf16) (harg4 : arg4.IsWhole)
  (arg5 : Memref sig .tc .vmem S1x128x128 .bf16) (harg5 : arg5.IsWhole)
  (arg6 : Memref sig .tc .vmem S1x128x128 .f32) (harg6 : arg6.IsWhole)
  (arg7 : Memref sig .tc .vmem S1x128x128 .f32) (harg7 : arg7.IsWhole)
  (arg8 : Memref sig .tc .vmem S1x128x1 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .smem S8 .f32) (harg11 : arg11.IsWhole)
  (arg12 : Memref sig .tc .smem S8 .f32) (harg12 : arg12.IsWhole)
  (arg13 : Memref sig .tc .vmem S1x128x512 .f32) (harg13 : arg13.IsWhole)
  (arg14 : Memref sig .tc .vmem S1x128x512 .f32) (harg14 : arg14.IsWhole)
  (arg15 : Memref sig .tc .vmem S1x2048x128 .f32) (harg15 : arg15.IsWhole)
  (arg16 : Memref sig .tc .vmem S1x2048x128 .f32) (harg16 : arg16.IsWhole)
  (arg17 : Memref sig .tc .vmem S8x128 .f32) (harg17 : arg17.IsWhole)
  (x0 : Vec F S1x128x512 .bf16) (x1 : Vec F S1x128x128 .bf16) (x2 : Vec F S1x128x128 .bf16)
  (x3 : Vec F S1x128x128 .f32) (x4 : Vec F S1x128x128 .f32) (x5 : Vec F S1x128x1 .f32)
  (x6 : Vec F S1x1x128 .f32) (x7 : Vec F S1x1x128 .f32) (x8 : Vec F S8 .f32) (x9 : Vec F S8 .f32)
  (x10 : Vec F S1x128x512 .f32)

/-- The eleven input buffers, each whole at its contents. -/
def ins : sProp 𝕄 :=
  iprop(owns (c : Thread nD τ) arg3 fullShare x0 ∗ owns (c : Thread nD τ) arg4 fullShare x1
    ∗ owns (c : Thread nD τ) arg5 fullShare x2 ∗ owns (c : Thread nD τ) arg6 fullShare x3
    ∗ owns (c : Thread nD τ) arg7 fullShare x4 ∗ owns (c : Thread nD τ) arg8 fullShare x5
    ∗ owns (c : Thread nD τ) arg9 fullShare x6 ∗ owns (c : Thread nD τ) arg10 fullShare x7
    ∗ owns (c : Thread nD τ) arg11 fullShare x8 ∗ owns (c : Thread nD τ) arg12 fullShare x9
    ∗ owns (c : Thread nD τ) arg13 fullShare x10)

set_option maxHeartbeats 4000000 in
/-- The body at the first point of a later row: the key and value gradients start at zero, the sink gradients go on. -/
def runB (hc1 : ¬ cond1 i) (hc2 : k0_cond2 i = 1#1) (hc3 : ¬ k0_cond3 i = 1#1) (hc4 : k0_cond4 i = 1#1)
    (x14 : Vec F S8x128 .f32) :
    Σ' (L11 : List (View.Piece (Elt F) S1x128x512 .f32)) (L12 L13 : List (View.Piece (Elt F) S1x2048x128 .f32)),
      { L14 : List (View.Piece (Elt F) S8x128 .f32) //
      ∀ (E : Set ℕ) (K : PUnit → sProp 𝕄),
        iprop(ins c arg3 arg4 arg5 arg6 arg7 arg8 arg9 arg10 arg11 arg12 arg13 x0 x1 x2 x3 x4 x5 x6 x7 x8 x9 x10
            ∗ (∃ d, owns (c : Thread nD τ) arg14 fullShare d)
            ∗ (∃ d, owns (c : Thread nD τ) arg15 fullShare d) ∗ (∃ d, owns (c : Thread nD τ) arg16 fullShare d)
            ∗ owns (c : Thread nD τ) arg17 fullShare x14
            ∗ (iprop(ins c arg3 arg4 arg5 arg6 arg7 arg8 arg9 arg10 arg11 arg12 arg13 x0 x1 x2 x3 x4 x5 x6 x7 x8 x9 x10
              ∗ (∃ f, arg14.view.loc (c : Thread nD τ) ↦[arg14.view.set]{fullShare} arg14.view.writes (Elt F) f L11)
              ∗ (∃ f, arg15.view.loc (c : Thread nD τ) ↦[arg15.view.set]{fullShare} arg15.view.writes (Elt F) f L12)
              ∗ (∃ f, arg16.view.loc (c : Thread nD τ) ↦[arg16.view.set]{fullShare} arg16.view.writes (Elt F) f L13)
              ∗ (∃ f, arg17.view.loc (c : Thread nD τ) ↦[arg17.view.set]{fullShare} arg17.view.writes (Elt F) f L14)) -∗ K ⟨⟩))
          ⊢ wp frame (wpE (defs₀ (F := F)) Variants.none c none) E (cc0_l1_mix_dswa i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_l1_mix_dswa_eq_skeleton]; unfold cc0_l1_mix_dswa_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%f14, %hf14, H14⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg12.eq_unread hf9; obtain rfl := harg13.eq_unread hf10
    obtain rfl := harg17.eq_unread hf14
    sl_exec (disch := first | sl_exact hc1 | sl_exact hc2 | sl_exact hc3 | sl_exact hc4)
    sl_step
    iapply Hk
    isplitl [H0 H1 H2 H3 H4 H5 H6 H7 H8 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      iexists _; isplitr; · ipureintro; exact harg13.read_unread _
      iexact H10
    isplitl [H11]; · iexists _; iexact H11
    isplitl [H12]; · iexists _; iexact H12
    isplitl [H13]; · iexists _; iexact H13
    iexists _; iexact H14

set_option maxHeartbeats 4000000 in
/-- The body at the grid's first point: all three accumulated outputs start at zero. -/
def runA (hc1 : cond1 i) (hc2 : k0_cond2 i = 1#1) (hc3 : ¬ k0_cond3 i = 1#1) (hc4 : k0_cond4 i = 1#1)
    : Σ' (L11 : List (View.Piece (Elt F) S1x128x512 .f32)) (L12 L13 : List (View.Piece (Elt F) S1x2048x128 .f32)),
      { L14 : List (View.Piece (Elt F) S8x128 .f32) //
      ∀ (E : Set ℕ) (K : PUnit → sProp 𝕄),
        iprop(ins c arg3 arg4 arg5 arg6 arg7 arg8 arg9 arg10 arg11 arg12 arg13 x0 x1 x2 x3 x4 x5 x6 x7 x8 x9 x10
            ∗ (∃ d, owns (c : Thread nD τ) arg14 fullShare d)
            ∗ (∃ d, owns (c : Thread nD τ) arg15 fullShare d) ∗ (∃ d, owns (c : Thread nD τ) arg16 fullShare d)
            ∗ (∃ d, owns (c : Thread nD τ) arg17 fullShare d)
            ∗ (iprop(ins c arg3 arg4 arg5 arg6 arg7 arg8 arg9 arg10 arg11 arg12 arg13 x0 x1 x2 x3 x4 x5 x6 x7 x8 x9 x10
              ∗ (∃ f, arg14.view.loc (c : Thread nD τ) ↦[arg14.view.set]{fullShare} arg14.view.writes (Elt F) f L11)
              ∗ (∃ f, arg15.view.loc (c : Thread nD τ) ↦[arg15.view.set]{fullShare} arg15.view.writes (Elt F) f L12)
              ∗ (∃ f, arg16.view.loc (c : Thread nD τ) ↦[arg16.view.set]{fullShare} arg16.view.writes (Elt F) f L13)
              ∗ (∃ f, arg17.view.loc (c : Thread nD τ) ↦[arg17.view.set]{fullShare} arg17.view.writes (Elt F) f L14)) -∗ K ⟨⟩))
          ⊢ wp frame (wpE (defs₀ (F := F)) Variants.none c none) E (cc0_l1_mix_dswa i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_l1_mix_dswa_eq_skeleton]; unfold cc0_l1_mix_dswa_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg12.eq_unread hf9; obtain rfl := harg13.eq_unread hf10
    sl_exec (disch := first | sl_exact hc1 | sl_exact hc2 | sl_exact hc3 | sl_exact hc4)
    sl_step
    iapply Hk
    isplitl [H0 H1 H2 H3 H4 H5 H6 H7 H8 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      iexists _; isplitr; · ipureintro; exact harg13.read_unread _
      iexact H10
    isplitl [H11]; · iexists _; iexact H11
    isplitl [H12]; · iexists _; iexact H12
    isplitl [H13]; · iexists _; iexact H13
    iexists _; iexact H14

set_option maxHeartbeats 4000000 in
/-- The body at a point past its row's first: gradient rows are added into what the earlier points of the row left. -/
def runC (hc1 : ¬ cond1 i) (hc2 : ¬ k0_cond2 i = 1#1) (hc3 : k0_cond3 i = 1#1) (hc4 : ¬ k0_cond4 i = 1#1)
    (x12 x13 : Vec F S1x2048x128 .f32) (x14 : Vec F S8x128 .f32) :
    Σ' (L11 : List (View.Piece (Elt F) S1x128x512 .f32)) (L12 L13 : List (View.Piece (Elt F) S1x2048x128 .f32)),
      { L14 : List (View.Piece (Elt F) S8x128 .f32) //
      ∀ (E : Set ℕ) (K : PUnit → sProp 𝕄),
        iprop(ins c arg3 arg4 arg5 arg6 arg7 arg8 arg9 arg10 arg11 arg12 arg13 x0 x1 x2 x3 x4 x5 x6 x7 x8 x9 x10
            ∗ (∃ d, owns (c : Thread nD τ) arg14 fullShare d)
            ∗ owns (c : Thread nD τ) arg15 fullShare x12 ∗ owns (c : Thread nD τ) arg16 fullShare x13
            ∗ owns (c : Thread nD τ) arg17 fullShare x14
            ∗ (iprop(ins c arg3 arg4 arg5 arg6 arg7 arg8 arg9 arg10 arg11 arg12 arg13 x0 x1 x2 x3 x4 x5 x6 x7 x8 x9 x10
              ∗ (∃ f, arg14.view.loc (c : Thread nD τ) ↦[arg14.view.set]{fullShare} arg14.view.writes (Elt F) f L11)
              ∗ (arg15.view.loc (c : Thread nD τ) ↦[arg15.view.set]{fullShare} arg15.view.writes (Elt F) (harg15.unread x12) L12)
              ∗ (arg16.view.loc (c : Thread nD τ) ↦[arg16.view.set]{fullShare} arg16.view.writes (Elt F) (harg16.unread x13) L13)
              ∗ (∃ f, arg17.view.loc (c : Thread nD τ) ↦[arg17.view.set]{fullShare} arg17.view.writes (Elt F) f L14)) -∗ K ⟨⟩))
          ⊢ wp frame (wpE (defs₀ (F := F)) Variants.none c none) E (cc0_l1_mix_dswa i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_l1_mix_dswa_eq_skeleton]; unfold cc0_l1_mix_dswa_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%f12, %hf12, H12⟩, ⟨%f13, %hf13, H13⟩, ⟨%f14, %hf14, H14⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hf7; obtain rfl := harg11.eq_unread hf8
    obtain rfl := harg12.eq_unread hf9; obtain rfl := harg13.eq_unread hf10; obtain rfl := harg15.eq_unread hf12
    obtain rfl := harg16.eq_unread hf13; obtain rfl := harg17.eq_unread hf14
    sl_exec (disch := first | sl_exact hc1 | sl_exact hc2 | sl_exact hc3 | sl_exact hc4)
    sl_step
    iapply Hk
    isplitl [H0 H1 H2 H3 H4 H5 H6 H7 H8 H9 H10]
    · isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _; isplitr; · ipureintro; exact harg9.read_unread _
        iexact H6
      isplitl [H7]
      · iexists _; isplitr; · ipureintro; exact harg10.read_unread _
        iexact H7
      isplitl [H8]
      · iexists _; isplitr; · ipureintro; exact harg11.read_unread _
        iexact H8
      isplitl [H9]
      · iexists _; isplitr; · ipureintro; exact harg12.read_unread _
        iexact H9
      iexists _; isplitr; · ipureintro; exact harg13.read_unread _
      iexact H10
    isplitl [H11]; · iexists _; iexact H11
    isplitl [H12]; · iexact H12
    isplitl [H13]; · iexact H13
    iexists _; iexact H14

end Cert.KernelIdeal.Swa

end
-- ==== Proof.Swa.Frame.lean ====
module

public import proofs.«01_k».proof.Proof.Swa.Runs
public import Idealize.ShloMosaic.Lib.Claim

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which case a point is -/

theorem hcond1 : ∀ t : Fin cfg0.N, cond1 (grid0.coords t) ↔ t.val = 0 := by decide +kernel
theorem hcond2 : ∀ t : Fin cfg0.N, k0_cond2 (grid0.coords t) = 1#1 ↔ t.val % 16 = 0 := by decide +kernel
theorem hcond3 : ∀ t : Fin cfg0.N, k0_cond3 (grid0.coords t) = 1#1 ↔ ¬ t.val % 16 = 0 := by decide +kernel
theorem hcond4 : ∀ t : Fin cfg0.N, k0_cond4 (grid0.coords t) = 1#1 ↔ t.val % 16 = 0 := by decide +kernel

/-- No window is idle: at every point one of the two gradient updates runs. -/
theorem live12 : ∀ i : grid0.Coords, cfg0.idle 12 i = false := by
  have h : ∀ i : Fin 16, (!(Scalar.cmpi .ne (Scalar.extui (Scalar.cmpi .eq (BitVec.ofNat 32 i.val) 0#32)) (0#32 : BitVec 32) == 1#1)
      && !(Scalar.cmpi .ne (Scalar.extui (Scalar.cmpi .sgt (BitVec.ofNat 32 i.val) 0#32)) (0#32 : BitVec 32) == 1#1)
      && !(Scalar.cmpi .ne (Scalar.extui (Scalar.cmpi .eq (BitVec.ofNat 32 i.val) 0#32)) (0#32 : BitVec 32) == 1#1)) = false := by decide +kernel
  exact fun i => h (i 2)

/-! ## The buffers at a point -/

abbrev ms0 (t : Fin cfg0.N) : Memref sig .tc .vmem S1x128x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x128x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x128x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .smem S8 .f32 := win0_8.stage (cfg0.slots t 8)
abbrev hs8 (t : Fin cfg0.N) : (ms8 t).IsWhole := hstage0_8 ((cfg0.slots t 8).cast nbuf0_8)
abbrev ms9 (t : Fin cfg0.N) : Memref sig .tc .smem S8 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x128x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x2048x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x2048x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S8x128 .f32 := win0_14.stage (cfg0.slots t 14)
abbrev hs14 (t : Fin cfg0.N) : (ms14 t).IsWhole := hstage0_14 ((cfg0.slots t 14).cast nbuf0_14)

variable (m : (ℓ : Loc nD τ sig) → Buf (Elt F) ℓ) (ρ : Dev nD → PrngReg)

/-- The grid's first point, run on its own buffers and blocks. -/
def rA (c : Dev nD) (t : Fin cfg0.N) (h : t.val = 0) :=
  runA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond1 t).2 h) ((hcond2 t).2 (by rw [h])) (fun h' => (hcond3 t).1 h' (by rw [h])) ((hcond4 t).2 (by rw [h]))

/-- The first point of a later row. -/
def rB (c : Dev nD) (t : Fin cfg0.N) (h : t.val ≠ 0) (h' : t.val % 16 = 0) :=
  runB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (fun e => h ((hcond1 t).1 e)) ((hcond2 t).2 h') (fun e => (hcond3 t).1 e h') ((hcond4 t).2 h')

/-- A point past its row's first. -/
def rC (c : Dev nD) (t : Fin cfg0.N) (h : ¬ t.val % 16 = 0) :=
  runC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (fun e => h (by rw [(hcond1 t).1 e])) (fun e => h ((hcond2 t).1 e)) ((hcond3 t).2 h) (fun e => h ((hcond4 t).1 e))

abbrev VO11 : View sig .tc .vmem S1x128x512 .f32 := (Memref.whole cc0_stg11_0 : Memref sig .tc .vmem S1x128x512 .f32).view
abbrev VO12 : View sig .tc .vmem S1x2048x128 .f32 := (Memref.whole cc0_stg12_0 : Memref sig .tc .vmem S1x2048x128 .f32).view
abbrev VO13 : View sig .tc .vmem S1x2048x128 .f32 := (Memref.whole cc0_stg13_0 : Memref sig .tc .vmem S1x2048x128 .f32).view
abbrev VO14 : View sig .tc .vmem S8x128 .f32 := (Memref.whole cc0_stg14_0 : Memref sig .tc .vmem S8x128 .f32).view

/-- What a list of writes leaves in one of output `k`'s buffers, over anything. -/
abbrev left11 (L : List (View.Piece (Elt F) S1x128x512 .f32)) : Vec F S1x128x512 .f32 := VO11.read (Elt F) (VO11.writes (Elt F) VO11.junk L)
abbrev left12 (L : List (View.Piece (Elt F) S1x2048x128 .f32)) : Vec F S1x2048x128 .f32 := VO12.read (Elt F) (VO12.writes (Elt F) VO12.junk L)
abbrev left14 (L : List (View.Piece (Elt F) S8x128 .f32)) : Vec F S8x128 .f32 := VO14.read (Elt F) (VO14.writes (Elt F) VO14.junk L)
/-- The same, over given contents. -/
abbrev onto12 (x : Vec F S1x2048x128 .f32) (L : List (View.Piece (Elt F) S1x2048x128 .f32)) : Vec F S1x2048x128 .f32 :=
  VO12.read (Elt F) (VO12.writes (Elt F) ((Memref.isWhole_whole cc0_stg12_0).unread x) L)

/-- Two views that read alike before a list of writes read alike after it. -/
theorem read_writes_congr {sig : RefSig} {κ κ' : Kind} {sp sp' : Space} {s : Shape} {e : EltTy} {Val : EltTy → Type}
    (v : View sig κ sp s e) (v' : View sig κ' sp' s e) (f : v.ty.Contents Val) (f' : v'.ty.Contents Val)
    (L : List (View.Piece Val s e)) (h : v.read Val f = v'.read Val f') :
    v.read Val (v.writes Val f L) = v'.read Val (v'.writes Val f' L) := funext fun y => by
  by_cases hL : ∃ p ∈ L, y ∈ p.1.set
  · exact View.read_writes_apply_eq v f v' f' y L hL
  · have hn : ∀ p ∈ L, y ∉ p.1.set := fun p hp hy => hL ⟨p, hp, hy⟩
    rw [View.read_writes_apply_of_forall_not_mem _ _ y L hn, View.read_writes_apply_of_forall_not_mem _ _ y L hn, h]

theorem onto12_eq (M : Memref sig .tc .vmem S1x2048x128 .f32) (hM : M.IsWhole) (x : Vec F S1x2048x128 .f32)
    (L : List (View.Piece (Elt F) S1x2048x128 .f32)) :
    M.view.read (Elt F) (M.view.writes (Elt F) (hM.unread x) L) = onto12 x L :=
  read_writes_congr _ _ _ _ L ((hM.read_unread x).trans ((Memref.isWhole_whole cc0_stg12_0).read_unread x).symm)

/-! ## The writes cover what they must -/

theorem cov11A (c : Dev nD) (t : Fin cfg0.N) (h : t.val = 0) : ∀ y, ∃ pc ∈ (rA m c t h).1, y ∈ pc.1.set :=
  View.cover_of_tiledL (rA m c t h).1 ![1, 128, 128] (by sl_kernel_rfl)
theorem cov12A (c : Dev nD) (t : Fin cfg0.N) (h : t.val = 0) : ∀ y, ∃ pc ∈ (rA m c t h).2.1, y ∈ pc.1.set :=
  View.cover_of_wholeMem (rA m c t h).2.1 (by sl_whole_mem)
theorem cov13A (c : Dev nD) (t : Fin cfg0.N) (h : t.val = 0) : ∀ y, ∃ pc ∈ (rA m c t h).2.2.1, y ∈ pc.1.set :=
  View.cover_of_wholeMem (rA m c t h).2.2.1 (by sl_whole_mem)
theorem cov14A (c : Dev nD) (t : Fin cfg0.N) (h : t.val = 0) : ∀ y, ∃ pc ∈ (rA m c t h).2.2.2.1, y ∈ pc.1.set :=
  View.cover_of_wholeMem (rA m c t h).2.2.2.1 (by sl_whole_mem)
theorem cov11B (c : Dev nD) (t : Fin cfg0.N) (h : t.val ≠ 0) (h' : t.val % 16 = 0) (x14 : Vec F S8x128 .f32) : ∀ y, ∃ pc ∈ (rB m c t h h' x14).1, y ∈ pc.1.set :=
  View.cover_of_tiledL (rB m c t h h' x14).1 ![1, 128, 128] (by sl_kernel_rfl)
theorem cov12B (c : Dev nD) (t : Fin cfg0.N) (h : t.val ≠ 0) (h' : t.val % 16 = 0) (x14 : Vec F S8x128 .f32) : ∀ y, ∃ pc ∈ (rB m c t h h' x14).2.1, y ∈ pc.1.set :=
  View.cover_of_wholeMem (rB m c t h h' x14).2.1 (by sl_whole_mem)
theorem cov13B (c : Dev nD) (t : Fin cfg0.N) (h : t.val ≠ 0) (h' : t.val % 16 = 0) (x14 : Vec F S8x128 .f32) : ∀ y, ∃ pc ∈ (rB m c t h h' x14).2.2.1, y ∈ pc.1.set :=
  View.cover_of_wholeMem (rB m c t h h' x14).2.2.1 (by sl_whole_mem)
theorem cov14B (c : Dev nD) (t : Fin cfg0.N) (h : t.val ≠ 0) (h' : t.val % 16 = 0) (x14 : Vec F S8x128 .f32) : ∀ y, ∃ pc ∈ (rB m c t h h' x14).2.2.2.1, y ∈ pc.1.set :=
  View.cover_of_wholeMem (rB m c t h h' x14).2.2.2.1 (by sl_whole_mem)
theorem cov11C (c : Dev nD) (t : Fin cfg0.N) (h : ¬ t.val % 16 = 0) (x12 x13 : Vec F S1x2048x128 .f32) (x14 : Vec F S8x128 .f32) : ∀ y, ∃ pc ∈ (rC m c t h x12 x13 x14).1, y ∈ pc.1.set :=
  View.cover_of_tiledL (rC m c t h x12 x13 x14).1 ![1, 128, 128] (by sl_kernel_rfl)
theorem cov14C (c : Dev nD) (t : Fin cfg0.N) (h : ¬ t.val % 16 = 0) (x12 x13 : Vec F S1x2048x128 .f32) (x14 : Vec F S8x128 .f32) : ∀ y, ∃ pc ∈ (rC m c t h x12 x13 x14).2.2.2.1, y ∈ pc.1.set :=
  View.cover_of_wholeMem (rC m c t h x12 x13 x14).2.2.2.1 (by sl_whole_mem)

/-! ## What the outputs hold after each point -/

/-- The four output buffers after a point. -/
abbrev Outs (F : FTy → Type) : Type := Vec F S1x128x512 .f32 × Vec F S1x2048x128 .f32 × Vec F S1x2048x128 .f32 × Vec F S8x128 .f32

/-- After point `n`: by recursion, each case from what the point before left. -/
def outsAt (c : Dev nD) : (n : ℕ) → n < cfg0.N → Outs F
  | 0, hn => let r := rA m c ⟨0, hn⟩ rfl
      (left11 r.1, left12 r.2.1, left12 r.2.2.1, left14 r.2.2.2.1)
  | n + 1, hn => let p := outsAt c n (Nat.lt_of_succ_lt hn)
    if h : (n + 1) % 16 = 0 then
      let r := rB m c ⟨n + 1, hn⟩ (Nat.succ_ne_zero n) h p.2.2.2
      (left11 r.1, left12 r.2.1, left12 r.2.2.1, left14 r.2.2.2.1)
    else
      let r := rC m c ⟨n + 1, hn⟩ h p.2.1 p.2.2.1 p.2.2.2
      (left11 r.1, onto12 p.2.1 r.2.1, onto12 p.2.2.1 r.2.2.1, left14 r.2.2.2.1)

/-- What the point before `t` left. -/
abbrev prev (c : Dev nD) (t : Fin cfg0.N) : Outs F := outsAt m c (t.val - 1) (Nat.lt_of_le_of_lt (Nat.sub_le _ _) t.isLt)

theorem outsAt_A (c : Dev nD) (t : Fin cfg0.N) (h : t.val = 0) : outsAt m c t.val t.isLt =
    (left11 (rA m c t h).1, left12 (rA m c t h).2.1, left12 (rA m c t h).2.2.1, left14 (rA m c t h).2.2.2.1) := by
  obtain ⟨n, hn⟩ := t
  cases n with
  | zero => rfl
  | succ n => exact absurd h (Nat.succ_ne_zero n)

theorem outsAt_B (c : Dev nD) (t : Fin cfg0.N) (h : t.val ≠ 0) (h' : t.val % 16 = 0) : outsAt m c t.val t.isLt =
    (left11 (rB m c t h h' (prev m c t).2.2.2).1, left12 (rB m c t h h' (prev m c t).2.2.2).2.1,
      left12 (rB m c t h h' (prev m c t).2.2.2).2.2.1, left14 (rB m c t h h' (prev m c t).2.2.2).2.2.2.1) := by
  obtain ⟨n, hn⟩ := t
  cases n with
  | zero => exact absurd rfl h
  | succ n => exact dif_pos h'

theorem outsAt_C (c : Dev nD) (t : Fin cfg0.N) (h : ¬ t.val % 16 = 0) : outsAt m c t.val t.isLt =
    (left11 (rC m c t h (prev m c t).2.1 (prev m c t).2.2.1 (prev m c t).2.2.2).1,
      onto12 (prev m c t).2.1 (rC m c t h (prev m c t).2.1 (prev m c t).2.2.1 (prev m c t).2.2.2).2.1,
      onto12 (prev m c t).2.2.1 (rC m c t h (prev m c t).2.1 (prev m c t).2.2.1 (prev m c t).2.2.2).2.2.1,
      left14 (rC m c t h (prev m c t).2.1 (prev m c t).2.2.1 (prev m c t).2.2.2).2.2.2.1) := by
  obtain ⟨n, hn⟩ := t
  cases n with
  | zero => exact absurd (Nat.zero_mod 16) h
  | succ n => exact dif_neg h

/-! ## The pipeline's proof data -/

/-- Every input buffer at its block and every output buffer at `outsAt`; no scratch, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt m c t.val t.isLt).1
    | ⟨12, _⟩ => (outsAt m c t.val t.isLt).2.1
    | ⟨13, _⟩ => (outsAt m c t.val t.isLt).2.2.1
    | ⟨14, _⟩ => (outsAt m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = (outsAt m c t.val t.isLt).1 := by dsimp only [dats]
theorem after12 (c : Dev nD) (t : Fin cfg0.N) : (dats m 0 c).after 12 t = (outsAt m c t.val t.isLt).2.1 := by dsimp only [dats]
theorem after13 (c : Dev nD) (t : Fin cfg0.N) : (dats m 0 c).after 13 t = (outsAt m c t.val t.isLt).2.2.1 := by dsimp only [dats]
theorem after14 (c : Dev nD) (t : Fin cfg0.N) : (dats m 0 c).after 14 t = (outsAt m c t.val t.isLt).2.2.2 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- Past a row's first point the two gradient buffers hold what the point before left: they are written back at the row's end alone. -/
theorem before12 (c : Dev nD) (t : Fin cfg0.N) (h : ¬ t.val % 16 = 0) (d) : (dats m 0 c).before 12 t d = (prev m c t).2.1 := by
  rw [(dats m 0 c).before_out_kept 12 rfl t (fun e => h (by rw [e])) (Bool.eq_false_iff.2 fun e => by have := (flush0_12 _).1 e; dsimp only at this; omega) live12 (fun _ _ => rfl) d, after12]
theorem before13 (c : Dev nD) (t : Fin cfg0.N) (h : ¬ t.val % 16 = 0) (d) : (dats m 0 c).before 13 t d = (prev m c t).2.2.1 := by
  rw [(dats m 0 c).before_out_kept 13 rfl t (fun e => h (by rw [e])) (Bool.eq_false_iff.2 fun e => by have := (flush0_13 _).1 e; dsimp only at this; omega) live12 (fun _ _ => rfl) d, after13]
/-- The sink gradients' buffer is written back at the grid's end alone. -/
theorem before14 (c : Dev nD) (t : Fin cfg0.N) (h : t.val ≠ 0) (d) : (dats m 0 c).before 14 t d = (prev m c t).2.2.2 := by
  have hN : t.val < 64 := Nat.lt_of_lt_of_eq t.isLt N_0
  rw [(dats m 0 c).before_out_kept 14 rfl t h (Bool.eq_false_iff.2 fun e => by have := (flush0_14 _).1 e; dsimp only at this; omega) (fun _ => rfl) (fun _ _ => rfl) d, after14]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves0 (c : Dev nD) (t : Fin cfg0.N) : (dats m 0 c).leavesExact 0 t = owns (c : Thread nD τ) (ms0 t) fullShare ((dats m 0 c).after 0 t) := by
  unfold Dat.leavesExact; rw [show cfg0.idle 0 (grid0.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (grid0.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (grid0.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (grid0.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (grid0.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (grid0.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (grid0.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (grid0.coords t) = false from rfl]
theorem leaves8 (c : Dev nD) (t : Fin cfg0.N) : (dats m 0 c).leavesExact 8 t = owns (c : Thread nD τ) (ms8 t) fullShare ((dats m 0 c).after 8 t) := by
  unfold Dat.leavesExact; rw [show cfg0.idle 8 (grid0.coords t) = false from rfl]
theorem leaves9 (c : Dev nD) (t : Fin cfg0.N) : (dats m 0 c).leavesExact 9 t = owns (c : Thread nD τ) (ms9 t) fullShare ((dats m 0 c).after 9 t) := by
  unfold Dat.leavesExact; rw [show cfg0.idle 9 (grid0.coords t) = false from rfl]
theorem leaves10 (c : Dev nD) (t : Fin cfg0.N) : (dats m 0 c).leavesExact 10 t = owns (c : Thread nD τ) (ms10 t) fullShare ((dats m 0 c).after 10 t) := by
  unfold Dat.leavesExact; rw [show cfg0.idle 10 (grid0.coords t) = false from rfl]
theorem leaves11 (c : Dev nD) (t : Fin cfg0.N) : (dats m 0 c).leavesExact 11 t = owns (c : Thread nD τ) (ms11 t) fullShare ((dats m 0 c).after 11 t) := by
  unfold Dat.leavesExact; rw [show cfg0.idle 11 (grid0.coords t) = false from rfl]
theorem leaves12 (c : Dev nD) (t : Fin cfg0.N) : (dats m 0 c).leavesExact 12 t = owns (c : Thread nD τ) (ms12 t) fullShare ((dats m 0 c).after 12 t) := by
  unfold Dat.leavesExact; rw [live12 (grid0.coords t)]
theorem leaves13 (c : Dev nD) (t : Fin cfg0.N) : (dats m 0 c).leavesExact 13 t = owns (c : Thread nD τ) (ms13 t) fullShare ((dats m 0 c).after 13 t) := by
  unfold Dat.leavesExact; rw [live12 (grid0.coords t)]
theorem leaves14 (c : Dev nD) (t : Fin cfg0.N) : (dats m 0 c).leavesExact 14 t = owns (c : Thread nD τ) (ms14 t) fullShare ((dats m 0 c).after 14 t) := by
  unfold Dat.leavesExact; rw [show cfg0.idle 14 (grid0.coords t) = false from rfl]

set_option maxHeartbeats 6400000 in
/-- The body's triple at any point, by the case it is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, leaves0, leaves1, leaves2, leaves3, leaves4, leaves5, leaves6, leaves7, leaves8, leaves9, leaves10, leaves11, leaves12, leaves13, leaves14, after0, after1, after2, after3, after4, after5, after6, after7, after8, after9, after10]
  rw [show (dats m 0 c).owesAt () t.succ = (dats m 0 c).owesAt () t.castSucc from rfl,
    show (dats m 0 c).Φ t.succ = (dats m 0 c).Φ t.castSucc from rfl]
  by_cases h' : t.val % 16 = 0
  · by_cases h : t.val = 0
    · rw [after11, after12, after13, after14, outsAt_A m c t h]
      dsimp only
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((rA m c t h).2.2.2.2 Set.univ _)
      isplitl [H0 H1 H2 H3 H4 H5 H6 H7 H8 H9 H10]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [H12]; · iexists _; iexact H12
      isplitl [H13]; · iexists _; iexact H13
      isplitl [H14]; · iexists _; iexact H14
      unfold ins
      iintro ⟨⟨H0, H1, H2, H3, H4, H5, H6, H7, H8, H9, H10⟩, ⟨%e11, H11⟩, ⟨%e12, H12⟩, ⟨%e13, H13⟩, ⟨%e14, H14⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cov11A m c t h)
      isplitl [H12]
      · unfold owns; iexists _; isplitr
        swap; · iexact H12
        ipureintro; exact View.read_writes_of_cover _ _ _ _ _ (cov12A m c t h)
      isplitl [H13]
      · unfold owns; iexists _; isplitr
        swap; · iexact H13
        ipureintro; exact View.read_writes_of_cover _ _ _ _ _ (cov13A m c t h)
      unfold owns; iexists _; isplitr
      swap; · iexact H14
      ipureintro; exact View.read_writes_of_cover _ _ _ _ _ (cov14A m c t h)
    · rw [after11, after12, after13, after14, outsAt_B m c t h h']
      dsimp only
      simp only [before14 m c t h]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply ((rB m c t h h' (prev m c t).2.2.2).2.2.2.2 Set.univ _)
      isplitl [H0 H1 H2 H3 H4 H5 H6 H7 H8 H9 H10]
      · unfold ins
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      isplitl [H11]; · iexists _; iexact H11
      isplitl [H12]; · iexists _; iexact H12
      isplitl [H13]; · iexists _; iexact H13
      isplitl [H14]; · iexact H14
      unfold ins
      iintro ⟨⟨H0, H1, H2, H3, H4, H5, H6, H7, H8, H9, H10⟩, ⟨%e11, H11⟩, ⟨%e12, H12⟩, ⟨%e13, H13⟩, ⟨%e14, H14⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]
      · unfold owns; iexists _; isplitr
        swap; · iexact H11
        ipureintro; exact View.read_writes_of_cover _ _ _ _ _ (cov11B m c t h h' (prev m c t).2.2.2)
      isplitl [H12]
      · unfold owns; iexists _; isplitr
        swap; · iexact H12
        ipureintro; exact View.read_writes_of_cover _ _ _ _ _ (cov12B m c t h h' (prev m c t).2.2.2)
      isplitl [H13]
      · unfold owns; iexists _; isplitr
        swap; · iexact H13
        ipureintro; exact View.read_writes_of_cover _ _ _ _ _ (cov13B m c t h h' (prev m c t).2.2.2)
      unfold owns; iexists _; isplitr
      swap; · iexact H14
      ipureintro; exact View.read_writes_of_cover _ _ _ _ _ (cov14B m c t h h' (prev m c t).2.2.2)
  · rw [after11, after12, after13, after14, outsAt_C m c t h']
    dsimp only
    simp only [before12 m c t h', before13 m c t h', before14 m c t (fun e => h' (by rw [e]))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((rC m c t h' (prev m c t).2.1 (prev m c t).2.2.1 (prev m c t).2.2.2).2.2.2.2 Set.univ _)
    isplitl [H0 H1 H2 H3 H4 H5 H6 H7 H8 H9 H10]
    · unfold ins
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    isplitl [H11]; · iexists _; iexact H11
    isplitl [H12]; · iexact H12
    isplitl [H13]; · iexact H13
    isplitl [H14]; · iexact H14
    unfold ins
    iintro ⟨⟨H0, H1, H2, H3, H4, H5, H6, H7, H8, H9, H10⟩, ⟨%e11, H11⟩, H12, H13, ⟨%e14, H14⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns; iexists _; isplitr
      swap; · iexact H11
      ipureintro; exact View.read_writes_of_cover _ _ _ _ _ (cov11C m c t h' (prev m c t).2.1 (prev m c t).2.2.1 (prev m c t).2.2.2)
    isplitl [H12]
    · unfold owns; iexists _; isplitr
      swap; · iexact H12
      ipureintro; exact onto12_eq _ _ _ _
    isplitl [H13]
    · unfold owns; iexists _; isplitr
      swap; · iexact H13
      ipureintro; exact onto12_eq _ _ _ _
    unfold owns; iexists _; isplitr
    swap; · iexact H14
    ipureintro; exact View.read_writes_of_cover _ _ _ _ _ (cov14C m c t h' (prev m c t).2.1 (prev m c t).2.2.1 (prev m c t).2.2.2)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => Entails.refl _) (hout := fun c => Entails.refl _)

/-- Every run ends with every array of the pipeline at what the proof data compute. -/
theorem run_main : θ_run defs (onTc (τ := τ) (main (F := F))) (s₀ m ρ) (Pipeline.FramePost cfgs (dats m) 0 (V m)) :=
  (θ_run defs _ _).mono (fun _ h => h.1) (run_quiescent m ρ)

/-- The frame: every argument array unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.KernelIdeal.Swa

end
-- ==== Proof.Swa.Point.lean ====
module

public import proofs.«01_k».proof.Proof.Swa.Frame
public import Idealize.ShloMosaic.Lib.Pointwise

/-! What one point of the sliding-window kernel writes, over the blocks it reads: the mathematics of a head once,
and the four heads' results in terms of it. -/

@[expose] public section

set_option maxRecDepth 16384

noncomputable section

namespace Cert.KernelIdeal.Swa

open Cert.KernelIdeal Cert.KernelIdeal.Gen
open Idealize.ShloMosaic Idealize.ShloMosaic.TcCoe Idealize.ShloMosaic.Tactic

variable {F : FTy → Type} [FloatOps F] [Named F]

theorem hz3 : (![0, 0, 0] : Fin 3 → ℕ) = fun _ => 0 := by decide
theorem hz2 : (![0, 0] : Fin 2 → ℕ) = fun _ => 0 := by decide

/-- A head's 128 lanes of a query-shaped block, and its cell of a vector of the eight heads. -/
abbrev lanes (g : Fin 4) : Rect S1x128x512 := Rect.unit (s := S1x128x512) ![0, 0, 128 * g.val] S1x128x128.size
  ((by decide : ∀ g : Fin 4, ∀ a, (![0, 0, 128 * g.val] : Fin 3 → ℕ) a + S1x128x128.size a ≤ S1x128x512.size a) g)
abbrev cellAt (i : grid0.Coords) (g : Fin 4) : Rect S8 := Rect.unit (s := S8) (k0_off1 i (BitVec.ofNat 32 g.val)) S1.size (k0_off1_inb i g)
/-- The one element of a vector of one. -/
abbrev at1 (x : Vec F S1 .f32) : Elt F .f32 := x (Shape.Idx.first (by decide))

/-- The head's number as the kernel counts it. -/
def headId (i : grid0.Coords) (g : Fin 4) : BitVec 32 := Scalar.addi (Scalar.muli (BitVec.ofNat 32 (i 1).val) 4#32) (BitVec.ofNat 32 g.val)

/-- Which keys of the window a query may see. -/
def seen (i : grid0.Coords) : IVec S128x256 1 :=
  k0_pay9 (iota .tc S128x256 32 [1] iota_S128x256_d1_w32) k0_pay8 (Scalar.cmpi .sgt (BitVec.ofNat 32 (i 2).val) 0#32)

section Head

variable (i : grid0.Coords) (kk vv : FVec F S256x128 .bf16) (dist : FVec F S128x256 .f32)

/-- A head's weights of its window, from its queries, its slope and its sink. -/
def probs (q : Vec F S1x128x128 .bf16) (sl sk : Elt F .f32) : FVec F S128x256 .f32 := k0_pay39 kk dist (seen i) q sl sk
/-- A head's weight of its sink. -/
def sinkProb (q : Vec F S1x128x128 .bf16) (sl sk : Elt F .f32) : FVec F S128x1 .f32 := k0_pay40 kk dist (seen i) q sl sk

/-- The query gradient of a head. -/
def dq (q : Vec F S1x128x128 .bf16) (d : Vec F S1x128x128 .f32) (sl sk : Elt F .f32) : FVec F S1x128x128 .f32 :=
  k0_pay47 kk vv (probs i kk dist q sl sk) (k0_pay41 d)
/-- The key gradient with a head's share added. -/
def dkAdd (acc : FVec F S256x128 .f32) (q : Vec F S1x128x128 .bf16) (d : Vec F S1x128x128 .f32) (sl sk : Elt F .f32) : FVec F S256x128 .f32 :=
  k0_pay48 vv acc (k0_pay33 q) (probs i kk dist q sl sk) (k0_pay41 d)
/-- The value gradient with a head's share added. -/
def dvAdd (acc : FVec F S256x128 .f32) (q : Vec F S1x128x128 .bf16) (d : Vec F S1x128x128 .f32) (sl sk : Elt F .f32) : FVec F S256x128 .f32 :=
  k0_pay43 acc (k0_pay42 kk dist (seen i) q sl sk d)
/-- The sink gradients with a head's share added. -/
def dsAdd (acc : FVec F S8x128 .f32) (g : Fin 4) (q : Vec F S1x128x128 .bf16) (d : Vec F S1x128x128 .f32) (sl sk : Elt F .f32) : FVec F S8x128 .f32 :=
  k0_pay49 vv (iota .tc S8x128 32 [0] iota_S8x128_d0_w32) acc (headId i g) (probs i kk dist q sl sk) (sinkProb i kk dist q sl sk) (k0_pay41 d)

variable (q : Fin 4 → Vec F S1x128x128 .bf16) (d : Fin 4 → Vec F S1x128x128 .f32) (sl sk : Fin 4 → Elt F .f32)

/-- The four heads' query gradients, in the order written (last first). -/
def dqs : List (View.Piece (Elt F) S1x128x512 .f32) :=
  [⟨lanes 3, dq i kk vv dist (q 3) (d 3) (sl 3) (sk 3)⟩, ⟨lanes 2, dq i kk vv dist (q 2) (d 2) (sl 2) (sk 2)⟩,
   ⟨lanes 1, dq i kk vv dist (q 1) (d 1) (sl 1) (sk 1)⟩, ⟨lanes 0, dq i kk vv dist (q 0) (d 0) (sl 0) (sk 0)⟩]

/-- The window's key gradient over the four heads. -/
def dk : FVec F S256x128 .f32 :=
  dkAdd i kk vv dist (dkAdd i kk vv dist (dkAdd i kk vv dist (dkAdd i kk vv dist k0_pay13
    (q 0) (d 0) (sl 0) (sk 0)) (q 1) (d 1) (sl 1) (sk 1)) (q 2) (d 2) (sl 2) (sk 2)) (q 3) (d 3) (sl 3) (sk 3)
/-- The window's value gradient over the four heads. -/
def dv : FVec F S256x128 .f32 :=
  dvAdd i kk dist (dvAdd i kk dist (dvAdd i kk dist (dvAdd i kk dist k0_pay14
    (q 0) (d 0) (sl 0) (sk 0)) (q 1) (d 1) (sl 1) (sk 1)) (q 2) (d 2) (sl 2) (sk 2)) (q 3) (d 3) (sl 3) (sk 3)
/-- The sink gradients of the point. -/
def ds : FVec F S8x128 .f32 :=
  dsAdd i kk vv dist (dsAdd i kk vv dist (dsAdd i kk vv dist (dsAdd i kk vv dist k0_pay15 0
    (q 0) (d 0) (sl 0) (sk 0)) 1 (q 1) (d 1) (sl 1) (sk 1)) 2 (q 2) (d 2) (sl 2) (sk 2)) 3 (q 3) (d 3) (sl 3) (sk 3)

end Head

/-! ## The point's own blocks -/

section At

variable (m : (ℓ : Loc nD τ sig) → Buf (Elt F) ℓ) (c : Dev nD) (t : Fin cfg0.N)

/-- A load from a buffer held whole at its contents. -/
abbrev rd {sp : Space} {S : Shape} {e : EltTy} (M : Memref sig .tc sp S e) (h : M.IsWhole) (x : Vec F S e) (r : Rect S) : Vec F r.shape e :=
  View.readAt (Elt F) M.view r.toLoadRect (h.unread x)

abbrev all128 : Rect S1x128x128 := Rect.unit (s := S1x128x128) ![0, 0, 0] S1x128x128.size inb_S1x128x128_S1x128x128_0_0_0
abbrev allCol : Rect S1x128x1 := Rect.unit (s := S1x128x1) ![0, 0, 0] S1x128x1.size inb_S1x128x1_S1x128x1_0_0_0
abbrev allRow : Rect S1x1x128 := Rect.unit (s := S1x1x128) ![0, 0, 0] S1x1x128.size inb_S1x1x128_S1x1x128_0_0_0
abbrev all8 : Rect S8x128 := Rect.unit (s := S8x128) ![0, 0] S8x128.size inb_S8x128_S8x128_0_0
abbrev allSeq : Rect S1x2048x128 := Rect.unit (s := S1x2048x128) ![0, 0, 0] S1x2048x128.size inb_S1x2048x128_S1x2048x128_0_0_0
abbrev firstSeq : Rect S1x2048x128 := Rect.unit (s := S1x2048x128) ![0, 0, 0] S1x128x128.size inb_S1x2048x128_S1x128x128_0_0_0

/-- The point's keys, values, distances; a head's queries, incoming gradient, slope and sink. -/
def kkB := k0_pay5 (F := F) (iblk m c 1 t) (iblk m c 2 t)
def vvB := k0_pay6 (F := F) (iblk m c 3 t) (iblk m c 4 t)
def distB := k0_pay7 (F := F) (iblk m c 5 t) (iblk m c 6 t) (iblk m c 7 t)
def qB (g : Fin 4) : Vec F S1x128x128 .bf16 := View.ld (iblk m c 0 t : Vec F S1x128x512 .bf16) (lanes g)
def dB (g : Fin 4) : Vec F S1x128x128 .f32 := View.ld (iblk m c 10 t : Vec F S1x128x512 .f32) (lanes g)
def slB (g : Fin 4) : Elt F .f32 := at1 (View.ld (iblk m c 8 t : Vec F S8 .f32) (cellAt (grid0.coords t) g))
def skB (g : Fin 4) : Elt F .f32 := at1 (View.ld (iblk m c 9 t : Vec F S8 .f32) (cellAt (grid0.coords t) g))

/-- The same as the run loads them. -/
def kkR := k0_pay5 (F := F) (rd (ms1 t) (hs1 t) (iblk m c 1 t) all128) (rd (ms2 t) (hs2 t) (iblk m c 2 t) all128)
def vvR := k0_pay6 (F := F) (rd (ms3 t) (hs3 t) (iblk m c 3 t) all128) (rd (ms4 t) (hs4 t) (iblk m c 4 t) all128)
def distR := k0_pay7 (F := F) (rd (ms5 t) (hs5 t) (iblk m c 5 t) allCol) (rd (ms6 t) (hs6 t) (iblk m c 6 t) allRow) (rd (ms7 t) (hs7 t) (iblk m c 7 t) allRow)
def qR (g : Fin 4) : Vec F S1x128x128 .bf16 := rd (ms0 t) (hs0 t) (iblk m c 0 t) (lanes g)
def dR (g : Fin 4) : Vec F S1x128x128 .f32 := rd (ms10 t) (hs10 t) (iblk m c 10 t) (lanes g)
def slR (g : Fin 4) : Elt F .f32 := at1 (rd (ms8 t) (hs8 t) (iblk m c 8 t) (cellAt (grid0.coords t) g))
def skR (g : Fin 4) : Elt F .f32 := at1 (rd (ms9 t) (hs9 t) (iblk m c 9 t) (cellAt (grid0.coords t) g))

theorem kkR_eq : kkR m c t = kkB m c t := by
  unfold kkR kkB; simp only [rd, View.readAt_eq_ld, (hs1 t).read_unread, (hs2 t).read_unread, View.ld_unit_zero (S := S1x128x128) hz3]
theorem vvR_eq : vvR m c t = vvB m c t := by
  unfold vvR vvB; simp only [rd, View.readAt_eq_ld, (hs3 t).read_unread, (hs4 t).read_unread, View.ld_unit_zero (S := S1x128x128) hz3]
theorem distR_eq : distR m c t = distB m c t := by
  unfold distR distB
  simp only [rd, View.readAt_eq_ld, (hs5 t).read_unread, (hs6 t).read_unread, (hs7 t).read_unread, View.ld_unit_zero (S := S1x128x1) hz3, View.ld_unit_zero (S := S1x1x128) hz3]
theorem qR_eq : qR m c t = qB m c t := by
  funext g; unfold qR qB; simp only [rd, View.readAt_eq_ld, (hs0 t).read_unread]; rfl
theorem dR_eq : dR m c t = dB m c t := by
  funext g; unfold dR dB; simp only [rd, View.readAt_eq_ld, (hs10 t).read_unread]; rfl
theorem slR_eq : slR m c t = slB m c t := by
  funext g; unfold slR slB; simp only [rd, View.readAt_eq_ld, (hs8 t).read_unread]
theorem skR_eq : skR m c t = skB m c t := by
  funext g; unfold skR skB; simp only [rd, View.readAt_eq_ld, (hs9 t).read_unread]

/-- The point's query gradients, its window's key and value gradients, its sink gradients. -/
def dqB := dqs (F := F) (grid0.coords t) (kkB m c t) (vvB m c t) (distB m c t) (qB m c t) (dB m c t) (slB m c t) (skB m c t)
def dkB := dk (F := F) (grid0.coords t) (kkB m c t) (vvB m c t) (distB m c t) (qB m c t) (dB m c t) (slB m c t) (skB m c t)
def dvB := dv (F := F) (grid0.coords t) (kkB m c t) (distB m c t) (qB m c t) (dB m c t) (slB m c t) (skB m c t)
def dsB := ds (F := F) (grid0.coords t) (kkB m c t) (vvB m c t) (distB m c t) (qB m c t) (dB m c t) (slB m c t) (skB m c t)

/-- The same as the run computes them. -/
def dqR := dqs (F := F) (grid0.coords t) (kkR m c t) (vvR m c t) (distR m c t) (qR m c t) (dR m c t) (slR m c t) (skR m c t)
def dkR := dk (F := F) (grid0.coords t) (kkR m c t) (vvR m c t) (distR m c t) (qR m c t) (dR m c t) (slR m c t) (skR m c t)
def dvR := dv (F := F) (grid0.coords t) (kkR m c t) (distR m c t) (qR m c t) (dR m c t) (slR m c t) (skR m c t)
def dsR := ds (F := F) (grid0.coords t) (kkR m c t) (vvR m c t) (distR m c t) (qR m c t) (dR m c t) (slR m c t) (skR m c t)

theorem dqR_eq : dqR m c t = dqB m c t := by unfold dqR dqB; rw [kkR_eq, vvR_eq, distR_eq, qR_eq, dR_eq, slR_eq, skR_eq]
theorem dkR_eq : dkR m c t = dkB m c t := by unfold dkR dkB; rw [kkR_eq, vvR_eq, distR_eq, qR_eq, dR_eq, slR_eq, skR_eq]
theorem dvR_eq : dvR m c t = dvB m c t := by unfold dvR dvB; rw [kkR_eq, distR_eq, qR_eq, dR_eq, slR_eq, skR_eq]
theorem dsR_eq : dsR m c t = dsB m c t := by unfold dsR dsB; rw [kkR_eq, vvR_eq, distR_eq, qR_eq, dR_eq, slR_eq, skR_eq]

/-! ## The lists of writes -/

/-- Adding to the sink gradients already there. -/
def dsOnto (old : Vec F S8x128 .f32) (x : FVec F S8x128 .f32) : FVec F S8x128 .f32 := addf (shapeCast S8x128 old shapeCasts_S8x128_S8x128) x

theorem rA_dq (h : t.val = 0) : (rA m c t h).1 = dqB m c t := (rfl : _ = dqR m c t).trans (dqR_eq m c t)
theorem rB_dq (h : t.val ≠ 0) (h' : t.val % 16 = 0) (x14 : Vec F S8x128 .f32) : (rB m c t h h' x14).1 = dqB m c t :=
  (rfl : _ = dqR m c t).trans (dqR_eq m c t)
theorem rC_dq (h : ¬ t.val % 16 = 0) (x12 x13 : Vec F S1x2048x128 .f32) (x14 : Vec F S8x128 .f32) :
    (rC m c t h x12 x13 x14).1 = dqB m c t := (rfl : _ = dqR m c t).trans (dqR_eq m c t)

theorem rA_dk (h : t.val = 0) : (rA m c t h).2.1
    = [⟨firstSeq, k0_pay3 (dkB m c t) ((ms12 t).view.readCov [⟨allSeq, k0_pay11⟩] firstSeq.toLoadRect)⟩, ⟨allSeq, k0_pay11⟩] := by
  rw [← dkR_eq]; rfl
theorem rB_dk (h : t.val ≠ 0) (h' : t.val % 16 = 0) (x14 : Vec F S8x128 .f32) : (rB m c t h h' x14).2.1
    = [⟨firstSeq, k0_pay3 (dkB m c t) ((ms12 t).view.readCov [⟨allSeq, k0_pay11⟩] firstSeq.toLoadRect)⟩, ⟨allSeq, k0_pay11⟩] := by
  rw [← dkR_eq]; rfl
theorem rC_dk (h : ¬ t.val % 16 = 0) (x12 x13 : Vec F S1x2048x128 .f32) (x14 : Vec F S8x128 .f32) : (rC m c t h x12 x13 x14).2.1
    = [⟨Rect.unit (s := S1x2048x128) (k0_off2 (grid0.coords t)) S1x256x128.size (k0_off2_inb _ ((hcond3 t).2 h)),
        k0_pay1 (dkB m c t) (rd (ms12 t) (hs12 t) x12 (Rect.unit (s := S1x2048x128) (k0_off2 (grid0.coords t)) S1x256x128.size (k0_off2_inb _ ((hcond3 t).2 h))))⟩] := by
  rw [← dkR_eq]; rfl

theorem rA_dv (h : t.val = 0) : (rA m c t h).2.2.1
    = [⟨firstSeq, k0_pay4 (dvB m c t) ((ms13 t).view.readCov [⟨allSeq, k0_pay12⟩] firstSeq.toLoadRect)⟩, ⟨allSeq, k0_pay12⟩] := by
  rw [← dvR_eq]; rfl
theorem rB_dv (h : t.val ≠ 0) (h' : t.val % 16 = 0) (x14 : Vec F S8x128 .f32) : (rB m c t h h' x14).2.2.1
    = [⟨firstSeq, k0_pay4 (dvB m c t) ((ms13 t).view.readCov [⟨allSeq, k0_pay12⟩] firstSeq.toLoadRect)⟩, ⟨allSeq, k0_pay12⟩] := by
  rw [← dvR_eq]; rfl
theorem rC_dv (h : ¬ t.val % 16 = 0) (x12 x13 : Vec F S1x2048x128 .f32) (x14 : Vec F S8x128 .f32) : (rC m c t h x12 x13 x14).2.2.1
    = [⟨Rect.unit (s := S1x2048x128) (k0_off2 (grid0.coords t)) S1x256x128.size (k0_off2_inb _ ((hcond3 t).2 h)),
        k0_pay2 (dvB m c t) (rd (ms13 t) (hs13 t) x13 (Rect.unit (s := S1x2048x128) (k0_off2 (grid0.coords t)) S1x256x128.size (k0_off2_inb _ ((hcond3 t).2 h))))⟩] := by
  rw [← dvR_eq]; rfl

theorem rA_ds (h : t.val = 0) : (rA m c t h).2.2.2.1
    = [⟨all8, dsOnto ((ms14 t).view.readCov [⟨all8, k0_pay10⟩] all8.toLoadRect) (dsB m c t)⟩, ⟨all8, k0_pay10⟩] := by
  rw [← dsR_eq]; rfl
theorem rB_ds (h : t.val ≠ 0) (h' : t.val % 16 = 0) (x14 : Vec F S8x128 .f32) : (rB m c t h h' x14).2.2.2.1
    = [⟨all8, dsOnto (rd (ms14 t) (hs14 t) x14 all8) (dsB m c t)⟩] := by
  rw [← dsR_eq]; rfl
theorem rC_ds (h : ¬ t.val % 16 = 0) (x12 x13 : Vec F S1x2048x128 .f32) (x14 : Vec F S8x128 .f32) : (rC m c t h x12 x13 x14).2.2.2.1
    = [⟨all8, dsOnto (rd (ms14 t) (hs14 t) x14 all8) (dsB m c t)⟩] := by
  rw [← dsR_eq]; rfl

end At

end Cert.KernelIdeal.Swa
end
-- ==== Proof.Swa.Row.lean ====
/- A row of softmax with a sink and its backward pass, over the extended reals: as the kernel writes it (scores of the
window apart from the sink) and as the reference differentiates it (scores and sink in one row of 257). -/
module

public import proofs.«01_k».proof.Proof.Finite

@[expose] public section

noncomputable section

namespace Cert.SoftmaxRow

open Idealize.ShloMosaic Cert.Finite

theorem neg_inf_word : Ideal.ofBits .f32 4286578688#32 = ⊥ := by
  simp [Ideal.ofBits, Ideal.ieee]

theorem eighth_root_word : ∃ r : ℝ, Ideal.ofBits .f32 1040187392#32 = (r : EReal) :=
  ⟨1 / 8, by simp [Ideal.ofBits, Ideal.ieee, -EReal.coe_mul]; norm_num⟩

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

/-- Whether query `r` of block `n` sees key `j` of its window: within 128 behind, and not before the sequence. -/
def visible (n r j : ℕ) : BitVec 1 :=
  IntOp.andi
    (IntOp.andi (IntOp.cmpi .sge (IntOp.subi (IntOp.addi (BitVec.ofNat 32 r) 128#32) (BitVec.ofNat 32 j)) 0#32)
      (IntOp.cmpi .slt (IntOp.subi (IntOp.addi (BitVec.ofNat 32 r) 128#32) (BitVec.ofNat 32 j)) 128#32))
    (IntOp.ori (IntOp.cmpi .sgt (BitVec.ofNat 32 n) 0#32) (IntOp.cmpi .sge (BitVec.ofNat 32 j) 128#32))

/-- The first block sees no key before the sequence. -/
theorem visible_zero : ∀ (r : Fin 128) (j : Fin 128), visible 0 r.val j.val = 0#1 := by decide +kernel

variable (X : Fin 256 → EReal) (σ : EReal) (c : Fin 256 → EReal)

/-! ## The row as the kernel writes it -/

/-- The largest of the scores and the sink. -/
def top : EReal := max (Finset.fold max (Ideal.ofBits .f32 4286578688#32) X Finset.univ) σ
/-- The weights before they are divided by their sum, of the keys and of the sink. -/
def raw (j : Fin 256) : EReal := Ideal.exp (X j - top X σ)
def rawSink : EReal := Ideal.exp (σ - top X σ)
def total : EReal := ∑ x, raw X σ x + rawSink X σ
def prob (j : Fin 256) : EReal := raw X σ j * Ideal.div 1 (total X σ)
def probSink : EReal := rawSink X σ * Ideal.div 1 (total X σ)
/-- The incoming gradient's mean under the weights. -/
def mean : EReal := ∑ x, prob X σ x * c x
/-- The gradient in the dot product behind a score, and minus the gradient in the sink. -/
def grad (j : Fin 256) : EReal := prob X σ j * (c j - mean X σ c) * Ideal.ofBits .f32 1040187392#32
def sinkGrad : EReal := probSink X σ * mean X σ c

/-! ## The same row as the reference differentiates it -/

variable (E : Fin 257 → EReal) (C : Fin 257 → EReal)

def refTop : EReal := max (Ideal.ofBits .f32 4286578688#32) (Finset.fold max (Ideal.ofBits .f32 4286578688#32) E Finset.univ)
def refRaw (i : Fin 257) : EReal := Ideal.exp (E i - refTop E)
def refTotal : EReal := ∑ i, refRaw E i
def refGrad (i : Fin 257) : EReal :=
  (Ideal.div (C i) (refTotal E) + -∑ k, C k * Ideal.div 1 (refTotal E * refTotal E) * refRaw E k) * refRaw E i

/-! ## They agree -/

section Agree

variable (hX : ∀ j, X j = ⊥ ∨ IsReal (X j)) (hσ : IsReal σ)

theorem fold_real (hX : ∀ j, X j = ⊥ ∨ IsReal (X j)) (s : Finset (Fin 256)) :
    Finset.fold max (⊥ : EReal) X s = ⊥ ∨ IsReal (Finset.fold max (⊥ : EReal) X s) := by
  induction s using Finset.induction_on with
  | empty => left; simp
  | insert a s ha ih =>
    rw [Finset.fold_insert ha]
    rcases max_choice (X a) (Finset.fold max (⊥ : EReal) X s) with h | h <;> rw [h]
    · exact hX a
    · exact ih

include hX hσ

theorem top_real : ∃ T : ℝ, top X σ = T := by
  unfold top
  rw [neg_inf_word]
  obtain ⟨s, rfl⟩ := hσ
  rcases fold_real X hX Finset.univ with h | ⟨r, h⟩ <;> rw [h]
  · exact ⟨s, max_eq_right bot_le⟩
  · exact ⟨max r s, (EReal.coe_strictMono.monotone.map_max).symm⟩

/-- The undivided weights are real: none negative, the sink's positive, a masked key's zero. -/
theorem raw_real : ∃ (W : Fin 256 → ℝ) (S : ℝ), (∀ j, raw X σ j = W j) ∧ rawSink X σ = S ∧ (∀ j, 0 ≤ W j) ∧ 0 < S
    ∧ (∀ j, X j = ⊥ → W j = 0) ∧ total X σ = ((∑ j, W j + S : ℝ) : EReal) := by
  obtain ⟨T, hT⟩ := top_real X σ hX hσ
  obtain ⟨s, hs⟩ := hσ
  have hw : ∀ j, ∃ w : ℝ, raw X σ j = w ∧ 0 ≤ w ∧ (X j = ⊥ → w = 0) := fun j => by
    unfold raw
    rw [hT]
    rcases hX j with h | ⟨x, h⟩ <;> rw [h]
    · exact ⟨0, by rw [EReal.bot_sub, Ideal.exp_bot]; rfl, le_refl _, fun _ => rfl⟩
    · exact ⟨Real.exp (x - T), by rw [← EReal.coe_sub, Ideal.exp_coe], (Real.exp_pos _).le, fun e => absurd e (EReal.coe_ne_bot x)⟩
  choose W h1 h2 h3 using hw
  have hS : rawSink X σ = (Real.exp (s - T) : ℝ) := by
    unfold rawSink; rw [hT, hs, ← EReal.coe_sub, Ideal.exp_coe]
  refine ⟨W, Real.exp (s - T), h1, hS, h2, Real.exp_pos _, h3, ?_⟩
  unfold total
  rw [hS, EReal.coe_add, coe_sum]
  exact congrArg₂ _ (Finset.sum_congr rfl fun j _ => h1 j) rfl

theorem data (hc : ∀ j, X j ≠ ⊥ → IsReal (c j)) : ∃ (W V : Fin 256 → ℝ) (S D : ℝ), (∀ j, raw X σ j = W j) ∧ rawSink X σ = S ∧ 0 < D
    ∧ (∀ j, X j = ⊥ → W j = 0) ∧ total X σ = (D : EReal) ∧ D = ∑ j, W j + S ∧ (∀ j, X j ≠ ⊥ → c j = V j) := by
  obtain ⟨W, S, h1, h2, h3, h4, h5, h6⟩ := raw_real X σ hX hσ
  have hv : ∀ j, ∃ v : ℝ, X j ≠ ⊥ → c j = v := fun j => by
    by_cases h : X j = ⊥
    · exact ⟨0, fun e => absurd h e⟩
    · exact (hc j h).imp fun v hv _ => hv
  choose V hV using hv
  exact ⟨W, V, S, ∑ j, W j + S, h1, h2, add_pos_of_nonneg_of_pos (Finset.sum_nonneg fun j _ => h3 j) h4, h5, h6, rfl, hV⟩

/-- A row's gradient does not see the incoming gradient at masked keys. -/
theorem mean_congr (c' : Fin 256 → EReal) (h : ∀ j, X j ≠ ⊥ → c j = c' j) : mean X σ c = mean X σ c' := by
  obtain ⟨W, S, h1, -, -, -, h5, -⟩ := raw_real X σ hX hσ
  refine Finset.sum_congr rfl fun j _ => ?_
  by_cases hj : X j = ⊥
  · unfold prob; rw [h1, h5 j hj]; simp
  · rw [h j hj]

theorem prob_masked (j : Fin 256) (hj : X j = ⊥) : prob X σ j = 0 := by
  obtain ⟨W, S, h1, -, -, -, h5, -⟩ := raw_real X σ hX hσ
  unfold prob; rw [h1, h5 j hj]; simp

theorem grad_masked (j : Fin 256) (hj : X j = ⊥) : grad X σ c j = 0 := by
  unfold grad; rw [prob_masked X σ hX hσ j hj]; simp

theorem grad_congr (c' : Fin 256 → EReal) (h : ∀ j, X j ≠ ⊥ → c j = c' j) (j : Fin 256) : grad X σ c j = grad X σ c' j := by
  by_cases hj : X j = ⊥
  · rw [grad_masked X σ c hX hσ j hj, grad_masked X σ c' hX hσ j hj]
  · unfold grad; rw [mean_congr X σ c hX hσ c' h, h j hj]

theorem mean_real (hc : ∀ j, X j ≠ ⊥ → IsReal (c j)) : IsReal (mean X σ c) := by
  obtain ⟨W, V, S, D, h1, h2, hD, h5, h6, -, hV⟩ := data X σ c hX hσ hc
  refine IsReal.sum fun j => ?_
  unfold prob
  rw [h1, h6, Ideal.div_coe hD.ne', one_mul]
  by_cases hj : X j = ⊥
  · rw [h5 j hj]; exact ⟨0, by simp⟩
  · rw [hV j hj]; exact ⟨W j * (1 / D) * V j, by push_cast; rfl⟩

theorem prob_real (j : Fin 256) : IsReal (prob X σ j) := by
  obtain ⟨W, S, h1, h2, h3, h4, h5, h6⟩ := raw_real X σ hX hσ
  have hD : (∑ j, W j + S : ℝ) ≠ 0 := (add_pos_of_nonneg_of_pos (Finset.sum_nonneg fun j _ => h3 j) h4).ne'
  unfold prob
  rw [h1, h6, Ideal.div_coe hD, one_mul]
  exact ⟨W j * (1 / (∑ j, W j + S)), (EReal.coe_mul _ _).symm⟩

theorem probSink_real : IsReal (probSink X σ) := by
  obtain ⟨W, S, h1, h2, h3, h4, h5, h6⟩ := raw_real X σ hX hσ
  have hD : (∑ j, W j + S : ℝ) ≠ 0 := (add_pos_of_nonneg_of_pos (Finset.sum_nonneg fun j _ => h3 j) h4).ne'
  unfold probSink
  rw [h2, h6, Ideal.div_coe hD, one_mul]
  exact ⟨S * (1 / (∑ j, W j + S)), (EReal.coe_mul _ _).symm⟩

theorem sinkGrad_real (hc : ∀ j, X j ≠ ⊥ → IsReal (c j)) : IsReal (sinkGrad X σ c) :=
  (probSink_real X σ hX hσ).mul (mean_real X σ c hX hσ hc)

theorem grad_real (hc : ∀ j, X j ≠ ⊥ → IsReal (c j)) (j : Fin 256) : IsReal (grad X σ c j) := by
  by_cases hj : X j = ⊥
  · rw [grad_masked X σ c hX hσ j hj]; exact ⟨0, by simp⟩
  · obtain ⟨m, hm⟩ := mean_real X σ c hX hσ hc
    obtain ⟨v, hv⟩ := hc j hj
    obtain ⟨e, he⟩ := eighth_root_word
    unfold grad
    rw [hm, hv, he, ← EReal.coe_sub]
    exact ((prob_real X σ hX hσ j).mul ⟨_, rfl⟩).mul ⟨_, rfl⟩

end Agree

section Reference

variable (hE : ∀ j : Fin 256, E j.castSucc = X j) (hEl : E (Fin.last 256) = σ)
include hE hEl

theorem refTop_eq : refTop E = top X σ := by
  unfold refTop top
  rw [neg_inf_word]
  refine eq_of_forall_ge_iff fun b => ?_
  simp only [max_le_iff, Finset.fold_max_le, bot_le, true_and, Finset.mem_univ, forall_true_left]
  rw [Fin.forall_fin_succ', hEl]
  simp only [hE]

theorem refRaw_eq (j : Fin 256) : refRaw E j.castSucc = raw X σ j := by
  unfold refRaw raw; rw [refTop_eq X σ E hE hEl, hE]
theorem refRaw_last : refRaw E (Fin.last 256) = rawSink X σ := by
  unfold refRaw rawSink; rw [refTop_eq X σ E hE hEl, hEl]
theorem refTotal_eq : refTotal E = total X σ := by
  unfold refTotal total
  rw [Fin.sum_univ_castSucc, refRaw_last X σ E hE hEl]
  exact congrArg₂ _ (Finset.sum_congr rfl fun j _ => refRaw_eq X σ E hE hEl j) rfl

/-- The weights the reference divides out are the kernel's. -/
theorem refProb_eq (hX : ∀ j, X j = ⊥ ∨ IsReal (X j)) (hσ : IsReal σ) (j : Fin 256) :
    Ideal.div (refRaw E j.castSucc) (refTotal E) = prob X σ j := by
  obtain ⟨W, S, h1, h2, h3, h4, h5, h6⟩ := raw_real X σ hX hσ
  have hD : (∑ j, W j + S : ℝ) ≠ 0 := (add_pos_of_nonneg_of_pos (Finset.sum_nonneg fun j _ => h3 j) h4).ne'
  rw [refRaw_eq X σ E hE hEl, refTotal_eq X σ E hE hEl]
  unfold prob
  rw [h6, Ideal.div_coe hD, Ideal.div_coe hD, one_mul]

variable (hX : ∀ j, X j = ⊥ ∨ IsReal (X j)) (hσ : IsReal σ) (hc : ∀ j, X j ≠ ⊥ → IsReal (c j))
  (hC : ∀ j : Fin 256, X j ≠ ⊥ → C j.castSucc = c j) (hCl : C (Fin.last 256) = 0)
include hX hσ hc hC hCl

/-- The reference's inner sum, over reals. -/
theorem refSum_eq (W V : Fin 256 → ℝ) (D : ℝ) (hD : 0 < D) (h1 : ∀ j, raw X σ j = W j) (h5 : ∀ j, X j = ⊥ → W j = 0)
    (h6 : total X σ = (D : EReal)) (hV : ∀ j, X j ≠ ⊥ → c j = V j) :
    ∑ k, C k * Ideal.div 1 (refTotal E * refTotal E) * refRaw E k = ((∑ j, V j * (1 / (D * D)) * W j : ℝ) : EReal) := by
  rw [refTotal_eq X σ E hE hEl, h6, ← EReal.coe_mul, Ideal.div_coe (mul_pos hD hD).ne', one_mul, Fin.sum_univ_castSucc, hCl, zero_mul, zero_mul,
    add_zero, coe_sum]
  refine Finset.sum_congr rfl fun j _ => ?_
  rw [refRaw_eq X σ E hE hEl, h1]
  by_cases hj : X j = ⊥
  · rw [h5 j hj]; simp
  · rw [hC j hj, hV j hj, EReal.coe_mul, EReal.coe_mul]

theorem mean_eq (W V : Fin 256 → ℝ) (D : ℝ) (hD : 0 < D) (h1 : ∀ j, raw X σ j = W j) (h5 : ∀ j, X j = ⊥ → W j = 0)
    (h6 : total X σ = (D : EReal)) (hV : ∀ j, X j ≠ ⊥ → c j = V j) :
    mean X σ c = ((∑ j, W j * (1 / D) * V j : ℝ) : EReal) := by
  unfold mean
  rw [coe_sum]
  refine Finset.sum_congr rfl fun j _ => ?_
  unfold prob
  rw [h1, h6, Ideal.div_coe hD.ne', one_mul]
  by_cases hj : X j = ⊥
  · rw [h5 j hj]; simp
  · rw [hV j hj, EReal.coe_mul, EReal.coe_mul]

/-- At a key that is not masked the reference's gradient, scaled, is the kernel's. -/
theorem refGrad_eq (j : Fin 256) (hj : X j ≠ ⊥) : refGrad E C j.castSucc * Ideal.ofBits .f32 1040187392#32 = grad X σ c j := by
  obtain ⟨W, V, S, D, h1, h2, hD, h5, h6, -, hV⟩ := data X σ c hX hσ hc
  unfold refGrad grad
  rw [refSum_eq X σ c E C hE hEl hX hσ hc hC hCl W V D hD h1 h5 h6 hV, mean_eq X σ c E C hE hEl hX hσ hc hC hCl W V D hD h1 h5 h6 hV]
  unfold prob
  rw [refRaw_eq X σ E hE hEl, h1, refTotal_eq X σ E hE hEl, h6, hC j hj, hV j hj, Ideal.div_coe hD.ne', Ideal.div_coe hD.ne', one_mul]
  refine congrArg (· * _) ?_
  rw [← EReal.coe_mul, ← EReal.coe_neg, ← EReal.coe_add, ← EReal.coe_mul, ← EReal.coe_mul, ← EReal.coe_sub, ← EReal.coe_mul]
  refine congrArg _ ?_
  rw [show (∑ j, V j * (1 / (D * D)) * W j) = (∑ j, W j * (1 / D) * V j) * (1 / D) by
    rw [Finset.sum_mul]; exact Finset.sum_congr rfl fun k _ => by field_simp]
  ring

/-- At the sink the reference's gradient is minus the kernel's. -/
theorem refGrad_last : refGrad E C (Fin.last 256) = -sinkGrad X σ c := by
  obtain ⟨W, V, S, D, h1, h2, hD, h5, h6, -, hV⟩ := data X σ c hX hσ hc
  unfold refGrad sinkGrad
  rw [refSum_eq X σ c E C hE hEl hX hσ hc hC hCl W V D hD h1 h5 h6 hV, mean_eq X σ c E C hE hEl hX hσ hc hC hCl W V D hD h1 h5 h6 hV]
  unfold probSink
  rw [refRaw_last X σ E hE hEl, h2, refTotal_eq X σ E hE hEl, h6, hCl, Ideal.div_coe hD.ne', Ideal.div_coe hD.ne', one_mul, zero_mul, zero_add]
  rw [← EReal.coe_neg, ← EReal.coe_mul, ← EReal.coe_mul, ← EReal.coe_mul, ← EReal.coe_neg]
  refine congrArg _ ?_
  rw [show (∑ j, V j * (1 / (D * D)) * W j) = (∑ j, W j * (1 / D) * V j) * (1 / D) by
    rw [Finset.sum_mul]; exact Finset.sum_congr rfl fun k _ => by field_simp]
  ring

end Reference

end Cert.SoftmaxRow
end
-- ==== Proof.Swa.Heads.lean ====
/- A head's results at one point, read as sums over the row's softmax. -/
module

public import proofs.«01_k».proof.Proof.Swa.Point
public import proofs.«01_k».proof.Proof.Swa.Row
public import Idealize.ShloMosaic.Lib.Pointwise

@[expose] public section

set_option maxRecDepth 16384

noncomputable section

namespace Cert.KernelIdeal.Swa

open Cert.KernelIdeal Cert.KernelIdeal.Gen Cert.SoftmaxRow
open Idealize.ShloMosaic Idealize.ShloMosaic.TcCoe Idealize.ShloMosaic.Tactic

variable (i : grid0.Coords) (kk vv : FVec Ideal S256x128 .bf16) (dist : FVec Ideal S128x256 .f32)
  (q : Vec Ideal S1x128x128 .bf16) (d : Vec Ideal S1x128x128 .f32) (sl sk : EReal)

/-- The mask's constant is read as minus infinity. -/
theorem mask_bot : (Named.named Cert.KernelIdeal.κ "mask" 4048155338#32 : Ideal .f32) = (⊥ : EReal) :=
  IdealRules.named_const.ideal_named_scalar _ _ _ _ rfl

/-- A query's masked scores of its window. -/
def scores (r : Fin 128) (j : Fin 256) : EReal := k0_pay34 (F := Ideal) kk dist (seen i) q sl (ix2 r j)
/-- The incoming gradient of a query's weights. -/
def cot (r : Fin 128) (j : Fin 256) : EReal := ∑ k, d (ix3 0 r k) * vv (ix2 j k)

theorem top_apply (r : Fin 128) : k0_pay35 (F := Ideal) kk dist (seen i) q sl sk (ix2 r 0) = top (scores i kk dist q sl r) sk := by
  unfold k0_pay35
  generalize hs : k0_pay34 (F := Ideal) kk dist (seen i) q sl = s
  unfold scores top
  rw [hs]
  pointwise

theorem raw_apply (r : Fin 128) (j : Fin 256) : k0_pay36 (F := Ideal) kk dist (seen i) q sl sk (ix2 r j) = raw (scores i kk dist q sl r) sk j := by
  unfold raw
  rw [← top_apply]
  unfold k0_pay36 scores
  generalize k0_pay34 (F := Ideal) kk dist (seen i) q sl = s
  generalize k0_pay35 (F := Ideal) kk dist (seen i) q sl sk = u
  pointwise

theorem rawSink_apply (r : Fin 128) : k0_pay37 (F := Ideal) kk dist (seen i) q sl sk (ix2 r 0) = rawSink (scores i kk dist q sl r) sk := by
  unfold rawSink
  rw [← top_apply]
  unfold k0_pay37
  generalize k0_pay35 (F := Ideal) kk dist (seen i) q sl sk = u
  pointwise

theorem inv_apply (r : Fin 128) : k0_pay38 (F := Ideal) kk dist (seen i) q sl sk (ix2 r 0) = Ideal.div 1 (total (scores i kk dist q sl r) sk) := by
  unfold total
  simp only [← raw_apply, ← rawSink_apply]
  unfold k0_pay38
  generalize k0_pay36 (F := Ideal) kk dist (seen i) q sl sk = u
  generalize k0_pay37 (F := Ideal) kk dist (seen i) q sl sk = v
  pointwise

theorem probs_apply (r : Fin 128) (j : Fin 256) : probs i kk dist q sl sk (ix2 r j) = prob (scores i kk dist q sl r) sk j := by
  unfold prob
  rw [← raw_apply, ← inv_apply]
  unfold probs k0_pay39
  generalize k0_pay36 (F := Ideal) kk dist (seen i) q sl sk = u
  generalize k0_pay38 (F := Ideal) kk dist (seen i) q sl sk = v
  pointwise

theorem sinkProb_apply (r : Fin 128) : sinkProb i kk dist q sl sk (ix2 r 0) = probSink (scores i kk dist q sl r) sk := by
  unfold probSink
  rw [← rawSink_apply, ← inv_apply]
  unfold sinkProb k0_pay40
  generalize k0_pay37 (F := Ideal) kk dist (seen i) q sl sk = u
  generalize k0_pay38 (F := Ideal) kk dist (seen i) q sl sk = v
  pointwise

theorem grad_apply (r : Fin 128) (j : Fin 256) : k0_pay46 vv (probs i kk dist q sl sk) (k0_pay41 d) (ix2 r j)
    = grad (scores i kk dist q sl r) sk (cot vv d r) j := by
  unfold grad mean cot
  simp only [← probs_apply]
  generalize probs i kk dist q sl sk = P
  pointwise [k0_pay46, k0_pay45, k0_pay44, k0_pay41]

theorem dq_apply (r l : Fin 128) : dq i kk vv dist q d sl sk (ix3 0 r l)
    = ∑ j, grad (scores i kk dist q sl r) sk (cot vv d r) j * kk (ix2 j l) := by
  simp only [← grad_apply]
  unfold dq k0_pay47
  generalize k0_pay46 vv (probs i kk dist q sl sk) (k0_pay41 d) = G
  pointwise

theorem dkAdd_apply (acc : FVec Ideal S256x128 .f32) (j : Fin 256) (l : Fin 128) : dkAdd i kk vv dist acc q d sl sk (ix2 j l)
    = acc (ix2 j l) + ∑ r, grad (scores i kk dist q sl r) sk (cot vv d r) j * q (ix3 0 r l) := by
  simp only [← grad_apply]
  unfold dkAdd k0_pay48
  generalize k0_pay46 vv (probs i kk dist q sl sk) (k0_pay41 d) = G
  pointwise [k0_pay33]

theorem dvAdd_apply (acc : FVec Ideal S256x128 .f32) (j : Fin 256) (l : Fin 128) : dvAdd i kk dist acc q d sl sk (ix2 j l)
    = acc (ix2 j l) + ∑ r, prob (scores i kk dist q sl r) sk j * d (ix3 0 r l) := by
  simp only [← probs_apply]
  unfold dvAdd k0_pay43 k0_pay42 probs
  generalize k0_pay39 (F := Ideal) kk dist (seen i) q sl sk = P
  pointwise [k0_pay41]

theorem dsAdd_apply (acc : FVec Ideal S8x128 .f32) (g : Fin 4) (h : Fin 8) (l : Fin 128) : dsAdd i kk vv dist acc g q d sl sk (ix2 h l)
    = acc (ix2 h l) + Scalar.select (IntOp.cmpi .eq (BitVec.ofNat 32 h.val) (headId i g)) (0 - ∑ r : Fin 128, sinkGrad (scores i kk dist q sl r) sk (cot vv d r)) 0 := by
  unfold sinkGrad mean cot
  simp only [← probs_apply, ← sinkProb_apply]
  unfold dsAdd
  generalize probs i kk dist q sl sk = P
  generalize sinkProb i kk dist q sl sk = PS
  pointwise [k0_pay49, k0_pay45, k0_pay44, k0_pay41]
  simp only [Fin.sum_univ_one]

theorem seen_apply (r : Fin 128) (j : Fin 256) : seen i (ix2 r j) = visible (i 2).val r.val j.val := by
  unfold seen visible
  pointwise [k0_pay9, k0_pay8]
  rfl

theorem scores_apply (r : Fin 128) (j : Fin 256) : scores i kk dist q sl r j
    = Scalar.select (visible (i 2).val r.val j.val)
        ((∑ x, q (ix3 0 r x) * kk (ix2 j x)) * Ideal.ofBits .f32 1040187392#32 - sl * dist (ix2 r j)) ⊥ := by
  rw [← seen_apply i r j, ← mask_bot]
  unfold scores
  generalize seen i = s
  pointwise [k0_pay34, k0_pay33]

end Cert.KernelIdeal.Swa
end
-- ==== Proof.Swa.Spec.lean ====
module

public import proofs.«01_k».proof.Proof.Swa.Row
public import Idealize.ShloMosaic.Lib.Pointwise

/-! What both programs of the sliding-window attention's backward pass compute, of one device's arguments: the
scores of a query row against its window of 256 keys, the softmax with a sink, and the four gradients. A query is
named by its batch, its block of 128 rows, its key/value head, its place in the head's group and its row. -/

@[expose] public section
noncomputable section
namespace Cert.Swa
open Idealize.ShloMosaic Cert.Finite Cert.SoftmaxRow

/-- One device's arguments: queries, keys, the joined projection (the values are its last columns but 2560), positions, sinks
and the incoming gradient. -/
structure Inputs where
  q : (⟨3, ![2, 2048, 1024]⟩ : Shape).Idx → EReal
  k : (⟨3, ![2, 2048, 256]⟩ : Shape).Idx → EReal
  p : (⟨3, ![2, 2048, 4096]⟩ : Shape).Idx → EReal
  pos : (⟨2, ![2, 2048]⟩ : Shape).Idx → BitVec 32
  s : (⟨1, ![8]⟩ : Shape).Idx → EReal
  d : (⟨3, ![2, 2048, 1024]⟩ : Shape).Idx → EReal

/-- Row `r` of block `n`. -/
def row (n : Fin 16) (r : Fin 128) : Fin 2048 := ⟨n.val * 128 + r.val, by omega⟩
/-- Key `j` of the window of block `n`: the block before, then the block itself. -/
def krow (n : Fin 16) (j : Fin 256) : Fin 2048 :=
  ⟨if j.val < 128 then (n.val - 1) * 128 + j.val else n.val * 128 + (j.val - 128), by split <;> omega⟩
theorem krow_low (n : Fin 16) (j : Fin 256) (h : j.val < 128) : krow n j = ⟨(n.val - 1) * 128 + j.val, by omega⟩ := Fin.ext (if_pos h)
theorem krow_high (n : Fin 16) (j : Fin 256) (h : ¬ j.val < 128) : krow n j = ⟨n.val * 128 + (j.val - 128), by omega⟩ :=
  Fin.ext (if_neg h)
def qcol (kv : Fin 2) (g : Fin 4) (l : Fin 128) : Fin 1024 := ⟨kv.val * 512 + g.val * 128 + l.val, by omega⟩
def kcol (kv : Fin 2) (l : Fin 128) : Fin 256 := ⟨kv.val * 128 + l.val, by omega⟩
def vcol (kv : Fin 2) (l : Fin 128) : Fin 4096 := ⟨1280 + (kv.val * 128 + l.val), by omega⟩
def head (kv : Fin 2) (g : Fin 4) : Fin 8 := ⟨kv.val * 4 + g.val, by omega⟩
/-- The upper half of a window. -/
def upper (r : Fin 128) : Fin 256 := ⟨128 + r.val, by omega⟩
/-- The lower half. -/
def lower (r : Fin 128) : Fin 256 := ⟨r.val, by omega⟩

/-- How fast head `h` forgets. -/
def slope (h : Fin 8) : EReal :=
  Ideal.exp (Ideal.ofBits .f32 1060205080#32 * Ideal.div (Ideal.ofBits .f32 3238002688#32
    * (Scalar.sitofp (F := Ideal) .f32 (BitVec.ofNat 32 h.val) + Ideal.ofBits .f32 1065353216#32)) (Ideal.ofBits .f32 1090519040#32))

variable (a : Inputs)

/-- The values' columns of the joined projection and every other argument are finite; positions are not negative. -/
structure Inputs.Tame : Prop where
  q : ∀ i, IsReal (a.q i)
  k : ∀ i, IsReal (a.k i)
  p : ∀ b t kv l, IsReal (a.p (ix3 b t (vcol kv l)))
  pos : ∀ i, 0 ≤ (a.pos i).toInt
  s : ∀ i, IsReal (a.s i)
  d : ∀ i, IsReal (a.d i)

/-- How far back key `j` lies. -/
def dist (b : Fin 2) (n : Fin 16) (r : Fin 128) (j : Fin 256) : EReal :=
  Scalar.sitofp (F := Ideal) .f32 (a.pos (ix2 b (row n r))) - Scalar.sitofp (F := Ideal) .f32 (a.pos (ix2 b (krow n j)))

/-- The scores of a query row; a key it does not see has −∞. -/
def X (b : Fin 2) (n : Fin 16) (kv : Fin 2) (g : Fin 4) (r : Fin 128) (j : Fin 256) : EReal :=
  Scalar.select (visible n.val r.val j.val)
    ((∑ x, a.q (ix3 b (row n r) (qcol kv g x)) * a.k (ix3 b (krow n j) (kcol kv x))) * Ideal.ofBits .f32 1040187392#32
      - slope (head kv g) * dist a b n r j) ⊥

/-- The incoming gradient of each weight. -/
def ct (b : Fin 2) (n : Fin 16) (kv : Fin 2) (g : Fin 4) (r : Fin 128) (j : Fin 256) : EReal :=
  ∑ x, a.d (ix3 b (row n r) (qcol kv g x)) * a.p (ix3 b (krow n j) (vcol kv x))

def sink (kv : Fin 2) (g : Fin 4) : EReal := a.s (ix1 (head kv g))

/-- The weights, the gradients in the dot products, and minus the gradients in the sinks. -/
def Pr (b : Fin 2) (n : Fin 16) (kv : Fin 2) (g : Fin 4) (r : Fin 128) (j : Fin 256) : EReal :=
  prob (X a b n kv g r) (sink a kv g) j
def G (b : Fin 2) (n : Fin 16) (kv : Fin 2) (g : Fin 4) (r : Fin 128) (j : Fin 256) : EReal :=
  grad (X a b n kv g r) (sink a kv g) (ct a b n kv g r) j
def SG (b : Fin 2) (n : Fin 16) (kv : Fin 2) (g : Fin 4) (r : Fin 128) : EReal :=
  sinkGrad (X a b n kv g r) (sink a kv g) (ct a b n kv g r)

/-- The gradient in the queries. -/
def dQ (b : Fin 2) (n : Fin 16) (r : Fin 128) (kv : Fin 2) (g : Fin 4) (l : Fin 128) : EReal :=
  ∑ j, G a b n kv g r j * a.k (ix3 b (krow n j) (kcol kv l))
/-- What the queries of one block give the keys and the values of its window. -/
def dKw (b : Fin 2) (n : Fin 16) (kv : Fin 2) (j : Fin 256) (l : Fin 128) : EReal :=
  ∑ g, ∑ r, G a b n kv g r j * a.q (ix3 b (row n r) (qcol kv g l))
def dVw (b : Fin 2) (n : Fin 16) (kv : Fin 2) (j : Fin 256) (l : Fin 128) : EReal :=
  ∑ g, ∑ r, Pr a b n kv g r j * a.d (ix3 b (row n r) (qcol kv g l))
/-- A key lies in the upper half of its own block's window and in the lower half of the next block's. -/
def both (w : Fin 16 → Fin 256 → EReal) (n : Fin 16) (r : Fin 128) : EReal :=
  w n (upper r) + if h : n.val + 1 < 16 then w ⟨n.val + 1, h⟩ (lower r) else 0
def dK (b : Fin 2) (n : Fin 16) (r : Fin 128) (kv : Fin 2) (l : Fin 128) : EReal :=
  both (fun n j => dKw a b n kv j l) n r
def dV (b : Fin 2) (n : Fin 16) (r : Fin 128) (kv : Fin 2) (l : Fin 128) : EReal :=
  both (fun n j => dVw a b n kv j l) n r
/-- The gradient in the sinks. -/
def dS (kv : Fin 2) (g : Fin 4) : EReal := ∑ b, ∑ n, ∑ r, -SG a b n kv g r

/-- A key that is seen is not one of the block before the first. -/
theorem seen_exists (n : Fin 16) (r : Fin 128) (j : Fin 256) (h : visible n.val r.val j.val = 1#1) : ¬ (j.val < 128 ∧ n.val < 1) := by
  rintro ⟨h1, h2⟩
  have e : n.val = 0 := by omega
  rw [e, visible_zero r ⟨j.val, h1⟩] at h
  exact absurd h (by decide)

/-- The difference of two positions that are not negative does not wrap. -/
theorem sub_positions (x y : BitVec 32) (hx : 0 ≤ x.toInt) (hy : 0 ≤ y.toInt) :
    Scalar.sitofp (F := Ideal) .f32 (IntOp.subi x y)
      = Scalar.sitofp (F := Ideal) .f32 x - Scalar.sitofp (F := Ideal) .f32 y := by
  have e : (x - y).toInt = x.toInt - y.toInt := by
    have h1 := x.toInt_lt
    have h2 := y.toInt_lt
    rw [BitVec.toInt_sub, Int.bmod_eq_of_le (by omega) (by omega)]
  rw [Ideal.scalar_sitofp_def, Ideal.scalar_sitofp_def, Ideal.scalar_sitofp_def, ← EReal.coe_sub, ← Int.cast_sub, ← e]
  rfl

/-! ## Facts of tame arguments -/

theorem real_sub {x y : EReal} (hx : IsReal x) (hy : IsReal y) : IsReal (x - y) := by
  obtain ⟨u, rfl⟩ := hx
  obtain ⟨v, rfl⟩ := hy
  exact ⟨u - v, (EReal.coe_sub u v).symm⟩

theorem real_add {x y : EReal} (hx : IsReal x) (hy : IsReal y) : IsReal (x + y) := by
  obtain ⟨u, rfl⟩ := hx
  obtain ⟨v, rfl⟩ := hy
  exact ⟨u + v, (EReal.coe_add u v).symm⟩

theorem one_word : Ideal.ofBits .f32 1065353216#32 = (1 : EReal) := by
  rw [← EReal.coe_one]
  simp [Ideal.ofBits, Ideal.ieee, -EReal.coe_mul]; norm_num

theorem slope_real (h : Fin 8) : IsReal (slope h) := by
  unfold slope
  have e1 : ∃ r : ℝ, Ideal.ofBits .f32 1060205080#32 = (r : EReal) := ⟨_, by simp [Ideal.ofBits, Ideal.ieee, -EReal.coe_mul]; rfl⟩
  have e2 : ∃ r : ℝ, Ideal.ofBits .f32 3238002688#32 = (r : EReal) := ⟨_, by simp [Ideal.ofBits, Ideal.ieee, -EReal.coe_mul]; rfl⟩
  have e4 : Ideal.ofBits .f32 1090519040#32 = ((8 : ℝ) : EReal) := by
    simp [Ideal.ofBits, Ideal.ieee, -EReal.coe_mul]; norm_num
  obtain ⟨u, hu⟩ := e1
  obtain ⟨v, hv⟩ := e2
  rw [hu, hv, one_word, ← EReal.coe_one, e4, Ideal.div_coe (by norm_num), Ideal.scalar_sitofp_def, ← EReal.coe_add, ← EReal.coe_mul, ← EReal.coe_mul,
    ← EReal.coe_mul, Ideal.exp_coe]
  exact ⟨_, rfl⟩

variable {a} (ha : a.Tame)
include ha

theorem dist_real (b n r j) : IsReal (dist a b n r j) := ⟨_, (EReal.coe_sub _ _).symm⟩

theorem X_seen (b n kv g r j) (h : visible n.val r.val j.val = 1#1) : IsReal (X a b n kv g r j) := by
  unfold X
  rw [h]
  exact real_sub (.mul (.sum fun x => (ha.q _).mul (ha.k _)) eighth_root_word) ((slope_real _).mul (dist_real ha b n r j))

theorem X_real (b n kv g r j) : X a b n kv g r j = ⊥ ∨ IsReal (X a b n kv g r j) := by
  by_cases h : visible n.val r.val j.val = 1#1
  · exact .inr (X_seen ha b n kv g r j h)
  · exact .inl (by rw [X, (BitVec.eq_zero_or_eq_one _).resolve_right h]; rfl)

theorem ct_real (b n kv g r j) : IsReal (ct a b n kv g r j) := .sum fun x => (ha.d _).mul (ha.p _ _ _ _)

theorem G_real (b n kv g r j) : IsReal (G a b n kv g r j) :=
  grad_real _ _ _ (X_real ha b n kv g r) (ha.s _) (fun j _ => ct_real ha b n kv g r j) j

theorem G_unseen (b n kv g r j) (h : visible n.val r.val j.val ≠ 1#1) : G a b n kv g r j = 0 :=
  grad_masked _ _ _ (X_real ha b n kv g r) (show IsReal (sink a kv g) from ha.s _) j
    (by rw [X, (BitVec.eq_zero_or_eq_one _).resolve_right h]; rfl)

theorem Pr_real (b n kv g r j) : IsReal (Pr a b n kv g r j) := prob_real _ _ (X_real ha b n kv g r) (ha.s _) j

theorem SG_real (b n kv g r) : IsReal (SG a b n kv g r) :=
  sinkGrad_real _ _ _ (X_real ha b n kv g r) (ha.s _) fun j _ => ct_real ha b n kv g r j

end Cert.Swa
end
-- ==== Proof.Swa.Blocks.lean ====
/- The blocks a point of the kernel reads, as entries of one device's arguments. -/
module

public import proofs.«01_k».proof.Proof.Swa.Heads
public import proofs.«01_k».proof.Proof.Swa.Spec

@[expose] public section

set_option maxRecDepth 16384

noncomputable section

namespace Cert.KernelIdeal.Swa

open Cert.KernelIdeal Cert.KernelIdeal.Gen Cert.SoftmaxRow Cert.Swa
open Idealize.ShloMosaic Idealize.ShloMosaic.TcCoe Idealize.ShloMosaic.Tactic Idealize.SL.Sem

variable (m : (ℓ : Loc nD τ sig) → Buf (Elt Ideal) ℓ) (c : Dev nD)

/-- One device's arguments. -/
def inputs : Inputs where
  q := m ((c : Thread nD τ).loc main_arg0)
  k := m ((c : Thread nD τ).loc main_arg1)
  p := m ((c : Thread nD τ).loc main_arg2)
  pos := m ((c : Thread nD τ).loc main_arg3)
  s := m ((c : Thread nD τ).loc main_arg4)
  d := m ((c : Thread nD τ).loc main_arg5)

/-! ## What the lines before the kernel compute -/

theorem V_rows : V m c main_v11 = shapeCast S2x2048x1 (sitofp (F := Ideal) .f32 (m ((c : Thread nD τ).loc main_arg3))) shapeCasts_S2x2048_S2x2048x1 := by
  unfold_abbrev_sides
  after_results
  rfl
theorem V_cols : V m c main_v12 = shapeCast S2x1x2048 (sitofp (F := Ideal) .f32 (m ((c : Thread nD τ).loc main_arg3))) shapeCasts_S2x2048_S2x1x2048 := by
  unfold_abbrev_sides
  after_results
  rfl
theorem V_slopes (h : Fin 8) : (V m c main_v10 : S8.Idx → EReal) (ix1 h) = Cert.Swa.slope h := by
  have e : V m c main_v10 = Host.exp (F := Ideal) (φ := .f32) (mulf (broadcastInDim S8 ![] bcast_S_S8 (constant S_ .f32 0x3F317218#32))
      (Host.divf (mulf (broadcastInDim S8 ![] bcast_S_S8 (constant S_ .f32 0xC1000000#32))
        (addf (sitofp .f32 (iotaInDim S8 32 0)) (broadcastInDim S8 ![] bcast_S_S8 (constant S_ .f32 0x3F800000#32))))
        (broadcastInDim S8 ![] bcast_S_S8 (constant S_ .f32 0x41000000#32)))) := by
    unfold_abbrev_sides
    after_results
  rw [e]
  unfold Cert.Swa.slope
  pointwise
  rfl

/-! ## Where the windows lie -/

theorem idx0 : ∀ t : Fin cfg0.N, win0_0.index t (0 : Fin 3) = t.val / 32 ∧ win0_0.index t (1 : Fin 3) = t.val % 16 ∧ win0_0.index t (2 : Fin 3) = t.val / 16 % 2 :=
  (by decide +kernel : ∀ t : Fin grid0.N, _)
theorem idx1 : ∀ t : Fin cfg0.N, win0_1.index t (0 : Fin 3) = t.val / 32 ∧ win0_1.index t (1 : Fin 3) = t.val % 16 - 1 ∧ win0_1.index t (2 : Fin 3) = t.val / 16 % 2 :=
  (by decide +kernel : ∀ t : Fin grid0.N, _)
theorem idx2 : ∀ t : Fin cfg0.N, win0_2.index t (0 : Fin 3) = t.val / 32 ∧ win0_2.index t (1 : Fin 3) = t.val % 16 ∧ win0_2.index t (2 : Fin 3) = t.val / 16 % 2 :=
  (by decide +kernel : ∀ t : Fin grid0.N, _)
theorem idx3 : ∀ t : Fin cfg0.N, win0_3.index t (0 : Fin 3) = t.val / 32 ∧ win0_3.index t (1 : Fin 3) = t.val % 16 - 1 ∧ win0_3.index t (2 : Fin 3) = 10 + t.val / 16 % 2 :=
  (by decide +kernel : ∀ t : Fin grid0.N, _)
theorem idx4 : ∀ t : Fin cfg0.N, win0_4.index t (0 : Fin 3) = t.val / 32 ∧ win0_4.index t (1 : Fin 3) = t.val % 16 ∧ win0_4.index t (2 : Fin 3) = 10 + t.val / 16 % 2 :=
  (by decide +kernel : ∀ t : Fin grid0.N, _)
theorem idx5 : ∀ t : Fin cfg0.N, win0_5.index t (0 : Fin 3) = t.val / 32 ∧ win0_5.index t (1 : Fin 3) = t.val % 16 ∧ win0_5.index t (2 : Fin 3) = 0 :=
  (by decide +kernel : ∀ t : Fin grid0.N, _)
theorem idx6 : ∀ t : Fin cfg0.N, win0_6.index t (0 : Fin 3) = t.val / 32 ∧ win0_6.index t (1 : Fin 3) = 0 ∧ win0_6.index t (2 : Fin 3) = t.val % 16 - 1 :=
  (by decide +kernel : ∀ t : Fin grid0.N, _)
theorem idx7 : ∀ t : Fin cfg0.N, win0_7.index t (0 : Fin 3) = t.val / 32 ∧ win0_7.index t (1 : Fin 3) = 0 ∧ win0_7.index t (2 : Fin 3) = t.val % 16 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 1) = 0 :=
  (by decide +kernel : ∀ t : Fin grid0.N, _)
theorem idx10 : ∀ t : Fin cfg0.N, win0_10.index t (0 : Fin 3) = t.val / 32 ∧ win0_10.index t (1 : Fin 3) = t.val % 16 ∧ win0_10.index t (2 : Fin 3) = t.val / 16 % 2 :=
  (by decide +kernel : ∀ t : Fin grid0.N, _)
theorem coords_eq : ∀ t : Fin cfg0.N, (grid0.coords t (0 : Fin 3)).val = t.val / 32 ∧ (grid0.coords t (1 : Fin 3)).val = t.val / 16 % 2 ∧ (grid0.coords t (2 : Fin 3)).val = t.val % 16 :=
  (by decide +kernel : ∀ t : Fin grid0.N, _)

theorem emb_lanes (g : Fin 4) (r l : Fin 128) : (lanes g).emb (ix3 0 r l) = (ix3 0 r (⟨g.val * 128 + l.val, by omega⟩ : Fin 512) : S1x128x512.Idx) := by
  funext a
  apply Fin.ext
  match a with
  | ⟨0, _⟩ => rfl
  | ⟨1, _⟩ => show 0 + 1 * r.val = r.val; omega
  | ⟨2, _⟩ => show 128 * g.val + 1 * l.val = g.val * 128 + l.val; omega

/-! ## The blocks -/

section Blocks

variable (t : Fin cfg0.N) (b : Fin 2) (kv : Fin 2) (n : Fin 16) (ht : t.val = b.val * 32 + kv.val * 16 + n.val)
include ht

theorem split : t.val / 32 = b.val ∧ t.val / 16 % 2 = kv.val ∧ t.val % 16 = n.val := by omega

theorem blk0 (g : Fin 4) (r l : Fin 128) : (iblk m c 0 t : S1x128x512.Idx → EReal) (ix3 0 r (⟨g.val * 128 + l.val, by omega⟩ : Fin 512)) = (inputs m c).q (ix3 b (row n r) (qcol kv g l)) := by
  unfold iblk
  rw [View.read_apply]
  refine (congrArg (V m c main_arg0) (?_ : _ = (ix3 b (row n r) (qcol kv g l) : S2x2048x1024.Idx))).trans ?_
  · obtain ⟨s0, s1, s2⟩ := split t b kv n ht
    have e := idx0 t
    funext a
    apply Fin.ext
    match a with
    | ⟨0, _⟩ => show win0_0.index t 0 * 1 + 1 * 0 = b.val; rw [e.1]; omega
    | ⟨1, _⟩ => show win0_0.index t 1 * 128 + 1 * r.val = n.val * 128 + r.val; rw [e.2.1]; omega
    | ⟨2, _⟩ => show win0_0.index t 2 * 512 + 1 * (g.val * 128 + l.val) = kv.val * 512 + g.val * 128 + l.val; rw [e.2.2]; omega
  · rw [V_main_arg0]; rfl
theorem blk10 (g : Fin 4) (r l : Fin 128) : (iblk m c 10 t : S1x128x512.Idx → EReal) (ix3 0 r (⟨g.val * 128 + l.val, by omega⟩ : Fin 512)) = (inputs m c).d (ix3 b (row n r) (qcol kv g l)) := by
  unfold iblk
  rw [View.read_apply]
  refine (congrArg (V m c main_arg5) (?_ : _ = (ix3 b (row n r) (qcol kv g l) : S2x2048x1024.Idx))).trans ?_
  · obtain ⟨s0, s1, s2⟩ := split t b kv n ht
    have e := idx10 t
    funext a
    apply Fin.ext
    match a with
    | ⟨0, _⟩ => show win0_10.index t 0 * 1 + 1 * 0 = b.val; rw [e.1]; omega
    | ⟨1, _⟩ => show win0_10.index t 1 * 128 + 1 * r.val = n.val * 128 + r.val; rw [e.2.1]; omega
    | ⟨2, _⟩ => show win0_10.index t 2 * 512 + 1 * (g.val * 128 + l.val) = kv.val * 512 + g.val * 128 + l.val; rw [e.2.2]; omega
  · rw [V_main_arg5]; rfl
theorem blk1 (r l : Fin 128) : (iblk m c 1 t : S1x128x128.Idx → EReal) (ix3 0 r l) = (inputs m c).k (ix3 b ⟨(n.val - 1) * 128 + r.val, by omega⟩ (kcol kv l)) := by
  unfold iblk
  rw [View.read_apply]
  refine (congrArg (V m c main_arg1) (?_ : _ = (ix3 b ⟨(n.val - 1) * 128 + r.val, by omega⟩ (kcol kv l) : S2x2048x256.Idx))).trans ?_
  · obtain ⟨s0, s1, s2⟩ := split t b kv n ht
    have e := idx1 t
    funext a
    apply Fin.ext
    match a with
    | ⟨0, _⟩ => show win0_1.index t 0 * 1 + 1 * 0 = b.val; rw [e.1]; omega
    | ⟨1, _⟩ => show win0_1.index t 1 * 128 + 1 * r.val = (n.val - 1) * 128 + r.val; rw [e.2.1]; omega
    | ⟨2, _⟩ => show win0_1.index t 2 * 128 + 1 * l.val = kv.val * 128 + l.val; rw [e.2.2]; omega
  · rw [V_main_arg1]; rfl
theorem blk2 (r l : Fin 128) : (iblk m c 2 t : S1x128x128.Idx → EReal) (ix3 0 r l) = (inputs m c).k (ix3 b (row n r) (kcol kv l)) := by
  unfold iblk
  rw [View.read_apply]
  refine (congrArg (V m c main_arg1) (?_ : _ = (ix3 b (row n r) (kcol kv l) : S2x2048x256.Idx))).trans ?_
  · obtain ⟨s0, s1, s2⟩ := split t b kv n ht
    have e := idx2 t
    funext a
    apply Fin.ext
    match a with
    | ⟨0, _⟩ => show win0_2.index t 0 * 1 + 1 * 0 = b.val; rw [e.1]; omega
    | ⟨1, _⟩ => show win0_2.index t 1 * 128 + 1 * r.val = n.val * 128 + r.val; rw [e.2.1]; omega
    | ⟨2, _⟩ => show win0_2.index t 2 * 128 + 1 * l.val = kv.val * 128 + l.val; rw [e.2.2]; omega
  · rw [V_main_arg1]; rfl
theorem blk3 (r l : Fin 128) : (iblk m c 3 t : S1x128x128.Idx → EReal) (ix3 0 r l) = (inputs m c).p (ix3 b ⟨(n.val - 1) * 128 + r.val, by omega⟩ (vcol kv l)) := by
  unfold iblk
  rw [View.read_apply]
  refine (congrArg (V m c main_arg2) (?_ : _ = (ix3 b ⟨(n.val - 1) * 128 + r.val, by omega⟩ (vcol kv l) : S2x2048x4096.Idx))).trans ?_
  · obtain ⟨s0, s1, s2⟩ := split t b kv n ht
    have e := idx3 t
    funext a
    apply Fin.ext
    match a with
    | ⟨0, _⟩ => show win0_3.index t 0 * 1 + 1 * 0 = b.val; rw [e.1]; omega
    | ⟨1, _⟩ => show win0_3.index t 1 * 128 + 1 * r.val = (n.val - 1) * 128 + r.val; rw [e.2.1]; omega
    | ⟨2, _⟩ => show win0_3.index t 2 * 128 + 1 * l.val = 1280 + (kv.val * 128 + l.val); rw [e.2.2]; omega
  · rw [V_main_arg2]; rfl
theorem blk4 (r l : Fin 128) : (iblk m c 4 t : S1x128x128.Idx → EReal) (ix3 0 r l) = (inputs m c).p (ix3 b (row n r) (vcol kv l)) := by
  unfold iblk
  rw [View.read_apply]
  refine (congrArg (V m c main_arg2) (?_ : _ = (ix3 b (row n r) (vcol kv l) : S2x2048x4096.Idx))).trans ?_
  · obtain ⟨s0, s1, s2⟩ := split t b kv n ht
    have e := idx4 t
    funext a
    apply Fin.ext
    match a with
    | ⟨0, _⟩ => show win0_4.index t 0 * 1 + 1 * 0 = b.val; rw [e.1]; omega
    | ⟨1, _⟩ => show win0_4.index t 1 * 128 + 1 * r.val = n.val * 128 + r.val; rw [e.2.1]; omega
    | ⟨2, _⟩ => show win0_4.index t 2 * 128 + 1 * l.val = 1280 + (kv.val * 128 + l.val); rw [e.2.2]; omega
  · rw [V_main_arg2]; rfl
theorem blk5 (r : Fin 128) : (iblk m c 5 t : S1x128x1.Idx → EReal) (ix3 0 r 0) = Scalar.sitofp (F := Ideal) .f32 ((inputs m c).pos (ix2 b (row n r))) := by
  unfold iblk
  rw [View.read_apply]
  refine (congrArg (V m c main_v11) (?_ : _ = (ix3 b (row n r) 0 : S2x2048x1.Idx))).trans ?_
  · obtain ⟨s0, s1, s2⟩ := split t b kv n ht
    have e := idx5 t
    funext a
    apply Fin.ext
    match a with
    | ⟨0, _⟩ => show win0_5.index t 0 * 1 + 1 * 0 = b.val; rw [e.1]; omega
    | ⟨1, _⟩ => show win0_5.index t 1 * 128 + 1 * r.val = n.val * 128 + r.val; rw [e.2.1]; omega
    | ⟨2, _⟩ => show win0_5.index t 2 * 1 + 1 * 0 = 0; rw [e.2.2]
  · rw [V_rows]; pointwise; rfl
theorem blk6 (r : Fin 128) : (iblk m c 6 t : S1x1x128.Idx → EReal) (ix3 0 0 r) = Scalar.sitofp (F := Ideal) .f32 ((inputs m c).pos (ix2 b ⟨(n.val - 1) * 128 + r.val, by omega⟩)) := by
  unfold iblk
  rw [View.read_apply]
  refine (congrArg (V m c main_v12) (?_ : _ = (ix3 b 0 ⟨(n.val - 1) * 128 + r.val, by omega⟩ : S2x1x2048.Idx))).trans ?_
  · obtain ⟨s0, s1, s2⟩ := split t b kv n ht
    have e := idx6 t
    funext a
    apply Fin.ext
    match a with
    | ⟨0, _⟩ => show win0_6.index t 0 * 1 + 1 * 0 = b.val; rw [e.1]; omega
    | ⟨1, _⟩ => show win0_6.index t 1 * 1 + 1 * 0 = 0; rw [e.2.1]
    | ⟨2, _⟩ => show win0_6.index t 2 * 128 + 1 * r.val = (n.val - 1) * 128 + r.val; rw [e.2.2]; omega
  · rw [V_cols]; pointwise; rfl
theorem blk7 (r : Fin 128) : (iblk m c 7 t : S1x1x128.Idx → EReal) (ix3 0 0 r) = Scalar.sitofp (F := Ideal) .f32 ((inputs m c).pos (ix2 b (row n r))) := by
  unfold iblk
  rw [View.read_apply]
  refine (congrArg (V m c main_v12) (?_ : _ = (ix3 b 0 (row n r) : S2x1x2048.Idx))).trans ?_
  · obtain ⟨s0, s1, s2⟩ := split t b kv n ht
    have e := idx7 t
    funext a
    apply Fin.ext
    match a with
    | ⟨0, _⟩ => show win0_7.index t 0 * 1 + 1 * 0 = b.val; rw [e.1]; omega
    | ⟨1, _⟩ => show win0_7.index t 1 * 1 + 1 * 0 = 0; rw [e.2.1]
    | ⟨2, _⟩ => show win0_7.index t 2 * 128 + 1 * r.val = n.val * 128 + r.val; rw [e.2.2]; omega
  · rw [V_cols]; pointwise; rfl
theorem blk8 (h : Fin 8) : (iblk m c 8 t : S8.Idx → EReal) (ix1 h) = Cert.Swa.slope h := by
  unfold iblk
  rw [View.read_apply]
  refine (congrArg (V m c main_v10) (?_ : _ = (ix1 h : S8.Idx))).trans ?_
  · obtain ⟨s0, s1, s2⟩ := split t b kv n ht
    have e := idx8 t
    funext a
    apply Fin.ext
    match a with
    | ⟨0, _⟩ => show win0_8.index t 0 * 8 + 1 * h.val = h.val; rw [e]; omega
  · exact V_slopes m c h
theorem blk9 (h : Fin 8) : (iblk m c 9 t : S8.Idx → EReal) (ix1 h) = (inputs m c).s (ix1 h) := by
  unfold iblk
  rw [View.read_apply]
  refine (congrArg (V m c main_arg4) (?_ : _ = (ix1 h : S8.Idx))).trans ?_
  · obtain ⟨s0, s1, s2⟩ := split t b kv n ht
    have e := idx9 t
    funext a
    apply Fin.ext
    match a with
    | ⟨0, _⟩ => show win0_9.index t 0 * 8 + 1 * h.val = h.val; rw [e]; omega
  · rw [V_main_arg4]; rfl

/-! ## What a point computes with -/

theorem at1_cell (x : Vec Ideal S8 .f32) (g : Fin 4) : at1 (View.ld x (cellAt (grid0.coords t) g)) = x (ix1 (head kv g)) := by
  refine congrArg x (funext fun a => ?_)
  obtain ⟨s0, s1, s2⟩ := split t b kv n ht
  have e := (coords_eq t).2.1
  match a with
  | ⟨0, _⟩ =>
    refine Fin.ext ?_
    show k0_off1 (grid0.coords t) (BitVec.ofNat 32 g.val) 0 + 1 * 0 = kv.val * 4 + g.val
    rw [k0_off1_eq]
    show 4 * (grid0.coords t (1 : Fin 3)).val + g.val + 1 * 0 = kv.val * 4 + g.val
    rw [e]; omega

theorem qB_apply (g : Fin 4) (r l : Fin 128) : qB m c t g (ix3 0 r l) = (inputs m c).q (ix3 b (row n r) (qcol kv g l)) :=
  (congrArg (iblk m c 0 t : S1x128x512.Idx → EReal) (emb_lanes g r l)).trans (blk0 m c t b kv n ht g r l)
theorem dB_apply (g : Fin 4) (r l : Fin 128) : dB m c t g (ix3 0 r l) = (inputs m c).d (ix3 b (row n r) (qcol kv g l)) :=
  (congrArg (iblk m c 10 t : S1x128x512.Idx → EReal) (emb_lanes g r l)).trans (blk10 m c t b kv n ht g r l)
theorem slB_apply (g : Fin 4) : slB m c t g = Cert.Swa.slope (head kv g) := (at1_cell t b kv n ht _ g).trans (blk8 m c t b kv n ht _)
theorem skB_apply (g : Fin 4) : skB m c t g = sink (inputs m c) kv g := (at1_cell t b kv n ht _ g).trans (blk9 m c t b kv n ht _)

theorem kkB_apply (j : Fin 256) (l : Fin 128) : kkB m c t (ix2 j l) = (inputs m c).k (ix3 b (krow n j) (kcol kv l)) := by
  have lo := blk1 m c t b kv n ht
  have hi := blk2 m c t b kv n ht
  unfold kkB
  generalize iblk m c 1 t = x1 at lo ⊢
  generalize iblk m c 2 t = x2 at hi ⊢
  by_cases h : j.val < 128
  · rw [krow_low n j h]
    refine Eq.trans ?_ (lo ⟨j.val, h⟩ l)
    pointwise [k0_pay5]
    exact dif_pos h
  · rw [krow_high n j h]
    refine Eq.trans ?_ (hi ⟨j.val - 128, by omega⟩ l)
    pointwise [k0_pay5]
    exact dif_neg h
theorem vvB_apply (j : Fin 256) (l : Fin 128) : vvB m c t (ix2 j l) = (inputs m c).p (ix3 b (krow n j) (vcol kv l)) := by
  have lo := blk3 m c t b kv n ht
  have hi := blk4 m c t b kv n ht
  unfold vvB
  generalize iblk m c 3 t = x1 at lo ⊢
  generalize iblk m c 4 t = x2 at hi ⊢
  by_cases h : j.val < 128
  · rw [krow_low n j h]
    refine Eq.trans ?_ (lo ⟨j.val, h⟩ l)
    pointwise [k0_pay6]
    exact dif_pos h
  · rw [krow_high n j h]
    refine Eq.trans ?_ (hi ⟨j.val - 128, by omega⟩ l)
    pointwise [k0_pay6]
    exact dif_neg h
theorem distB_apply (r : Fin 128) (j : Fin 256) : distB m c t (ix2 r j) = Cert.Swa.dist (inputs m c) b n r j := by
  have at' := blk5 m c t b kv n ht r
  have lo := blk6 m c t b kv n ht
  have hi := blk7 m c t b kv n ht
  unfold distB Cert.Swa.dist
  rw [← at']
  generalize iblk m c 5 t = x0
  generalize iblk m c 6 t = x1 at lo ⊢
  generalize iblk m c 7 t = x2 at hi ⊢
  by_cases h : j.val < 128
  · rw [krow_low n j h, ← lo ⟨j.val, h⟩]
    pointwise [k0_pay7]
    exact congrArg (fun u : EReal => _ - u) (dif_pos h)
  · have hi' : x2 (ix3 0 0 ⟨j.val - 128, by omega⟩) = Scalar.sitofp (F := Ideal) .f32 ((inputs m c).pos (ix2 b ⟨n.val * 128 + (j.val - 128), by omega⟩)) := hi _
    rw [krow_high n j h, ← hi']
    pointwise [k0_pay7]
    exact congrArg (fun u : EReal => _ - u) (dif_neg h)

end Blocks

end Cert.KernelIdeal.Swa
end
-- ==== Proof.Swa.Sums.lean ====
/- What one point of the kernel adds, as sums of one device's arguments. -/
module

public import proofs.«01_k».proof.Proof.Swa.Blocks

@[expose] public section

set_option maxRecDepth 16384

noncomputable section

namespace Cert.KernelIdeal.Swa

open Cert.KernelIdeal Cert.KernelIdeal.Gen Cert.SoftmaxRow Cert.Swa
open Idealize.ShloMosaic Idealize.ShloMosaic.TcCoe Idealize.ShloMosaic.Tactic Idealize.SL.Sem

/-- Which head a row of the sinks' gradients belongs to. -/
theorem headId_eq (i : grid0.Coords) (kv kv' : Fin 2) (g g' : Fin 4) (h : (i 1).val = kv.val) :
    IntOp.cmpi .eq (BitVec.ofNat 32 (head kv' g').val) (headId i g) = if kv' = kv ∧ g' = g then 1#1 else 0#1 := by
  unfold headId
  rw [h]
  clear h
  revert kv kv' g g'
  decide

/-- Negation goes into a sum of reals. -/
theorem neg_sum_real {k : ℕ} (f : Fin k → EReal) (h : ∀ i, Cert.Finite.IsReal (f i)) : 0 - ∑ i, f i = ∑ i, -f i := by
  choose u hu using h
  rw [show f = fun i => ((u i : ℝ) : EReal) from funext hu, ← coe_sum, ← EReal.coe_zero, ← EReal.coe_sub, zero_sub, ← Finset.sum_neg_distrib, coe_sum]
  rfl

section Point

variable (m : (ℓ : Loc nD τ sig) → Buf (Elt Ideal) ℓ) (c : Dev nD)
variable (t : Fin cfg0.N) (b : Fin 2) (kv : Fin 2) (n : Fin 16) (ht : t.val = b.val * 32 + kv.val * 16 + n.val)
include ht

theorem scores_eq (g : Fin 4) (r : Fin 128) :
    scores (grid0.coords t) (kkB m c t) (distB m c t) (qB m c t g) (slB m c t g) r = X (inputs m c) b n kv g r := by
  funext j
  rw [scores_apply, slB_apply m c t b kv n ht, distB_apply m c t b kv n ht]
  have e : (grid0.coords t (2 : Fin 3)).val = n.val := (coords_eq t).2.2.trans (split t b kv n ht).2.2
  unfold X
  refine congr (congrArg₂ _ (congrArg (fun u => visible u r.val j.val) e) (congrArg (fun u : EReal => u * _ - _) ?_)) rfl
  exact Finset.sum_congr rfl fun x _ => by rw [qB_apply m c t b kv n ht, kkB_apply m c t b kv n ht]

theorem cot_eq (g : Fin 4) (r : Fin 128) : cot (vvB m c t) (dB m c t g) r = ct (inputs m c) b n kv g r := by
  funext j
  exact Finset.sum_congr rfl fun x _ => by rw [dB_apply m c t b kv n ht, vvB_apply m c t b kv n ht]

theorem dq_eq (g : Fin 4) (r l : Fin 128) :
    dq (grid0.coords t) (kkB m c t) (vvB m c t) (distB m c t) (qB m c t g) (dB m c t g) (slB m c t g) (skB m c t g) (ix3 0 r l)
      = dQ (inputs m c) b n r kv g l := by
  rw [dq_apply, scores_eq m c t b kv n ht, cot_eq m c t b kv n ht, skB_apply m c t b kv n ht]
  exact Finset.sum_congr rfl fun x _ => by rw [kkB_apply m c t b kv n ht]; rfl

theorem dkAdd_eq (acc : FVec Ideal S256x128 .f32) (g : Fin 4) (j : Fin 256) (l : Fin 128) :
    dkAdd (grid0.coords t) (kkB m c t) (vvB m c t) (distB m c t) acc (qB m c t g) (dB m c t g) (slB m c t g) (skB m c t g) (ix2 j l)
      = acc (ix2 j l) + ∑ r, G (inputs m c) b n kv g r j * (inputs m c).q (ix3 b (row n r) (qcol kv g l)) := by
  rw [dkAdd_apply, skB_apply m c t b kv n ht]
  refine congrArg (acc (ix2 j l) + ·) (Finset.sum_congr rfl fun x _ => ?_)
  rw [scores_eq m c t b kv n ht, cot_eq m c t b kv n ht, qB_apply m c t b kv n ht]; rfl

theorem dvAdd_eq (acc : FVec Ideal S256x128 .f32) (g : Fin 4) (j : Fin 256) (l : Fin 128) :
    dvAdd (grid0.coords t) (kkB m c t) (distB m c t) acc (qB m c t g) (dB m c t g) (slB m c t g) (skB m c t g) (ix2 j l)
      = acc (ix2 j l) + ∑ r, Pr (inputs m c) b n kv g r j * (inputs m c).d (ix3 b (row n r) (qcol kv g l)) := by
  rw [dvAdd_apply, skB_apply m c t b kv n ht]
  refine congrArg (acc (ix2 j l) + ·) (Finset.sum_congr rfl fun x _ => ?_)
  rw [scores_eq m c t b kv n ht, dB_apply m c t b kv n ht]; rfl

theorem dsAdd_eq (acc : FVec Ideal S8x128 .f32) (g : Fin 4) (kv' : Fin 2) (g' : Fin 4) (l : Fin 128) :
    dsAdd (grid0.coords t) (kkB m c t) (vvB m c t) (distB m c t) acc g (qB m c t g) (dB m c t g) (slB m c t g) (skB m c t g) (ix2 (head kv' g') l)
      = acc (ix2 (head kv' g') l) + if kv' = kv ∧ g' = g then 0 - ∑ r, SG (inputs m c) b n kv g r else 0 := by
  have e : (grid0.coords t (1 : Fin 3)).val = kv.val := (coords_eq t).2.1.trans (split t b kv n ht).2.1
  rw [dsAdd_apply, skB_apply m c t b kv n ht, headId_eq _ kv kv' g g' e]
  refine congrArg (acc _ + ·) ?_
  by_cases h : kv' = kv ∧ g' = g
  · rw [if_pos h, if_pos h]
    refine congrArg (fun u : EReal => 0 - u) (Finset.sum_congr rfl fun x _ => ?_)
    rw [scores_eq m c t b kv n ht, cot_eq m c t b kv n ht]; rfl
  · rw [if_neg h, if_neg h]; rfl

theorem zero13 (j : Fin 256) (l : Fin 128) : k0_pay13 (F := Ideal) (ix2 j l) = (0 : EReal) := by pointwise [k0_pay13]
theorem zero14 (j : Fin 256) (l : Fin 128) : k0_pay14 (F := Ideal) (ix2 j l) = (0 : EReal) := by pointwise [k0_pay14]
theorem zero15 (j : Fin 8) (l : Fin 128) : k0_pay15 (F := Ideal) (ix2 j l) = (0 : EReal) := by pointwise [k0_pay15]

theorem dkB_eq (j : Fin 256) (l : Fin 128) : dkB m c t (ix2 j l) = dKw (inputs m c) b n kv j l := by
  unfold dkB dk dKw
  rw [Fin.sum_univ_four, dkAdd_eq m c t b kv n ht, dkAdd_eq m c t b kv n ht, dkAdd_eq m c t b kv n ht, dkAdd_eq m c t b kv n ht, zero13 t b kv n ht, zero_add]
theorem dvB_eq (j : Fin 256) (l : Fin 128) : dvB m c t (ix2 j l) = dVw (inputs m c) b n kv j l := by
  unfold dvB dv dVw
  rw [Fin.sum_univ_four, dvAdd_eq m c t b kv n ht, dvAdd_eq m c t b kv n ht, dvAdd_eq m c t b kv n ht, dvAdd_eq m c t b kv n ht, zero14 t b kv n ht, zero_add]

theorem dsB_eq (ha : (inputs m c).Tame) (kv' : Fin 2) (g' : Fin 4) (l : Fin 128) :
    dsB m c t (ix2 (head kv' g') l) = if kv' = kv then ∑ r, -SG (inputs m c) b n kv' g' r else 0 := by
  unfold dsB ds
  rw [dsAdd_eq m c t b kv n ht, dsAdd_eq m c t b kv n ht, dsAdd_eq m c t b kv n ht, dsAdd_eq m c t b kv n ht, zero15 t b kv n ht]
  by_cases h : kv' = kv
  · subst h
    rw [if_pos rfl, ← neg_sum_real _ (SG_real ha b n kv' g')]
    fin_cases g' <;> simp
  · simp [h]

end Point

end Cert.KernelIdeal.Swa
end
-- ==== Proof.Swa.Acc.lean ====
/- What the kernel's four output buffers hold after its points. -/
module

public import proofs.«01_k».proof.Proof.Swa.Sums

@[expose] public section

set_option maxRecDepth 16384

noncomputable section

namespace Cert.KernelIdeal.Swa

open Cert.KernelIdeal Cert.KernelIdeal.Gen Cert.SoftmaxRow Cert.Swa
open Idealize.ShloMosaic Idealize.ShloMosaic.TcCoe Idealize.ShloMosaic.Tactic Idealize.SL.Sem

/-! ## Windows that overlap by half -/

/-- What the keys of block `k` have got after the windows of blocks `0 … n`. -/
def upto (w : Fin 16 → Fin 256 → EReal) (n : ℕ) (k : Fin 16) (r : Fin 128) : EReal :=
  (if k.val ≤ n then w k (upper r) else 0) + if h : k.val + 1 < 16 then if k.val + 1 ≤ n then w ⟨k.val + 1, h⟩ (lower r) else 0 else 0

/-- A buffer whose first 128 rows get the upper half of the first window, and to which each further window is added over 256 rows, ends
with every block's two halves. -/
theorem rows_eq (w : Fin 16 → Fin 256 → EReal) (out : ℕ → Fin 2048 → EReal)
    (h0 : ∀ i : Fin 2048, out 0 i = if h : i.val < 128 then w 0 ⟨128 + i.val, by omega⟩ else 0)
    (hs : ∀ (n : ℕ) (hn : n + 1 < 16) (i : Fin 2048), out (n + 1) i
      = if h : n * 128 ≤ i.val ∧ i.val < n * 128 + 256 then out n i + w ⟨n + 1, hn⟩ ⟨i.val - n * 128, by omega⟩ else out n i)
    (k : Fin 16) (r : Fin 128) : out 15 (row k r) = both w k r := by
  have key : ∀ n : ℕ, n < 16 → ∀ (k : Fin 16) (r : Fin 128), out n (row k r) = upto w n k r := by
    intro n
    induction n with
    | zero =>
      intro _ k r
      rw [h0]
      unfold upto
      have hc2 : (if h : k.val + 1 < 16 then if k.val + 1 ≤ 0 then w ⟨k.val + 1, h⟩ (lower r) else 0 else 0) = (0 : EReal) := by
        split
        · exact if_neg (by omega)
        · rfl
      rw [hc2, add_zero]
      by_cases hk : k.val ≤ 0
      · obtain rfl : k = 0 := Fin.ext (by simpa using hk)
        rw [if_pos hk]
        refine (dif_pos (show (row 0 r).val < 128 by show 0 * 128 + r.val < 128; omega)).trans (congrArg (w 0) (Fin.ext ?_))
        show 128 + (0 * 128 + r.val) = 128 + r.val
        omega
      · rw [if_neg hk]
        exact dif_neg (by show ¬ k.val * 128 + r.val < 128; omega)
    | succ n ih =>
      intro hn k r
      rw [hs n hn, ih (by omega)]
      have hv : (row k r).val = k.val * 128 + r.val := rfl
      by_cases h1 : k.val = n
      · rw [dif_pos (by omega)]
        unfold upto
        rw [if_pos (by omega), if_pos (by omega), dif_pos (by omega), if_neg (by omega), dif_pos (by omega), if_pos (by omega), add_zero]
        exact congrArg (_ + ·) (congr (congrArg w (Fin.ext (by show n + 1 = k.val + 1; omega))) (Fin.ext (by show (row k r).val - n * 128 = r.val; omega)))
      · by_cases h2 : k.val = n + 1
        · rw [dif_pos (by omega)]
          unfold upto
          have z : ∀ n' : ℕ, n' ≤ n + 1 → (if h : k.val + 1 < 16 then if k.val + 1 ≤ n' then w ⟨k.val + 1, h⟩ (lower r) else 0 else 0) = (0 : EReal) := by
            intro n' hn'
            split
            · exact if_neg (by omega)
            · rfl
          rw [z n (by omega), z (n + 1) le_rfl, if_neg (by omega), if_pos (by omega), add_zero, add_zero, zero_add]
          exact congr (congrArg w (Fin.ext (by show n + 1 = k.val; omega))) (Fin.ext (by show (row k r).val - n * 128 = 128 + r.val; omega))
        · rw [dif_neg (by omega)]
          unfold upto
          refine congrArg₂ _ ?_ ?_
          · by_cases h : k.val ≤ n
            · rw [if_pos h, if_pos (by omega)]
            · rw [if_neg h, if_neg (by omega)]
          · by_cases h : k.val + 1 < 16
            · rw [dif_pos h, dif_pos h]
              by_cases h' : k.val + 1 ≤ n
              · rw [if_pos h', if_pos (by omega)]
              · rw [if_neg h', if_neg (by omega)]
            · rw [dif_neg h, dif_neg h]
  rw [key 15 (by omega)]
  unfold upto both
  rw [if_pos (by omega)]
  refine congrArg (_ + ·) ?_
  by_cases h : k.val + 1 < 16
  · rw [dif_pos h, dif_pos h, if_pos (by omega)]
  · rw [dif_neg h, dif_neg h]

/-! ## Writes of a whole row's buffer -/

/-- A rectangle's set holds what it reaches. -/
theorem emb_mem {s : Shape} (r : Rect s) (x : r.shape.Idx) : r.emb x ∈ r.set := by
  rw [← Rect.map_emb_univ]
  exact Finset.mem_map_of_mem _ (Finset.mem_univ x)

/-- A write read back inside its rectangle, and outside it. -/
theorem over_hit {s : Shape} {e : EltTy} {sp : Space} (v : View sig .tc sp s e) (f : v.ty.Contents (Elt Ideal)) (r : Rect s)
    (w : r.shape.Idx → Elt Ideal e) (L : List (View.Piece (Elt Ideal) s e)) (x : r.shape.Idx) (y : s.Idx) (h : r.emb x = y) :
    v.read (Elt Ideal) (v.writes (Elt Ideal) f (⟨r, w⟩ :: L)) y = w x := by
  subst h
  rw [View.read_writes_apply_eq_canon v f (r.emb x) (⟨r, w⟩ :: L) ⟨⟨r, w⟩, List.mem_cons_self, emb_mem r x⟩, View.canon_cons]
  exact Rect.overlay_emb _ _ _ _
theorem over_miss {s : Shape} {e : EltTy} {sp : Space} (v : View sig .tc sp s e) (f : v.ty.Contents (Elt Ideal)) (r : Rect s)
    (w : r.shape.Idx → Elt Ideal e) (L : List (View.Piece (Elt Ideal) s e)) (y : s.Idx) (h : y ∉ r.set) :
    v.read (Elt Ideal) (v.writes (Elt Ideal) f (⟨r, w⟩ :: L)) y = v.read (Elt Ideal) (v.writes (Elt Ideal) f L) y := by
  rw [View.writes_cons, View.read_slice_write_of_not_mem r _ _ _ (by rw [Rect.map_emb_univ]; exact h)]
theorem cov_one {s : Shape} {e : EltTy} {sp : Space} (v : View sig .tc sp s e) (r : Rect s) (h : ∀ y, y ∈ r.set)
    (w : r.shape.Idx → Elt Ideal e) (r' : Rect s) (x : r'.shape.Idx) :
    v.readCov (Val := Elt Ideal) [⟨r, w⟩] r'.toLoadRect x = View.canon (Val := Elt Ideal) [(⟨r, w⟩ : View.Piece (Elt Ideal) s e)] (r'.emb x) := by
  rw [View.readCov_eq_canon_ld v [(⟨r, w⟩ : View.Piece (Elt Ideal) s e)] r' (fun y => ⟨⟨r, w⟩, List.mem_singleton_self _, h y⟩)]
  rfl

theorem emb_first (i : Fin 128) (l : Fin 128) : firstSeq.emb (ix3 0 i l) = (ix3 0 ⟨i.val, by omega⟩ l : S1x2048x128.Idx) := by
  funext a
  apply Fin.ext
  match a with
  | ⟨0, _⟩ => rfl
  | ⟨1, _⟩ => show 0 + 1 * i.val = i.val; omega
  | ⟨2, _⟩ => show 0 + 1 * l.val = l.val; omega

theorem emb_all (y : S1x2048x128.Idx) : allSeq.emb y = y := by
  funext a
  apply Fin.ext
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

theorem mem_all (y : S1x2048x128.Idx) : y ∈ allSeq.set := by
  refine Rect.mem_set_unit.2 fun a => ?_
  match a with
  | ⟨0, _⟩ => exact ⟨Nat.zero_le _, (y 0).isLt⟩
  | ⟨1, _⟩ => exact ⟨Nat.zero_le _, (y 1).isLt⟩
  | ⟨2, _⟩ => exact ⟨Nat.zero_le _, (y 2).isLt⟩

/-- A first write of everything, then of the first 128 rows. -/
theorem left12_apply (w : FVec Ideal S1x128x128 .f32) (z : FVec Ideal S1x2048x128 .f32) (i : Fin 2048) (l : Fin 128) :
    left12 (F := Ideal) [⟨firstSeq, w⟩, ⟨allSeq, z⟩] (ix3 0 i l) = if h : i.val < 128 then w (ix3 0 ⟨i.val, h⟩ l) else z (ix3 0 i l) := by
  by_cases h : i.val < 128
  · rw [dif_pos h]
    exact over_hit VO12 VO12.junk firstSeq w [⟨allSeq, z⟩] (ix3 0 ⟨i.val, h⟩ l) (ix3 0 i l) (emb_first ⟨i.val, h⟩ l)
  · rw [dif_neg h]
    refine (over_miss VO12 VO12.junk firstSeq w [⟨allSeq, z⟩] (ix3 0 i l) fun hm => ?_).trans (over_hit VO12 VO12.junk allSeq z [] (ix3 0 i l) (ix3 0 i l) (emb_all _))
    have := (Rect.mem_set_unit.1 hm (1 : Fin 3)).2
    exact h (by simpa using this)

theorem readCov_first (v : View sig .tc .vmem S1x2048x128 .f32) (z : FVec Ideal S1x2048x128 .f32) (i l : Fin 128) :
    v.readCov (Val := Elt Ideal) [⟨allSeq, z⟩] firstSeq.toLoadRect (ix3 0 i l) = z (ix3 0 ⟨i.val, by omega⟩ l) := by
  refine (cov_one v allSeq mem_all z firstSeq (ix3 0 i l)).trans ?_
  rw [View.canon_unit_zero hz3]
  exact congrArg z (emb_first i l)

section Window

variable {off : Fin 3 → ℕ} {o : ℕ} (ho : off = ![0, o, 0]) (inb : ∀ a, off a + S1x256x128.size a ≤ S1x2048x128.size a)
include ho

theorem emb_win (j : Fin 256) (l : Fin 128) (h : o + j.val < 2048) :
    (Rect.unit (s := S1x2048x128) off S1x256x128.size inb).emb (ix3 0 j l) = (ix3 0 ⟨o + j.val, h⟩ l : S1x2048x128.Idx) := by
  subst ho
  funext a
  apply Fin.ext
  match a with
  | ⟨0, _⟩ => rfl
  | ⟨1, _⟩ => show o + 1 * j.val = o + j.val; omega
  | ⟨2, _⟩ => show 0 + 1 * l.val = l.val; omega

/-- A write of 256 rows over given contents. -/
theorem onto12_apply (x : Vec Ideal S1x2048x128 .f32) (w : FVec Ideal S1x256x128 .f32) (i : Fin 2048) (l : Fin 128) :
    onto12 (F := Ideal) x [⟨Rect.unit (s := S1x2048x128) off S1x256x128.size inb, w⟩] (ix3 0 i l)
      = if h : o ≤ i.val ∧ i.val < o + 256 then w (ix3 0 ⟨i.val - o, by omega⟩ l) else x (ix3 0 i l) := by
  by_cases h : o ≤ i.val ∧ i.val < o + 256
  · rw [dif_pos h]
    have e := emb_win ho inb ⟨i.val - o, by omega⟩ l (by show o + (i.val - o) < 2048; omega)
    have e2 : (⟨o + (i.val - o), by omega⟩ : Fin 2048) = i := Fin.ext (by show o + (i.val - o) = i.val; omega)
    exact over_hit VO12 ((Memref.isWhole_whole cc0_stg12_0).unread x) (Rect.unit (s := S1x2048x128) off S1x256x128.size inb) w [] (ix3 0 ⟨i.val - o, by omega⟩ l) (ix3 0 i l) (e.trans (congrArg (fun u => (ix3 0 u l : S1x2048x128.Idx)) e2))
  · rw [dif_neg h]
    refine (over_miss VO12 ((Memref.isWhole_whole cc0_stg12_0).unread x) (Rect.unit (s := S1x2048x128) off S1x256x128.size inb) w [] (ix3 0 i l) fun hm => ?_).trans
      (congrFun ((Memref.isWhole_whole cc0_stg12_0).read_unread x) _)
    subst ho
    have := Rect.mem_set_unit.1 hm (1 : Fin 3)
    exact h (by simpa using this)

theorem rd_win {M : Memref sig .tc .vmem S1x2048x128 .f32} (hM : M.IsWhole) (x : Vec Ideal S1x2048x128 .f32) (j : Fin 256) (l : Fin 128) (h : o + j.val < 2048) :
    rd M hM x (Rect.unit (s := S1x2048x128) off S1x256x128.size inb) (ix3 0 j l) = x (ix3 0 ⟨o + j.val, h⟩ l) := by
  unfold rd
  rw [View.readAt_eq_ld, hM.read_unread]
  exact congrArg x (emb_win ho inb j l h)

end Window

end Cert.KernelIdeal.Swa
end
-- ==== Proof.Swa.After.lean ====
/- The four output buffers after each point, as sums of one device's arguments. -/
module

public import proofs.«01_k».proof.Proof.Swa.Acc

@[expose] public section

set_option maxRecDepth 16384

noncomputable section

namespace Cert.KernelIdeal.Swa

open Cert.KernelIdeal Cert.KernelIdeal.Gen Cert.SoftmaxRow Cert.Swa
open Idealize.ShloMosaic Idealize.ShloMosaic.TcCoe Idealize.ShloMosaic.Tactic Idealize.SL.Sem

theorem off2_eq (i : grid0.Coords) (h : 0 < (i 2).val) : k0_off2 i = ![0, ((i 2).val - 1) * 128, 0] := by
  have key : ∀ a : Fin 16, 0 < a.val →
      (Scalar.indexCast (Scalar.muli (Scalar.subi (BitVec.ofNat 32 a.val) 1#32) 128#32) : Index).toNat = (a.val - 1) * 128 := by decide
  have e := key (i 2) h
  unfold k0_off2
  dsimp only
  rw [e]

/-! ## What is stored -/

section Stored

variable (x : FVec Ideal S256x128 .f32)

theorem pay1_apply (y : Vec Ideal S1x256x128 .f32) (j : Fin 256) (l : Fin 128) : k0_pay1 x y (ix3 0 j l) = y (ix3 0 j l) + x (ix2 j l) := by
  pointwise [k0_pay1]
theorem pay2_apply (y : Vec Ideal S1x256x128 .f32) (j : Fin 256) (l : Fin 128) : k0_pay2 x y (ix3 0 j l) = y (ix3 0 j l) + x (ix2 j l) := by
  pointwise [k0_pay2]
theorem pay3_apply (y : Vec Ideal S1x128x128 .f32) (i l : Fin 128) : k0_pay3 x y (ix3 0 i l) = y (ix3 0 i l) + x (ix2 (upper i) l) := by
  unfold upper
  pointwise [k0_pay3]
theorem pay4_apply (y : Vec Ideal S1x128x128 .f32) (i l : Fin 128) : k0_pay4 x y (ix3 0 i l) = y (ix3 0 i l) + x (ix2 (upper i) l) := by
  unfold upper
  pointwise [k0_pay4]
theorem zero11 (i : Fin 2048) (l : Fin 128) : k0_pay11 (F := Ideal) (ix3 0 i l) = (0 : EReal) := by pointwise [k0_pay11]
theorem zero12 (i : Fin 2048) (l : Fin 128) : k0_pay12 (F := Ideal) (ix3 0 i l) = (0 : EReal) := by pointwise [k0_pay12]
theorem zero10 (h : Fin 8) (l : Fin 128) : k0_pay10 (F := Ideal) (ix2 h l) = (0 : EReal) := by pointwise [k0_pay10]
theorem dsOnto_apply (old : Vec Ideal S8x128 .f32) (y : FVec Ideal S8x128 .f32) (h : Fin 8) (l : Fin 128) :
    dsOnto old y (ix2 h l) = old (ix2 h l) + y (ix2 h l) := by
  pointwise [dsOnto]

end Stored

variable (m : (ℓ : Loc nD τ sig) → Buf (Elt Ideal) ℓ) (c : Dev nD)

/-! ## The queries' gradients -/

theorem out_dq (t : Fin cfg0.N) : (outsAt m c t.val t.isLt).1 = left11 (dqB m c t) := by
  by_cases h : t.val = 0
  · exact ((show (outsAt m c t.val t.isLt).1 = left11 (rA m c t h).1 by rw [outsAt_A m c t h]).trans (congrArg (left11) (rA_dq m c t h)))
  · by_cases h' : t.val % 16 = 0
    · exact ((show (outsAt m c t.val t.isLt).1 = left11 (rB m c t h h' (prev m c t).2.2.2).1 by rw [outsAt_B m c t h h']).trans (congrArg (left11) (rB_dq m c t h h' _)))
    · exact ((show (outsAt m c t.val t.isLt).1 = left11 (rC m c t h' (prev m c t).2.1 (prev m c t).2.2.1 (prev m c t).2.2.2).1 by rw [outsAt_C m c t h']).trans (congrArg (left11) (rC_dq m c t h' (prev m c t).2.1 (prev m c t).2.2.1 (prev m c t).2.2.2)))

theorem lanes_mem (g : Fin 4) (r l : Fin 128) : (ix3 0 r (⟨g.val * 128 + l.val, by omega⟩ : Fin 512) : S1x128x512.Idx) ∈ (lanes g).set := by
  rw [← emb_lanes g r l]
  exact emb_mem (lanes g) (ix3 0 r l)

theorem lanes_not_mem (g g' : Fin 4) (h : g ≠ g') (r l : Fin 128) : (ix3 0 r (⟨g.val * 128 + l.val, by omega⟩ : Fin 512) : S1x128x512.Idx) ∉ (lanes g').set := by
  intro hm
  have e := Rect.mem_set_unit.1 hm (2 : Fin 3)
  have e1 : 128 * g'.val ≤ g.val * 128 + l.val := e.1
  have e2 : g.val * 128 + l.val < 128 * g'.val + 128 := e.2
  exact h (Fin.ext (by omega))

/-- The head's own write is what its lanes keep. -/
theorem left11_lanes (w : Fin 4 → FVec Ideal S1x128x128 .f32) (g : Fin 4) (r l : Fin 128) :
    left11 (F := Ideal) [⟨lanes 3, w 3⟩, ⟨lanes 2, w 2⟩, ⟨lanes 1, w 1⟩, ⟨lanes 0, w 0⟩] (ix3 0 r (⟨g.val * 128 + l.val, by omega⟩ : Fin 512)) = w g (ix3 0 r l) := by
  have hit : ∀ (g : Fin 4) (L : List (View.Piece (Elt Ideal) S1x128x512 .f32)),
      left11 (F := Ideal) (⟨lanes g, w g⟩ :: L) (ix3 0 r (⟨g.val * 128 + l.val, by omega⟩ : Fin 512)) = w g (ix3 0 r l) :=
    fun g L => over_hit VO11 VO11.junk (lanes g) (w g) L (ix3 0 r l) _ (emb_lanes g r l)
  have miss : ∀ (g g' : Fin 4) (_ : g ≠ g') (L : List (View.Piece (Elt Ideal) S1x128x512 .f32)),
      left11 (F := Ideal) (⟨lanes g', w g'⟩ :: L) (ix3 0 r (⟨g.val * 128 + l.val, by omega⟩ : Fin 512))
        = left11 (F := Ideal) L (ix3 0 r (⟨g.val * 128 + l.val, by omega⟩ : Fin 512)) :=
    fun g g' h L => over_miss VO11 VO11.junk (lanes g') (w g') L _ (lanes_not_mem g g' h r l)
  obtain rfl | rfl | rfl | rfl : g = 0 ∨ g = 1 ∨ g = 2 ∨ g = 3 := by revert g; decide
  · exact (miss 0 3 (by decide) _).trans ((miss 0 2 (by decide) _).trans ((miss 0 1 (by decide) _).trans (hit 0 _)))
  · exact (miss 1 3 (by decide) _).trans ((miss 1 2 (by decide) _).trans (hit 1 _))
  · exact (miss 2 3 (by decide) _).trans (hit 2 _)
  · exact hit 3 _

theorem dq_after (t : Fin cfg0.N) (b : Fin 2) (kv : Fin 2) (n : Fin 16) (ht : t.val = b.val * 32 + kv.val * 16 + n.val) (g : Fin 4) (r l : Fin 128) :
    (outsAt m c t.val t.isLt).1 (ix3 0 r (⟨g.val * 128 + l.val, by omega⟩ : Fin 512)) = dQ (inputs m c) b n r kv g l := by
  rw [out_dq]
  exact (left11_lanes (fun g => dq (grid0.coords t) (kkB m c t) (vvB m c t) (distB m c t) (qB m c t g) (dB m c t g) (slB m c t g) (skB m c t g)) g r l).trans
    (dq_eq m c t b kv n ht g r l)

/-! ## The keys' and the values' gradients -/

theorem dk_first (t : Fin cfg0.N) (h : t.val % 16 = 0) : (outsAt m c t.val t.isLt).2.1
    = left12 [⟨firstSeq, k0_pay3 (dkB m c t) ((ms12 t).view.readCov [⟨allSeq, k0_pay11 (F := Ideal)⟩] firstSeq.toLoadRect)⟩, ⟨allSeq, k0_pay11 (F := Ideal)⟩] := by
  by_cases h0 : t.val = 0
  · exact ((show (outsAt m c t.val t.isLt).2.1 = left12 (rA m c t h0).2.1 by rw [outsAt_A m c t h0]).trans (congrArg (left12) (rA_dk m c t h0)))
  · exact ((show (outsAt m c t.val t.isLt).2.1 = left12 (rB m c t h0 h (prev m c t).2.2.2).2.1 by rw [outsAt_B m c t h0 h]).trans (congrArg (left12) (rB_dk m c t h0 h _)))
theorem dv_first (t : Fin cfg0.N) (h : t.val % 16 = 0) : (outsAt m c t.val t.isLt).2.2.1
    = left12 [⟨firstSeq, k0_pay4 (dvB m c t) ((ms13 t).view.readCov [⟨allSeq, k0_pay12 (F := Ideal)⟩] firstSeq.toLoadRect)⟩, ⟨allSeq, k0_pay12 (F := Ideal)⟩] := by
  by_cases h0 : t.val = 0
  · exact ((show (outsAt m c t.val t.isLt).2.2.1 = left12 (rA m c t h0).2.2.1 by rw [outsAt_A m c t h0]).trans (congrArg (left12) (rA_dv m c t h0)))
  · exact ((show (outsAt m c t.val t.isLt).2.2.1 = left12 (rB m c t h0 h (prev m c t).2.2.2).2.2.1 by rw [outsAt_B m c t h0 h]).trans (congrArg (left12) (rB_dv m c t h0 h _)))

/-- The keys' gradient buffer after a row's first point. -/
theorem dk_zero (t : Fin cfg0.N) (b : Fin 2) (kv : Fin 2) (ht : t.val = b.val * 32 + kv.val * 16 + (0 : Fin 16).val) (i : Fin 2048) (l : Fin 128) :
    (outsAt m c t.val t.isLt).2.1 (ix3 0 i l) = if h : i.val < 128 then dKw (inputs m c) b 0 kv ⟨128 + i.val, by omega⟩ l else 0 := by
  rw [dk_first m c t (by rw [ht]; show (b.val * 32 + kv.val * 16 + 0) % 16 = 0; omega)]
  refine (left12_apply _ _ i l).trans ?_
  by_cases h : i.val < 128
  · rw [dif_pos h, dif_pos h, pay3_apply, readCov_first, zero11, zero_add, dkB_eq m c t b kv 0 ht]; rfl
  · rw [dif_neg h, dif_neg h, zero11]
theorem dv_zero (t : Fin cfg0.N) (b : Fin 2) (kv : Fin 2) (ht : t.val = b.val * 32 + kv.val * 16 + (0 : Fin 16).val) (i : Fin 2048) (l : Fin 128) :
    (outsAt m c t.val t.isLt).2.2.1 (ix3 0 i l) = if h : i.val < 128 then dVw (inputs m c) b 0 kv ⟨128 + i.val, by omega⟩ l else 0 := by
  rw [dv_first m c t (by rw [ht]; show (b.val * 32 + kv.val * 16 + 0) % 16 = 0; omega)]
  refine (left12_apply _ _ i l).trans ?_
  by_cases h : i.val < 128
  · rw [dif_pos h, dif_pos h, pay4_apply, readCov_first, zero12, zero_add, dvB_eq m c t b kv 0 ht]; rfl
  · rw [dif_neg h, dif_neg h, zero12]

section Later

variable (t : Fin cfg0.N) (b : Fin 2) (kv : Fin 2) (n : ℕ) (hn : n + 1 < 16) (ht : t.val = b.val * 32 + kv.val * 16 + (n + 1)) (i : Fin 2048) (l : Fin 128)
include hn ht

theorem off2_point : k0_off2 (grid0.coords t) = ![0, n * 128, 0] := by
  have e := (coords_eq t).2.2
  have e2 : t.val % 16 = n + 1 := by omega
  rw [off2_eq _ (by show 0 < (grid0.coords t (2 : Fin 3)).val; omega), show (grid0.coords t 2).val = n + 1 from e.trans e2]
  rfl

/-- A later point adds its window over 256 rows. -/
theorem dk_succ : (outsAt m c t.val t.isLt).2.1 (ix3 0 i l)
    = if h : n * 128 ≤ i.val ∧ i.val < n * 128 + 256 then (prev m c t).2.1 (ix3 0 i l) + dKw (inputs m c) b ⟨n + 1, hn⟩ kv ⟨i.val - n * 128, by omega⟩ l
      else (prev m c t).2.1 (ix3 0 i l) := by
  have ho := off2_point t b kv n hn ht
  have h16 : ¬ t.val % 16 = 0 := by omega
  refine (congrFun (((show (outsAt m c t.val t.isLt).2.1 = onto12 (prev m c t).2.1 (rC m c t h16 (prev m c t).2.1 (prev m c t).2.2.1 (prev m c t).2.2.2).2.1 by rw [outsAt_C m c t h16]).trans (congrArg (onto12 (prev m c t).2.1) (rC_dk m c t h16 (prev m c t).2.1 (prev m c t).2.2.1 (prev m c t).2.2.2)))) (ix3 0 i l)).trans ?_
  refine (onto12_apply ho _ _ _ i l).trans ?_
  by_cases h : n * 128 ≤ i.val ∧ i.val < n * 128 + 256
  · rw [dif_pos h, dif_pos h, pay1_apply, rd_win ho _ _ _ _ _ (by show n * 128 + (i.val - n * 128) < 2048; omega), dkB_eq m c t b kv ⟨n + 1, hn⟩ ht]
    exact congrArg (fun u => (prev m c t).2.1 (ix3 0 u l) + _) (Fin.ext (by show n * 128 + (i.val - n * 128) = i.val; omega))
  · rw [dif_neg h, dif_neg h]
theorem dv_succ : (outsAt m c t.val t.isLt).2.2.1 (ix3 0 i l)
    = if h : n * 128 ≤ i.val ∧ i.val < n * 128 + 256 then (prev m c t).2.2.1 (ix3 0 i l) + dVw (inputs m c) b ⟨n + 1, hn⟩ kv ⟨i.val - n * 128, by omega⟩ l
      else (prev m c t).2.2.1 (ix3 0 i l) := by
  have ho := off2_point t b kv n hn ht
  have h16 : ¬ t.val % 16 = 0 := by omega
  refine (congrFun (((show (outsAt m c t.val t.isLt).2.2.1 = onto12 (prev m c t).2.2.1 (rC m c t h16 (prev m c t).2.1 (prev m c t).2.2.1 (prev m c t).2.2.2).2.2.1 by rw [outsAt_C m c t h16]).trans (congrArg (onto12 (prev m c t).2.2.1) (rC_dv m c t h16 (prev m c t).2.1 (prev m c t).2.2.1 (prev m c t).2.2.2)))) (ix3 0 i l)).trans ?_
  refine (onto12_apply ho _ _ _ i l).trans ?_
  by_cases h : n * 128 ≤ i.val ∧ i.val < n * 128 + 256
  · rw [dif_pos h, dif_pos h, pay2_apply, rd_win ho _ _ _ _ _ (by show n * 128 + (i.val - n * 128) < 2048; omega), dvB_eq m c t b kv ⟨n + 1, hn⟩ ht]
    exact congrArg (fun u => (prev m c t).2.2.1 (ix3 0 u l) + _) (Fin.ext (by show n * 128 + (i.val - n * 128) = i.val; omega))
  · rw [dif_neg h, dif_neg h]

end Later

section Row

variable (t : Fin cfg0.N) (b : Fin 2) (kv : Fin 2) (ht : t.val = b.val * 32 + kv.val * 16 + 15) (k : Fin 16) (r l : Fin 128)
include ht

/-- After a row's last point the buffers hold the gradients. -/
theorem dk_after : (outsAt m c t.val t.isLt).2.1 (ix3 0 (row k r) l) = dK (inputs m c) b k r kv l := by
  have hN : cfg0.N = 64 := N_0
  have e := rows_eq (fun n j => dKw (inputs m c) b n kv j l)
    (fun n i => if h : n < 16 then (outsAt m c (b.val * 32 + kv.val * 16 + n) (by omega)).2.1 (ix3 0 i l) else 0) ?_ ?_ k r
  · refine Eq.trans ?_ ((dif_pos (show (15 : ℕ) < 16 by omega)).symm.trans e)
    obtain ⟨n, hlt⟩ := t
    have ht' : n = b.val * 32 + kv.val * 16 + 15 := ht
    subst ht'
    rfl
  · intro i
    exact (dif_pos (show (0 : ℕ) < 16 by omega)).trans (dk_zero m c ⟨b.val * 32 + kv.val * 16 + 0, by omega⟩ b kv rfl i l)
  · intro n hn i
    rw [dif_pos hn, dif_pos (show n < 16 by omega)]
    exact dk_succ m c ⟨b.val * 32 + kv.val * 16 + (n + 1), by omega⟩ b kv n hn rfl i l
theorem dv_after : (outsAt m c t.val t.isLt).2.2.1 (ix3 0 (row k r) l) = dV (inputs m c) b k r kv l := by
  have hN : cfg0.N = 64 := N_0
  have e := rows_eq (fun n j => dVw (inputs m c) b n kv j l)
    (fun n i => if h : n < 16 then (outsAt m c (b.val * 32 + kv.val * 16 + n) (by omega)).2.2.1 (ix3 0 i l) else 0) ?_ ?_ k r
  · refine Eq.trans ?_ ((dif_pos (show (15 : ℕ) < 16 by omega)).symm.trans e)
    obtain ⟨n, hlt⟩ := t
    have ht' : n = b.val * 32 + kv.val * 16 + 15 := ht
    subst ht'
    rfl
  · intro i
    exact (dif_pos (show (0 : ℕ) < 16 by omega)).trans (dv_zero m c ⟨b.val * 32 + kv.val * 16 + 0, by omega⟩ b kv rfl i l)
  · intro n hn i
    rw [dif_pos hn, dif_pos (show n < 16 by omega)]
    exact dv_succ m c ⟨b.val * 32 + kv.val * 16 + (n + 1), by omega⟩ b kv n hn rfl i l

end Row

/-! ## The sinks' gradients -/

theorem left14_whole (w : FVec Ideal S8x128 .f32) (L : List (View.Piece (Elt Ideal) S8x128 .f32)) (h : Fin 8) (l : Fin 128) :
    left14 (F := Ideal) (⟨all8, w⟩ :: L) (ix2 h l) = w (ix2 h l) := by
  refine over_hit VO14 VO14.junk all8 w L (ix2 h l) (ix2 h l) (funext fun a => Fin.ext ?_)
  match a with
  | ⟨0, _⟩ => show 0 + 1 * h.val = h.val; omega
  | ⟨1, _⟩ => show 0 + 1 * l.val = l.val; omega

theorem rd14 {M : Memref sig .tc .vmem S8x128 .f32} (hM : M.IsWhole) (x : Vec Ideal S8x128 .f32) : rd M hM x all8 = x := by
  unfold rd
  rw [View.readAt_eq_ld, hM.read_unread]
  exact View.ld_unit_zero (S := S8x128) hz2 _ _

/-- The first point stores what it computes, each later one adds to what is there. -/
theorem ds_zero (t : Fin cfg0.N) (h0 : t.val = 0) (h : Fin 8) (l : Fin 128) : (outsAt m c t.val t.isLt).2.2.2 (ix2 h l) = dsB m c t (ix2 h l) := by
  refine (congrFun (((show (outsAt m c t.val t.isLt).2.2.2 = left14 (rA m c t h0).2.2.2 by rw [outsAt_A m c t h0]).trans (congrArg (left14) (rA_ds m c t h0)))) (ix2 h l)).trans ?_
  refine (left14_whole _ _ h l).trans ?_
  rw [dsOnto_apply, View.readCov_unit_zero (S := S8x128) _ hz2, zero10, zero_add]
theorem ds_succ (t : Fin cfg0.N) (h0 : t.val ≠ 0) (h : Fin 8) (l : Fin 128) :
    (outsAt m c t.val t.isLt).2.2.2 (ix2 h l) = (prev m c t).2.2.2 (ix2 h l) + dsB m c t (ix2 h l) := by
  by_cases h' : t.val % 16 = 0
  · refine (congrFun (((show (outsAt m c t.val t.isLt).2.2.2 = left14 (rB m c t h0 h' (prev m c t).2.2.2).2.2.2 by rw [outsAt_B m c t h0 h']).trans (congrArg (left14) (rB_ds m c t h0 h' _)))) (ix2 h l)).trans ?_
    refine (left14_whole _ _ h l).trans ?_
    rw [dsOnto_apply, rd14]
  · refine (congrFun (((show (outsAt m c t.val t.isLt).2.2.2 = left14 (rC m c t h' (prev m c t).2.1 (prev m c t).2.2.1 (prev m c t).2.2.2).2.2.2 by rw [outsAt_C m c t h']).trans (congrArg (left14) (rC_ds m c t h' (prev m c t).2.1 (prev m c t).2.2.1 (prev m c t).2.2.2)))) (ix2 h l)).trans ?_
    refine (left14_whole _ _ h l).trans ?_
    rw [dsOnto_apply, rd14]

theorem ds_upto (h : Fin 8) (l : Fin 128) (n : ℕ) (hn : n < cfg0.N) : (outsAt m c n hn).2.2.2 (ix2 h l)
    = ∑ s ∈ Finset.range (n + 1), if hs : s < cfg0.N then (dsB m c ⟨s, hs⟩ (ix2 h l) : EReal) else 0 := by
  induction n with
  | zero =>
    rw [Finset.sum_range_one, dif_pos hn]
    exact ds_zero m c ⟨0, hn⟩ rfl h l
  | succ n ih =>
    rw [Finset.sum_range_succ, dif_pos hn, ← ih (by omega)]
    exact ds_succ m c ⟨n + 1, hn⟩ (Nat.succ_ne_zero n) h l

/-- After the last point the buffer holds the sinks' gradients. -/
theorem ds_after (ha : (inputs m c).Tame) (t : Fin cfg0.N) (ht : t.val = 63) (kv : Fin 2) (g : Fin 4) (l : Fin 128) :
    (outsAt m c t.val t.isLt).2.2.2 (ix2 (head kv g) l) = dS (inputs m c) kv g := by
  have hN : cfg0.N = 64 := N_0
  rw [ds_upto, ht, Finset.sum_range]
  have one : ∀ (b kv' : Fin 2) (n : Fin 16), (if hs : b.val * 32 + kv'.val * 16 + n.val < cfg0.N then (dsB m c ⟨_, hs⟩ (ix2 (head kv g) l) : EReal) else 0)
      = if kv = kv' then ∑ r, -SG (inputs m c) b n kv g r else 0 := by
    intro b kv' n
    rw [dif_pos (by omega)]
    exact dsB_eq m c ⟨_, by omega⟩ b kv' n rfl ha kv g l
  have e : ∀ f : ℕ → EReal, ∑ s : Fin (63 + 1), f s.val = ∑ b : Fin 2, ∑ kv' : Fin 2, ∑ n : Fin 16, f (b.val * 32 + kv'.val * 16 + n.val) := by
    intro f
    rw [← (finProdFinEquiv (m := 4) (n := 16)).sum_comp (fun s : Fin 64 => f s.val), Fintype.sum_prod_type, Fin.sum_univ_four]
    simp only [Fin.sum_univ_two, finProdFinEquiv_apply_val]
    rw [← add_assoc]
    refine congrArg₂ _ (congrArg₂ _ (congrArg₂ _ ?_ ?_) ?_) ?_ <;>
      exact Finset.sum_congr rfl fun n _ => congrArg f (by simp; try omega)
  rw [e (fun s => if hs : s < cfg0.N then (dsB m c ⟨s, hs⟩ (ix2 (head kv g) l) : EReal) else 0)]
  unfold dS
  refine Finset.sum_congr rfl fun b _ => ?_
  rw [Finset.sum_comm]
  refine Finset.sum_congr rfl fun n _ => ?_
  simp only [one]
  rw [Finset.sum_ite_eq]
  simp

end Cert.KernelIdeal.Swa
end
-- ==== Proof.Swa.Reduce.lean ====
module

public import Idealize.ShloMosaic.Lib.Pointwise
public import Idealize.ShloMosaic.Lib.IdealHost

/-! Reductions of an array of six axes read at an index: the maximum and the sum along the last axis, and the
sum over every axis but the third and the fourth. -/

@[expose] public section
noncomputable section
namespace Cert.Reduce
open Idealize.ShloMosaic

section General

variable {s t : Shape} {axes : List (Fin s.rank)} (h : s.ReducesTo axes t) {κ : Type} [Fintype κ] (g : κ → s.Idx)
  (hg : Function.Injective g) (j : t.Idx) (hp : ∀ i, h.drop i = j ↔ ∃ k, g k = i)
include hg hp

/-- A sum over the indices behind `j`, along a family that lists them. -/
theorem sum_general (v : s.Idx → EReal) (init : EReal) :
    Ideal.hostReduceAdd h v init j = init + ∑ k, v (g k) :=
  congrArg (init + ·) (Finset.sum_filter_eq_sum_of_fiber _ g hg hp v)

/-- A maximum likewise. -/
theorem max_general {u : Shape} (hu : 0 < u.numel) (v : Vec Ideal s .f32) (init : Vec Ideal u .f32) :
    Host.reduce (FloatOps.maximumf (F := Ideal) (φ := .f32)) v init h hu j
      = Finset.univ.fold max (init (Shape.Idx.first hu)) fun k => v (g k) :=
  (Host.reduce_eq_fold _ _ _ _ _ _).trans (Finset.fold_filter_eq_fold_of_fiber _ _ g hg hp _ v)

end General

variable {n0 n1 n2 n3 n4 n5 : ℕ}

/-- The indices that lose their last coordinate to become `j`. -/
theorem last_fiber (h : (⟨6, ![n0, n1, n2, n3, n4, n5]⟩ : Shape).ReducesTo [5] ⟨5, ![n0, n1, n2, n3, n4]⟩)
    (j : (⟨5, ![n0, n1, n2, n3, n4]⟩ : Shape).Idx) (i : (⟨6, ![n0, n1, n2, n3, n4, n5]⟩ : Shape).Idx) :
    h.drop i = j ↔ ∃ k : Fin n5, ix6 (j 0) (j 1) (j 2) (j 3) (j 4) k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum along the last axis. -/
theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal)
    (j : (⟨5, ![n0, n1, n2, n3, n4]⟩ : Shape).Idx) :
    Ideal.hostReduceAdd h v init j = init + ∑ k : Fin n5, v (ix6 (j 0) (j 1) (j 2) (j 3) (j 4) k) :=
  sum_general h _ (fun _ _ e => congrFun e 5) j (last_fiber h j) v init

/-- A maximum along the last axis. -/
theorem max_last (h : (⟨6, ![n0, n1, n2, n3, n4, n5]⟩ : Shape).ReducesTo [5] ⟨5, ![n0, n1, n2, n3, n4]⟩)
    {u : Shape} (hu : 0 < u.numel) (v : Vec Ideal ⟨6, ![n0, n1, n2, n3, n4, n5]⟩ .f32) (init : Vec Ideal u .f32)
    (j : (⟨5, ![n0, n1, n2, n3, n4]⟩ : Shape).Idx) :
    Host.reduce (FloatOps.maximumf (F := Ideal) (φ := .f32)) v init h hu j
      = Finset.univ.fold max (init (Shape.Idx.first hu)) fun k : Fin n5 => v (ix6 (j 0) (j 1) (j 2) (j 3) (j 4) k) :=
  max_general h _ (fun _ _ e => congrFun e 5) j (last_fiber h j) hu v init

/-- The indices whose third and fourth coordinates are those of `j`. -/
theorem middle_fiber (h : (⟨6, ![n0, n1, n2, n3, n4, n5]⟩ : Shape).ReducesTo [0, 1, 4, 5] ⟨2, ![n2, n3]⟩)
    (j : (⟨2, ![n2, n3]⟩ : Shape).Idx) (i : (⟨6, ![n0, n1, n2, n3, n4, n5]⟩ : Shape).Idx) :
    h.drop i = j ↔ ∃ k : Fin n0 × Fin n1 × Fin n4 × Fin n5, ix6 k.1 k.2.1 (j 0) (j 1) k.2.2.1 k.2.2.2 = i := by
  constructor
  · intro e
    refine ⟨(i 0, i 1, i 4, i 5), ?_⟩
    funext a
    apply Fin.ext
    match a with
    | ⟨0, _⟩ => rfl
    | ⟨1, _⟩ => rfl
    | ⟨2, _⟩ => exact (congrArg Fin.val (congrFun e 0)).symm
    | ⟨3, _⟩ => exact (congrArg Fin.val (congrFun e 1)).symm
    | ⟨4, _⟩ => rfl
    | ⟨5, _⟩ => rfl
  · rintro ⟨k, rfl⟩
    funext b
    apply Fin.ext
    match b with
    | ⟨0, _⟩ => rfl
    | ⟨1, _⟩ => rfl

/-- A sum over every axis but the third and the fourth. -/
theorem sum_middle (h : (⟨6, ![n0, n1, n2, n3, n4, n5]⟩ : Shape).ReducesTo [0, 1, 4, 5] ⟨2, ![n2, n3]⟩)
    (v : (⟨6, ![n0, n1, n2, n3, n4, n5]⟩ : Shape).Idx → EReal) (init : EReal) (j : (⟨2, ![n2, n3]⟩ : Shape).Idx) :
    Ideal.hostReduceAdd h v init j
      = init + ∑ a : Fin n0, ∑ b : Fin n1, ∑ c : Fin n4, ∑ d : Fin n5, v (ix6 a b (j 0) (j 1) c d) := by
  refine (sum_general h (fun k : Fin n0 × Fin n1 × Fin n4 × Fin n5 => ix6 k.1 k.2.1 (j 0) (j 1) k.2.2.1 k.2.2.2)
    (fun _ _ e => Prod.ext (congrFun e 0) (Prod.ext (congrFun e 1) (Prod.ext (congrFun e 4) (congrFun e 5)))) j
    (middle_fiber h j) v init).trans (congrArg (init + ·) ?_)
  simp only [Fintype.sum_prod_type]

end Cert.Reduce
end
-- ==== Proof.Swa.RefArr.lean ====
module

public import proofs.«01_k».proof.Proof.Gen.ReferenceIdeal.Run
public import proofs.«01_k».proof.Proof.Swa.Reduce
public import proofs.«01_k».proof.Proof.Swa.Spec

@[expose] public section
set_option maxRecDepth 16384
noncomputable section
namespace Cert.ReferenceIdeal.Value
open Cert.ReferenceIdeal Cert.ReferenceIdeal.Gen Cert.Reduce Cert.SoftmaxRow Cert.Swa
open Idealize.ShloMosaic Idealize.ShloMosaic.TcCoe Idealize.ShloMosaic.Tactic

variable (V0 : Valuation τ sig (Elt Ideal))

/-- The device's arguments. -/
def inputs : Inputs where
  q := V0 (Proc.devRef .tc main_arg0)
  k := V0 (Proc.devRef .tc main_arg1)
  p := V0 (Proc.devRef .tc main_arg2)
  pos := V0 (Proc.devRef .tc main_arg3)
  s := V0 (Proc.devRef .tc main_arg4)
  d := V0 (Proc.devRef .tc main_arg5)

/-! ## The arrays, as functions of plain indices -/

def r80 : (⟨6, ![2, 16, 2, 4, 128, 256]⟩ : Shape).Idx → BitVec 1 := res_main_v80_1 V0
def r84 : (⟨6, ![2, 16, 2, 4, 128, 257]⟩ : Shape).Idx → EReal := res_main_v84 V0
def r85 : (⟨5, ![2, 16, 2, 4, 128]⟩ : Shape).Idx → EReal := res_main_v85 V0
def r105 : (⟨6, ![2, 16, 2, 4, 128, 257]⟩ : Shape).Idx → EReal := res_main_v105 V0
def r107 : (⟨6, ![2, 16, 2, 4, 128, 1]⟩ : Shape).Idx → EReal := res_main_v107 V0
def r113 : (⟨6, ![2, 16, 2, 4, 128, 256]⟩ : Shape).Idx → EReal := res_main_v113 V0
def r122 : (⟨6, ![2, 16, 2, 4, 128, 257]⟩ : Shape).Idx → EReal := res_main_v122 V0
def r134 : (⟨6, ![2, 16, 2, 4, 128, 257]⟩ : Shape).Idx → EReal := res_main_v134 V0
def r144 : (⟨6, ![2, 16, 2, 256, 128, 4]⟩ : Shape).Idx → EReal := res_main_v144 V0
def r3 : (⟨6, ![2, 16, 128, 2, 4, 128]⟩ : Shape).Idx → EReal := res_main_v3 V0
def r118 : (⟨6, ![2, 16, 2, 128, 4, 128]⟩ : Shape).Idx → EReal := res_main_v118 V0
def r11 : (⟨5, ![2, 16, 256, 2, 128]⟩ : Shape).Idx → EReal := res_main_v11 V0
def r17 : (⟨5, ![2, 16, 256, 2, 128]⟩ : Shape).Idx → EReal := res_main_v17 V0

end Cert.ReferenceIdeal.Value
end
-- ==== Proof.Swa.RefWin.lean ====
module

public import proofs.«01_k».proof.Proof.Swa.RefArr

@[expose] public section
set_option maxRecDepth 16384
noncomputable section
namespace Cert.ReferenceIdeal.Value
open Cert.ReferenceIdeal Cert.ReferenceIdeal.Gen Cert.Reduce Cert.SoftmaxRow Cert.Swa
open Idealize.ShloMosaic Idealize.ShloMosaic.TcCoe Idealize.ShloMosaic.Tactic

variable (V0 : Valuation τ sig (Elt Ideal))

/-! ## The windows -/

theorem v3_apply (b n r kv g l) : r3 V0 (ix6 b n r kv g l) = (inputs V0).q (ix3 b (row n r) (qcol kv g l)) := by
  unfold r3 res_main_v3
  pointwise
  rfl

theorem v118_apply (b n r kv g l) : r118 V0 (ix6 b n kv l g r) = (inputs V0).d (ix3 b (row n r) (qcol kv g l)) := by
  unfold r118 res_main_v118
  pointwise
  rfl

theorem v11_apply (b n j kv l) : r11 V0 (ix5 b n j kv l)
    = if j.val < 128 ∧ n.val < 1 then 0 else (inputs V0).k (ix3 b (krow n j) (kcol kv l)) := by
  unfold r11 res_main_v11 res_main_v4
  pointwise
  by_cases h1 : j.val < 128
  · by_cases h2 : n.val < 1
    · exact (dif_pos h1).trans ((dif_pos h2).trans (if_pos ⟨h1, h2⟩).symm)
    · exact (dif_pos h1).trans ((dif_neg h2).trans ((congrArg (fun t => (inputs V0).k (ix3 b t (kcol kv l)))
        (krow_low n j h1).symm).trans (if_neg fun h => h2 h.2).symm))
  · exact (dif_neg h1).trans ((congrArg (fun t => (inputs V0).k (ix3 b t (kcol kv l)))
      (krow_high n j h1).symm).trans (if_neg fun h => h1 h.1).symm)

theorem v17_apply (b n j kv l) : r17 V0 (ix5 b n j kv l)
    = if j.val < 128 ∧ n.val < 1 then 0 else (inputs V0).p (ix3 b (krow n j) (vcol kv l)) := by
  unfold r17 res_main_v17 res_main_v5
  pointwise
  by_cases h1 : j.val < 128
  · by_cases h2 : n.val < 1
    · exact (dif_pos h1).trans ((dif_pos h2).trans (if_pos ⟨h1, h2⟩).symm)
    · exact (dif_pos h1).trans ((dif_neg h2).trans ((congrArg (fun t => (inputs V0).p (ix3 b t (vcol kv l)))
        (krow_low n j h1).symm).trans (if_neg fun h => h2 h.2).symm))
  · exact (dif_neg h1).trans ((congrArg (fun t => (inputs V0).p (ix3 b t (vcol kv l)))
      (krow_high n j h1).symm).trans (if_neg fun h => h1 h.1).symm)

theorem v80_apply (b n kv g r j) : r80 V0 (ix6 b n kv g r j) = visible n.val r.val j.val := by
  unfold r80 res_main_v80_1 res_main_v59 res_main_v56
  pointwise
  rfl
theorem v122_apply (b n kv g r) (i : Fin 257) : r122 V0 (ix6 b n kv g r i)
    = if h : i.val < 256 then ∑ x, r118 V0 (ix6 b n kv x g r) * r17 V0 (ix5 b n ⟨i.val, h⟩ kv x) else 0 := by
  unfold r122 r118 r17 res_main_v122
  generalize res_main_v118 V0 = x
  generalize res_main_v17 V0 = y
  pointwise

end Cert.ReferenceIdeal.Value
end
-- ==== Proof.Swa.RefScore.lean ====
module

public import proofs.«01_k».proof.Proof.Swa.RefWin

@[expose] public section
set_option maxRecDepth 16384
noncomputable section
namespace Cert.ReferenceIdeal.Value
open Cert.ReferenceIdeal Cert.ReferenceIdeal.Gen Cert.Reduce Cert.SoftmaxRow Cert.Swa
open Idealize.ShloMosaic Idealize.ShloMosaic.TcCoe Idealize.ShloMosaic.Tactic

variable (V0 : Valuation τ sig (Elt Ideal))

/-- The row of scores, and the sink after it. -/
theorem v84_raw (b n kv g r) (i : Fin 257) : r84 V0 (ix6 b n kv g r i) = if h : i.val < 256 then
      Scalar.select (r80 V0 (ix6 b n kv g r ⟨i.val, h⟩))
        ((∑ x, r11 V0 (ix5 b n ⟨i.val, h⟩ kv x) * r3 V0 (ix6 b n r kv g x)) * Ideal.ofBits .f32 1040187392#32
          - Ideal.exp (Ideal.ofBits .f32 1060205080#32 * Ideal.div (Ideal.ofBits .f32 3238002688#32
              * (Scalar.sitofp (F := Ideal) .f32 (BitVec.ofNat 32 (kv.val * 4 + g.val)) + 1)) (Ideal.ofBits .f32 1090519040#32))
            * Scalar.sitofp (F := Ideal) .f32 (IntOp.subi ((inputs V0).pos (ix2 b (row n r)))
                (if _ : i.val < 128 then
                  if _ : n.val < 1 then 0#32 else (inputs V0).pos (ix2 b ⟨(n.val - 1) * 128 + i.val, by omega⟩)
                else (inputs V0).pos (ix2 b ⟨n.val * 128 + (i.val - 128), by omega⟩))))
        (Ideal.ofBits .f32 4286578688#32)
    else (inputs V0).s (ix1 (head kv g)) := by
  unfold r84 r80 r11 r3 res_main_v84 res_main_v18
  generalize res_main_v3 V0 = x
  generalize res_main_v11 V0 = y
  generalize res_main_v80_1 V0 = z
  pointwise
  rfl

theorem v84_apply (ha : (inputs V0).Tame) (b n kv g r) (j : Fin 256) : r84 V0 (ix6 b n kv g r j.castSucc) = X (inputs V0) b n kv g r j := by
  refine (v84_raw V0 b n kv g r j.castSucc).trans ((dif_pos j.isLt).trans ?_)
  have hj : (⟨j.castSucc.val, j.isLt⟩ : Fin 256) = j := rfl
  rw [hj, v80_apply, neg_inf_word]
  unfold X
  by_cases hv : visible n.val r.val j.val = 1#1
  · have hw := seen_exists n r j hv
    rw [hv]
    refine congrArg₂ (fun s t => s * Ideal.ofBits .f32 1040187392#32 - t) (Finset.sum_congr rfl fun x _ => ?_)
      (congrArg₂ (· * ·) ?_ ?_)
    · rw [v11_apply, v3_apply, if_neg hw, mul_comm]
    · unfold Cert.Swa.slope head
      rw [one_word]
    · rw [Cert.Swa.dist, ← sub_positions _ _ (ha.pos _) (ha.pos _)]
      refine congrArg (fun t => Scalar.sitofp (F := Ideal) .f32 (IntOp.subi ((inputs V0).pos (ix2 b (row n r))) t)) ?_
      by_cases h1 : j.val < 128
      · rw [krow_low n j h1]
        exact (dif_pos h1).trans (dif_neg fun h2 => hw ⟨h1, h2⟩)
      · rw [krow_high n j h1]
        exact dif_neg h1
  · rw [(BitVec.eq_zero_or_eq_one _).resolve_right hv]
    rfl

theorem v84_last (b n kv g r) : r84 V0 (ix6 b n kv g r (Fin.last 256)) = sink (inputs V0) kv g :=
  (v84_raw V0 b n kv g r (Fin.last 256)).trans (dif_neg (lt_irrefl 256))

theorem v122_apply_key (b n kv g r) (j : Fin 256) (h : visible n.val r.val j.val = 1#1) :
    r122 V0 (ix6 b n kv g r j.castSucc) = ct (inputs V0) b n kv g r j := by
  refine (v122_apply V0 b n kv g r j.castSucc).trans ((dif_pos j.isLt).trans (Finset.sum_congr rfl fun x _ => ?_))
  have hj : (⟨j.castSucc.val, j.isLt⟩ : Fin 256) = j := rfl
  rw [hj, v118_apply, v17_apply, if_neg (seen_exists n r j h)]

theorem v122_last (b n kv g r) : r122 V0 (ix6 b n kv g r (Fin.last 256)) = 0 :=
  (v122_apply V0 b n kv g r (Fin.last 256)).trans (dif_neg (lt_irrefl 256))

end Cert.ReferenceIdeal.Value
end
-- ==== Proof.Swa.RefRows.lean ====
module

public import proofs.«01_k».proof.Proof.Swa.RefScore

@[expose] public section
set_option maxRecDepth 16384
noncomputable section
namespace Cert.ReferenceIdeal.Value
open Cert.ReferenceIdeal Cert.ReferenceIdeal.Gen Cert.Reduce Cert.SoftmaxRow Cert.Swa
open Idealize.ShloMosaic Idealize.ShloMosaic.TcCoe Idealize.ShloMosaic.Tactic

variable (V0 : Valuation τ sig (Elt Ideal))

/-! ## The softmax -/

theorem v85_apply (b n kv g r) : r85 V0 (ix5 b n kv g r)
    = Finset.univ.fold max (Ideal.ofBits .f32 4286578688#32) fun k : Fin 257 => (r84 V0 (ix6 b n kv g r k)) := by
  unfold r85 r84 res_main_v85
  generalize res_main_v84 V0 = x
  exact max_last _ _ x _ (ix5 b n kv g r)

theorem exp_sub_row (x : FVec Ideal S2x16x2x4x128x257 .f32) (m : FVec Ideal S2x16x2x4x128 .f32) (b n kv g r i) :
    Host.exp (subf x (broadcastInDim S2x16x2x4x128x257 ![0, 1, 2, 3, 4, 5] bcast_S2x16x2x4x128x1_S2x16x2x4x128x257_0_1_2_3_4_5
      (broadcastInDim S2x16x2x4x128x1 ![0, 1, 2, 3, 4] bcast_S2x16x2x4x128_S2x16x2x4x128x1_0_1_2_3_4 m))) (ix6 b n kv g r i)
      = Ideal.exp (x (ix6 b n kv g r i) - m (ix5 b n kv g r)) := by
  pointwise

theorem max_row (y : FVec Ideal S2x16x2x4x128 .f32) (j) :
    maximumf (broadcastInDim S2x16x2x4x128 ![] bcast_S_S2x16x2x4x128 (constant S_ .f32 0xFF800000#32)) y j
      = max (Ideal.ofBits .f32 4286578688#32) (y j) := by
  pointwise

theorem exp_row (x : FVec Ideal S2x16x2x4x128x257 .f32) (y : FVec Ideal S2x16x2x4x128 .f32) (b n kv g r i) :
    Host.exp (subf x (broadcastInDim S2x16x2x4x128x257 ![0, 1, 2, 3, 4, 5] bcast_S2x16x2x4x128x1_S2x16x2x4x128x257_0_1_2_3_4_5
      (broadcastInDim S2x16x2x4x128x1 ![0, 1, 2, 3, 4] bcast_S2x16x2x4x128_S2x16x2x4x128x1_0_1_2_3_4
        (maximumf (broadcastInDim S2x16x2x4x128 ![] bcast_S_S2x16x2x4x128 (constant S_ .f32 0xFF800000#32)) y)))) (ix6 b n kv g r i)
      = Ideal.exp (x (ix6 b n kv g r i) - max (Ideal.ofBits .f32 4286578688#32) (y (ix5 b n kv g r))) :=
  (exp_sub_row x _ b n kv g r i).trans (congrArg (fun t : EReal => Ideal.exp (x (ix6 b n kv g r i) - t)) (max_row y _))

theorem v105_raw (b n kv g r i) : r105 V0 (ix6 b n kv g r i)
    = Ideal.exp ((r84 V0 (ix6 b n kv g r i)) - max (Ideal.ofBits .f32 4286578688#32) (r85 V0 (ix5 b n kv g r))) :=
  exp_row (r84 V0) (r85 V0) b n kv g r i

/-- The row of scores and of the sink, and the row of incoming gradients. -/
def refE (b : Fin 2) (n : Fin 16) (kv : Fin 2) (g : Fin 4) (r : Fin 128) (i : Fin 257) : EReal :=
  (r84 V0 (ix6 b n kv g r i))
def refC (b : Fin 2) (n : Fin 16) (kv : Fin 2) (g : Fin 4) (r : Fin 128) (i : Fin 257) : EReal :=
  (r122 V0 (ix6 b n kv g r i))

theorem v105_apply (b n kv g r i) : r105 V0 (ix6 b n kv g r i) = refRaw (refE V0 b n kv g r) i :=
  (v105_raw V0 b n kv g r i).trans (congrArg (fun t : EReal => Ideal.exp (refE V0 b n kv g r i - max (Ideal.ofBits .f32 4286578688#32) t))
    (v85_apply V0 b n kv g r))

theorem v107_raw (b n kv g r) (u) : r107 V0 (ix6 b n kv g r u)
    = ∑ k, (r105 V0 (ix6 b n kv g r k)) := by
  unfold r107 r105 res_main_v107
  generalize res_main_v105 V0 = x
  pointwise [sum_last]

theorem v107_apply (b n kv g r) (u) : r107 V0 (ix6 b n kv g r u) = refTotal (refE V0 b n kv g r) :=
  (v107_raw V0 b n kv g r u).trans (Finset.sum_congr rfl fun k _ => v105_apply V0 b n kv g r k)

theorem v113_raw (b n kv g r) (j : Fin 256) : r113 V0 (ix6 b n kv g r j)
    = Ideal.div (r105 V0 (ix6 b n kv g r j.castSucc)) (r107 V0 (ix6 b n kv g r 0)) := by
  unfold r113 r105 r107 res_main_v113
  generalize res_main_v105 V0 = x
  generalize res_main_v107 V0 = y
  pointwise
  rfl

theorem v113_apply (b n kv g r) (j : Fin 256) : r113 V0 (ix6 b n kv g r j)
    = Ideal.div (refRaw (refE V0 b n kv g r) j.castSucc) (refTotal (refE V0 b n kv g r)) :=
  (v113_raw V0 b n kv g r j).trans (congrArg₂ Ideal.div (v105_apply V0 b n kv g r _) (v107_apply V0 b n kv g r 0))

theorem v134_raw (b n kv g r i) : r134 V0 (ix6 b n kv g r i)
    = (Ideal.div (r122 V0 (ix6 b n kv g r i)) (r107 V0 (ix6 b n kv g r 0)) +
        ∑ _x : Fin 1, -∑ k, (r122 V0 (ix6 b n kv g r k))
          * Ideal.div 1 (r107 V0 (ix6 b n kv g r 0) * (r107 V0 (ix6 b n kv g r 0)))
          * (r105 V0 (ix6 b n kv g r k))) * (r105 V0 (ix6 b n kv g r i)) := by
  unfold r134 r122 r105 r107 res_main_v134
  generalize res_main_v122 V0 = x
  generalize res_main_v105 V0 = y
  generalize res_main_v107 V0 = z
  pointwise [sum_last]

theorem v134_apply (b n kv g r i) : r134 V0 (ix6 b n kv g r i)
    = refGrad (refE V0 b n kv g r) (refC V0 b n kv g r) i := by
  refine (v134_raw V0 b n kv g r i).trans ?_
  rw [v107_apply, v105_apply, Fin.sum_univ_one]
  unfold refGrad
  exact congrArg (fun t => (Ideal.div (refC V0 b n kv g r i) (refTotal (refE V0 b n kv g r)) + -t) * refRaw (refE V0 b n kv g r) i)
    (Finset.sum_congr rfl fun k _ => congrArg (fun t => refC V0 b n kv g r k
      * Ideal.div 1 (refTotal (refE V0 b n kv g r) * refTotal (refE V0 b n kv g r)) * t) (v105_apply V0 b n kv g r k))

theorem v144_raw (b n kv g r) (j : Fin 256) : r144 V0 (ix6 b n kv j r g)
    = Scalar.select (r80 V0 (ix6 b n kv g r j)) (r134 V0 (ix6 b n kv g r j.castSucc)) (0 : EReal)
        * Ideal.ofBits .f32 1040187392#32 := by
  unfold r144 r80 r134 res_main_v144
  generalize res_main_v134 V0 = x
  generalize res_main_v80_1 V0 = y
  pointwise
  rfl

/-! ## The rows of the specification -/

section Rows

variable (ha : (inputs V0).Tame)
include ha

theorem visible_of_real (b n kv g r) (j : Fin 256) (h : X (inputs V0) b n kv g r j ≠ ⊥) : visible n.val r.val j.val = 1#1 := by
  by_contra hv
  exact h (by rw [X, (BitVec.eq_zero_or_eq_one _).resolve_right hv]; rfl)

theorem r113_eq (b n kv g r) (j : Fin 256) : r113 V0 (ix6 b n kv g r j) = Pr (inputs V0) b n kv g r j :=
  (v113_apply V0 b n kv g r j).trans (refProb_eq _ _ _ (v84_apply V0 ha b n kv g r) (v84_last V0 b n kv g r)
    (X_real ha b n kv g r) (ha.s _) j)

theorem r134_last (b n kv g r) : r134 V0 (ix6 b n kv g r (Fin.last 256)) = -SG (inputs V0) b n kv g r :=
  (v134_apply V0 b n kv g r _).trans (refGrad_last _ _ _ _ _ (v84_apply V0 ha b n kv g r) (v84_last V0 b n kv g r)
    (X_real ha b n kv g r) (ha.s _) (fun j _ => ct_real ha b n kv g r j)
    (fun j hj => v122_apply_key V0 b n kv g r j (visible_of_real V0 ha b n kv g r j hj)) (v122_last V0 b n kv g r))

theorem r144_eq (b n kv g r) (j : Fin 256) : r144 V0 (ix6 b n kv j r g) = G (inputs V0) b n kv g r j := by
  refine (v144_raw V0 b n kv g r j).trans ?_
  rw [v80_apply]
  by_cases hv : visible n.val r.val j.val = 1#1
  · have hj : X (inputs V0) b n kv g r j ≠ ⊥ := by
      obtain ⟨x, hx⟩ := X_seen ha b n kv g r j hv
      exact hx ▸ EReal.coe_ne_bot x
    rw [hv]
    exact (congrArg (· * Ideal.ofBits .f32 1040187392#32) (v134_apply V0 b n kv g r _)).trans
      (refGrad_eq _ _ _ _ _ (v84_apply V0 ha b n kv g r) (v84_last V0 b n kv g r)
        (X_real ha b n kv g r) (ha.s _) (fun j _ => ct_real ha b n kv g r j)
        (fun j hj => v122_apply_key V0 b n kv g r j (visible_of_real V0 ha b n kv g r j hj)) (v122_last V0 b n kv g r) j hj)
  · have hj : X (inputs V0) b n kv g r j = ⊥ := by rw [X, (BitVec.eq_zero_or_eq_one _).resolve_right hv]; rfl
    rw [(BitVec.eq_zero_or_eq_one _).resolve_right hv, G, grad_masked _ _ _ (X_real ha b n kv g r) (show Finite.IsReal (sink (inputs V0) kv g) from ha.s _) j hj]
    exact zero_mul _

end Rows

end Cert.ReferenceIdeal.Value
end
-- ==== Proof.Swa.RefOut.lean ====
module

public import proofs.«01_k».proof.Proof.Swa.RefRows

@[expose] public section
set_option maxRecDepth 16384
noncomputable section
namespace Cert.ReferenceIdeal.Value
open Cert.ReferenceIdeal Cert.ReferenceIdeal.Gen Cert.Reduce Cert.SoftmaxRow Cert.Swa
open Idealize.ShloMosaic Idealize.ShloMosaic.TcCoe Idealize.ShloMosaic.Tactic

variable (V0 : Valuation τ sig (Elt Ideal))

def r121 : (⟨5, ![2, 16, 256, 2, 128]⟩ : Shape).Idx → EReal := res_main_v121 V0
def r148 : (⟨5, ![2, 16, 256, 2, 128]⟩ : Shape).Idx → EReal := res_main_v148 V0

theorem v121_raw (b n j kv l) : r121 V0 (ix5 b n j kv l)
    = ∑ g, ∑ r, r118 V0 (ix6 b n kv l g r) * r113 V0 (ix6 b n kv g r j) := by
  unfold r121 r118 r113 res_main_v121
  generalize res_main_v118 V0 = x
  generalize res_main_v113 V0 = y
  pointwise

theorem v148_raw (b n j kv l) : r148 V0 (ix5 b n j kv l)
    = ∑ r, ∑ g, r144 V0 (ix6 b n kv j r g) * r3 V0 (ix6 b n r kv g l) := by
  unfold r148 r144 r3 res_main_v148
  generalize res_main_v144 V0 = x
  generalize res_main_v3 V0 = y
  pointwise

/-- The four results. -/
def out_q (x : FVec Ideal S2x16x2x256x128x4 .f32) (y : FVec Ideal S2x16x256x2x128 .f32) : Vec Ideal S2x2048x1024 .f32 := shapeCast _ (transpose S2x16x128x2x4x128 [0, 1, 3, 2, 4, 5] (Host.dotGeneral dot_S2x16x2x256x128x4_S2x16x256x2x128_S2x16x2x128x4x128_3_2_45_4_012_013 none x y) transposes_S2x16x2x128x4x128_S2x16x128x2x4x128_0_1_3_2_4_5) shapeCasts_S2x16x128x2x4x128_S2x2048x1024
/-- Two blocks' windows added onto the keys they share. -/
def onto (x : FVec Ideal S2x16x256x2x128 .f32) : Vec Ideal S2x2048x256 .f32 := shapeCast _ (addf (extractStridedSlice S2x16x128x2x128 ![0, 0, 128, 0, 0] x slices_S2x16x256x2x128_S2x16x128x2x128_0_0_128_0_0) (pad S2x16x128x2x128 ![0, 0, 0, 0, 0] ![0, 1, 0, 0, 0] ![0, 0, 0, 0, 0] (extractStridedSlice S2x15x128x2x128 ![0, 1, 0, 0, 0] (extractStridedSlice S2x16x128x2x128 ![0, 0, 0, 0, 0] x slices_S2x16x256x2x128_S2x16x128x2x128_0_0_0_0_0) slices_S2x16x128x2x128_S2x15x128x2x128_0_1_0_0_0) (constant S_ .f32 0x00000000#32) pads_S2x15x128x2x128_S2x16x128x2x128_000_010_000_000_000 h_S_)) shapeCasts_S2x16x128x2x128_S2x2048x256
def out_s (x : FVec Ideal S2x16x2x4x128x257 .f32) : Vec Ideal S8x128 .f32 := broadcastInDim S8x128 ![0, 1] bcast_S8x1_S8x128_0_1 (broadcastInDim S8x1 ![0] bcast_S8_S8x1_0 (shapeCast _ (Host.reduceAdd (broadcastInDim S1x1x2x4x1x1 ![2, 3] bcast_S2x4_S1x1x2x4x1x1_2_3 (Host.reduceAdd (extractStridedSlice S2x16x2x4x128x1 ![0, 0, 0, 0, 0, 256] x slices_S2x16x2x4x128x257_S2x16x2x4x128x1_0_0_0_0_0_256) (constant S_ .f32 0x00000000#32) reducesTo_S2x16x2x4x128x1_S2x4_d0_1_4_5 h_S_)) (constant S_ .f32 0x00000000#32) reducesTo_S1x1x2x4x1x1_S2x4_d0_1_4_5 h_S_) shapeCasts_S2x4_S8))

theorem out_q_raw (x : FVec Ideal S2x16x2x256x128x4 .f32) (y : FVec Ideal S2x16x256x2x128 .f32) (b n r kv g l) :
    out_q x y (ix3 b (row n r) (qcol kv g l)) = ∑ j, x (ix6 b n kv j r g) * y (ix5 b n j kv l) := by
  unfold out_q row qcol
  pointwise

theorem onto_raw (x : FVec Ideal S2x16x256x2x128 .f32) (b n r kv l) : onto x (ix3 b (row n r) (kcol kv l))
    = both (fun n j => x (ix5 b n j kv l)) n r := by
  unfold onto row kcol both upper lower
  pointwise
  refine congrArg (x (ix5 b n ⟨128 + r.val, by omega⟩ kv l) + ·) ?_
  by_cases h : n.val + 1 < 16
  · rw [dif_pos h, dif_pos (by omega : n.val < 15)]
    simp only [Nat.add_comm 1 n.val]
  · rw [dif_neg h, dif_neg (by omega : ¬ n.val < 15)]

theorem out_s_raw (x : FVec Ideal S2x16x2x4x128x257 .f32) (kv : Fin 2) (g : Fin 4) (l : Fin 128) :
    out_s x (ix2 (head kv g) l) = ∑ b, ∑ n, ∑ r, x (ix6 b n kv g r (Fin.last 256)) := by
  unfold out_s head
  pointwise [sum_middle]
  simp only [Fin.sum_univ_one]
  rfl

section Out

variable (ha : (inputs V0).Tame)
include ha

theorem out_q_eq (b n r kv g l) : out_q (r144 V0) (r11 V0) (ix3 b (row n r) (qcol kv g l)) = dQ (inputs V0) b n r kv g l := by
  refine (out_q_raw _ _ b n r kv g l).trans (Finset.sum_congr rfl fun j _ => ?_)
  rw [r144_eq V0 ha, v11_apply]
  by_cases h : j.val < 128 ∧ n.val < 1
  · have hv : visible n.val r.val j.val ≠ 1#1 := fun e => seen_exists n r j e h
    rw [if_pos h, mul_zero, G_unseen ha b n kv g r j hv, zero_mul]
  · rw [if_neg h]

theorem r148_eq (b n j kv l) : r148 V0 (ix5 b n j kv l) = dKw (inputs V0) b n kv j l := by
  refine (v148_raw V0 b n j kv l).trans (Finset.sum_comm.trans ?_)
  exact Finset.sum_congr rfl fun g _ => Finset.sum_congr rfl fun r _ =>
    congrArg₂ (· * ·) (r144_eq V0 ha b n kv g r j) (v3_apply V0 b n r kv g l)

theorem r121_eq (b n j kv l) : r121 V0 (ix5 b n j kv l) = dVw (inputs V0) b n kv j l := by
  refine (v121_raw V0 b n j kv l).trans ?_
  exact Finset.sum_congr rfl fun g _ => Finset.sum_congr rfl fun r _ => (mul_comm _ _).trans
    (congrArg₂ (· * ·) (r113_eq V0 ha b n kv g r j) (v118_apply V0 b n r kv g l))

theorem out_k_eq (b n r kv l) : onto (r148 V0) (ix3 b (row n r) (kcol kv l)) = dK (inputs V0) b n r kv l :=
  (onto_raw _ b n r kv l).trans (congrArg (fun w => both w n r) (funext fun n => funext fun j => r148_eq V0 ha b n j kv l))

theorem out_v_eq (b n r kv l) : onto (r121 V0) (ix3 b (row n r) (kcol kv l)) = dV (inputs V0) b n r kv l :=
  (onto_raw _ b n r kv l).trans (congrArg (fun w => both w n r) (funext fun n => funext fun j => r121_eq V0 ha b n j kv l))

theorem out_s_eq (kv g l) : out_s (r134 V0) (ix2 (head kv g) l) = dS (inputs V0) kv g :=
  (out_s_raw _ kv g l).trans (Finset.sum_congr rfl fun b _ => Finset.sum_congr rfl fun n _ => Finset.sum_congr rfl fun r _ =>
    r134_last V0 ha b n kv g r)

end Out

end Cert.ReferenceIdeal.Value
end
-- ==== Proof.Swa.Value.lean ====
/- The value of the sliding-window attention's backward pass. -/
module

public import proofs.«01_k».proof.Proof.Swa.After
public import proofs.«01_k».proof.Proof.Swa.RefOut
public import proofs.«01_k».proof.Proof.Finite
public import proofs.«01_k».proof.Pre_swa_tame
public import Idealize.ShloMosaic.Lib.Pipeline.Value

@[expose] public section

set_option maxRecDepth 16384

noncomputable section

namespace Cert.KernelIdeal.Swa

open Cert.KernelIdeal Cert.KernelIdeal.Gen Cert.SoftmaxRow Cert.Swa Cert.Finite
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-! ## Where the four results' windows lie -/

theorem idx11 : ∀ t : Fin cfg0.N, win0_11.index t (0 : Fin 3) = t.val / 32 ∧ win0_11.index t (1 : Fin 3) = t.val % 16 ∧ win0_11.index t (2 : Fin 3) = t.val / 16 % 2 :=
  (by decide +kernel : ∀ t : Fin grid0.N, _)
theorem idx12 : ∀ t : Fin cfg0.N, win0_12.index t (0 : Fin 3) = t.val / 32 ∧ win0_12.index t (1 : Fin 3) = 0 ∧ win0_12.index t (2 : Fin 3) = t.val / 16 % 2 :=
  (by decide +kernel : ∀ t : Fin grid0.N, _)
theorem idx13 : ∀ t : Fin cfg0.N, win0_13.index t (0 : Fin 3) = t.val / 32 ∧ win0_13.index t (1 : Fin 3) = 0 ∧ win0_13.index t (2 : Fin 3) = t.val / 16 % 2 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)

/-- A point is named by its batch, its key/value head and its block of rows. -/
theorem same_point (t t' : Fin cfg0.N) (h0 : t.val / 32 = t'.val / 32) (h1 : t.val / 16 % 2 = t'.val / 16 % 2) (h2 : t.val % 16 = t'.val % 16) : t = t' :=
  Fin.ext (by omega)

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (by
    have h0 : win0_11.index t (0 : Fin 3) = win0_11.index t' (0 : Fin 3) := congrFun h 0
    have h1 : win0_11.index t (1 : Fin 3) = win0_11.index t' (1 : Fin 3) := congrFun h 1
    have h2 : win0_11.index t (2 : Fin 3) = win0_11.index t' (2 : Fin 3) := congrFun h 2
    rw [(idx11 t).1, (idx11 t').1] at h0
    rw [(idx11 t).2.1, (idx11 t').2.1] at h1
    rw [(idx11 t).2.2, (idx11 t').2.2] at h2
    exact same_point t t' h0 h2 h1)
theorem disjoint12 : ∀ t t' : Fin cfg0.N, (cfg0.win 12).flush t = true → (cfg0.win 12).flush t' = true → t ≠ t' →
    Disjoint ((cfg0.win 12).blk t).view.set ((cfg0.win 12).blk t').view.set :=
  fun t t' hf hf' hne => (cfg0.win 12).disjoint_blk fun h => hne (by
    have h0 : win0_12.index t (0 : Fin 3) = win0_12.index t' (0 : Fin 3) := congrFun h 0
    have h2 : win0_12.index t (2 : Fin 3) = win0_12.index t' (2 : Fin 3) := congrFun h 2
    rw [(idx12 t).1, (idx12 t').1] at h0
    rw [(idx12 t).2.2, (idx12 t').2.2] at h2
    exact same_point t t' h0 h2 (((flush0_12 t).1 hf).trans ((flush0_12 t').1 hf').symm))
theorem disjoint13 : ∀ t t' : Fin cfg0.N, (cfg0.win 13).flush t = true → (cfg0.win 13).flush t' = true → t ≠ t' →
    Disjoint ((cfg0.win 13).blk t).view.set ((cfg0.win 13).blk t').view.set :=
  fun t t' hf hf' hne => (cfg0.win 13).disjoint_blk fun h => hne (by
    have h0 : win0_13.index t (0 : Fin 3) = win0_13.index t' (0 : Fin 3) := congrFun h 0
    have h2 : win0_13.index t (2 : Fin 3) = win0_13.index t' (2 : Fin 3) := congrFun h 2
    rw [(idx13 t).1, (idx13 t').1] at h0
    rw [(idx13 t).2.2, (idx13 t').2.2] at h2
    exact same_point t t' h0 h2 (((flush0_13 t).1 hf).trans ((flush0_13 t').1 hf').symm))
theorem disjoint14 : ∀ t t' : Fin cfg0.N, (cfg0.win 14).flush t = true → (cfg0.win 14).flush t' = true → t ≠ t' →
    Disjoint ((cfg0.win 14).blk t).view.set ((cfg0.win 14).blk t').view.set :=
  fun t t' hf hf' hne => absurd (by
    have h := (flush0_14 t).1 hf
    have h' := (flush0_14 t').1 hf'
    have hN : cfg0.N = 64 := N_0
    exact Fin.ext (by omega)) hne

/-! ## The four results after the last point -/

theorem arr_q (b : Fin 2) (n : Fin 16) (r : Fin 128) (kv : Fin 2) (g : Fin 4) (l : Fin 128) :
    ((dats m 0 c).arrAt 11 cfg0.N : S2x2048x1024.Idx → EReal) (ix3 b (row n r) (qcol kv g l)) = dQ (inputs m c) b n r kv g l := by
  have hN : cfg0.N = 64 := N_0
  have hlt : b.val * 32 + kv.val * 16 + n.val < cfg0.N := by omega
  have h := congrFun ((dats m 0 c).read_blk_arrAt_eq_flushed 11 disjoint11 cfg0.N ⟨_, hlt⟩ hlt (flush0_11 _))
    (ix3 0 r (⟨g.val * 128 + l.val, by omega⟩ : Fin 512) : S1x128x512.Idx)
  rw [View.read_apply] at h
  have hi : ((cfg0.win 11).blk ⟨_, hlt⟩).view.emb (ix3 0 r (⟨g.val * 128 + l.val, by omega⟩ : Fin 512) : S1x128x512.Idx)
      = (ix3 b (row n r) (qcol kv g l) : S2x2048x1024.Idx) := by
    have e := idx11 ⟨_, hlt⟩
    funext a
    apply Fin.ext
    match a with
    | ⟨0, _⟩ => show win0_11.index ⟨_, hlt⟩ 0 * 1 + 1 * 0 = b.val; rw [e.1]; dsimp only; omega
    | ⟨1, _⟩ => show win0_11.index ⟨_, hlt⟩ 1 * 128 + 1 * r.val = n.val * 128 + r.val; rw [e.2.1]; dsimp only; omega
    | ⟨2, _⟩ => show win0_11.index ⟨_, hlt⟩ 2 * 512 + 1 * (g.val * 128 + l.val) = kv.val * 512 + g.val * 128 + l.val; rw [e.2.2]; dsimp only; omega
  rw [hi] at h
  refine h.trans ((congrFun (after11 m c ⟨_, hlt⟩) _).trans (dq_after m c ⟨_, hlt⟩ b kv n rfl g r l))

theorem arr_k (b : Fin 2) (n : Fin 16) (r : Fin 128) (kv : Fin 2) (l : Fin 128) :
    ((dats m 0 c).arrAt 12 cfg0.N : S2x2048x256.Idx → EReal) (ix3 b (row n r) (kcol kv l)) = dK (inputs m c) b n r kv l := by
  have hN : cfg0.N = 64 := N_0
  have hlt : b.val * 32 + kv.val * 16 + 15 < cfg0.N := by omega
  have h := congrFun ((dats m 0 c).read_blk_arrAt_eq_flushed 12 disjoint12 cfg0.N ⟨_, hlt⟩ hlt ((flush0_12 _).2 (by dsimp only; omega)))
    (ix3 0 (row n r) l : S1x2048x128.Idx)
  rw [View.read_apply] at h
  have hi : ((cfg0.win 12).blk ⟨_, hlt⟩).view.emb (ix3 0 (row n r) l : S1x2048x128.Idx) = (ix3 b (row n r) (kcol kv l) : S2x2048x256.Idx) := by
    have e := idx12 ⟨_, hlt⟩
    funext a
    apply Fin.ext
    match a with
    | ⟨0, _⟩ => show win0_12.index ⟨_, hlt⟩ 0 * 1 + 1 * 0 = b.val; rw [e.1]; dsimp only; omega
    | ⟨1, _⟩ => show win0_12.index ⟨_, hlt⟩ 1 * 2048 + 1 * (row n r).val = (row n r).val; rw [e.2.1]; omega
    | ⟨2, _⟩ => show win0_12.index ⟨_, hlt⟩ 2 * 128 + 1 * l.val = kv.val * 128 + l.val; rw [e.2.2]; dsimp only; omega
  rw [hi] at h
  refine h.trans ((congrFun (after12 m c ⟨_, hlt⟩) _).trans (dk_after m c ⟨_, hlt⟩ b kv rfl n r l))

theorem arr_v (b : Fin 2) (n : Fin 16) (r : Fin 128) (kv : Fin 2) (l : Fin 128) :
    ((dats m 0 c).arrAt 13 cfg0.N : S2x2048x256.Idx → EReal) (ix3 b (row n r) (kcol kv l)) = dV (inputs m c) b n r kv l := by
  have hN : cfg0.N = 64 := N_0
  have hlt : b.val * 32 + kv.val * 16 + 15 < cfg0.N := by omega
  have h := congrFun ((dats m 0 c).read_blk_arrAt_eq_flushed 13 disjoint13 cfg0.N ⟨_, hlt⟩ hlt ((flush0_13 _).2 (by dsimp only; omega)))
    (ix3 0 (row n r) l : S1x2048x128.Idx)
  rw [View.read_apply] at h
  have hi : ((cfg0.win 13).blk ⟨_, hlt⟩).view.emb (ix3 0 (row n r) l : S1x2048x128.Idx) = (ix3 b (row n r) (kcol kv l) : S2x2048x256.Idx) := by
    have e := idx13 ⟨_, hlt⟩
    funext a
    apply Fin.ext
    match a with
    | ⟨0, _⟩ => show win0_13.index ⟨_, hlt⟩ 0 * 1 + 1 * 0 = b.val; rw [e.1]; dsimp only; omega
    | ⟨1, _⟩ => show win0_13.index ⟨_, hlt⟩ 1 * 2048 + 1 * (row n r).val = (row n r).val; rw [e.2.1]; omega
    | ⟨2, _⟩ => show win0_13.index ⟨_, hlt⟩ 2 * 128 + 1 * l.val = kv.val * 128 + l.val; rw [e.2.2]; dsimp only; omega
  rw [hi] at h
  refine h.trans ((congrFun (after13 m c ⟨_, hlt⟩) _).trans (dv_after m c ⟨_, hlt⟩ b kv rfl n r l))

theorem arr_s (ha : (inputs m c).Tame) (kv : Fin 2) (g : Fin 4) (l : Fin 128) :
    ((dats m 0 c).arrAt 14 cfg0.N : S8x128.Idx → EReal) (ix2 (head kv g) l) = dS (inputs m c) kv g := by
  have hN : cfg0.N = 64 := N_0
  have hlt : 63 < cfg0.N := by omega
  have h := congrFun ((dats m 0 c).read_blk_arrAt_eq_flushed 14 disjoint14 cfg0.N ⟨_, hlt⟩ hlt ((flush0_14 _).2 rfl))
    (ix2 (head kv g) l : S8x128.Idx)
  rw [View.read_apply] at h
  have hi : ((cfg0.win 14).blk ⟨_, hlt⟩).view.emb (ix2 (head kv g) l : S8x128.Idx) = (ix2 (head kv g) l : S8x128.Idx) := by
    have e := idx14 ⟨_, hlt⟩
    funext a
    apply Fin.ext
    match a with
    | ⟨0, _⟩ => show win0_14.index ⟨_, hlt⟩ 0 * 8 + 1 * (head kv g).val = (head kv g).val; rw [e.1]; omega
    | ⟨1, _⟩ => show win0_14.index ⟨_, hlt⟩ 1 * 128 + 1 * l.val = l.val; rw [e.2]; omega
  rw [hi] at h
  refine h.trans ((congrFun (after14 m c ⟨_, hlt⟩) _).trans (ds_after m c ha ⟨_, hlt⟩ rfl kv g l))

/-- The run with the four results named, the arguments as launched. -/
theorem run_arrays (g : Dev nD → PrngReg) : θ_run defs (onTc (τ := τ) (main (F := Ideal))) ⟨m, fun _ => 0, g⟩ fun r => ∀ c : Dev nD,
      r.2.mem ((c.tc : Thread nD τ).loc main_v13_0) = (dats m 0 c).arrAt 11 cfg0.N
      ∧ r.2.mem ((c.tc : Thread nD τ).loc main_v13_1) = (dats m 0 c).arrAt 12 cfg0.N
      ∧ r.2.mem ((c.tc : Thread nD τ).loc main_v13_2) = (dats m 0 c).arrAt 13 cfg0.N
      ∧ r.2.mem ((c.tc : Thread nD τ).loc main_v13_3) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h.1 c).1 11, (h.1 c).1 12, (h.1 c).1 13, (h.1 c).1 14, h.2 c⟩)
    (θ_run_and (run_main m g) (frame_of m g (dats m) (A_eq m) (run_main m g)))

/-! ## Every index of a result is one of these -/

theorem index_q (i : S2x2048x1024.Idx) : ∃ b n r kv g l, i = ix3 b (row n r) (qcol kv g l) := by
  obtain ⟨x, y, z, rfl⟩ : ∃ (x : Fin 2) (y : Fin 2048) (z : Fin 1024), i = ix3 x y z := ⟨i 0, i 1, i 2, funext fun a => match a with
    | ⟨0, _⟩ => rfl | ⟨1, _⟩ => rfl | ⟨2, _⟩ => rfl⟩
  refine ⟨x, ⟨y.val / 128, by omega⟩, ⟨y.val % 128, by omega⟩, ⟨z.val / 512, by omega⟩, ⟨z.val / 128 % 4, by omega⟩, ⟨z.val % 128, by omega⟩, ?_⟩
  refine congrArg₂ (ix3 x) (Fin.ext ?_) (Fin.ext ?_)
  · show y.val = y.val / 128 * 128 + y.val % 128; omega
  · show z.val = z.val / 512 * 512 + z.val / 128 % 4 * 128 + z.val % 128; omega

theorem index_k (i : S2x2048x256.Idx) : ∃ b n r kv l, i = ix3 b (row n r) (kcol kv l) := by
  obtain ⟨x, y, z, rfl⟩ : ∃ (x : Fin 2) (y : Fin 2048) (z : Fin 256), i = ix3 x y z := ⟨i 0, i 1, i 2, funext fun a => match a with
    | ⟨0, _⟩ => rfl | ⟨1, _⟩ => rfl | ⟨2, _⟩ => rfl⟩
  refine ⟨x, ⟨y.val / 128, by omega⟩, ⟨y.val % 128, by omega⟩, ⟨z.val / 128, by omega⟩, ⟨z.val % 128, by omega⟩, ?_⟩
  refine congrArg₂ (ix3 x) (Fin.ext ?_) (Fin.ext ?_)
  · show y.val = y.val / 128 * 128 + y.val % 128; omega
  · show z.val = z.val / 128 * 128 + z.val % 128; omega

theorem index_s (i : S8x128.Idx) : ∃ kv g l, i = ix2 (head kv g) l := by
  obtain ⟨x, y, rfl⟩ : ∃ (x : Fin 8) (y : Fin 128), i = ix2 x y := ⟨i 0, i 1, funext fun a => match a with
    | ⟨0, _⟩ => rfl | ⟨1, _⟩ => rfl⟩
  refine ⟨⟨x.val / 4, by omega⟩, ⟨x.val % 4, by omega⟩, y, congrArg (ix2 · y) (Fin.ext ?_)⟩
  show x.val = x.val / 4 * 4 + x.val % 4
  omega

/-! ## The reference computes the same -/

/-- The reference's arguments, where they are the kernel's. -/
theorem inputs_eq (V0 : Valuation Cert.ReferenceIdeal.τ Cert.ReferenceIdeal.sig (Elt Ideal))
    (h0 : V0 (Proc.devRef .tc Cert.ReferenceIdeal.main_arg0) = (inputs m c).q) (h1 : V0 (Proc.devRef .tc Cert.ReferenceIdeal.main_arg1) = (inputs m c).k)
    (h2 : V0 (Proc.devRef .tc Cert.ReferenceIdeal.main_arg2) = (inputs m c).p) (h3 : V0 (Proc.devRef .tc Cert.ReferenceIdeal.main_arg3) = (inputs m c).pos)
    (h4 : V0 (Proc.devRef .tc Cert.ReferenceIdeal.main_arg4) = (inputs m c).s) (h5 : V0 (Proc.devRef .tc Cert.ReferenceIdeal.main_arg5) = (inputs m c).d) :
    Cert.ReferenceIdeal.Value.inputs V0 = inputs m c := by
  unfold Cert.ReferenceIdeal.Value.inputs
  rw [h0, h1, h2, h3, h4, h5]

section Same

variable (V0 : Valuation Cert.ReferenceIdeal.τ Cert.ReferenceIdeal.sig (Elt Ideal))
  (he : Cert.ReferenceIdeal.Value.inputs V0 = inputs m c) (ha : (inputs m c).Tame)
include he ha

open Cert.ReferenceIdeal.Value in
theorem same_q : out_q (r144 V0) (r11 V0) = (dats m 0 c).arrAt 11 cfg0.N := by
  refine funext fun (i : S2x2048x1024.Idx) => ?_
  obtain ⟨b, n, r, kv, g, l, rfl⟩ := index_q i
  exact (out_q_eq V0 (he ▸ ha) b n r kv g l).trans ((congrArg (dQ · b n r kv g l) he).trans (arr_q m c b n r kv g l).symm)

open Cert.ReferenceIdeal.Value in
theorem same_k : onto (r148 V0) = (dats m 0 c).arrAt 12 cfg0.N := by
  refine funext fun (i : S2x2048x256.Idx) => ?_
  obtain ⟨b, n, r, kv, l, rfl⟩ := index_k i
  exact (out_k_eq V0 (he ▸ ha) b n r kv l).trans ((congrArg (dK · b n r kv l) he).trans (arr_k m c b n r kv l).symm)

open Cert.ReferenceIdeal.Value in
theorem same_v : onto (r121 V0) = (dats m 0 c).arrAt 13 cfg0.N := by
  refine funext fun (i : S2x2048x256.Idx) => ?_
  obtain ⟨b, n, r, kv, l, rfl⟩ := index_k i
  exact (out_v_eq V0 (he ▸ ha) b n r kv l).trans ((congrArg (dV · b n r kv l) he).trans (arr_v m c b n r kv l).symm)

open Cert.ReferenceIdeal.Value in
theorem same_s : out_s (r134 V0) = (dats m 0 c).arrAt 14 cfg0.N := by
  refine funext fun (i : S8x128.Idx) => ?_
  obtain ⟨kv, g, l, rfl⟩ := index_s i
  exact (out_s_eq V0 (he ▸ ha) kv g l).trans ((congrArg (dS · kv g) he).trans (arr_s m c ha kv g l).symm)

end Same

/-! ## What the precondition says -/

theorem tame [Cert.Pre_swa_tame.Facts] (x : Inputs)
    (h : (Cert.Pre_swa_tame.fn (F := Ideal) x.q x.k x.p x.pos x.s x.d).1 = (fun _ => 1#1)
      ∧ (Cert.Pre_swa_tame.fn (F := Ideal) x.q x.k x.p x.pos x.s x.d).2.1 = (fun _ => 1#1)
      ∧ (Cert.Pre_swa_tame.fn (F := Ideal) x.q x.k x.p x.pos x.s x.d).2.2.1 = (fun _ => 1#1)
      ∧ (Cert.Pre_swa_tame.fn (F := Ideal) x.q x.k x.p x.pos x.s x.d).2.2.2.1 = (fun _ => 1#1)
      ∧ (Cert.Pre_swa_tame.fn (F := Ideal) x.q x.k x.p x.pos x.s x.d).2.2.2.2.1 = (fun _ => 1#1)
      ∧ (Cert.Pre_swa_tame.fn (F := Ideal) x.q x.k x.p x.pos x.s x.d).2.2.2.2.2 = (fun _ => 1#1)) : x.Tame where
  q i := of_test_bf16 x.q _ _ i (congrFun h.1 i)
  k i := of_test_bf16 x.k _ _ i (congrFun h.2.1 i)
  p b t kv l := by
    have h2 := of_test_f32 _ _ (ix3 b t (kcol kv l) : S2x2048x256.Idx) (congrFun h.2.2.1 _)
    refine Eq.mp (congrArg IsReal ?_) h2
    unfold kcol vcol
    pointwise
  pos i := by
    have h3 : IntOp.cmpi .sge (x.pos i) 0#32 = 1#1 := congrFun h.2.2.2.1 i
    simp only [IntOp.cmpi, BitVec.sle] at h3
    by_contra hn
    simp_all
  s i := of_test_f32 x.s _ i (congrFun h.2.2.2.2.1 i)
  d i := of_test_f32 x.d _ i (congrFun h.2.2.2.2.2 i)

end Cert.KernelIdeal.Swa
end
-- ==== Proof.lean ====
module

public import proofs.«01_k».proof.Defs
public import proofs.«01_k».proof.Proof.Gen.Pre_swa_tame
public import proofs.«01_k».proof.Proof.Gen.Pre_dact_tame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactRefIdeal
public import proofs.«01_k».proof.Proof.Gen.Dwd
public import proofs.«01_k».proof.Proof.Gen.Dwd.Skeleton
public import proofs.«01_k».proof.Proof.Gen.Dwd.Launch
public import proofs.«01_k».proof.Proof.Gen.Dwd.Points
public import proofs.«01_k».proof.Proof.Gen.Dwd.Frame
public import proofs.«01_k».proof.Proof.Gen.DwdIdeal
public import proofs.«01_k».proof.Proof.Gen.DwdIdeal.Skeleton
public import proofs.«01_k».proof.Proof.Gen.DwdIdeal.Launch
public import proofs.«01_k».proof.Proof.Gen.DwdIdeal.Points
public import proofs.«01_k».proof.Proof.Gen.DwdIdeal.Frame
public import proofs.«01_k».proof.Proof.Gen.DwdRefIdeal
public import proofs.«01_k».proof.Proof.Gen.Dwgu
public import proofs.«01_k».proof.Proof.Gen.Dwgu.Skeleton
public import proofs.«01_k».proof.Proof.Gen.Dwgu.Launch
public import proofs.«01_k».proof.Proof.Gen.Dwgu.Points
public import proofs.«01_k».proof.Proof.Gen.Dwgu.Frame
public import proofs.«01_k».proof.Proof.Gen.DwguIdeal
public import proofs.«01_k».proof.Proof.Gen.DwguIdeal.Skeleton
public import proofs.«01_k».proof.Proof.Gen.DwguIdeal.Launch
public import proofs.«01_k».proof.Proof.Gen.DwguIdeal.Points
public import proofs.«01_k».proof.Proof.Gen.DwguIdeal.Frame
public import proofs.«01_k».proof.Proof.Gen.DwguRefIdeal
public import proofs.«01_k».proof.Proof.Gen.Dn
public import proofs.«01_k».proof.Proof.Gen.Dn.Skeleton
public import proofs.«01_k».proof.Proof.Gen.Dn.Launch
public import proofs.«01_k».proof.Proof.Gen.Dn.Points
public import proofs.«01_k».proof.Proof.Gen.Dn.Frame
public import proofs.«01_k».proof.Proof.Gen.DnIdeal
public import proofs.«01_k».proof.Proof.Gen.DnIdeal.Skeleton
public import proofs.«01_k».proof.Proof.Gen.DnIdeal.Launch
public import proofs.«01_k».proof.Proof.Gen.DnIdeal.Points
public import proofs.«01_k».proof.Proof.Gen.DnIdeal.Frame
public import proofs.«01_k».proof.Proof.Gen.DnRefIdeal
public import proofs.«01_k».proof.Proof.Gen.DIn
public import proofs.«01_k».proof.Proof.Gen.DIn.Skeleton
public import proofs.«01_k».proof.Proof.Gen.DIn.Launch
public import proofs.«01_k».proof.Proof.Gen.DIn.Points
public import proofs.«01_k».proof.Proof.Gen.DIn.Frame
public import proofs.«01_k».proof.Proof.Gen.DInIdeal
public import proofs.«01_k».proof.Proof.Gen.DInIdeal.Skeleton
public import proofs.«01_k».proof.Proof.Gen.DInIdeal.Launch
public import proofs.«01_k».proof.Proof.Gen.DInIdeal.Points
public import proofs.«01_k».proof.Proof.Gen.DInIdeal.Frame
public import proofs.«01_k».proof.Proof.Gen.DInRefIdeal
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.DOut
public import proofs.«01_k».proof.Proof.Gen.DOut.Skeleton
public import proofs.«01_k».proof.Proof.Gen.DOut.Launch
public import proofs.«01_k».proof.Proof.Gen.DOut.Points
public import proofs.«01_k».proof.Proof.Gen.DOut.Frame
public import proofs.«01_k».proof.Proof.Gen.DOutIdeal
public import proofs.«01_k».proof.Proof.Gen.DOutIdeal.Skeleton
public import proofs.«01_k».proof.Proof.Gen.DOutIdeal.Launch
public import proofs.«01_k».proof.Proof.Gen.DOutIdeal.Points
public import proofs.«01_k».proof.Proof.Gen.DOutIdeal.Frame
public import proofs.«01_k».proof.Proof.Gen.DOutRefIdeal
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutRefIdeal
public import proofs.«01_k».proof.Proof.Gen.DBranch
public import proofs.«01_k».proof.Proof.Gen.DBranch.Skeleton
public import proofs.«01_k».proof.Proof.Gen.DBranch.Launch
public import proofs.«01_k».proof.Proof.Gen.DBranch.Points
public import proofs.«01_k».proof.Proof.Gen.DBranch.Frame
public import proofs.«01_k».proof.Proof.Gen.DBranchIdeal
public import proofs.«01_k».proof.Proof.Gen.DBranchIdeal.Skeleton
public import proofs.«01_k».proof.Proof.Gen.DBranchIdeal.Launch
public import proofs.«01_k».proof.Proof.Gen.DBranchIdeal.Points
public import proofs.«01_k».proof.Proof.Gen.DBranchIdeal.Frame
public import proofs.«01_k».proof.Proof.Gen.DBranchRefIdeal
public import proofs.«01_k».proof.Proof.Gen.DwBranch
public import proofs.«01_k».proof.Proof.Gen.DwBranch.Skeleton
public import proofs.«01_k».proof.Proof.Gen.DwBranch.Launch
public import proofs.«01_k».proof.Proof.Gen.DwBranch.Points
public import proofs.«01_k».proof.Proof.Gen.DwBranch.Frame
public import proofs.«01_k».proof.Proof.Gen.DwBranchIdeal
public import proofs.«01_k».proof.Proof.Gen.DwBranchIdeal.Skeleton
public import proofs.«01_k».proof.Proof.Gen.DwBranchIdeal.Launch
public import proofs.«01_k».proof.Proof.Gen.DwBranchIdeal.Points
public import proofs.«01_k».proof.Proof.Gen.DwBranchIdeal.Frame
public import proofs.«01_k».proof.Proof.Gen.DwBranchRefIdeal
public import proofs.«01_k».proof.Proof.Gen.DNorm
public import proofs.«01_k».proof.Proof.Gen.DNorm.Skeleton
public import proofs.«01_k».proof.Proof.Gen.DNorm.Launch
public import proofs.«01_k».proof.Proof.Gen.DNorm.Points
public import proofs.«01_k».proof.Proof.Gen.DNorm.Frame
public import proofs.«01_k».proof.Proof.Gen.DNormIdeal
public import proofs.«01_k».proof.Proof.Gen.DNormIdeal.Skeleton
public import proofs.«01_k».proof.Proof.Gen.DNormIdeal.Launch
public import proofs.«01_k».proof.Proof.Gen.DNormIdeal.Points
public import proofs.«01_k».proof.Proof.Gen.DNormIdeal.Frame
public import proofs.«01_k».proof.Proof.Gen.DNormRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.DGate
public import proofs.«01_k».proof.Proof.Gen.DGate.Skeleton
public import proofs.«01_k».proof.Proof.Gen.DGate.Launch
public import proofs.«01_k».proof.Proof.Gen.DGate.Points
public import proofs.«01_k».proof.Proof.Gen.DGate.Frame
public import proofs.«01_k».proof.Proof.Gen.DGateIdeal
public import proofs.«01_k».proof.Proof.Gen.DGateIdeal.Skeleton
public import proofs.«01_k».proof.Proof.Gen.DGateIdeal.Launch
public import proofs.«01_k».proof.Proof.Gen.DGateIdeal.Points
public import proofs.«01_k».proof.Proof.Gen.DGateIdeal.Frame
public import proofs.«01_k».proof.Proof.Gen.DGateRefIdeal
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchRefIdeal
public import proofs.«01_k».proof.Proof.Gen.DactIdeal.Value
public import proofs.«01_k».proof.Proof.Gen.DactRefIdeal.Run
public import proofs.«01_k».proof.Proof.Gen.DactRefIdeal.Read
public import proofs.«01_k».proof.Proof.Gen.DwdIdeal.Value
public import proofs.«01_k».proof.Proof.Gen.DwdRefIdeal.Run
public import proofs.«01_k».proof.Proof.Gen.DwdRefIdeal.Read
public import proofs.«01_k».proof.Proof.Gen.DwguIdeal.Value
public import proofs.«01_k».proof.Proof.Gen.DwguRefIdeal.Run
public import proofs.«01_k».proof.Proof.Gen.DwguRefIdeal.Read
public import proofs.«01_k».proof.Proof.Gen.DnIdeal.Value
public import proofs.«01_k».proof.Proof.Gen.DnRefIdeal.Run
public import proofs.«01_k».proof.Proof.Gen.DnRefIdeal.Read
public import proofs.«01_k».proof.Proof.Gen.DInIdeal.Value
public import proofs.«01_k».proof.Proof.Gen.DInRefIdeal.Run
public import proofs.«01_k».proof.Proof.Gen.DInRefIdeal.Read
public import proofs.«01_k».proof.Proof.Gen.DwInIdeal.Value
public import proofs.«01_k».proof.Proof.Gen.DwInRefIdeal.Run
public import proofs.«01_k».proof.Proof.Gen.DwInRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.DOutIdeal.Value
public import proofs.«01_k».proof.Proof.Gen.DOutRefIdeal.Run
public import proofs.«01_k».proof.Proof.Gen.DOutRefIdeal.Read
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Gen.DBranchIdeal.Value
public import proofs.«01_k».proof.Proof.Gen.DBranchRefIdeal.Run
public import proofs.«01_k».proof.Proof.Gen.DBranchRefIdeal.Read
public import proofs.«01_k».proof.Proof.Gen.DwBranchIdeal.Value
public import proofs.«01_k».proof.Proof.Gen.DwBranchRefIdeal.Run
public import proofs.«01_k».proof.Proof.Gen.DwBranchRefIdeal.Read
public import proofs.«01_k».proof.Proof.Gen.OutIdeal.Value
public import proofs.«01_k».proof.Proof.Gen.OutRefIdeal.Run
public import proofs.«01_k».proof.Proof.Gen.OutRefIdeal.Read
public import proofs.«01_k».proof.Proof.Gen.BranchIdeal.Value
public import proofs.«01_k».proof.Proof.Gen.BranchRefIdeal.Run
public import proofs.«01_k».proof.Proof.Gen.BranchRefIdeal.Read
public import proofs.«01_k».proof.Proof.Gen.DNormIdeal.Value
public import proofs.«01_k».proof.Proof.Gen.DNormRefIdeal.Run
public import proofs.«01_k».proof.Proof.Gen.DNormRefIdeal.Read
public import proofs.«01_k».proof.Proof.Gen.NormIdeal.Value
public import proofs.«01_k».proof.Proof.Gen.NormRefIdeal.Run
public import proofs.«01_k».proof.Proof.Gen.NormRefIdeal.Read
public import proofs.«01_k».proof.Proof.Gen.DGateIdeal.Value
public import proofs.«01_k».proof.Proof.Gen.DGateRefIdeal.Run
public import proofs.«01_k».proof.Proof.Gen.DGateRefIdeal.Read
public import proofs.«01_k».proof.Proof.Gen.GateIdeal.Value
public import proofs.«01_k».proof.Proof.Gen.GateRefIdeal.Run
public import proofs.«01_k».proof.Proof.Gen.GateRefIdeal.Read
public import proofs.«01_k».proof.Proof.Gen.Uq
public import proofs.«01_k».proof.Proof.Gen.Uq.Skeleton
public import proofs.«01_k».proof.Proof.Gen.Uq.Launch
public import proofs.«01_k».proof.Proof.Gen.Uq.Points
public import proofs.«01_k».proof.Proof.Gen.Uq.Frame
public import proofs.«01_k».proof.Proof.Gen.UqIdeal
public import proofs.«01_k».proof.Proof.Gen.UqIdeal.Skeleton
public import proofs.«01_k».proof.Proof.Gen.UqIdeal.Launch
public import proofs.«01_k».proof.Proof.Gen.UqIdeal.Points
public import proofs.«01_k».proof.Proof.Gen.UqIdeal.Frame
public import proofs.«01_k».proof.Proof.Gen.UqRefIdeal
public import proofs.«01_k».proof.Proof.Gen.UqIdeal.Value
public import proofs.«01_k».proof.Proof.Gen.UqRefIdeal.Run
public import proofs.«01_k».proof.Proof.Gen.UqRefIdeal.Read
public import proofs.«01_k».proof.Proof.Gen.Uk
public import proofs.«01_k».proof.Proof.Gen.Uk.Skeleton
public import proofs.«01_k».proof.Proof.Gen.Uk.Launch
public import proofs.«01_k».proof.Proof.Gen.Uk.Points
public import proofs.«01_k».proof.Proof.Gen.Uk.Frame
public import proofs.«01_k».proof.Proof.Gen.UkIdeal
public import proofs.«01_k».proof.Proof.Gen.UkIdeal.Skeleton
public import proofs.«01_k».proof.Proof.Gen.UkIdeal.Launch
public import proofs.«01_k».proof.Proof.Gen.UkIdeal.Points
public import proofs.«01_k».proof.Proof.Gen.UkIdeal.Frame
public import proofs.«01_k».proof.Proof.Gen.UkRefIdeal
public import proofs.«01_k».proof.Proof.Gen.UkIdeal.Value
public import proofs.«01_k».proof.Proof.Gen.UkRefIdeal.Run
public import proofs.«01_k».proof.Proof.Gen.UkRefIdeal.Read
public import proofs.«01_k».proof.Proof.Gen.Uv
public import proofs.«01_k».proof.Proof.Gen.Uv.Skeleton
public import proofs.«01_k».proof.Proof.Gen.Uv.Launch
public import proofs.«01_k».proof.Proof.Gen.Uv.Points
public import proofs.«01_k».proof.Proof.Gen.Uv.Frame
public import proofs.«01_k».proof.Proof.Gen.UvIdeal
public import proofs.«01_k».proof.Proof.Gen.UvIdeal.Skeleton
public import proofs.«01_k».proof.Proof.Gen.UvIdeal.Launch
public import proofs.«01_k».proof.Proof.Gen.UvIdeal.Points
public import proofs.«01_k».proof.Proof.Gen.UvIdeal.Frame
public import proofs.«01_k».proof.Proof.Gen.UvRefIdeal
public import proofs.«01_k».proof.Proof.Gen.UvIdeal.Value
public import proofs.«01_k».proof.Proof.Gen.UvRefIdeal.Run
public import proofs.«01_k».proof.Proof.Gen.UvRefIdeal.Read
public import proofs.«01_k».proof.Proof.Gen.DUq
public import proofs.«01_k».proof.Proof.Gen.DUq.Skeleton
public import proofs.«01_k».proof.Proof.Gen.DUq.Launch
public import proofs.«01_k».proof.Proof.Gen.DUq.Points
public import proofs.«01_k».proof.Proof.Gen.DUq.Frame
public import proofs.«01_k».proof.Proof.Gen.DUqIdeal
public import proofs.«01_k».proof.Proof.Gen.DUqIdeal.Skeleton
public import proofs.«01_k».proof.Proof.Gen.DUqIdeal.Launch
public import proofs.«01_k».proof.Proof.Gen.DUqIdeal.Points
public import proofs.«01_k».proof.Proof.Gen.DUqIdeal.Frame
public import proofs.«01_k».proof.Proof.Gen.DUqRefIdeal
public import proofs.«01_k».proof.Proof.Gen.DUqIdeal.Value
public import proofs.«01_k».proof.Proof.Gen.DUqRefIdeal.Run
public import proofs.«01_k».proof.Proof.Gen.DUqRefIdeal.Read
public import proofs.«01_k».proof.Proof.Gen.DUk
public import proofs.«01_k».proof.Proof.Gen.DUk.Skeleton
public import proofs.«01_k».proof.Proof.Gen.DUk.Launch
public import proofs.«01_k».proof.Proof.Gen.DUk.Points
public import proofs.«01_k».proof.Proof.Gen.DUk.Frame
public import proofs.«01_k».proof.Proof.Gen.DUkIdeal
public import proofs.«01_k».proof.Proof.Gen.DUkIdeal.Skeleton
public import proofs.«01_k».proof.Proof.Gen.DUkIdeal.Launch
public import proofs.«01_k».proof.Proof.Gen.DUkIdeal.Points
public import proofs.«01_k».proof.Proof.Gen.DUkIdeal.Frame
public import proofs.«01_k».proof.Proof.Gen.DUkRefIdeal
public import proofs.«01_k».proof.Proof.Gen.DUkIdeal.Value
public import proofs.«01_k».proof.Proof.Gen.DUkRefIdeal.Run
public import proofs.«01_k».proof.Proof.Gen.DUkRefIdeal.Read
public import proofs.«01_k».proof.Proof.Gen.DUv
public import proofs.«01_k».proof.Proof.Gen.DUv.Skeleton
public import proofs.«01_k».proof.Proof.Gen.DUv.Launch
public import proofs.«01_k».proof.Proof.Gen.DUv.Points
public import proofs.«01_k».proof.Proof.Gen.DUv.Frame
public import proofs.«01_k».proof.Proof.Gen.DUvIdeal
public import proofs.«01_k».proof.Proof.Gen.DUvIdeal.Skeleton
public import proofs.«01_k».proof.Proof.Gen.DUvIdeal.Launch
public import proofs.«01_k».proof.Proof.Gen.DUvIdeal.Points
public import proofs.«01_k».proof.Proof.Gen.DUvIdeal.Frame
public import proofs.«01_k».proof.Proof.Gen.DUvRefIdeal
public import proofs.«01_k».proof.Proof.Gen.DUvIdeal.Value
public import proofs.«01_k».proof.Proof.Gen.DUvRefIdeal.Run
public import proofs.«01_k».proof.Proof.Gen.DUvRefIdeal.Read
public import proofs.«01_k».proof.Proof.Gen.DwUq
public import proofs.«01_k».proof.Proof.Gen.DwUq.Skeleton
public import proofs.«01_k».proof.Proof.Gen.DwUq.Launch
public import proofs.«01_k».proof.Proof.Gen.DwUq.Points
public import proofs.«01_k».proof.Proof.Gen.DwUq.Frame
public import proofs.«01_k».proof.Proof.Gen.DwUqIdeal
public import proofs.«01_k».proof.Proof.Gen.DwUqIdeal.Skeleton
public import proofs.«01_k».proof.Proof.Gen.DwUqIdeal.Launch
public import proofs.«01_k».proof.Proof.Gen.DwUqIdeal.Points
public import proofs.«01_k».proof.Proof.Gen.DwUqIdeal.Frame
public import proofs.«01_k».proof.Proof.Gen.DwUqRefIdeal
public import proofs.«01_k».proof.Proof.Gen.DwUqIdeal.Value
public import proofs.«01_k».proof.Proof.Gen.DwUqRefIdeal.Run
public import proofs.«01_k».proof.Proof.Gen.DwUqRefIdeal.Read
public import proofs.«01_k».proof.Proof.Gen.DwUk
public import proofs.«01_k».proof.Proof.Gen.DwUk.Skeleton
public import proofs.«01_k».proof.Proof.Gen.DwUk.Launch
public import proofs.«01_k».proof.Proof.Gen.DwUk.Points
public import proofs.«01_k».proof.Proof.Gen.DwUk.Frame
public import proofs.«01_k».proof.Proof.Gen.DwUkIdeal
public import proofs.«01_k».proof.Proof.Gen.DwUkIdeal.Skeleton
public import proofs.«01_k».proof.Proof.Gen.DwUkIdeal.Launch
public import proofs.«01_k».proof.Proof.Gen.DwUkIdeal.Points
public import proofs.«01_k».proof.Proof.Gen.DwUkIdeal.Frame
public import proofs.«01_k».proof.Proof.Gen.DwUkRefIdeal
public import proofs.«01_k».proof.Proof.Gen.DwUkIdeal.Value
public import proofs.«01_k».proof.Proof.Gen.DwUkRefIdeal.Run
public import proofs.«01_k».proof.Proof.Gen.DwUkRefIdeal.Read
public import proofs.«01_k».proof.Proof.Gen.ReferenceIdeal.Run
public import proofs.«01_k».proof.Proof.Ffn.Dact
public import proofs.«01_k».proof.Proof.Ffn.Dwd
public import proofs.«01_k».proof.Proof.Ffn.Dwgu
public import proofs.«01_k».proof.Proof.Ffn.Dn
public import proofs.«01_k».proof.Proof.Ffn.Up
public import proofs.«01_k».proof.Proof.Ffn.Down
public import proofs.«01_k».proof.Proof.Mixer.Proj
public import proofs.«01_k».proof.Proof.Mixer.DIn
public import proofs.«01_k».proof.Proof.Mixer.DwIn
public import proofs.«01_k».proof.Proof.Mixer.DOut
public import proofs.«01_k».proof.Proof.Mixer.DwOut
public import proofs.«01_k».proof.Proof.Mixer.DBranch
public import proofs.«01_k».proof.Proof.Mixer.DwBranch
public import proofs.«01_k».proof.Proof.Mixer.Out
public import proofs.«01_k».proof.Proof.Mixer.Branch
public import proofs.«01_k».proof.Proof.Mixer.Norm
public import proofs.«01_k».proof.Proof.Mixer.DNorm
public import proofs.«01_k».proof.Proof.Mixer.Gates
public import proofs.«01_k».proof.Proof.Mixer.Latent
public import proofs.«01_k».proof.Proof.Mixer.DLatent
public import proofs.«01_k».proof.Proof.Mixer.DwLatent
public import proofs.«01_k».proof.Proof.Swa.Frame
public import proofs.«01_k».proof.Proof.Swa.BitsFrame
public import proofs.«01_k».proof.Proof.Swa.Value
public import Idealize.ShloMosaic.Adequacy
public import Idealize.ShloMosaic.Init

@[expose] public section

noncomputable section

namespace Cert.Proof

open Idealize.ShloMosaic Idealize.SL.Sem

/-! ## The references run and leave their arguments -/

theorem frame_ReferenceIdeal : Cert.quiescent_ReferenceIdeal := fun m g _ =>
  (θ_run _ _ _).mono (fun r h => ⟨fun c => (h c).2.2.2.2, sem_eq_zero_of_no_sems (by decide) r.2⟩) (Cert.ReferenceIdeal.Value.run m g)

theorem frame_DactRefIdeal : Cert.quiescent_DactRefIdeal := fun m g _ =>
  (θ_run _ _ _).mono (fun r h => ⟨fun c => (h c).2, sem_eq_zero_of_no_sems (by decide) r.2⟩) (Cert.DactRefIdeal.Value.run m g)

theorem frame_DwdRefIdeal : Cert.quiescent_DwdRefIdeal := fun m g _ =>
  (θ_run _ _ _).mono (fun r h => ⟨fun c => (h c).2, sem_eq_zero_of_no_sems (by decide) r.2⟩) (Cert.DwdRefIdeal.Value.run m g)

theorem frame_DwguRefIdeal : Cert.quiescent_DwguRefIdeal := fun m g _ =>
  (θ_run _ _ _).mono (fun r h => ⟨fun c => (h c).2, sem_eq_zero_of_no_sems (by decide) r.2⟩) (Cert.DwguRefIdeal.Value.run m g)

theorem frame_DnRefIdeal : Cert.quiescent_DnRefIdeal := fun m g _ =>
  (θ_run _ _ _).mono (fun r h => ⟨fun c => (h c).2, sem_eq_zero_of_no_sems (by decide) r.2⟩) (Cert.DnRefIdeal.Value.run m g)

theorem frame_DInRefIdeal : Cert.quiescent_DInRefIdeal := fun m g _ =>
  (θ_run _ _ _).mono (fun r h => ⟨fun c => (h c).2, sem_eq_zero_of_no_sems (by decide) r.2⟩) (Cert.DInRefIdeal.Value.run m g)

theorem frame_DwInRefIdeal : Cert.quiescent_DwInRefIdeal := fun m g _ =>
  (θ_run _ _ _).mono (fun r h => ⟨fun c => (h c).2, sem_eq_zero_of_no_sems (by decide) r.2⟩) (Cert.DwInRefIdeal.Value.run m g)

theorem frame_UpRefIdeal : Cert.quiescent_UpRefIdeal := fun m g _ =>
  (θ_run _ _ _).mono (fun r h => ⟨fun c => (h c).2.2, sem_eq_zero_of_no_sems (by decide) r.2⟩) (Cert.UpRefIdeal.Value.run m g)

theorem frame_DownRefIdeal : Cert.quiescent_DownRefIdeal := fun m g _ =>
  (θ_run _ _ _).mono (fun r h => ⟨fun c => (h c).2, sem_eq_zero_of_no_sems (by decide) r.2⟩) (Cert.DownRefIdeal.Value.run m g)

theorem frame_ProjRefIdeal : Cert.quiescent_ProjRefIdeal := fun m g _ =>
  (θ_run _ _ _).mono (fun r h => ⟨fun c => (h c).2, sem_eq_zero_of_no_sems (by decide) r.2⟩) (Cert.ProjRefIdeal.Value.run m g)

theorem frame_DOutRefIdeal : Cert.quiescent_DOutRefIdeal := fun m g _ =>
  (θ_run _ _ _).mono (fun r h => ⟨fun c => (h c).2, sem_eq_zero_of_no_sems (by decide) r.2⟩) (Cert.DOutRefIdeal.Value.run m g)

theorem frame_DwOutRefIdeal : Cert.quiescent_DwOutRefIdeal := fun m g _ =>
  (θ_run _ _ _).mono (fun r h => ⟨fun c => (h c).2, sem_eq_zero_of_no_sems (by decide) r.2⟩) (Cert.DwOutRefIdeal.Value.run m g)

theorem frame_DBranchRefIdeal : Cert.quiescent_DBranchRefIdeal := fun m g _ =>
  (θ_run _ _ _).mono (fun r h => ⟨fun c => (h c).2, sem_eq_zero_of_no_sems (by decide) r.2⟩) (Cert.DBranchRefIdeal.Value.run m g)

theorem frame_DwBranchRefIdeal : Cert.quiescent_DwBranchRefIdeal := fun m g _ =>
  (θ_run _ _ _).mono (fun r h => ⟨fun c => (h c).2, sem_eq_zero_of_no_sems (by decide) r.2⟩) (Cert.DwBranchRefIdeal.Value.run m g)

theorem frame_DNormRefIdeal : Cert.quiescent_DNormRefIdeal := fun m g _ =>
  (θ_run _ _ _).mono (fun r h => ⟨fun c => (h c).2.2.2, sem_eq_zero_of_no_sems (by decide) r.2⟩) (Cert.DNormRefIdeal.Value.run m g)

theorem frame_NormRefIdeal : Cert.quiescent_NormRefIdeal := fun m g _ =>
  (θ_run _ _ _).mono (fun r h => ⟨fun c => (h c).2, sem_eq_zero_of_no_sems (by decide) r.2⟩) (Cert.NormRefIdeal.Value.run m g)

theorem frame_DGateRefIdeal : Cert.quiescent_DGateRefIdeal := fun m g _ =>
  (θ_run _ _ _).mono (fun r h => ⟨fun c => (h c).2.2.2.2, sem_eq_zero_of_no_sems (by decide) r.2⟩) (Cert.DGateRefIdeal.Value.run m g)

theorem frame_GateRefIdeal : Cert.quiescent_GateRefIdeal := fun m g _ =>
  (θ_run _ _ _).mono (fun r h => ⟨fun c => (h c).2, sem_eq_zero_of_no_sems (by decide) r.2⟩) (Cert.GateRefIdeal.Value.run m g)

theorem frame_OutRefIdeal : Cert.quiescent_OutRefIdeal := fun m g _ =>
  (θ_run _ _ _).mono (fun r h => ⟨fun c => (h c).2, sem_eq_zero_of_no_sems (by decide) r.2⟩) (Cert.OutRefIdeal.Value.run m g)

theorem frame_BranchRefIdeal : Cert.quiescent_BranchRefIdeal := fun m g _ =>
  (θ_run _ _ _).mono (fun r h => ⟨fun c => (h c).2, sem_eq_zero_of_no_sems (by decide) r.2⟩) (Cert.BranchRefIdeal.Value.run m g)

theorem frame_UqRefIdeal : Cert.quiescent_UqRefIdeal := fun m g _ =>
  (θ_run _ _ _).mono (fun r h => ⟨fun c => (h c).2, sem_eq_zero_of_no_sems (by decide) r.2⟩) (Cert.UqRefIdeal.Value.run m g)

theorem frame_UkRefIdeal : Cert.quiescent_UkRefIdeal := fun m g _ =>
  (θ_run _ _ _).mono (fun r h => ⟨fun c => (h c).2, sem_eq_zero_of_no_sems (by decide) r.2⟩) (Cert.UkRefIdeal.Value.run m g)

theorem frame_UvRefIdeal : Cert.quiescent_UvRefIdeal := fun m g _ =>
  (θ_run _ _ _).mono (fun r h => ⟨fun c => (h c).2, sem_eq_zero_of_no_sems (by decide) r.2⟩) (Cert.UvRefIdeal.Value.run m g)

theorem frame_DUqRefIdeal : Cert.quiescent_DUqRefIdeal := fun m g _ =>
  (θ_run _ _ _).mono (fun r h => ⟨fun c => (h c).2, sem_eq_zero_of_no_sems (by decide) r.2⟩) (Cert.DUqRefIdeal.Value.run m g)

theorem frame_DUkRefIdeal : Cert.quiescent_DUkRefIdeal := fun m g _ =>
  (θ_run _ _ _).mono (fun r h => ⟨fun c => (h c).2, sem_eq_zero_of_no_sems (by decide) r.2⟩) (Cert.DUkRefIdeal.Value.run m g)

theorem frame_DUvRefIdeal : Cert.quiescent_DUvRefIdeal := fun m g _ =>
  (θ_run _ _ _).mono (fun r h => ⟨fun c => (h c).2, sem_eq_zero_of_no_sems (by decide) r.2⟩) (Cert.DUvRefIdeal.Value.run m g)

theorem frame_DwUqRefIdeal : Cert.quiescent_DwUqRefIdeal := fun m g _ =>
  (θ_run _ _ _).mono (fun r h => ⟨fun c => (h c).2, sem_eq_zero_of_no_sems (by decide) r.2⟩) (Cert.DwUqRefIdeal.Value.run m g)

theorem frame_DwUkRefIdeal : Cert.quiescent_DwUkRefIdeal := fun m g _ =>
  (θ_run _ _ _).mono (fun r h => ⟨fun c => (h c).2, sem_eq_zero_of_no_sems (by decide) r.2⟩) (Cert.DwUkRefIdeal.Value.run m g)

/-! ## The values -/

theorem algebraic_Swa : Cert.algebraic_KernelIdeal_ReferenceIdeal_pre_swa_tame := fun m g m' g' hp hag =>
  have ha : ∀ c, (Cert.KernelIdeal.Swa.inputs m c).Tame := fun c => Cert.KernelIdeal.Swa.tame (Cert.KernelIdeal.Swa.inputs m c) (hp c)
  have he : ∀ c, Cert.ReferenceIdeal.Value.inputs (StableHlo.launchContents m' c) = Cert.KernelIdeal.Swa.inputs m c := fun c =>
    Cert.KernelIdeal.Swa.inputs_eq m c _ (hag c).1 (hag c).2.1 (hag c).2.2.1 (hag c).2.2.2.1 (hag c).2.2.2.2.1 (hag c).2.2.2.2.2
  ⟨fun c => (Cert.KernelIdeal.Swa.dats m 0 c).arrAt 11 Cert.KernelIdeal.cfg0.N, fun c => (Cert.KernelIdeal.Swa.dats m 0 c).arrAt 12 Cert.KernelIdeal.cfg0.N,
    fun c => (Cert.KernelIdeal.Swa.dats m 0 c).arrAt 13 Cert.KernelIdeal.cfg0.N, fun c => (Cert.KernelIdeal.Swa.dats m 0 c).arrAt 14 Cert.KernelIdeal.cfg0.N,
    Cert.KernelIdeal.Swa.run_arrays m g,
    (θ_run _ _ _).mono (fun _ h c => ⟨(h c).1.trans (Cert.KernelIdeal.Swa.same_q m c _ (he c) (ha c)),
      (h c).2.1.trans (Cert.KernelIdeal.Swa.same_k m c _ (he c) (ha c)),
      (h c).2.2.1.trans (Cert.KernelIdeal.Swa.same_v m c _ (he c) (ha c)),
      (h c).2.2.2.1.trans (Cert.KernelIdeal.Swa.same_s m c _ (he c) (ha c)), (h c).2.2.2.2⟩)
      (Cert.ReferenceIdeal.Value.run m' g')⟩

theorem algebraic_Dact : Cert.algebraic_DactIdeal_DactRefIdeal_pre_dact_tame := fun m g m' g' hp hag =>
  Cert.DactIdeal.Sum.algebraic m g m' g' hag
    (fun c => (Cert.DactIdeal.Sum.tame _ _ _ (hp c)).1) (fun c => (Cert.DactIdeal.Sum.tame _ _ _ (hp c)).2.1) (fun c => (Cert.DactIdeal.Sum.tame _ _ _ (hp c)).2.2)

theorem algebraic_Dwd : Cert.algebraic_DwdIdeal_DwdRefIdeal := fun m g m' g' _ hag => Cert.DwdIdeal.Sum.algebraic m g m' g' hag

theorem algebraic_Dwgu : Cert.algebraic_DwguIdeal_DwguRefIdeal := fun m g m' g' _ hag => Cert.DwguIdeal.Sum.algebraic m g m' g' hag

theorem algebraic_Dn : Cert.algebraic_DnIdeal_DnRefIdeal := fun m g m' g' _ hag => Cert.DnIdeal.Sum.algebraic m g m' g' hag

theorem algebraic_DIn : Cert.algebraic_DInIdeal_DInRefIdeal := fun m g m' g' _ hag => Cert.DInIdeal.Sum.algebraic m g m' g' hag

theorem algebraic_DwIn : Cert.algebraic_DwInIdeal_DwInRefIdeal := fun m g m' g' _ hag => Cert.DwInIdeal.Sum.algebraic m g m' g' hag

theorem algebraic_Up : Cert.algebraic_UpIdeal_UpRefIdeal := fun m g m' g' _ hag => Cert.UpIdeal.Sum.algebraic m g m' g' hag

theorem algebraic_Down : Cert.algebraic_DownIdeal_DownRefIdeal := fun m g m' g' _ hag => Cert.DownIdeal.Sum.algebraic m g m' g' hag

theorem algebraic_Proj : Cert.algebraic_ProjIdeal_ProjRefIdeal := fun m g m' g' _ hag => Cert.ProjIdeal.Sum.algebraic m g m' g' hag

theorem algebraic_DOut : Cert.algebraic_DOutIdeal_DOutRefIdeal := fun m g m' g' _ hag => Cert.DOutIdeal.Sum.algebraic m g m' g' hag

theorem algebraic_DwOut : Cert.algebraic_DwOutIdeal_DwOutRefIdeal := fun m g m' g' _ hag => Cert.DwOutIdeal.Sum.algebraic m g m' g' hag

theorem algebraic_DBranch : Cert.algebraic_DBranchIdeal_DBranchRefIdeal := fun m g m' g' _ hag => Cert.DBranchIdeal.Sum.algebraic m g m' g' hag

theorem algebraic_DwBranch : Cert.algebraic_DwBranchIdeal_DwBranchRefIdeal := fun m g m' g' _ hag => Cert.DwBranchIdeal.Sum.algebraic m g m' g' hag

theorem algebraic_DNorm : Cert.algebraic_DNormIdeal_DNormRefIdeal := fun m g m' g' _ hag =>
  ⟨fun c => (Cert.DNormIdeal.Gen.dats m 0 c).arrAt 4 Cert.DNormIdeal.cfg0.N, fun c => (Cert.DNormIdeal.Gen.dats m 0 c).arrAt 5 Cert.DNormIdeal.cfg0.N, fun c => (Cert.DNormIdeal.Gen.dats m 0 c).arrAt 6 Cert.DNormIdeal.cfg0.N, Cert.DNormIdeal.Value.run_blocks m g,
    (θ_run _ _ _).mono (fun _ h c => ⟨(h c).1.trans (by rw [Cert.DNormRefIdeal.Read.val_main_v38_eq, (hag c).1, (hag c).2.1, (hag c).2.2.1, (hag c).2.2.2]; exact (Cert.DNormIdeal.Sum.arr4_eq m c).symm),
        (h c).2.1.trans (by rw [Cert.DNormRefIdeal.Read.val_main_v39_eq, (hag c).1, (hag c).2.1, (hag c).2.2.1, (hag c).2.2.2]; exact (Cert.DNormIdeal.Sum.arr5_eq m c).symm),
        (h c).2.2.1.trans (by rw [Cert.DNormRefIdeal.Read.val_main_v37_eq, (hag c).1, (hag c).2.2.1]; exact (Cert.DNormIdeal.Sum.arr6_eq m c).symm),
        (h c).2.2.2⟩)
      (Cert.DNormRefIdeal.Value.run m' g')⟩

theorem algebraic_Norm : Cert.algebraic_NormIdeal_NormRefIdeal := fun m g m' g' _ hag =>
  ⟨fun c => (Cert.NormIdeal.Gen.dats m 0 c).arrAt 2 Cert.NormIdeal.cfg0.N, Cert.NormIdeal.Value.run_blocks m g,
    (θ_run _ _ _).mono (fun _ h c => ⟨(h c).1.trans (by rw [Cert.NormRefIdeal.Read.val_main_v14_eq, (hag c).1, (hag c).2]; exact (Cert.NormIdeal.Sum.arr_eq m c).symm),
        (h c).2⟩)
      (Cert.NormRefIdeal.Value.run m' g')⟩

theorem algebraic_DGate : Cert.algebraic_DGateIdeal_DGateRefIdeal := fun m g m' g' _ hag =>
  ⟨fun c => Cert.DGateIdeal.Value.G5 (m ((c.tc : Thread Cert.DGateIdeal.nD Cert.DGateIdeal.τ).loc Cert.DGateIdeal.main_arg0)) (m ((c.tc : Thread Cert.DGateIdeal.nD Cert.DGateIdeal.τ).loc Cert.DGateIdeal.main_arg3)), fun c => Cert.DGateIdeal.Value.G6 (m ((c.tc : Thread Cert.DGateIdeal.nD Cert.DGateIdeal.τ).loc Cert.DGateIdeal.main_arg0)) (m ((c.tc : Thread Cert.DGateIdeal.nD Cert.DGateIdeal.τ).loc Cert.DGateIdeal.main_arg3)), fun c => Cert.DGateIdeal.Value.G7 (m ((c.tc : Thread Cert.DGateIdeal.nD Cert.DGateIdeal.τ).loc Cert.DGateIdeal.main_arg0)) (m ((c.tc : Thread Cert.DGateIdeal.nD Cert.DGateIdeal.τ).loc Cert.DGateIdeal.main_arg3)) (m ((c.tc : Thread Cert.DGateIdeal.nD Cert.DGateIdeal.τ).loc Cert.DGateIdeal.main_arg1)), fun c => Cert.DGateIdeal.Value.G8 (m ((c.tc : Thread Cert.DGateIdeal.nD Cert.DGateIdeal.τ).loc Cert.DGateIdeal.main_arg0)) (m ((c.tc : Thread Cert.DGateIdeal.nD Cert.DGateIdeal.τ).loc Cert.DGateIdeal.main_arg3)) (m ((c.tc : Thread Cert.DGateIdeal.nD Cert.DGateIdeal.τ).loc Cert.DGateIdeal.main_arg2)), Cert.DGateIdeal.Value.run m g,
    (θ_run _ _ _).mono (fun _ h c => ⟨(h c).1.trans (by rw [Cert.DGateRefIdeal.Read.val_main_v31_eq, (hag c).1, (hag c).2.2.2]; exact (Cert.DGateIdeal.Sum.dya_eq _ _).symm),
        (h c).2.1.trans (by rw [Cert.DGateRefIdeal.Read.val_main_v32_eq, (hag c).1, (hag c).2.2.2]; exact (Cert.DGateIdeal.Sum.dyb_eq _ _).symm),
        (h c).2.2.1.trans (by rw [Cert.DGateRefIdeal.Read.val_main_v33_eq, (hag c).1, (hag c).2.1, (hag c).2.2.2]; exact (Cert.DGateIdeal.Sum.dga_eq _ _ _).symm),
        (h c).2.2.2.1.trans (by rw [Cert.DGateRefIdeal.Read.val_main_v34_eq, (hag c).1, (hag c).2.2.1, (hag c).2.2.2]; exact (Cert.DGateIdeal.Sum.dgb_eq _ _ _).symm),
        (h c).2.2.2.2⟩)
      (Cert.DGateRefIdeal.Value.run m' g')⟩

theorem algebraic_Gate : Cert.algebraic_GateIdeal_GateRefIdeal := fun m g m' g' _ hag =>
  ⟨fun c => Cert.GateIdeal.Value.G4 (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg0)) (m ((c.tc : Thread Cert.GateIdeal.nD Cert.GateIdeal.τ).loc Cert.GateIdeal.main_arg2)), Cert.GateIdeal.Value.run m g,
    (θ_run _ _ _).mono (fun _ h c => ⟨(h c).1.trans (by rw [Cert.GateRefIdeal.Read.val_main_v17_eq, (hag c).1, (hag c).2.1, (hag c).2.2]; exact (Cert.GateIdeal.Sum.gate_eq _ _ _).symm),
        (h c).2⟩)
      (Cert.GateRefIdeal.Value.run m' g')⟩

theorem algebraic_Out : Cert.algebraic_OutIdeal_OutRefIdeal := fun m g m' g' _ hag => Cert.OutIdeal.Sum.algebraic m g m' g' hag

theorem algebraic_Branch : Cert.algebraic_BranchIdeal_BranchRefIdeal := fun m g m' g' _ hag => Cert.BranchIdeal.Sum.algebraic m g m' g' hag

theorem algebraic_Uq : Cert.algebraic_UqIdeal_UqRefIdeal := fun m g m' g' _ hag =>
  ⟨fun c => (Cert.UqIdeal.Gen.dats m 0 c).arrAt 2 Cert.UqIdeal.cfg0.N, Cert.UqIdeal.Value.run_blocks m g,
    (θ_run _ _ _).mono (fun _ h c => ⟨(h c).1.trans (by
        rw [Cert.UqRefIdeal.Read.val_main_v2_eq, (hag c).1, (hag c).2]; exact (Cert.UqIdeal.Sum.arr_eq m c).symm), (h c).2⟩)
      (Cert.UqRefIdeal.Value.run m' g')⟩

theorem algebraic_Uk : Cert.algebraic_UkIdeal_UkRefIdeal := fun m g m' g' _ hag =>
  ⟨fun c => (Cert.UkIdeal.Gen.dats m 0 c).arrAt 2 Cert.UkIdeal.cfg0.N, Cert.UkIdeal.Value.run_blocks m g,
    (θ_run _ _ _).mono (fun _ h c => ⟨(h c).1.trans (by
        rw [Cert.UkRefIdeal.Read.val_main_v2_eq, (hag c).1, (hag c).2]; exact (Cert.UkIdeal.Sum.arr_eq m c).symm), (h c).2⟩)
      (Cert.UkRefIdeal.Value.run m' g')⟩

theorem algebraic_Uv : Cert.algebraic_UvIdeal_UvRefIdeal := fun m g m' g' _ hag =>
  ⟨fun c => (Cert.UvIdeal.Gen.dats m 0 c).arrAt 2 Cert.UvIdeal.cfg0.N, Cert.UvIdeal.Value.run_blocks m g,
    (θ_run _ _ _).mono (fun _ h c => ⟨(h c).1.trans (by
        rw [Cert.UvRefIdeal.Read.val_main_v3_eq, (hag c).1, (hag c).2]; exact (Cert.UvIdeal.Sum.arr_eq m c).symm), (h c).2⟩)
      (Cert.UvRefIdeal.Value.run m' g')⟩

theorem algebraic_DUq : Cert.algebraic_DUqIdeal_DUqRefIdeal := fun m g m' g' _ hag =>
  ⟨fun c => (Cert.DUqIdeal.Gen.dats m 0 c).arrAt 2 Cert.DUqIdeal.cfg0.N, Cert.DUqIdeal.Value.run_blocks m g,
    (θ_run _ _ _).mono (fun _ h c => ⟨(h c).1.trans (by
        rw [Cert.DUqRefIdeal.Read.val_main_v4_eq, (hag c).1, (hag c).2]; exact (Cert.DUqIdeal.Sum.arr_eq m c).symm), (h c).2⟩)
      (Cert.DUqRefIdeal.Value.run m' g')⟩

theorem algebraic_DUk : Cert.algebraic_DUkIdeal_DUkRefIdeal := fun m g m' g' _ hag =>
  ⟨fun c => (Cert.DUkIdeal.Gen.dats m 0 c).arrAt 2 Cert.DUkIdeal.cfg0.N, Cert.DUkIdeal.Value.run_blocks m g,
    (θ_run _ _ _).mono (fun _ h c => ⟨(h c).1.trans (by
        rw [Cert.DUkRefIdeal.Read.val_main_v4_eq, (hag c).1, (hag c).2]; exact (Cert.DUkIdeal.Sum.arr_eq m c).symm), (h c).2⟩)
      (Cert.DUkRefIdeal.Value.run m' g')⟩

theorem algebraic_DUv : Cert.algebraic_DUvIdeal_DUvRefIdeal := fun m g m' g' _ hag =>
  ⟨fun c => (Cert.DUvIdeal.Gen.dats m 0 c).arrAt 3 Cert.DUvIdeal.cfg0.N, Cert.DUvIdeal.Value.run_blocks m g,
    (θ_run _ _ _).mono (fun _ h c => ⟨(h c).1.trans (by
        rw [Cert.DUvRefIdeal.Read.val_main_v5_eq, (hag c).1, (hag c).2.1, (hag c).2.2]; exact (Cert.DUvIdeal.Sum.arr_eq m c).symm), (h c).2⟩)
      (Cert.DUvRefIdeal.Value.run m' g')⟩

theorem algebraic_DwUq : Cert.algebraic_DwUqIdeal_DwUqRefIdeal := fun m g m' g' _ hag =>
  ⟨fun c => Cert.DwUqIdeal.Value.G2 m c, Cert.DwUqIdeal.Value.run m g,
    (θ_run _ _ _).mono (fun _ h c => ⟨(h c).1.trans (by
        rw [Cert.DwUqRefIdeal.Read.val_main_v6_eq, (hag c).1, (hag c).2]; exact (Cert.DwUqIdeal.Sum.G2_eq m c).symm), (h c).2⟩)
      (Cert.DwUqRefIdeal.Value.run m' g')⟩

theorem algebraic_DwUk : Cert.algebraic_DwUkIdeal_DwUkRefIdeal := fun m g m' g' _ hag =>
  ⟨fun c => Cert.DwUkIdeal.Value.G2 m c, Cert.DwUkIdeal.Value.run m g,
    (θ_run _ _ _).mono (fun _ h c => ⟨(h c).1.trans (by
        rw [Cert.DwUkRefIdeal.Read.val_main_v6_eq, (hag c).1, (hag c).2]; exact (Cert.DwUkIdeal.Sum.G2_eq m c).symm), (h c).2⟩)
      (Cert.DwUkRefIdeal.Value.run m' g')⟩

theorem claim : Cert.Claim :=
  ⟨Cert.Kernel.Gen.facts, Cert.KernelIdeal.Gen.facts, Cert.ReferenceIdeal.Gen.facts, Cert.Dact.Gen.facts, Cert.DactIdeal.Gen.facts, Cert.DactRefIdeal.Gen.facts, Cert.Dwd.Gen.facts, Cert.DwdIdeal.Gen.facts, Cert.DwdRefIdeal.Gen.facts, Cert.Dwgu.Gen.facts, Cert.DwguIdeal.Gen.facts, Cert.DwguRefIdeal.Gen.facts, Cert.Dn.Gen.facts, Cert.DnIdeal.Gen.facts, Cert.DnRefIdeal.Gen.facts, Cert.DIn.Gen.facts, Cert.DInIdeal.Gen.facts, Cert.DInRefIdeal.Gen.facts, Cert.DwIn.Gen.facts, Cert.DwInIdeal.Gen.facts, Cert.DwInRefIdeal.Gen.facts, Cert.Up.Gen.facts, Cert.UpIdeal.Gen.facts, Cert.UpRefIdeal.Gen.facts, Cert.Down.Gen.facts, Cert.DownIdeal.Gen.facts, Cert.DownRefIdeal.Gen.facts, Cert.Proj.Gen.facts, Cert.ProjIdeal.Gen.facts, Cert.ProjRefIdeal.Gen.facts, Cert.DOut.Gen.facts, Cert.DOutIdeal.Gen.facts, Cert.DOutRefIdeal.Gen.facts, Cert.DwOut.Gen.facts, Cert.DwOutIdeal.Gen.facts, Cert.DwOutRefIdeal.Gen.facts, Cert.DBranch.Gen.facts, Cert.DBranchIdeal.Gen.facts, Cert.DBranchRefIdeal.Gen.facts, Cert.DwBranch.Gen.facts, Cert.DwBranchIdeal.Gen.facts, Cert.DwBranchRefIdeal.Gen.facts, Cert.DNorm.Gen.facts, Cert.DNormIdeal.Gen.facts, Cert.DNormRefIdeal.Gen.facts, Cert.Norm.Gen.facts, Cert.NormIdeal.Gen.facts, Cert.NormRefIdeal.Gen.facts, Cert.DGate.Gen.facts, Cert.DGateIdeal.Gen.facts, Cert.DGateRefIdeal.Gen.facts, Cert.Gate.Gen.facts, Cert.GateIdeal.Gen.facts, Cert.GateRefIdeal.Gen.facts, Cert.Out.Gen.facts, Cert.OutIdeal.Gen.facts, Cert.OutRefIdeal.Gen.facts, Cert.Branch.Gen.facts, Cert.BranchIdeal.Gen.facts, Cert.BranchRefIdeal.Gen.facts, Cert.Uq.Gen.facts, Cert.UqIdeal.Gen.facts, Cert.UqRefIdeal.Gen.facts, Cert.Uk.Gen.facts, Cert.UkIdeal.Gen.facts, Cert.UkRefIdeal.Gen.facts, Cert.Uv.Gen.facts, Cert.UvIdeal.Gen.facts, Cert.UvRefIdeal.Gen.facts, Cert.DUq.Gen.facts, Cert.DUqIdeal.Gen.facts, Cert.DUqRefIdeal.Gen.facts, Cert.DUk.Gen.facts, Cert.DUkIdeal.Gen.facts, Cert.DUkRefIdeal.Gen.facts, Cert.DUv.Gen.facts, Cert.DUvIdeal.Gen.facts, Cert.DUvRefIdeal.Gen.facts, Cert.DwUq.Gen.facts, Cert.DwUqIdeal.Gen.facts, Cert.DwUqRefIdeal.Gen.facts, Cert.DwUk.Gen.facts, Cert.DwUkIdeal.Gen.facts, Cert.DwUkRefIdeal.Gen.facts, Cert.Pre_swa_tame.Gen.facts, Cert.Pre_dact_tame.Gen.facts,
    fun m g _ => Cert.Kernel.Swa.frame m g, fun m g _ => Cert.KernelIdeal.Swa.frame m g, fun m g _ => Cert.KernelIdeal.Swa.frame m g, frame_ReferenceIdeal, fun m g _ => frame_ReferenceIdeal m g trivial,
    fun m g _ => Cert.Dact.Gen.frame m g, fun m g _ => Cert.DactIdeal.Gen.frame m g, fun m g _ => Cert.DactIdeal.Gen.frame m g, frame_DactRefIdeal, fun m g _ => frame_DactRefIdeal m g trivial,
    fun m g _ => Cert.Dwd.Gen.frame m g, fun m g _ => Cert.DwdIdeal.Gen.frame m g, frame_DwdRefIdeal,
    fun m g _ => Cert.Dwgu.Gen.frame m g, fun m g _ => Cert.DwguIdeal.Gen.frame m g, frame_DwguRefIdeal,
    fun m g _ => Cert.Dn.Gen.frame m g, fun m g _ => Cert.DnIdeal.Gen.frame m g, frame_DnRefIdeal,
    fun m g _ => Cert.DIn.Gen.frame m g, fun m g _ => Cert.DInIdeal.Gen.frame m g, frame_DInRefIdeal,
    fun m g _ => Cert.DwIn.Gen.frame m g, fun m g _ => Cert.DwInIdeal.Gen.frame m g, frame_DwInRefIdeal,
    fun m g _ => Cert.Up.Gen.frame m g, fun m g _ => Cert.UpIdeal.Gen.frame m g, frame_UpRefIdeal,
    fun m g _ => Cert.Down.Gen.frame m g, fun m g _ => Cert.DownIdeal.Gen.frame m g, frame_DownRefIdeal,
    fun m g _ => Cert.Proj.Gen.frame m g, fun m g _ => Cert.ProjIdeal.Gen.frame m g, frame_ProjRefIdeal,
    fun m g _ => Cert.DOut.Gen.frame m g, fun m g _ => Cert.DOutIdeal.Gen.frame m g, frame_DOutRefIdeal,
    fun m g _ => Cert.DwOut.Gen.frame m g, fun m g _ => Cert.DwOutIdeal.Gen.frame m g, frame_DwOutRefIdeal,
    fun m g _ => Cert.DBranch.Gen.frame m g, fun m g _ => Cert.DBranchIdeal.Gen.frame m g, frame_DBranchRefIdeal,
    fun m g _ => Cert.DwBranch.Gen.frame m g, fun m g _ => Cert.DwBranchIdeal.Gen.frame m g, frame_DwBranchRefIdeal,
    fun m g _ => Cert.DNorm.Gen.frame m g, fun m g _ => Cert.DNormIdeal.Gen.frame m g, frame_DNormRefIdeal,
    fun m g _ => Cert.Norm.Gen.frame m g, fun m g _ => Cert.NormIdeal.Gen.frame m g, frame_NormRefIdeal,
    fun m g _ => Cert.DGate.Gen.frame m g, fun m g _ => Cert.DGateIdeal.Gen.frame m g, frame_DGateRefIdeal,
    fun m g _ => Cert.Gate.Gen.frame m g, fun m g _ => Cert.GateIdeal.Gen.frame m g, frame_GateRefIdeal,
    fun m g _ => Cert.Out.Gen.frame m g, fun m g _ => Cert.OutIdeal.Gen.frame m g, frame_OutRefIdeal,
    fun m g _ => Cert.Branch.Gen.frame m g, fun m g _ => Cert.BranchIdeal.Gen.frame m g, frame_BranchRefIdeal,
    fun m g _ => Cert.Uq.Gen.frame m g, fun m g _ => Cert.UqIdeal.Gen.frame m g, frame_UqRefIdeal,
    fun m g _ => Cert.Uk.Gen.frame m g, fun m g _ => Cert.UkIdeal.Gen.frame m g, frame_UkRefIdeal,
    fun m g _ => Cert.Uv.Gen.frame m g, fun m g _ => Cert.UvIdeal.Gen.frame m g, frame_UvRefIdeal,
    fun m g _ => Cert.DUq.Gen.frame m g, fun m g _ => Cert.DUqIdeal.Gen.frame m g, frame_DUqRefIdeal,
    fun m g _ => Cert.DUk.Gen.frame m g, fun m g _ => Cert.DUkIdeal.Gen.frame m g, frame_DUkRefIdeal,
    fun m g _ => Cert.DUv.Gen.frame m g, fun m g _ => Cert.DUvIdeal.Gen.frame m g, frame_DUvRefIdeal,
    fun m g _ => Cert.DwUq.Gen.frame m g, fun m g _ => Cert.DwUqIdeal.Gen.frame m g, frame_DwUqRefIdeal,
    fun m g _ => Cert.DwUk.Gen.frame m g, fun m g _ => Cert.DwUkIdeal.Gen.frame m g, frame_DwUkRefIdeal,
    IdealRules.named_const.statement Cert.KernelIdeal.κ "mask" .f32 0xF149F2CA#32 ⊥ rfl,
    algebraic_Swa, trivial, algebraic_Dact, trivial, algebraic_Dwd, trivial, algebraic_Dwgu, trivial, algebraic_Dn, trivial, algebraic_DIn, trivial, algebraic_DwIn, trivial, algebraic_Up, trivial, algebraic_Down, trivial, algebraic_Proj, trivial, algebraic_DOut, trivial, algebraic_DwOut, trivial, algebraic_DBranch, trivial, algebraic_DwBranch, trivial, algebraic_DNorm, trivial, algebraic_Norm, trivial, algebraic_DGate, trivial, algebraic_Gate, trivial, algebraic_Out, trivial, algebraic_Branch,
    trivial, algebraic_Uq, trivial, algebraic_Uk, trivial, algebraic_Uv, trivial, algebraic_DUq, trivial, algebraic_DUk, trivial, algebraic_DUv, trivial, algebraic_DwUq, trivial, algebraic_DwUk⟩

end Cert.Proof

end
